-- ==== Defs.lean ====
def Pre_KernelB (m : (ℓ : Loc Cert.KernelB.nD Cert.KernelB.τ Cert.KernelB.sig) → Buf (Elt Bits) ℓ) : Prop :=
  True

def Pre_KernelBIdeal (m : (ℓ : Loc Cert.KernelBIdeal.nD Cert.KernelBIdeal.τ Cert.KernelBIdeal.sig) → Buf (Elt Ideal) ℓ) : Prop :=
  True

def Pre_KernelBIdeal_finite_b [hPre_finite_b : Cert.Pre_finite_b.Facts] (m : (ℓ : Loc Cert.KernelBIdeal.nD Cert.KernelBIdeal.τ Cert.KernelBIdeal.sig) → Buf (Elt Ideal) ℓ) : Prop :=
  ∀ c : Dev Cert.KernelBIdeal.nD,
    (Cert.Pre_finite_b.fn (F := Ideal) (m ((c.tc : Thread Cert.KernelBIdeal.nD Cert.KernelBIdeal.τ).loc Cert.KernelBIdeal.main_arg0)) (m ((c.tc : Thread Cert.KernelBIdeal.nD Cert.KernelBIdeal.τ).loc Cert.KernelBIdeal.main_arg1)) (m ((c.tc : Thread Cert.KernelBIdeal.nD Cert.KernelBIdeal.τ).loc Cert.KernelBIdeal.main_arg2))) = (fun _ => 1#1)

def Pre_ReferenceBIdeal (m : (ℓ : Loc Cert.ReferenceBIdeal.nD Cert.ReferenceBIdeal.τ Cert.ReferenceBIdeal.sig) → Buf (Elt Ideal) ℓ) : Prop :=
  True

def Pre_ReferenceBIdeal_finite_b [hPre_finite_b : Cert.Pre_finite_b.Facts] (m : (ℓ : Loc Cert.ReferenceBIdeal.nD Cert.ReferenceBIdeal.τ Cert.ReferenceBIdeal.sig) → Buf (Elt Ideal) ℓ) : Prop :=
  ∀ c : Dev Cert.ReferenceBIdeal.nD,
    (Cert.Pre_finite_b.fn (F := Ideal) (m ((c.tc : Thread Cert.ReferenceBIdeal.nD Cert.ReferenceBIdeal.τ).loc Cert.ReferenceBIdeal.main_arg0)) (m ((c.tc : Thread Cert.ReferenceBIdeal.nD Cert.ReferenceBIdeal.τ).loc Cert.ReferenceBIdeal.main_arg1)) (m ((c.tc : Thread Cert.ReferenceBIdeal.nD Cert.ReferenceBIdeal.τ).loc Cert.ReferenceBIdeal.main_arg2))) = (fun _ => 1#1)

def Pre_KernelX [hPre_routed_x : Cert.Pre_routed_x.Facts] (m : (ℓ : Loc Cert.KernelX.nD Cert.KernelX.τ Cert.KernelX.sig) → Buf (Elt Bits) ℓ) : Prop :=
  ∀ c : Dev Cert.KernelX.nD,
    (Cert.Pre_routed_x.fn (F := Bits) (m ((c.tc : Thread Cert.KernelX.nD Cert.KernelX.τ).loc Cert.KernelX.main_arg0)) (m ((c.tc : Thread Cert.KernelX.nD Cert.KernelX.τ).loc Cert.KernelX.main_arg1)) (m ((c.tc : Thread Cert.KernelX.nD Cert.KernelX.τ).loc Cert.KernelX.main_arg2)) (m ((c.tc : Thread Cert.KernelX.nD Cert.KernelX.τ).loc Cert.KernelX.main_arg3)) (m ((c.tc : Thread Cert.KernelX.nD Cert.KernelX.τ).loc Cert.KernelX.main_arg4)) (m ((c.tc : Thread Cert.KernelX.nD Cert.KernelX.τ).loc Cert.KernelX.main_arg5)) (m ((c.tc : Thread Cert.KernelX.nD Cert.KernelX.τ).loc Cert.KernelX.main_arg6)) (m ((c.tc : Thread Cert.KernelX.nD Cert.KernelX.τ).loc Cert.KernelX.main_arg7)) (m ((c.tc : Thread Cert.KernelX.nD Cert.KernelX.τ).loc Cert.KernelX.main_arg8)) (m ((c.tc : Thread Cert.KernelX.nD Cert.KernelX.τ).loc Cert.KernelX.main_arg9)) (m ((c.tc : Thread Cert.KernelX.nD Cert.KernelX.τ).loc Cert.KernelX.main_arg10)) (m ((c.tc : Thread Cert.KernelX.nD Cert.KernelX.τ).loc Cert.KernelX.main_arg11))) = (fun _ => 1#1)

def Pre_KernelXIdeal [hPre_routed_x : Cert.Pre_routed_x.Facts] (m : (ℓ : Loc Cert.KernelXIdeal.nD Cert.KernelXIdeal.τ Cert.KernelXIdeal.sig) → Buf (Elt Ideal) ℓ) : Prop :=
  ∀ c : Dev Cert.KernelXIdeal.nD,
    (Cert.Pre_routed_x.fn (F := Ideal) (m ((c.tc : Thread Cert.KernelXIdeal.nD Cert.KernelXIdeal.τ).loc Cert.KernelXIdeal.main_arg0)) (m ((c.tc : Thread Cert.KernelXIdeal.nD Cert.KernelXIdeal.τ).loc Cert.KernelXIdeal.main_arg1)) (m ((c.tc : Thread Cert.KernelXIdeal.nD Cert.KernelXIdeal.τ).loc Cert.KernelXIdeal.main_arg2)) (m ((c.tc : Thread Cert.KernelXIdeal.nD Cert.KernelXIdeal.τ).loc Cert.KernelXIdeal.main_arg3)) (m ((c.tc : Thread Cert.KernelXIdeal.nD Cert.KernelXIdeal.τ).loc Cert.KernelXIdeal.main_arg4)) (m ((c.tc : Thread Cert.KernelXIdeal.nD Cert.KernelXIdeal.τ).loc Cert.KernelXIdeal.main_arg5)) (m ((c.tc : Thread Cert.KernelXIdeal.nD Cert.KernelXIdeal.τ).loc Cert.KernelXIdeal.main_arg6)) (m ((c.tc : Thread Cert.KernelXIdeal.nD Cert.KernelXIdeal.τ).loc Cert.KernelXIdeal.main_arg7)) (m ((c.tc : Thread Cert.KernelXIdeal.nD Cert.KernelXIdeal.τ).loc Cert.KernelXIdeal.main_arg8)) (m ((c.tc : Thread Cert.KernelXIdeal.nD Cert.KernelXIdeal.τ).loc Cert.KernelXIdeal.main_arg9)) (m ((c.tc : Thread Cert.KernelXIdeal.nD Cert.KernelXIdeal.τ).loc Cert.KernelXIdeal.main_arg10)) (m ((c.tc : Thread Cert.KernelXIdeal.nD Cert.KernelXIdeal.τ).loc Cert.KernelXIdeal.main_arg11))) = (fun _ => 1#1)

def Pre_ReferenceXIdeal (m : (ℓ : Loc Cert.ReferenceXIdeal.nD Cert.ReferenceXIdeal.τ Cert.ReferenceXIdeal.sig) → Buf (Elt Ideal) ℓ) : Prop :=
  True

def Pre_ReferenceXIdeal_routed_x [hPre_routed_x : Cert.Pre_routed_x.Facts] (m : (ℓ : Loc Cert.ReferenceXIdeal.nD Cert.ReferenceXIdeal.τ Cert.ReferenceXIdeal.sig) → Buf (Elt Ideal) ℓ) : Prop :=
  ∀ c : Dev Cert.ReferenceXIdeal.nD,
    (Cert.Pre_routed_x.fn (F := Ideal) (m ((c.tc : Thread Cert.ReferenceXIdeal.nD Cert.ReferenceXIdeal.τ).loc Cert.ReferenceXIdeal.main_arg0)) (m ((c.tc : Thread Cert.ReferenceXIdeal.nD Cert.ReferenceXIdeal.τ).loc Cert.ReferenceXIdeal.main_arg1)) (m ((c.tc : Thread Cert.ReferenceXIdeal.nD Cert.ReferenceXIdeal.τ).loc Cert.ReferenceXIdeal.main_arg2)) (m ((c.tc : Thread Cert.ReferenceXIdeal.nD Cert.ReferenceXIdeal.τ).loc Cert.ReferenceXIdeal.main_arg3)) (m ((c.tc : Thread Cert.ReferenceXIdeal.nD Cert.ReferenceXIdeal.τ).loc Cert.ReferenceXIdeal.main_arg4)) (m ((c.tc : Thread Cert.ReferenceXIdeal.nD Cert.ReferenceXIdeal.τ).loc Cert.ReferenceXIdeal.main_arg5)) (m ((c.tc : Thread Cert.ReferenceXIdeal.nD Cert.ReferenceXIdeal.τ).loc Cert.ReferenceXIdeal.main_arg6)) (m ((c.tc : Thread Cert.ReferenceXIdeal.nD Cert.ReferenceXIdeal.τ).loc Cert.ReferenceXIdeal.main_arg7)) (m ((c.tc : Thread Cert.ReferenceXIdeal.nD Cert.ReferenceXIdeal.τ).loc Cert.ReferenceXIdeal.main_arg8)) (m ((c.tc : Thread Cert.ReferenceXIdeal.nD Cert.ReferenceXIdeal.τ).loc Cert.ReferenceXIdeal.main_arg9)) (m ((c.tc : Thread Cert.ReferenceXIdeal.nD Cert.ReferenceXIdeal.τ).loc Cert.ReferenceXIdeal.main_arg10)) (m ((c.tc : Thread Cert.ReferenceXIdeal.nD Cert.ReferenceXIdeal.τ).loc Cert.ReferenceXIdeal.main_arg11))) = (fun _ => 1#1)

def quiescent_KernelB [hKernelB : Cert.KernelB.Facts] : Prop :=
  ∀ (m : (ℓ : Loc Cert.KernelB.nD Cert.KernelB.τ Cert.KernelB.sig) → Buf (Elt Bits) ℓ) (g : Dev Cert.KernelB.nD → PrngReg), Pre_KernelB m →
    θ_run (Cert.KernelB.defs (F := Bits)) (onTc (τ := Cert.KernelB.τ) (Cert.KernelB.main (F := Bits))) ⟨m, fun _ => 0, g⟩ (fun r => (∀ c : Dev Cert.KernelB.nD,
      r.2.mem ((c.tc : Thread Cert.KernelB.nD Cert.KernelB.τ).loc Cert.KernelB.main_arg0) = m ((c.tc : Thread Cert.KernelB.nD Cert.KernelB.τ).loc Cert.KernelB.main_arg0)
      ∧ r.2.mem ((c.tc : Thread Cert.KernelB.nD Cert.KernelB.τ).loc Cert.KernelB.main_arg1) = m ((c.tc : Thread Cert.KernelB.nD Cert.KernelB.τ).loc Cert.KernelB.main_arg1)
      ∧ r.2.mem ((c.tc : Thread Cert.KernelB.nD Cert.KernelB.τ).loc Cert.KernelB.main_arg2) = m ((c.tc : Thread Cert.KernelB.nD Cert.KernelB.τ).loc Cert.KernelB.main_arg2))
      ∧ r.2.sem = fun _ => 0)

def quiescent_KernelBIdeal [hKernelBIdeal : Cert.KernelBIdeal.Facts] : Prop :=
  ∀ (m : (ℓ : Loc Cert.KernelBIdeal.nD Cert.KernelBIdeal.τ Cert.KernelBIdeal.sig) → Buf (Elt Ideal) ℓ) (g : Dev Cert.KernelBIdeal.nD → PrngReg), Pre_KernelBIdeal m →
    θ_run (Cert.KernelBIdeal.defs (F := Ideal)) (onTc (τ := Cert.KernelBIdeal.τ) (Cert.KernelBIdeal.main (F := Ideal))) ⟨m, fun _ => 0, g⟩ (fun r => (∀ c : Dev Cert.KernelBIdeal.nD,
      r.2.mem ((c.tc : Thread Cert.KernelBIdeal.nD Cert.KernelBIdeal.τ).loc Cert.KernelBIdeal.main_arg0) = m ((c.tc : Thread Cert.KernelBIdeal.nD Cert.KernelBIdeal.τ).loc Cert.KernelBIdeal.main_arg0)
      ∧ r.2.mem ((c.tc : Thread Cert.KernelBIdeal.nD Cert.KernelBIdeal.τ).loc Cert.KernelBIdeal.main_arg1) = m ((c.tc : Thread Cert.KernelBIdeal.nD Cert.KernelBIdeal.τ).loc Cert.KernelBIdeal.main_arg1)
      ∧ r.2.mem ((c.tc : Thread Cert.KernelBIdeal.nD Cert.KernelBIdeal.τ).loc Cert.KernelBIdeal.main_arg2) = m ((c.tc : Thread Cert.KernelBIdeal.nD Cert.KernelBIdeal.τ).loc Cert.KernelBIdeal.main_arg2))
      ∧ r.2.sem = fun _ => 0)

def quiescent_KernelBIdeal_pre_finite_b [hKernelBIdeal : Cert.KernelBIdeal.Facts] [hPre_finite_b : Cert.Pre_finite_b.Facts] : Prop :=
  ∀ (m : (ℓ : Loc Cert.KernelBIdeal.nD Cert.KernelBIdeal.τ Cert.KernelBIdeal.sig) → Buf (Elt Ideal) ℓ) (g : Dev Cert.KernelBIdeal.nD → PrngReg), Pre_KernelBIdeal_finite_b m →
    θ_run (Cert.KernelBIdeal.defs (F := Ideal)) (onTc (τ := Cert.KernelBIdeal.τ) (Cert.KernelBIdeal.main (F := Ideal))) ⟨m, fun _ => 0, g⟩ (fun r => (∀ c : Dev Cert.KernelBIdeal.nD,
      r.2.mem ((c.tc : Thread Cert.KernelBIdeal.nD Cert.KernelBIdeal.τ).loc Cert.KernelBIdeal.main_arg0) = m ((c.tc : Thread Cert.KernelBIdeal.nD Cert.KernelBIdeal.τ).loc Cert.KernelBIdeal.main_arg0)
      ∧ r.2.mem ((c.tc : Thread Cert.KernelBIdeal.nD Cert.KernelBIdeal.τ).loc Cert.KernelBIdeal.main_arg1) = m ((c.tc : Thread Cert.KernelBIdeal.nD Cert.KernelBIdeal.τ).loc Cert.KernelBIdeal.main_arg1)
      ∧ r.2.mem ((c.tc : Thread Cert.KernelBIdeal.nD Cert.KernelBIdeal.τ).loc Cert.KernelBIdeal.main_arg2) = m ((c.tc : Thread Cert.KernelBIdeal.nD Cert.KernelBIdeal.τ).loc Cert.KernelBIdeal.main_arg2))
      ∧ r.2.sem = fun _ => 0)

def quiescent_ReferenceBIdeal [hReferenceBIdeal : Cert.ReferenceBIdeal.Facts] : Prop :=
  ∀ (m : (ℓ : Loc Cert.ReferenceBIdeal.nD Cert.ReferenceBIdeal.τ Cert.ReferenceBIdeal.sig) → Buf (Elt Ideal) ℓ) (g : Dev Cert.ReferenceBIdeal.nD → PrngReg), Pre_ReferenceBIdeal m →
    θ_run (Cert.ReferenceBIdeal.defs (F := Ideal)) (onTc (τ := Cert.ReferenceBIdeal.τ) (Cert.ReferenceBIdeal.main (F := Ideal))) ⟨m, fun _ => 0, g⟩ (fun r => (∀ c : Dev Cert.ReferenceBIdeal.nD,
      r.2.mem ((c.tc : Thread Cert.ReferenceBIdeal.nD Cert.ReferenceBIdeal.τ).loc Cert.ReferenceBIdeal.main_arg0) = m ((c.tc : Thread Cert.ReferenceBIdeal.nD Cert.ReferenceBIdeal.τ).loc Cert.ReferenceBIdeal.main_arg0)
      ∧ r.2.mem ((c.tc : Thread Cert.ReferenceBIdeal.nD Cert.ReferenceBIdeal.τ).loc Cert.ReferenceBIdeal.main_arg1) = m ((c.tc : Thread Cert.ReferenceBIdeal.nD Cert.ReferenceBIdeal.τ).loc Cert.ReferenceBIdeal.main_arg1)
      ∧ r.2.mem ((c.tc : Thread Cert.ReferenceBIdeal.nD Cert.ReferenceBIdeal.τ).loc Cert.ReferenceBIdeal.main_arg2) = m ((c.tc : Thread Cert.ReferenceBIdeal.nD Cert.ReferenceBIdeal.τ).loc Cert.ReferenceBIdeal.main_arg2))
      ∧ r.2.sem = fun _ => 0)

def quiescent_ReferenceBIdeal_pre_finite_b [hReferenceBIdeal : Cert.ReferenceBIdeal.Facts] [hPre_finite_b : Cert.Pre_finite_b.Facts] : Prop :=
  ∀ (m : (ℓ : Loc Cert.ReferenceBIdeal.nD Cert.ReferenceBIdeal.τ Cert.ReferenceBIdeal.sig) → Buf (Elt Ideal) ℓ) (g : Dev Cert.ReferenceBIdeal.nD → PrngReg), Pre_ReferenceBIdeal_finite_b m →
    θ_run (Cert.ReferenceBIdeal.defs (F := Ideal)) (onTc (τ := Cert.ReferenceBIdeal.τ) (Cert.ReferenceBIdeal.main (F := Ideal))) ⟨m, fun _ => 0, g⟩ (fun r => (∀ c : Dev Cert.ReferenceBIdeal.nD,
      r.2.mem ((c.tc : Thread Cert.ReferenceBIdeal.nD Cert.ReferenceBIdeal.τ).loc Cert.ReferenceBIdeal.main_arg0) = m ((c.tc : Thread Cert.ReferenceBIdeal.nD Cert.ReferenceBIdeal.τ).loc Cert.ReferenceBIdeal.main_arg0)
      ∧ r.2.mem ((c.tc : Thread Cert.ReferenceBIdeal.nD Cert.ReferenceBIdeal.τ).loc Cert.ReferenceBIdeal.main_arg1) = m ((c.tc : Thread Cert.ReferenceBIdeal.nD Cert.ReferenceBIdeal.τ).loc Cert.ReferenceBIdeal.main_arg1)
      ∧ r.2.mem ((c.tc : Thread Cert.ReferenceBIdeal.nD Cert.ReferenceBIdeal.τ).loc Cert.ReferenceBIdeal.main_arg2) = m ((c.tc : Thread Cert.ReferenceBIdeal.nD Cert.ReferenceBIdeal.τ).loc Cert.ReferenceBIdeal.main_arg2))
      ∧ r.2.sem = fun _ => 0)

def quiescent_KernelX [hKernelX : Cert.KernelX.Facts] [hPre_routed_x : Cert.Pre_routed_x.Facts] : Prop :=
  ∀ (m : (ℓ : Loc Cert.KernelX.nD Cert.KernelX.τ Cert.KernelX.sig) → Buf (Elt Bits) ℓ) (g : Dev Cert.KernelX.nD → PrngReg), Pre_KernelX m →
    θ_run (Cert.KernelX.defs (F := Bits)) (onTc (τ := Cert.KernelX.τ) (Cert.KernelX.main (F := Bits))) ⟨m, fun _ => 0, g⟩ (fun r => (∀ c : Dev Cert.KernelX.nD,
      r.2.mem ((c.tc : Thread Cert.KernelX.nD Cert.KernelX.τ).loc Cert.KernelX.main_arg0) = m ((c.tc : Thread Cert.KernelX.nD Cert.KernelX.τ).loc Cert.KernelX.main_arg0)
      ∧ r.2.mem ((c.tc : Thread Cert.KernelX.nD Cert.KernelX.τ).loc Cert.KernelX.main_arg1) = m ((c.tc : Thread Cert.KernelX.nD Cert.KernelX.τ).loc Cert.KernelX.main_arg1)
      ∧ r.2.mem ((c.tc : Thread Cert.KernelX.nD Cert.KernelX.τ).loc Cert.KernelX.main_arg2) = m ((c.tc : Thread Cert.KernelX.nD Cert.KernelX.τ).loc Cert.KernelX.main_arg2)
      ∧ r.2.mem ((c.tc : Thread Cert.KernelX.nD Cert.KernelX.τ).loc Cert.KernelX.main_arg3) = m ((c.tc : Thread Cert.KernelX.nD Cert.KernelX.τ).loc Cert.KernelX.main_arg3)
      ∧ r.2.mem ((c.tc : Thread Cert.KernelX.nD Cert.KernelX.τ).loc Cert.KernelX.main_arg4) = m ((c.tc : Thread Cert.KernelX.nD Cert.KernelX.τ).loc Cert.KernelX.main_arg4)
      ∧ r.2.mem ((c.tc : Thread Cert.KernelX.nD Cert.KernelX.τ).loc Cert.KernelX.main_arg5) = m ((c.tc : Thread Cert.KernelX.nD Cert.KernelX.τ).loc Cert.KernelX.main_arg5)
      ∧ r.2.mem ((c.tc : Thread Cert.KernelX.nD Cert.KernelX.τ).loc Cert.KernelX.main_arg6) = m ((c.tc : Thread Cert.KernelX.nD Cert.KernelX.τ).loc Cert.KernelX.main_arg6)
      ∧ r.2.mem ((c.tc : Thread Cert.KernelX.nD Cert.KernelX.τ).loc Cert.KernelX.main_arg7) = m ((c.tc : Thread Cert.KernelX.nD Cert.KernelX.τ).loc Cert.KernelX.main_arg7)
      ∧ r.2.mem ((c.tc : Thread Cert.KernelX.nD Cert.KernelX.τ).loc Cert.KernelX.main_arg8) = m ((c.tc : Thread Cert.KernelX.nD Cert.KernelX.τ).loc Cert.KernelX.main_arg8)
      ∧ r.2.mem ((c.tc : Thread Cert.KernelX.nD Cert.KernelX.τ).loc Cert.KernelX.main_arg9) = m ((c.tc : Thread Cert.KernelX.nD Cert.KernelX.τ).loc Cert.KernelX.main_arg9)
      ∧ r.2.mem ((c.tc : Thread Cert.KernelX.nD Cert.KernelX.τ).loc Cert.KernelX.main_arg10) = m ((c.tc : Thread Cert.KernelX.nD Cert.KernelX.τ).loc Cert.KernelX.main_arg10)
      ∧ r.2.mem ((c.tc : Thread Cert.KernelX.nD Cert.KernelX.τ).loc Cert.KernelX.main_arg11) = m ((c.tc : Thread Cert.KernelX.nD Cert.KernelX.τ).loc Cert.KernelX.main_arg11))
      ∧ r.2.sem = fun _ => 0)

def quiescent_KernelXIdeal [hKernelXIdeal : Cert.KernelXIdeal.Facts] [hPre_routed_x : Cert.Pre_routed_x.Facts] : Prop :=
  ∀ (m : (ℓ : Loc Cert.KernelXIdeal.nD Cert.KernelXIdeal.τ Cert.KernelXIdeal.sig) → Buf (Elt Ideal) ℓ) (g : Dev Cert.KernelXIdeal.nD → PrngReg), Pre_KernelXIdeal m →
    θ_run (Cert.KernelXIdeal.defs (F := Ideal)) (onTc (τ := Cert.KernelXIdeal.τ) (Cert.KernelXIdeal.main (F := Ideal))) ⟨m, fun _ => 0, g⟩ (fun r => (∀ c : Dev Cert.KernelXIdeal.nD,
      r.2.mem ((c.tc : Thread Cert.KernelXIdeal.nD Cert.KernelXIdeal.τ).loc Cert.KernelXIdeal.main_arg0) = m ((c.tc : Thread Cert.KernelXIdeal.nD Cert.KernelXIdeal.τ).loc Cert.KernelXIdeal.main_arg0)
      ∧ r.2.mem ((c.tc : Thread Cert.KernelXIdeal.nD Cert.KernelXIdeal.τ).loc Cert.KernelXIdeal.main_arg1) = m ((c.tc : Thread Cert.KernelXIdeal.nD Cert.KernelXIdeal.τ).loc Cert.KernelXIdeal.main_arg1)
      ∧ r.2.mem ((c.tc : Thread Cert.KernelXIdeal.nD Cert.KernelXIdeal.τ).loc Cert.KernelXIdeal.main_arg2) = m ((c.tc : Thread Cert.KernelXIdeal.nD Cert.KernelXIdeal.τ).loc Cert.KernelXIdeal.main_arg2)
      ∧ r.2.mem ((c.tc : Thread Cert.KernelXIdeal.nD Cert.KernelXIdeal.τ).loc Cert.KernelXIdeal.main_arg3) = m ((c.tc : Thread Cert.KernelXIdeal.nD Cert.KernelXIdeal.τ).loc Cert.KernelXIdeal.main_arg3)
      ∧ r.2.mem ((c.tc : Thread Cert.KernelXIdeal.nD Cert.KernelXIdeal.τ).loc Cert.KernelXIdeal.main_arg4) = m ((c.tc : Thread Cert.KernelXIdeal.nD Cert.KernelXIdeal.τ).loc Cert.KernelXIdeal.main_arg4)
      ∧ r.2.mem ((c.tc : Thread Cert.KernelXIdeal.nD Cert.KernelXIdeal.τ).loc Cert.KernelXIdeal.main_arg5) = m ((c.tc : Thread Cert.KernelXIdeal.nD Cert.KernelXIdeal.τ).loc Cert.KernelXIdeal.main_arg5)
      ∧ r.2.mem ((c.tc : Thread Cert.KernelXIdeal.nD Cert.KernelXIdeal.τ).loc Cert.KernelXIdeal.main_arg6) = m ((c.tc : Thread Cert.KernelXIdeal.nD Cert.KernelXIdeal.τ).loc Cert.KernelXIdeal.main_arg6)
      ∧ r.2.mem ((c.tc : Thread Cert.KernelXIdeal.nD Cert.KernelXIdeal.τ).loc Cert.KernelXIdeal.main_arg7) = m ((c.tc : Thread Cert.KernelXIdeal.nD Cert.KernelXIdeal.τ).loc Cert.KernelXIdeal.main_arg7)
      ∧ r.2.mem ((c.tc : Thread Cert.KernelXIdeal.nD Cert.KernelXIdeal.τ).loc Cert.KernelXIdeal.main_arg8) = m ((c.tc : Thread Cert.KernelXIdeal.nD Cert.KernelXIdeal.τ).loc Cert.KernelXIdeal.main_arg8)
      ∧ r.2.mem ((c.tc : Thread Cert.KernelXIdeal.nD Cert.KernelXIdeal.τ).loc Cert.KernelXIdeal.main_arg9) = m ((c.tc : Thread Cert.KernelXIdeal.nD Cert.KernelXIdeal.τ).loc Cert.KernelXIdeal.main_arg9)
      ∧ r.2.mem ((c.tc : Thread Cert.KernelXIdeal.nD Cert.KernelXIdeal.τ).loc Cert.KernelXIdeal.main_arg10) = m ((c.tc : Thread Cert.KernelXIdeal.nD Cert.KernelXIdeal.τ).loc Cert.KernelXIdeal.main_arg10)
      ∧ r.2.mem ((c.tc : Thread Cert.KernelXIdeal.nD Cert.KernelXIdeal.τ).loc Cert.KernelXIdeal.main_arg11) = m ((c.tc : Thread Cert.KernelXIdeal.nD Cert.KernelXIdeal.τ).loc Cert.KernelXIdeal.main_arg11))
      ∧ r.2.sem = fun _ => 0)

def quiescent_ReferenceXIdeal [hReferenceXIdeal : Cert.ReferenceXIdeal.Facts] : Prop :=
  ∀ (m : (ℓ : Loc Cert.ReferenceXIdeal.nD Cert.ReferenceXIdeal.τ Cert.ReferenceXIdeal.sig) → Buf (Elt Ideal) ℓ) (g : Dev Cert.ReferenceXIdeal.nD → PrngReg), Pre_ReferenceXIdeal m →
    θ_run (Cert.ReferenceXIdeal.defs (F := Ideal)) (onTc (τ := Cert.ReferenceXIdeal.τ) (Cert.ReferenceXIdeal.main (F := Ideal))) ⟨m, fun _ => 0, g⟩ (fun r => (∀ c : Dev Cert.ReferenceXIdeal.nD,
      r.2.mem ((c.tc : Thread Cert.ReferenceXIdeal.nD Cert.ReferenceXIdeal.τ).loc Cert.ReferenceXIdeal.main_arg0) = m ((c.tc : Thread Cert.ReferenceXIdeal.nD Cert.ReferenceXIdeal.τ).loc Cert.ReferenceXIdeal.main_arg0)
      ∧ r.2.mem ((c.tc : Thread Cert.ReferenceXIdeal.nD Cert.ReferenceXIdeal.τ).loc Cert.ReferenceXIdeal.main_arg1) = m ((c.tc : Thread Cert.ReferenceXIdeal.nD Cert.ReferenceXIdeal.τ).loc Cert.ReferenceXIdeal.main_arg1)
      ∧ r.2.mem ((c.tc : Thread Cert.ReferenceXIdeal.nD Cert.ReferenceXIdeal.τ).loc Cert.ReferenceXIdeal.main_arg2) = m ((c.tc : Thread Cert.ReferenceXIdeal.nD Cert.ReferenceXIdeal.τ).loc Cert.ReferenceXIdeal.main_arg2)
      ∧ r.2.mem ((c.tc : Thread Cert.ReferenceXIdeal.nD Cert.ReferenceXIdeal.τ).loc Cert.ReferenceXIdeal.main_arg3) = m ((c.tc : Thread Cert.ReferenceXIdeal.nD Cert.ReferenceXIdeal.τ).loc Cert.ReferenceXIdeal.main_arg3)
      ∧ r.2.mem ((c.tc : Thread Cert.ReferenceXIdeal.nD Cert.ReferenceXIdeal.τ).loc Cert.ReferenceXIdeal.main_arg4) = m ((c.tc : Thread Cert.ReferenceXIdeal.nD Cert.ReferenceXIdeal.τ).loc Cert.ReferenceXIdeal.main_arg4)
      ∧ r.2.mem ((c.tc : Thread Cert.ReferenceXIdeal.nD Cert.ReferenceXIdeal.τ).loc Cert.ReferenceXIdeal.main_arg5) = m ((c.tc : Thread Cert.ReferenceXIdeal.nD Cert.ReferenceXIdeal.τ).loc Cert.ReferenceXIdeal.main_arg5)
      ∧ r.2.mem ((c.tc : Thread Cert.ReferenceXIdeal.nD Cert.ReferenceXIdeal.τ).loc Cert.ReferenceXIdeal.main_arg6) = m ((c.tc : Thread Cert.ReferenceXIdeal.nD Cert.ReferenceXIdeal.τ).loc Cert.ReferenceXIdeal.main_arg6)
      ∧ r.2.mem ((c.tc : Thread Cert.ReferenceXIdeal.nD Cert.ReferenceXIdeal.τ).loc Cert.ReferenceXIdeal.main_arg7) = m ((c.tc : Thread Cert.ReferenceXIdeal.nD Cert.ReferenceXIdeal.τ).loc Cert.ReferenceXIdeal.main_arg7)
      ∧ r.2.mem ((c.tc : Thread Cert.ReferenceXIdeal.nD Cert.ReferenceXIdeal.τ).loc Cert.ReferenceXIdeal.main_arg8) = m ((c.tc : Thread Cert.ReferenceXIdeal.nD Cert.ReferenceXIdeal.τ).loc Cert.ReferenceXIdeal.main_arg8)
      ∧ r.2.mem ((c.tc : Thread Cert.ReferenceXIdeal.nD Cert.ReferenceXIdeal.τ).loc Cert.ReferenceXIdeal.main_arg9) = m ((c.tc : Thread Cert.ReferenceXIdeal.nD Cert.ReferenceXIdeal.τ).loc Cert.ReferenceXIdeal.main_arg9)
      ∧ r.2.mem ((c.tc : Thread Cert.ReferenceXIdeal.nD Cert.ReferenceXIdeal.τ).loc Cert.ReferenceXIdeal.main_arg10) = m ((c.tc : Thread Cert.ReferenceXIdeal.nD Cert.ReferenceXIdeal.τ).loc Cert.ReferenceXIdeal.main_arg10)
      ∧ r.2.mem ((c.tc : Thread Cert.ReferenceXIdeal.nD Cert.ReferenceXIdeal.τ).loc Cert.ReferenceXIdeal.main_arg11) = m ((c.tc : Thread Cert.ReferenceXIdeal.nD Cert.ReferenceXIdeal.τ).loc Cert.ReferenceXIdeal.main_arg11))
      ∧ r.2.sem = fun _ => 0)

def quiescent_ReferenceXIdeal_pre_routed_x [hReferenceXIdeal : Cert.ReferenceXIdeal.Facts] [hPre_routed_x : Cert.Pre_routed_x.Facts] : Prop :=
  ∀ (m : (ℓ : Loc Cert.ReferenceXIdeal.nD Cert.ReferenceXIdeal.τ Cert.ReferenceXIdeal.sig) → Buf (Elt Ideal) ℓ) (g : Dev Cert.ReferenceXIdeal.nD → PrngReg), Pre_ReferenceXIdeal_routed_x m →
    θ_run (Cert.ReferenceXIdeal.defs (F := Ideal)) (onTc (τ := Cert.ReferenceXIdeal.τ) (Cert.ReferenceXIdeal.main (F := Ideal))) ⟨m, fun _ => 0, g⟩ (fun r => (∀ c : Dev Cert.ReferenceXIdeal.nD,
      r.2.mem ((c.tc : Thread Cert.ReferenceXIdeal.nD Cert.ReferenceXIdeal.τ).loc Cert.ReferenceXIdeal.main_arg0) = m ((c.tc : Thread Cert.ReferenceXIdeal.nD Cert.ReferenceXIdeal.τ).loc Cert.ReferenceXIdeal.main_arg0)
      ∧ r.2.mem ((c.tc : Thread Cert.ReferenceXIdeal.nD Cert.ReferenceXIdeal.τ).loc Cert.ReferenceXIdeal.main_arg1) = m ((c.tc : Thread Cert.ReferenceXIdeal.nD Cert.ReferenceXIdeal.τ).loc Cert.ReferenceXIdeal.main_arg1)
      ∧ r.2.mem ((c.tc : Thread Cert.ReferenceXIdeal.nD Cert.ReferenceXIdeal.τ).loc Cert.ReferenceXIdeal.main_arg2) = m ((c.tc : Thread Cert.ReferenceXIdeal.nD Cert.ReferenceXIdeal.τ).loc Cert.ReferenceXIdeal.main_arg2)
      ∧ r.2.mem ((c.tc : Thread Cert.ReferenceXIdeal.nD Cert.ReferenceXIdeal.τ).loc Cert.ReferenceXIdeal.main_arg3) = m ((c.tc : Thread Cert.ReferenceXIdeal.nD Cert.ReferenceXIdeal.τ).loc Cert.ReferenceXIdeal.main_arg3)
      ∧ r.2.mem ((c.tc : Thread Cert.ReferenceXIdeal.nD Cert.ReferenceXIdeal.τ).loc Cert.ReferenceXIdeal.main_arg4) = m ((c.tc : Thread Cert.ReferenceXIdeal.nD Cert.ReferenceXIdeal.τ).loc Cert.ReferenceXIdeal.main_arg4)
      ∧ r.2.mem ((c.tc : Thread Cert.ReferenceXIdeal.nD Cert.ReferenceXIdeal.τ).loc Cert.ReferenceXIdeal.main_arg5) = m ((c.tc : Thread Cert.ReferenceXIdeal.nD Cert.ReferenceXIdeal.τ).loc Cert.ReferenceXIdeal.main_arg5)
      ∧ r.2.mem ((c.tc : Thread Cert.ReferenceXIdeal.nD Cert.ReferenceXIdeal.τ).loc Cert.ReferenceXIdeal.main_arg6) = m ((c.tc : Thread Cert.ReferenceXIdeal.nD Cert.ReferenceXIdeal.τ).loc Cert.ReferenceXIdeal.main_arg6)
      ∧ r.2.mem ((c.tc : Thread Cert.ReferenceXIdeal.nD Cert.ReferenceXIdeal.τ).loc Cert.ReferenceXIdeal.main_arg7) = m ((c.tc : Thread Cert.ReferenceXIdeal.nD Cert.ReferenceXIdeal.τ).loc Cert.ReferenceXIdeal.main_arg7)
      ∧ r.2.mem ((c.tc : Thread Cert.ReferenceXIdeal.nD Cert.ReferenceXIdeal.τ).loc Cert.ReferenceXIdeal.main_arg8) = m ((c.tc : Thread Cert.ReferenceXIdeal.nD Cert.ReferenceXIdeal.τ).loc Cert.ReferenceXIdeal.main_arg8)
      ∧ r.2.mem ((c.tc : Thread Cert.ReferenceXIdeal.nD Cert.ReferenceXIdeal.τ).loc Cert.ReferenceXIdeal.main_arg9) = m ((c.tc : Thread Cert.ReferenceXIdeal.nD Cert.ReferenceXIdeal.τ).loc Cert.ReferenceXIdeal.main_arg9)
      ∧ r.2.mem ((c.tc : Thread Cert.ReferenceXIdeal.nD Cert.ReferenceXIdeal.τ).loc Cert.ReferenceXIdeal.main_arg10) = m ((c.tc : Thread Cert.ReferenceXIdeal.nD Cert.ReferenceXIdeal.τ).loc Cert.ReferenceXIdeal.main_arg10)
      ∧ r.2.mem ((c.tc : Thread Cert.ReferenceXIdeal.nD Cert.ReferenceXIdeal.τ).loc Cert.ReferenceXIdeal.main_arg11) = m ((c.tc : Thread Cert.ReferenceXIdeal.nD Cert.ReferenceXIdeal.τ).loc Cert.ReferenceXIdeal.main_arg11))
      ∧ r.2.sem = fun _ => 0)

def preserves_KernelB_KernelBIdeal : Prop :=
  IdealRules.named_const.Statement Cert.KernelBIdeal.κ "mask" .f32 0xF149F2CA#32 ⊥

def algebraic_KernelBIdeal_ReferenceBIdeal_pre_finite_b [hKernelBIdeal : Cert.KernelBIdeal.Facts] [hReferenceBIdeal : Cert.ReferenceBIdeal.Facts] [hPre_finite_b : Cert.Pre_finite_b.Facts] : Prop :=
  ∀ (m : (ℓ : Loc Cert.KernelBIdeal.nD Cert.KernelBIdeal.τ Cert.KernelBIdeal.sig) → Buf (Elt Ideal) ℓ) (g : Dev Cert.KernelBIdeal.nD → PrngReg)
    (m' : (ℓ : Loc Cert.ReferenceBIdeal.nD Cert.ReferenceBIdeal.τ Cert.ReferenceBIdeal.sig) → Buf (Elt Ideal) ℓ) (g' : Dev Cert.ReferenceBIdeal.nD → PrngReg), Pre_KernelBIdeal_finite_b m →
    (∀ c : Dev Cert.KernelBIdeal.nD,
      m' ((c.tc : Thread Cert.ReferenceBIdeal.nD Cert.ReferenceBIdeal.τ).loc Cert.ReferenceBIdeal.main_arg0) = m ((c.tc : Thread Cert.KernelBIdeal.nD Cert.KernelBIdeal.τ).loc Cert.KernelBIdeal.main_arg0)
      ∧ m' ((c.tc : Thread Cert.ReferenceBIdeal.nD Cert.ReferenceBIdeal.τ).loc Cert.ReferenceBIdeal.main_arg1) = m ((c.tc : Thread Cert.KernelBIdeal.nD Cert.KernelBIdeal.τ).loc Cert.KernelBIdeal.main_arg1)
      ∧ m' ((c.tc : Thread Cert.ReferenceBIdeal.nD Cert.ReferenceBIdeal.τ).loc Cert.ReferenceBIdeal.main_arg2) = m ((c.tc : Thread Cert.KernelBIdeal.nD Cert.KernelBIdeal.τ).loc Cert.KernelBIdeal.main_arg2)) →
    ∃ (v0 : (c : Dev Cert.KernelBIdeal.nD) → Buf (Elt Ideal) ((c.tc : Thread Cert.KernelBIdeal.nD Cert.KernelBIdeal.τ).loc Cert.KernelBIdeal.main_v27)),
      θ_run (Cert.KernelBIdeal.defs (F := Ideal)) (onTc (τ := Cert.KernelBIdeal.τ) (Cert.KernelBIdeal.main (F := Ideal))) ⟨m, fun _ => 0, g⟩ (fun r => ∀ c : Dev Cert.KernelBIdeal.nD,
          r.2.mem ((c.tc : Thread Cert.KernelBIdeal.nD Cert.KernelBIdeal.τ).loc Cert.KernelBIdeal.main_v27) = v0 c
          ∧ r.2.mem ((c.tc : Thread Cert.KernelBIdeal.nD Cert.KernelBIdeal.τ).loc Cert.KernelBIdeal.main_arg0) = m ((c.tc : Thread Cert.KernelBIdeal.nD Cert.KernelBIdeal.τ).loc Cert.KernelBIdeal.main_arg0)
          ∧ r.2.mem ((c.tc : Thread Cert.KernelBIdeal.nD Cert.KernelBIdeal.τ).loc Cert.KernelBIdeal.main_arg1) = m ((c.tc : Thread Cert.KernelBIdeal.nD Cert.KernelBIdeal.τ).loc Cert.KernelBIdeal.main_arg1)
          ∧ r.2.mem ((c.tc : Thread Cert.KernelBIdeal.nD Cert.KernelBIdeal.τ).loc Cert.KernelBIdeal.main_arg2) = m ((c.tc : Thread Cert.KernelBIdeal.nD Cert.KernelBIdeal.τ).loc Cert.KernelBIdeal.main_arg2))
      ∧ θ_run (Cert.ReferenceBIdeal.defs (F := Ideal)) (onTc (τ := Cert.ReferenceBIdeal.τ) (Cert.ReferenceBIdeal.main (F := Ideal))) ⟨m', fun _ => 0, g'⟩ (fun r => ∀ c : Dev Cert.ReferenceBIdeal.nD,
          r.2.mem ((c.tc : Thread Cert.ReferenceBIdeal.nD Cert.ReferenceBIdeal.τ).loc Cert.ReferenceBIdeal.main_v82) = v0 c
          ∧ r.2.mem ((c.tc : Thread Cert.ReferenceBIdeal.nD Cert.ReferenceBIdeal.τ).loc Cert.ReferenceBIdeal.main_arg0) = m' ((c.tc : Thread Cert.ReferenceBIdeal.nD Cert.ReferenceBIdeal.τ).loc Cert.ReferenceBIdeal.main_arg0)
          ∧ r.2.mem ((c.tc : Thread Cert.ReferenceBIdeal.nD Cert.ReferenceBIdeal.τ).loc Cert.ReferenceBIdeal.main_arg1) = m' ((c.tc : Thread Cert.ReferenceBIdeal.nD Cert.ReferenceBIdeal.τ).loc Cert.ReferenceBIdeal.main_arg1)
          ∧ r.2.mem ((c.tc : Thread Cert.ReferenceBIdeal.nD Cert.ReferenceBIdeal.τ).loc Cert.ReferenceBIdeal.main_arg2) = m' ((c.tc : Thread Cert.ReferenceBIdeal.nD Cert.ReferenceBIdeal.τ).loc Cert.ReferenceBIdeal.main_arg2))

def preserves_KernelX_KernelXIdeal : Prop :=
  IdealRules.named_const.Statement Cert.KernelXIdeal.κ "log2e" .f32 0x3FB8AA3B#32 (((Real.log 2)⁻¹ : ℝ) : EReal)

def algebraic_KernelXIdeal_ReferenceXIdeal [hKernelXIdeal : Cert.KernelXIdeal.Facts] [hReferenceXIdeal : Cert.ReferenceXIdeal.Facts] [hPre_routed_x : Cert.Pre_routed_x.Facts] : Prop :=
  ∀ (m : (ℓ : Loc Cert.KernelXIdeal.nD Cert.KernelXIdeal.τ Cert.KernelXIdeal.sig) → Buf (Elt Ideal) ℓ) (g : Dev Cert.KernelXIdeal.nD → PrngReg)
    (m' : (ℓ : Loc Cert.ReferenceXIdeal.nD Cert.ReferenceXIdeal.τ Cert.ReferenceXIdeal.sig) → Buf (Elt Ideal) ℓ) (g' : Dev Cert.ReferenceXIdeal.nD → PrngReg), Pre_KernelXIdeal m →
    (∀ c : Dev Cert.KernelXIdeal.nD,
      m' ((c.tc : Thread Cert.ReferenceXIdeal.nD Cert.ReferenceXIdeal.τ).loc Cert.ReferenceXIdeal.main_arg0) = m ((c.tc : Thread Cert.KernelXIdeal.nD Cert.KernelXIdeal.τ).loc Cert.KernelXIdeal.main_arg0)
      ∧ m' ((c.tc : Thread Cert.ReferenceXIdeal.nD Cert.ReferenceXIdeal.τ).loc Cert.ReferenceXIdeal.main_arg1) = m ((c.tc : Thread Cert.KernelXIdeal.nD Cert.KernelXIdeal.τ).loc Cert.KernelXIdeal.main_arg1)
      ∧ m' ((c.tc : Thread Cert.ReferenceXIdeal.nD Cert.ReferenceXIdeal.τ).loc Cert.ReferenceXIdeal.main_arg2) = m ((c.tc : Thread Cert.KernelXIdeal.nD Cert.KernelXIdeal.τ).loc Cert.KernelXIdeal.main_arg2)
      ∧ m' ((c.tc : Thread Cert.ReferenceXIdeal.nD Cert.ReferenceXIdeal.τ).loc Cert.ReferenceXIdeal.main_arg3) = m ((c.tc : Thread Cert.KernelXIdeal.nD Cert.KernelXIdeal.τ).loc Cert.KernelXIdeal.main_arg3)
      ∧ m' ((c.tc : Thread Cert.ReferenceXIdeal.nD Cert.ReferenceXIdeal.τ).loc Cert.ReferenceXIdeal.main_arg4) = m ((c.tc : Thread Cert.KernelXIdeal.nD Cert.KernelXIdeal.τ).loc Cert.KernelXIdeal.main_arg4)
      ∧ m' ((c.tc : Thread Cert.ReferenceXIdeal.nD Cert.ReferenceXIdeal.τ).loc Cert.ReferenceXIdeal.main_arg5) = m ((c.tc : Thread Cert.KernelXIdeal.nD Cert.KernelXIdeal.τ).loc Cert.KernelXIdeal.main_arg5)
      ∧ m' ((c.tc : Thread Cert.ReferenceXIdeal.nD Cert.ReferenceXIdeal.τ).loc Cert.ReferenceXIdeal.main_arg6) = m ((c.tc : Thread Cert.KernelXIdeal.nD Cert.KernelXIdeal.τ).loc Cert.KernelXIdeal.main_arg6)
      ∧ m' ((c.tc : Thread Cert.ReferenceXIdeal.nD Cert.ReferenceXIdeal.τ).loc Cert.ReferenceXIdeal.main_arg7) = m ((c.tc : Thread Cert.KernelXIdeal.nD Cert.KernelXIdeal.τ).loc Cert.KernelXIdeal.main_arg7)
      ∧ m' ((c.tc : Thread Cert.ReferenceXIdeal.nD Cert.ReferenceXIdeal.τ).loc Cert.ReferenceXIdeal.main_arg8) = m ((c.tc : Thread Cert.KernelXIdeal.nD Cert.KernelXIdeal.τ).loc Cert.KernelXIdeal.main_arg8)
      ∧ m' ((c.tc : Thread Cert.ReferenceXIdeal.nD Cert.ReferenceXIdeal.τ).loc Cert.ReferenceXIdeal.main_arg9) = m ((c.tc : Thread Cert.KernelXIdeal.nD Cert.KernelXIdeal.τ).loc Cert.KernelXIdeal.main_arg9)
      ∧ m' ((c.tc : Thread Cert.ReferenceXIdeal.nD Cert.ReferenceXIdeal.τ).loc Cert.ReferenceXIdeal.main_arg10) = m ((c.tc : Thread Cert.KernelXIdeal.nD Cert.KernelXIdeal.τ).loc Cert.KernelXIdeal.main_arg10)
      ∧ m' ((c.tc : Thread Cert.ReferenceXIdeal.nD Cert.ReferenceXIdeal.τ).loc Cert.ReferenceXIdeal.main_arg11) = m ((c.tc : Thread Cert.KernelXIdeal.nD Cert.KernelXIdeal.τ).loc Cert.KernelXIdeal.main_arg11)) →
    ∃ (v0 : (c : Dev Cert.KernelXIdeal.nD) → Buf (Elt Ideal) ((c.tc : Thread Cert.KernelXIdeal.nD Cert.KernelXIdeal.τ).loc Cert.KernelXIdeal.main_v3)),
      θ_run (Cert.KernelXIdeal.defs (F := Ideal)) (onTc (τ := Cert.KernelXIdeal.τ) (Cert.KernelXIdeal.main (F := Ideal))) ⟨m, fun _ => 0, g⟩ (fun r => ∀ c : Dev Cert.KernelXIdeal.nD,
          r.2.mem ((c.tc : Thread Cert.KernelXIdeal.nD Cert.KernelXIdeal.τ).loc Cert.KernelXIdeal.main_v3) = v0 c
          ∧ r.2.mem ((c.tc : Thread Cert.KernelXIdeal.nD Cert.KernelXIdeal.τ).loc Cert.KernelXIdeal.main_arg0) = m ((c.tc : Thread Cert.KernelXIdeal.nD Cert.KernelXIdeal.τ).loc Cert.KernelXIdeal.main_arg0)
          ∧ r.2.mem ((c.tc : Thread Cert.KernelXIdeal.nD Cert.KernelXIdeal.τ).loc Cert.KernelXIdeal.main_arg1) = m ((c.tc : Thread Cert.KernelXIdeal.nD Cert.KernelXIdeal.τ).loc Cert.KernelXIdeal.main_arg1)
          ∧ r.2.mem ((c.tc : Thread Cert.KernelXIdeal.nD Cert.KernelXIdeal.τ).loc Cert.KernelXIdeal.main_arg2) = m ((c.tc : Thread Cert.KernelXIdeal.nD Cert.KernelXIdeal.τ).loc Cert.KernelXIdeal.main_arg2)
          ∧ r.2.mem ((c.tc : Thread Cert.KernelXIdeal.nD Cert.KernelXIdeal.τ).loc Cert.KernelXIdeal.main_arg3) = m ((c.tc : Thread Cert.KernelXIdeal.nD Cert.KernelXIdeal.τ).loc Cert.KernelXIdeal.main_arg3)
          ∧ r.2.mem ((c.tc : Thread Cert.KernelXIdeal.nD Cert.KernelXIdeal.τ).loc Cert.KernelXIdeal.main_arg4) = m ((c.tc : Thread Cert.KernelXIdeal.nD Cert.KernelXIdeal.τ).loc Cert.KernelXIdeal.main_arg4)
          ∧ r.2.mem ((c.tc : Thread Cert.KernelXIdeal.nD Cert.KernelXIdeal.τ).loc Cert.KernelXIdeal.main_arg5) = m ((c.tc : Thread Cert.KernelXIdeal.nD Cert.KernelXIdeal.τ).loc Cert.KernelXIdeal.main_arg5)
          ∧ r.2.mem ((c.tc : Thread Cert.KernelXIdeal.nD Cert.KernelXIdeal.τ).loc Cert.KernelXIdeal.main_arg6) = m ((c.tc : Thread Cert.KernelXIdeal.nD Cert.KernelXIdeal.τ).loc Cert.KernelXIdeal.main_arg6)
          ∧ r.2.mem ((c.tc : Thread Cert.KernelXIdeal.nD Cert.KernelXIdeal.τ).loc Cert.KernelXIdeal.main_arg7) = m ((c.tc : Thread Cert.KernelXIdeal.nD Cert.KernelXIdeal.τ).loc Cert.KernelXIdeal.main_arg7)
          ∧ r.2.mem ((c.tc : Thread Cert.KernelXIdeal.nD Cert.KernelXIdeal.τ).loc Cert.KernelXIdeal.main_arg8) = m ((c.tc : Thread Cert.KernelXIdeal.nD Cert.KernelXIdeal.τ).loc Cert.KernelXIdeal.main_arg8)
          ∧ r.2.mem ((c.tc : Thread Cert.KernelXIdeal.nD Cert.KernelXIdeal.τ).loc Cert.KernelXIdeal.main_arg9) = m ((c.tc : Thread Cert.KernelXIdeal.nD Cert.KernelXIdeal.τ).loc Cert.KernelXIdeal.main_arg9)
          ∧ r.2.mem ((c.tc : Thread Cert.KernelXIdeal.nD Cert.KernelXIdeal.τ).loc Cert.KernelXIdeal.main_arg10) = m ((c.tc : Thread Cert.KernelXIdeal.nD Cert.KernelXIdeal.τ).loc Cert.KernelXIdeal.main_arg10)
          ∧ r.2.mem ((c.tc : Thread Cert.KernelXIdeal.nD Cert.KernelXIdeal.τ).loc Cert.KernelXIdeal.main_arg11) = m ((c.tc : Thread Cert.KernelXIdeal.nD Cert.KernelXIdeal.τ).loc Cert.KernelXIdeal.main_arg11))
      ∧ θ_run (Cert.ReferenceXIdeal.defs (F := Ideal)) (onTc (τ := Cert.ReferenceXIdeal.τ) (Cert.ReferenceXIdeal.main (F := Ideal))) ⟨m', fun _ => 0, g'⟩ (fun r => ∀ c : Dev Cert.ReferenceXIdeal.nD,
          r.2.mem ((c.tc : Thread Cert.ReferenceXIdeal.nD Cert.ReferenceXIdeal.τ).loc Cert.ReferenceXIdeal.main_v96) = v0 c
          ∧ r.2.mem ((c.tc : Thread Cert.ReferenceXIdeal.nD Cert.ReferenceXIdeal.τ).loc Cert.ReferenceXIdeal.main_arg0) = m' ((c.tc : Thread Cert.ReferenceXIdeal.nD Cert.ReferenceXIdeal.τ).loc Cert.ReferenceXIdeal.main_arg0)
          ∧ r.2.mem ((c.tc : Thread Cert.ReferenceXIdeal.nD Cert.ReferenceXIdeal.τ).loc Cert.ReferenceXIdeal.main_arg1) = m' ((c.tc : Thread Cert.ReferenceXIdeal.nD Cert.ReferenceXIdeal.τ).loc Cert.ReferenceXIdeal.main_arg1)
          ∧ r.2.mem ((c.tc : Thread Cert.ReferenceXIdeal.nD Cert.ReferenceXIdeal.τ).loc Cert.ReferenceXIdeal.main_arg2) = m' ((c.tc : Thread Cert.ReferenceXIdeal.nD Cert.ReferenceXIdeal.τ).loc Cert.ReferenceXIdeal.main_arg2)
          ∧ r.2.mem ((c.tc : Thread Cert.ReferenceXIdeal.nD Cert.ReferenceXIdeal.τ).loc Cert.ReferenceXIdeal.main_arg3) = m' ((c.tc : Thread Cert.ReferenceXIdeal.nD Cert.ReferenceXIdeal.τ).loc Cert.ReferenceXIdeal.main_arg3)
          ∧ r.2.mem ((c.tc : Thread Cert.ReferenceXIdeal.nD Cert.ReferenceXIdeal.τ).loc Cert.ReferenceXIdeal.main_arg4) = m' ((c.tc : Thread Cert.ReferenceXIdeal.nD Cert.ReferenceXIdeal.τ).loc Cert.ReferenceXIdeal.main_arg4)
          ∧ r.2.mem ((c.tc : Thread Cert.ReferenceXIdeal.nD Cert.ReferenceXIdeal.τ).loc Cert.ReferenceXIdeal.main_arg5) = m' ((c.tc : Thread Cert.ReferenceXIdeal.nD Cert.ReferenceXIdeal.τ).loc Cert.ReferenceXIdeal.main_arg5)
          ∧ r.2.mem ((c.tc : Thread Cert.ReferenceXIdeal.nD Cert.ReferenceXIdeal.τ).loc Cert.ReferenceXIdeal.main_arg6) = m' ((c.tc : Thread Cert.ReferenceXIdeal.nD Cert.ReferenceXIdeal.τ).loc Cert.ReferenceXIdeal.main_arg6)
          ∧ r.2.mem ((c.tc : Thread Cert.ReferenceXIdeal.nD Cert.ReferenceXIdeal.τ).loc Cert.ReferenceXIdeal.main_arg7) = m' ((c.tc : Thread Cert.ReferenceXIdeal.nD Cert.ReferenceXIdeal.τ).loc Cert.ReferenceXIdeal.main_arg7)
          ∧ r.2.mem ((c.tc : Thread Cert.ReferenceXIdeal.nD Cert.ReferenceXIdeal.τ).loc Cert.ReferenceXIdeal.main_arg8) = m' ((c.tc : Thread Cert.ReferenceXIdeal.nD Cert.ReferenceXIdeal.τ).loc Cert.ReferenceXIdeal.main_arg8)
          ∧ r.2.mem ((c.tc : Thread Cert.ReferenceXIdeal.nD Cert.ReferenceXIdeal.τ).loc Cert.ReferenceXIdeal.main_arg9) = m' ((c.tc : Thread Cert.ReferenceXIdeal.nD Cert.ReferenceXIdeal.τ).loc Cert.ReferenceXIdeal.main_arg9)
          ∧ r.2.mem ((c.tc : Thread Cert.ReferenceXIdeal.nD Cert.ReferenceXIdeal.τ).loc Cert.ReferenceXIdeal.main_arg10) = m' ((c.tc : Thread Cert.ReferenceXIdeal.nD Cert.ReferenceXIdeal.τ).loc Cert.ReferenceXIdeal.main_arg10)
          ∧ r.2.mem ((c.tc : Thread Cert.ReferenceXIdeal.nD Cert.ReferenceXIdeal.τ).loc Cert.ReferenceXIdeal.main_arg11) = m' ((c.tc : Thread Cert.ReferenceXIdeal.nD Cert.ReferenceXIdeal.τ).loc Cert.ReferenceXIdeal.main_arg11))

def Claim : Prop :=
  ∃ (hKernelB : Cert.KernelB.Facts) (hKernelBIdeal : Cert.KernelBIdeal.Facts) (hReferenceBIdeal : Cert.ReferenceBIdeal.Facts) (hKernelX : Cert.KernelX.Facts) (hKernelXIdeal : Cert.KernelXIdeal.Facts) (hReferenceXIdeal : Cert.ReferenceXIdeal.Facts) (hPre_finite_b : Cert.Pre_finite_b.Facts) (hPre_routed_x : Cert.Pre_routed_x.Facts),
    quiescent_KernelB (hKernelB := hKernelB)
    ∧ quiescent_KernelBIdeal (hKernelBIdeal := hKernelBIdeal)
    ∧ quiescent_KernelBIdeal_pre_finite_b (hKernelBIdeal := hKernelBIdeal) (hPre_finite_b := hPre_finite_b)
    ∧ quiescent_ReferenceBIdeal (hReferenceBIdeal := hReferenceBIdeal)
    ∧ quiescent_ReferenceBIdeal_pre_finite_b (hReferenceBIdeal := hReferenceBIdeal) (hPre_finite_b := hPre_finite_b)
    ∧ quiescent_KernelX (hKernelX := hKernelX) (hPre_routed_x := hPre_routed_x)
    ∧ quiescent_KernelXIdeal (hKernelXIdeal := hKernelXIdeal) (hPre_routed_x := hPre_routed_x)
    ∧ quiescent_ReferenceXIdeal (hReferenceXIdeal := hReferenceXIdeal)
    ∧ quiescent_ReferenceXIdeal_pre_routed_x (hReferenceXIdeal := hReferenceXIdeal) (hPre_routed_x := hPre_routed_x)
    ∧ preserves_KernelB_KernelBIdeal
    ∧ algebraic_KernelBIdeal_ReferenceBIdeal_pre_finite_b (hKernelBIdeal := hKernelBIdeal) (hReferenceBIdeal := hReferenceBIdeal) (hPre_finite_b := hPre_finite_b)
    ∧ preserves_KernelX_KernelXIdeal
    ∧ algebraic_KernelXIdeal_ReferenceXIdeal (hKernelXIdeal := hKernelXIdeal) (hReferenceXIdeal := hReferenceXIdeal) (hPre_routed_x := hPre_routed_x)
-- ==== Pre_finite_b.lean ====
abbrev S32768x4608 : Shape := ⟨2, ![32768, 4608]⟩
abbrev S128x4608 : Shape := ⟨2, ![128, 4608]⟩
abbrev S1x16 : Shape := ⟨2, ![1, 16]⟩
abbrev S_ : Shape := ⟨0, ![]⟩

class Facts : Prop where
  bitsLt_bf16_f32 : FTy.bits .bf16 < FTy.bits .f32
  bcast_S_S32768x4608 : S_.BroadcastsInDim S32768x4608 (![] : Fin 0 → Fin S32768x4608.rank)
  reducesTo_S32768x4608_S_d0_1 : S32768x4608.ReducesTo [0, 1] S_
  h_S_ : 0 < S_.numel
  bcast_S_S128x4608 : S_.BroadcastsInDim S128x4608 (![] : Fin 0 → Fin S128x4608.rank)
  reducesTo_S128x4608_S_d0_1 : S128x4608.ReducesTo [0, 1] S_
  bcast_S_S1x16 : S_.BroadcastsInDim S1x16 (![] : Fin 0 → Fin S1x16.rank)
  reducesTo_S1x16_S_d0_1 : S1x16.ReducesTo [0, 1] S_

variable [Facts]

def fn {F : FTy → Type} [FloatOps F] (main_arg0 : FVec F S32768x4608 .bf16) (main_arg1 : FVec F S128x4608 .bf16) (main_arg2 : FVec F S1x16 .f32) : IVec S_ 1 :=
  let main_v0 : FVec F S32768x4608 .f32 := (extf .f32 · bitsLt_bf16_f32) main_arg0
  let main_v1 : FVec F S32768x4608 .f32 := Host.absf main_v0
  let main_cst : FVec F S_ .f32 := constant S_ .f32 0x7F800000#32
  let main_v2 : FVec F S32768x4608 .f32 := broadcastInDim S32768x4608 ![] bcast_S_S32768x4608 main_cst
  let main_v3 : IVec S32768x4608 1 := cmpf .olt main_v1 main_v2
  let main_c : IVec S_ 1 := constantI S_ 1 1#1
  let main_v4 : IVec S_ 1 := (fun x v => Host.reduce IntOp.andi x v reducesTo_S32768x4608_S_d0_1 h_S_) main_v3 main_c
  let main_v5 : FVec F S128x4608 .f32 := (extf .f32 · bitsLt_bf16_f32) main_arg1
  let main_v6 : FVec F S128x4608 .f32 := Host.absf main_v5
  let main_cst_0 : FVec F S_ .f32 := constant S_ .f32 0x7F800000#32
  let main_v7 : FVec F S128x4608 .f32 := broadcastInDim S128x4608 ![] bcast_S_S128x4608 main_cst_0
  let main_v8 : IVec S128x4608 1 := cmpf .olt main_v6 main_v7
  let main_c_1 : IVec S_ 1 := constantI S_ 1 1#1
  let main_v9 : IVec S_ 1 := (fun x v => Host.reduce IntOp.andi x v reducesTo_S128x4608_S_d0_1 h_S_) main_v8 main_c_1
  let main_v10 : IVec S_ 1 := andi main_v4 main_v9
  let main_v11 : FVec F S1x16 .f32 := Host.absf main_arg2
  let main_cst_2 : FVec F S_ .f32 := constant S_ .f32 0x7F800000#32
  let main_v12 : FVec F S1x16 .f32 := broadcastInDim S1x16 ![] bcast_S_S1x16 main_cst_2
  let main_v13 : IVec S1x16 1 := cmpf .olt main_v11 main_v12
  let main_c_3 : IVec S_ 1 := constantI S_ 1 1#1
  let main_v14 : IVec S_ 1 := (fun x v => Host.reduce IntOp.andi x v reducesTo_S1x16_S_d0_1 h_S_) main_v13 main_c_3
  let main_v15 : IVec S_ 1 := andi main_v10 main_v14
  main_v15
-- ==== Pre_routed_x.lean ====
abbrev S544 : Shape := ⟨1, ![544]⟩
abbrev S278528x2048 : Shape := ⟨2, ![278528, 2048]⟩
abbrev S32x2048x2048 : Shape := ⟨3, ![32, 2048, 2048]⟩
abbrev S64 : Shape := ⟨1, ![64]⟩
abbrev S32x1x2048 : Shape := ⟨3, ![32, 1, 2048]⟩
abbrev S_ : Shape := ⟨0, ![]⟩

class Facts : Prop where
  bcast_S_S544 : S_.BroadcastsInDim S544 (![] : Fin 0 → Fin S544.rank)
  reducesTo_S544_S_d0 : S544.ReducesTo [0] S_
  h_S_ : 0 < S_.numel
  bitsLt_bf16_f32 : FTy.bits .bf16 < FTy.bits .f32
  bcast_S_S278528x2048 : S_.BroadcastsInDim S278528x2048 (![] : Fin 0 → Fin S278528x2048.rank)
  reducesTo_S278528x2048_S_d0_1 : S278528x2048.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg10 : FVec F S64 .f32) (main_v29 : IVec S_ 1) (main_v31 : IVec S64 1) (main_v32 : FVec F S64 .f32) : IVec S_ 1 :=
  let main_v33 : IVec S64 1 := cmpf .olt main_arg10 main_v32
  let main_v34 : IVec S64 1 := andi main_v31 main_v33
  let main_c_13 : IVec S_ 1 := constantI S_ 1 1#1
  let main_v35 : IVec S_ 1 := (fun x v => Host.reduce IntOp.andi x v reducesTo_S64_S_d0 h_S_) main_v34 main_c_13
  let main_v36 : IVec S_ 1 := andi main_v29 main_v35
  main_v36

def fn_part1 {F : FTy → Type} [FloatOps F] (main_arg4 : FVec F S64 .f32) (main_arg7 : FVec F S64 .f32) (main_arg10 : FVec F S64 .f32) (main_v15 : IVec S_ 1) (main_cst_5 : FVec F S_ .f32) : IVec S_ 1 :=
  let main_v16 : FVec F S64 .f32 := broadcastInDim S64 ![] bcast_S_S64 main_cst_5
  let main_v17 : IVec S64 1 := cmpf .oge main_arg4 main_v16
  let main_cst_6 : FVec F S_ .f32 := constant S_ .f32 0x7F800000#32
  let main_v18 : FVec F S64 .f32 := broadcastInDim S64 ![] bcast_S_S64 main_cst_6
  let main_v19 : IVec S64 1 := cmpf .olt main_arg4 main_v18
  let main_v20 : IVec S64 1 := andi main_v17 main_v19
  let main_c_7 : IVec S_ 1 := constantI S_ 1 1#1
  let main_v21 : IVec S_ 1 := (fun x v => Host.reduce IntOp.andi x v reducesTo_S64_S_d0 h_S_) main_v20 main_c_7
  let main_v22 : IVec S_ 1 := andi main_v15 main_v21
  let main_cst_8 : FVec F S_ .f32 := constant S_ .f32 0x00000000#32
  let main_v23 : FVec F S64 .f32 := broadcastInDim S64 ![] bcast_S_S64 main_cst_8
  let main_v24 : IVec S64 1 := cmpf .oge main_arg7 main_v23
  let main_cst_9 : FVec F S_ .f32 := constant S_ .f32 0x7F800000#32
  let main_v25 : FVec F S64 .f32 := broadcastInDim S64 ![] bcast_S_S64 main_cst_9
  let main_v26 : IVec S64 1 := cmpf .olt main_arg7 main_v25
  let main_v27 : IVec S64 1 := andi main_v24 main_v26
  let main_c_10 : IVec S_ 1 := constantI S_ 1 1#1
  let main_v28 : IVec S_ 1 := (fun x v => Host.reduce IntOp.andi x v reducesTo_S64_S_d0 h_S_) main_v27 main_c_10
  let main_v29 : IVec S_ 1 := andi main_v22 main_v28
  let main_cst_11 : FVec F S_ .f32 := constant S_ .f32 0x00000000#32
  let main_v30 : FVec F S64 .f32 := broadcastInDim S64 ![] bcast_S_S64 main_cst_11
  let main_v31 : IVec S64 1 := cmpf .oge main_arg10 main_v30
  let main_cst_12 : FVec F S_ .f32 := constant S_ .f32 0x7F800000#32
  let main_v32 : FVec F S64 .f32 := broadcastInDim S64 ![] bcast_S_S64 main_cst_12
  fn_part2 (F := F) main_arg10 main_v29 main_v31 main_v32

def fn {F : FTy → Type} [FloatOps F] (main_arg0 : IVec S544 32) (main_arg1 : IVec S544 32) (main_arg2 : FVec F S278528x2048 .bf16) (main_arg3 : FVec F S32x2048x2048 .f32) (main_arg4 : FVec F S64 .f32) (main_arg5 : FVec F S32x1x2048 .f32) (main_arg6 : FVec F S32x2048x2048 .f32) (main_arg7 : FVec F S64 .f32) (main_arg8 : FVec F S32x1x2048 .f32) (main_arg9 : FVec F S32x2048x2048 .f32) (main_arg10 : FVec F S64 .f32) (main_arg11 : FVec F S32x1x2048 .f32) : IVec S_ 1 :=
  let main_c : IVec S_ 32 := constantI S_ 32 0#32
  let main_v0 : IVec S544 32 := broadcastInDim S544 ![] bcast_S_S544 main_c
  let main_v1 : IVec S544 1 := cmpi .sge main_arg0 main_v0
  let main_c_0 : IVec S_ 32 := constantI S_ 32 32#32
  let main_v2 : IVec S544 32 := broadcastInDim S544 ![] bcast_S_S544 main_c_0
  let main_v3 : IVec S544 1 := cmpi .slt main_arg0 main_v2
  let main_v4 : IVec S544 1 := andi main_v1 main_v3
  let main_c_1 : IVec S_ 1 := constantI S_ 1 1#1
  let main_v5 : IVec S_ 1 := (fun x v => Host.reduce IntOp.andi x v reducesTo_S544_S_d0 h_S_) main_v4 main_c_1
  let main_c_2 : IVec S_ 32 := constantI S_ 32 0#32
  let main_v6 : IVec S544 32 := broadcastInDim S544 ![] bcast_S_S544 main_c_2
  let main_v7 : IVec S544 1 := cmpi .sge main_arg1 main_v6
  let main_c_3 : IVec S_ 1 := constantI S_ 1 1#1
  let main_v8 : IVec S_ 1 := (fun x v => Host.reduce IntOp.andi x v reducesTo_S544_S_d0 h_S_) main_v7 main_c_3
  let main_v9 : IVec S_ 1 := andi main_v5 main_v8
  let main_v10 : FVec F S278528x2048 .f32 := (extf .f32 · bitsLt_bf16_f32) main_arg2
  let main_v11 : FVec F S278528x2048 .f32 := Host.absf main_v10
  let main_cst : FVec F S_ .f32 := constant S_ .f32 0x7F800000#32
  let main_v12 : FVec F S278528x2048 .f32 := broadcastInDim S278528x2048 ![] bcast_S_S278528x2048 main_cst
  let main_v13 : IVec S278528x2048 1 := cmpf .olt main_v11 main_v12
  let main_c_4 : IVec S_ 1 := constantI S_ 1 1#1
  let main_v14 : IVec S_ 1 := (fun x v => Host.reduce IntOp.andi x v reducesTo_S278528x2048_S_d0_1 h_S_) main_v13 main_c_4
  let main_v15 : IVec S_ 1 := andi main_v9 main_v14
  let main_cst_5 : FVec F S_ .f32 := constant S_ .f32 0x00000000#32
  fn_part1 (F := F) main_arg4 main_arg7 main_arg10 main_v15 main_cst_5
-- ==== KernelB.lean ====
abbrev S32768x4608 : Shape := ⟨2, ![32768, 4608]⟩
abbrev S128x4608 : Shape := ⟨2, ![128, 4608]⟩
abbrev S1x16 : Shape := ⟨2, ![1, 16]⟩
abbrev S32768x4096 : Shape := ⟨2, ![32768, 4096]⟩
abbrev S32768x256 : Shape := ⟨2, ![32768, 256]⟩
abbrev S32768x4x1x64 : Shape := ⟨4, ![32768, 4, 1, 64]⟩
abbrev S32768x4x2x64 : Shape := ⟨4, ![32768, 4, 2, 64]⟩
abbrev S32768x512 : Shape := ⟨2, ![32768, 512]⟩
abbrev S32768x5120 : Shape := ⟨2, ![32768, 5120]⟩
abbrev S128x4096 : Shape := ⟨2, ![128, 4096]⟩
abbrev S128x256 : Shape := ⟨2, ![128, 256]⟩
abbrev S128x4x1x64 : Shape := ⟨4, ![128, 4, 1, 64]⟩
abbrev S128x4x2x64 : Shape := ⟨4, ![128, 4, 2, 64]⟩
abbrev S128x512 : Shape := ⟨2, ![128, 512]⟩
abbrev S128x5120 : Shape := ⟨2, ![128, 5120]⟩
abbrev S16 : Shape := ⟨1, ![16]⟩
abbrev S128 : Shape := ⟨1, ![128]⟩
abbrev S_ : Shape := ⟨0, ![]⟩
abbrev S1x128 : Shape := ⟨2, ![1, 128]⟩
abbrev S32768x1024 : Shape := ⟨2, ![32768, 1024]⟩
abbrev S2048x256 : Shape := ⟨2, ![2048, 256]⟩
abbrev S2048x128 : Shape := ⟨2, ![2048, 128]⟩
abbrev S128x128 : Shape := ⟨2, ![128, 128]⟩
abbrev S512x384 : Shape := ⟨2, ![512, 384]⟩
abbrev S512x1 : Shape := ⟨2, ![512, 1]⟩
abbrev S1 : Shape := ⟨1, ![1]⟩
abbrev S384x128 : Shape := ⟨2, ![384, 128]⟩
abbrev S512x128 : Shape := ⟨2, ![512, 128]⟩
abbrev S512 : Shape := ⟨1, ![512]⟩

abbrev nBuf : Space → Nat
  | .hbm => 36
  | .vmem => 13
  | .smem => 1
  | _ => 0

abbrev bufTy : (tb : Table) → Fin (tcTables nBuf tb) → BufTy
  | .hbm, ⟨0, _⟩ => ⟨S32768x4608, .bf16⟩
  | .hbm, ⟨1, _⟩ => ⟨S128x4608, .bf16⟩
  | .hbm, ⟨2, _⟩ => ⟨S1x16, .f32⟩
  | .hbm, ⟨3, _⟩ => ⟨S32768x4096, .bf16⟩
  | .hbm, ⟨4, _⟩ => ⟨S32768x256, .bf16⟩
  | .hbm, ⟨5, _⟩ => ⟨S32768x4x1x64, .bf16⟩
  | .hbm, ⟨6, _⟩ => ⟨S32768x4x2x64, .bf16⟩
  | .hbm, ⟨7, _⟩ => ⟨S32768x512, .bf16⟩
  | .hbm, ⟨8, _⟩ => ⟨S32768x256, .bf16⟩
  | .hbm, ⟨9, _⟩ => ⟨S32768x4x1x64, .bf16⟩
  | .hbm, ⟨10, _⟩ => ⟨S32768x4x2x64, .bf16⟩
  | .hbm, ⟨11, _⟩ => ⟨S32768x512, .bf16⟩
  | .hbm, ⟨12, _⟩ => ⟨S32768x5120, .bf16⟩
  | .hbm, ⟨13, _⟩ => ⟨S128x4096, .bf16⟩
  | .hbm, ⟨14, _⟩ => ⟨S128x256, .bf16⟩
  | .hbm, ⟨15, _⟩ => ⟨S128x4x1x64, .bf16⟩
  | .hbm, ⟨16, _⟩ => ⟨S128x4x2x64, .bf16⟩
  | .hbm, ⟨17, _⟩ => ⟨S128x512, .bf16⟩
  | .hbm, ⟨18, _⟩ => ⟨S128x256, .bf16⟩
  | .hbm, ⟨19, _⟩ => ⟨S128x4x1x64, .bf16⟩
  | .hbm, ⟨20, _⟩ => ⟨S128x4x2x64, .bf16⟩
  | .hbm, ⟨21, _⟩ => ⟨S128x512, .bf16⟩
  | .hbm, ⟨22, _⟩ => ⟨S128x5120, .bf16⟩
  | .hbm, ⟨23, _⟩ => ⟨S16, .f32⟩
  | .hbm, ⟨24, _⟩ => ⟨S128, .i32⟩
  | .hbm, ⟨25, _⟩ => ⟨S_, .i32⟩
  | .hbm, ⟨26, _⟩ => ⟨S128, .i32⟩
  | .hbm, ⟨27, _⟩ => ⟨S128, .i1⟩
  | .hbm, ⟨28, _⟩ => ⟨S_, .f32⟩
  | .hbm, ⟨29, _⟩ => ⟨S_, .f32⟩
  | .hbm, ⟨30, _⟩ => ⟨S128, .f32⟩
  | .hbm, ⟨31, _⟩ => ⟨S128, .f32⟩
  | .hbm, ⟨32, _⟩ => ⟨S128, .f32⟩
  | .hbm, ⟨33, _⟩ => ⟨S128, .f32⟩
  | .hbm, ⟨34, _⟩ => ⟨S1x128, .f32⟩
  | .hbm, ⟨35, _⟩ => ⟨S32768x1024, .bf16⟩
  | .local _ .vmem, ⟨0, _⟩ => ⟨S2048x256, .bf16⟩
  | .local _ .vmem, ⟨1, _⟩ => ⟨S2048x256, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S128x128, .bf16⟩
  | .local _ .vmem, ⟨7, _⟩ => ⟨S128x128, .bf16⟩
  | .local _ .vmem, ⟨8, _⟩ => ⟨S128x128, .bf16⟩
  | .local _ .vmem, ⟨9, _⟩ => ⟨S128x128, .bf16⟩
  | .local _ .vmem, ⟨10, _⟩ => ⟨S1x128, .f32⟩
  | .local _ .vmem, ⟨11, _⟩ => ⟨S2048x256, .bf16⟩
  | .local _ .vmem, ⟨12, _⟩ => ⟨S2048x256, .bf16⟩
  | .local _ .smem, ⟨0, _⟩ => ⟨S16, .f32⟩
  | _, _ => ⟨S32768x4608, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_c : Ref sig .tc := ⟨.hbm, 25, rfl⟩
abbrev main_v22 : Ref sig .tc := ⟨.hbm, 26, rfl⟩
abbrev main_v23 : Ref sig .tc := ⟨.hbm, 27, rfl⟩
abbrev main_cst : Ref sig .tc := ⟨.hbm, 28, rfl⟩
abbrev main_cst_0 : Ref sig .tc := ⟨.hbm, 29, rfl⟩
abbrev main_call0_v0 : Ref sig .tc := ⟨.hbm, 30, rfl⟩
abbrev main_call0_v1 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![16, 4], ![false, false]⟩

def k0_off1 (i : grid0.Coords) (c0_i32_16 : BitVec 32) : Fin 1 → Nat :=
  let arg1 : BitVec 32 := BitVec.ofNat 32 (i 1).val
  let c4_i32 : BitVec 32 := 4#32
  let v56 : BitVec 32 := Scalar.muli arg1 c4_i32
  let v57 : BitVec 32 := Scalar.addi v56 c0_i32_16
  let v58 : Index := Scalar.indexCast v57
  ![v58.toNat]
@[reducible] def k0_t1_loop : Scf.Loop 32 :=
  let c0_i32_24 : BitVec 32 := 0#32
  let c16_i32 : BitVec 32 := 16#32
  let v86 : BitVec 32 := Scalar.addi c0_i32_24 c16_i32
  let c1_i32_25 : BitVec 32 := 1#32
  ⟨c0_i32_24, v86, c1_i32_25⟩
def k0_mult1 (k0_t1 : Fin k0_t1_loop.trips) : BitVec 32 :=
  let c1664_i32 : BitVec 32 := 1664#32
  let c0_i32_29 : BitVec 32 := 0#32
  let c0_i32_24 : BitVec 32 := 0#32
  let c1_i32_25 : BitVec 32 := 1#32
  let arg10 : BitVec 32 := Scf.iv c0_i32_24 c1_i32_25 k0_t1
  let c1_i32_27 : BitVec 32 := 1#32
  let v87 : BitVec 32 := Scalar.subi arg10 c1_i32_27
  let c128_i32_28 : BitVec 32 := 128#32
  let v88 : BitVec 32 := Scalar.muli v87 c128_i32_28
  let v89 : BitVec 32 := Scalar.maxsi c0_i32_29 v88
  let v90 : BitVec 32 := Scalar.minsi c1664_i32 v89
  v90
def k0_mult2 (k0_t1 : Fin k0_t1_loop.trips) : BitVec 32 :=
  let c0_i32_24 : BitVec 32 := 0#32
  let c1_i32_25 : BitVec 32 := 1#32
  let arg10 : BitVec 32 := Scf.iv c0_i32_24 c1_i32_25 k0_t1
  let c128_i32_30 : BitVec 32 := 128#32
  let v92 : BitVec 32 := Scalar.muli arg10 c128_i32_30
  v92
def k0_off2 (k0_t1 : Fin k0_t1_loop.trips) : Fin 2 → Nat :=
  let c1664_i32 : BitVec 32 := 1664#32
  let c0_i32_29 : BitVec 32 := 0#32
  let c0_i32_24 : BitVec 32 := 0#32
  let c1_i32_25 : BitVec 32 := 1#32
  let arg10 : BitVec 32 := Scf.iv c0_i32_24 c1_i32_25 k0_t1
  let c1_i32_27 : BitVec 32 := 1#32
  let v87 : BitVec 32 := Scalar.subi arg10 c1_i32_27
  let c128_i32_28 : BitVec 32 := 128#32
  let v88 : BitVec 32 := Scalar.muli v87 c128_i32_28
  let v89 : BitVec 32 := Scalar.maxsi c0_i32_29 v88
  let v90 : BitVec 32 := Scalar.minsi c1664_i32 v89
  let v91 : BitVec 32 := v90
  let v94 : Index := Scalar.indexCast v91
  let c0_31 : Index := 0#32
  ![v94.toNat, 0]
def k0_off3 (k0_t1 : Fin k0_t1_loop.trips) : Fin 2 → Nat :=
  let c0_i32_24 : BitVec 32 := 0#32
  let c1_i32_25 : BitVec 32 := 1#32
  let arg10 : BitVec 32 := Scf.iv c0_i32_24 c1_i32_25 k0_t1
  let c128_i32_30 : BitVec 32 := 128#32
  let v92 : BitVec 32 := Scalar.muli arg10 c128_i32_30
  let v93 : BitVec 32 := v92
  let v100 : Index := Scalar.indexCast v93
  let c0_33 : Index := 0#32
  ![v100.toNat, 0]
def k0_off4 (k0_t1 : Fin k0_t1_loop.trips) : Fin 2 → Nat :=
  let c0_i32_24 : BitVec 32 := 0#32
  let c1_i32_25 : BitVec 32 := 1#32
  let arg10 : BitVec 32 := Scf.iv c0_i32_24 c1_i32_25 k0_t1
  let c128_i32_30 : BitVec 32 := 128#32
  let v92 : BitVec 32 := Scalar.muli arg10 c128_i32_30
  let v93 : BitVec 32 := v92
  let v106 : Index := Scalar.indexCast v93
  let c128 : Index := 128#32
  ![v106.toNat, 128]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c36_i32 : BitVec 32 := 36#32
  let v0 : BitVec 32 := Scalar.addi c36_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg1
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c36_i32 : BitVec 32 := 36#32
  let v0 : BitVec 32 := Scalar.addi c36_i32 arg1
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S128x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S2048x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== KernelBIdeal.lean ====
variable {F : FTy → Type} [FloatOps F] [Named F]
def κ : String → Option EReal := fun
  | "mask" => some ⊥
  | _ => none
-- ==== ReferenceBIdeal.lean ====
abbrev S32768x4608 : Shape := ⟨2, ![32768, 4608]⟩
abbrev S128x4608 : Shape := ⟨2, ![128, 4608]⟩
abbrev S1x16 : Shape := ⟨2, ![1, 16]⟩
abbrev S32768x1024 : Shape := ⟨2, ![32768, 1024]⟩
abbrev S32768x256 : Shape := ⟨2, ![32768, 256]⟩
abbrev S16x256 : Shape := ⟨2, ![16, 256]⟩
abbrev S16x4x64 : Shape := ⟨3, ![16, 4, 64]⟩
abbrev S16x16x128x4x4x64 : Shape := ⟨6, ![16, 16, 128, 4, 4, 64]⟩
abbrev S16x16x128x4x64 : Shape := ⟨5, ![16, 16, 128, 4, 64]⟩
abbrev S_ : Shape := ⟨0, ![]⟩
abbrev S16x18x128x4x64 : Shape := ⟨5, ![16, 18, 128, 4, 64]⟩
abbrev S16x16x384x4x64 : Shape := ⟨5, ![16, 16, 384, 4, 64]⟩
abbrev S16 : Shape := ⟨1, ![16]⟩
abbrev S16x1x1 : Shape := ⟨3, ![16, 1, 1]⟩
abbrev S128 : Shape := ⟨1, ![128]⟩
abbrev S1x128x1 : Shape := ⟨3, ![1, 128, 1]⟩
abbrev S384 : Shape := ⟨1, ![384]⟩
abbrev S1x1x384 : Shape := ⟨3, ![1, 1, 384]⟩
abbrev S16x1x384 : Shape := ⟨3, ![16, 1, 384]⟩
abbrev S16x128x1 : Shape := ⟨3, ![16, 128, 1]⟩
abbrev S16x128x384 : Shape := ⟨3, ![16, 128, 384]⟩
abbrev S4x4 : Shape := ⟨2, ![4, 4]⟩
abbrev S16x4x16x384x128x4 : Shape := ⟨6, ![16, 4, 16, 384, 128, 4]⟩
abbrev S16x4x4x16x128x384 : Shape := ⟨6, ![16, 4, 4, 16, 128, 384]⟩
abbrev S1x1x1x16x128x384 : Shape := ⟨6, ![1, 1, 1, 16, 128, 384]⟩
abbrev S4x16x16x16x128x4 : Shape := ⟨6, ![4, 16, 16, 16, 128, 4]⟩
abbrev S16x4x4x16x128x16 : Shape := ⟨6, ![16, 4, 4, 16, 128, 16]⟩
abbrev S1x4x4x1x1x1 : Shape := ⟨6, ![1, 4, 4, 1, 1, 1]⟩
abbrev S16x4x4x16x128x1 : Shape := ⟨6, ![16, 4, 4, 16, 128, 1]⟩
abbrev S16x4x4x16x128x401 : Shape := ⟨6, ![16, 4, 4, 16, 128, 401]⟩
abbrev S16x4x4x16x128 : Shape := ⟨5, ![16, 4, 4, 16, 128]⟩
abbrev S16x16x4x64x4x128 : Shape := ⟨6, ![16, 16, 4, 64, 4, 128]⟩
abbrev S4x64x16x4x16x128 : Shape := ⟨6, ![4, 64, 16, 4, 16, 128]⟩

abbrev nBuf : Space → Nat
  | .hbm => 103
  | .vmem => 0
  | .smem => 0
  | _ => 0

abbrev bufTy : (tb : Table) → Fin (tcTables nBuf tb) → BufTy
  | .hbm, ⟨0, _⟩ => ⟨S32768x4608, .bf16⟩
  | .hbm, ⟨1, _⟩ => ⟨S128x4608, .bf16⟩
  | .hbm, ⟨2, _⟩ => ⟨S1x16, .f32⟩
  | .hbm, ⟨3, _⟩ => ⟨S32768x1024, .bf16⟩
  | .hbm, ⟨4, _⟩ => ⟨S32768x256, .bf16⟩
  | .hbm, ⟨5, _⟩ => ⟨S32768x256, .bf16⟩
  | .hbm, ⟨6, _⟩ => ⟨S16x256, .bf16⟩
  | .hbm, ⟨7, _⟩ => ⟨S16x4x64, .bf16⟩
  | .hbm, ⟨8, _⟩ => ⟨S16x256, .bf16⟩
  | .hbm, ⟨9, _⟩ => ⟨S16x4x64, .bf16⟩
  | .hbm, ⟨10, _⟩ => ⟨S16x16x128x4x4x64, .bf16⟩
  | .hbm, ⟨11, _⟩ => ⟨S16x16x128x4x64, .bf16⟩
  | .hbm, ⟨12, _⟩ => ⟨S16x16x128x4x64, .bf16⟩
  | .hbm, ⟨13, _⟩ => ⟨S_, .i32⟩
  | .hbm, ⟨14, _⟩ => ⟨S_, .bf16⟩
  | .hbm, ⟨15, _⟩ => ⟨S16x18x128x4x64, .bf16⟩
  | .hbm, ⟨16, _⟩ => ⟨S_, .i32⟩
  | .hbm, ⟨17, _⟩ => ⟨S_, .bf16⟩
  | .hbm, ⟨18, _⟩ => ⟨S16x18x128x4x64, .bf16⟩
  | .hbm, ⟨19, _⟩ => ⟨S16x16x128x4x64, .bf16⟩
  | .hbm, ⟨20, _⟩ => ⟨S16x16x128x4x64, .bf16⟩
  | .hbm, ⟨21, _⟩ => ⟨S16x16x128x4x64, .bf16⟩
  | .hbm, ⟨22, _⟩ => ⟨S16x16x384x4x64, .bf16⟩
  | .hbm, ⟨23, _⟩ => ⟨S16x16x128x4x64, .bf16⟩
  | .hbm, ⟨24, _⟩ => ⟨S16x16x128x4x64, .bf16⟩
  | .hbm, ⟨25, _⟩ => ⟨S16x16x128x4x64, .bf16⟩
  | .hbm, ⟨26, _⟩ => ⟨S16x16x384x4x64, .bf16⟩
  | .hbm, ⟨27, _⟩ => ⟨S16, .i32⟩
  | .hbm, ⟨28, _⟩ => ⟨S16x1x1, .i32⟩
  | .hbm, ⟨29, _⟩ => ⟨S128, .i32⟩
  | .hbm, ⟨30, _⟩ => ⟨S1x128x1, .i32⟩
  | .hbm, ⟨31, _⟩ => ⟨S384, .i32⟩
  | .hbm, ⟨32, _⟩ => ⟨S1x1x384, .i32⟩
  | .hbm, ⟨33, _⟩ => ⟨S_, .i32⟩
  | .hbm, ⟨34, _⟩ => ⟨S16x1x1, .i32⟩
  | .hbm, ⟨35, _⟩ => ⟨S16x1x1, .i32⟩
  | .hbm, ⟨36, _⟩ => ⟨S_, .i32⟩
  | .hbm, ⟨37, _⟩ => ⟨S16x1x1, .i32⟩
  | .hbm, ⟨38, _⟩ => ⟨S16x1x1, .i32⟩
  | .hbm, ⟨39, _⟩ => ⟨S16x1x384, .i32⟩
  | .hbm, ⟨40, _⟩ => ⟨S16x1x384, .i32⟩
  | .hbm, ⟨41, _⟩ => ⟨S16x1x384, .i32⟩
  | .hbm, ⟨42, _⟩ => ⟨S_, .i32⟩
  | .hbm, ⟨43, _⟩ => ⟨S16x1x1, .i32⟩
  | .hbm, ⟨44, _⟩ => ⟨S16x1x1, .i32⟩
  | .hbm, ⟨45, _⟩ => ⟨S16x128x1, .i32⟩
  | .hbm, ⟨46, _⟩ => ⟨S16x128x1, .i32⟩
  | .hbm, ⟨47, _⟩ => ⟨S16x128x1, .i32⟩
  | .hbm, ⟨48, _⟩ => ⟨S_, .i32⟩
  | .hbm, ⟨49, _⟩ => ⟨S16x1x384, .i32⟩
  | .hbm, ⟨50, _⟩ => ⟨S16x1x384, .i1⟩
  | .hbm, ⟨51, _⟩ => ⟨S_, .i32⟩
  | .hbm, ⟨52, _⟩ => ⟨S16x1x384, .i32⟩
  | .hbm, ⟨53, _⟩ => ⟨S16x1x384, .i1⟩
  | .hbm, ⟨54, _⟩ => ⟨S16x1x384, .i1⟩
  | .hbm, ⟨55, _⟩ => ⟨S16x128x384, .i32⟩
  | .hbm, ⟨56, _⟩ => ⟨S16x128x384, .i32⟩
  | .hbm, ⟨57, _⟩ => ⟨S16x128x384, .i32⟩
  | .hbm, ⟨58, _⟩ => ⟨S16x128x384, .i32⟩
  | .hbm, ⟨59, _⟩ => ⟨S_, .i32⟩
  | .hbm, ⟨60, _⟩ => ⟨S16x128x384, .i32⟩
  | .hbm, ⟨61, _⟩ => ⟨S16x128x384, .i1⟩
  | .hbm, ⟨62, _⟩ => ⟨S16x128x384, .i1⟩
  | .hbm, ⟨63, _⟩ => ⟨S16x128x384, .i1⟩
  | .hbm, ⟨64, _⟩ => ⟨S16, .f32⟩
  | .hbm, ⟨65, _⟩ => ⟨S4x4, .f32⟩
  | .hbm, ⟨66, _⟩ => ⟨S16x4x16x384x128x4, .f32⟩
  | .hbm, ⟨67, _⟩ => ⟨S16x4x4x16x128x384, .f32⟩
  | .hbm, ⟨68, _⟩ => ⟨S1x1x1x16x128x384, .i1⟩
  | .hbm, ⟨69, _⟩ => ⟨S_, .f32⟩
  | .hbm, ⟨70, _⟩ => ⟨S_, .f32⟩
  | .hbm, ⟨71, _⟩ => ⟨S16x4x4x16x128x384, .i1⟩
  | .hbm, ⟨72, _⟩ => ⟨S16x4x4x16x128x384, .f32⟩
  | .hbm, ⟨73, _⟩ => ⟨S16x4x4x16x128x384, .f32⟩
  | .hbm, ⟨74, _⟩ => ⟨S4x16x16x16x128x4, .f32⟩
  | .hbm, ⟨75, _⟩ => ⟨S16x4x4x16x128x16, .f32⟩
  | .hbm, ⟨76, _⟩ => ⟨S1x4x4x1x1x1, .f32⟩
  | .hbm, ⟨77, _⟩ => ⟨S16x4x4x16x128x1, .f32⟩
  | .hbm, ⟨78, _⟩ => ⟨S16x4x4x16x128x401, .f32⟩
  | .hbm, ⟨79, _⟩ => ⟨S_, .f32⟩
  | .hbm, ⟨80, _⟩ => ⟨S16x4x4x16x128, .f32⟩
  | .hbm, ⟨81, _⟩ => ⟨S_, .f32⟩
  | .hbm, ⟨82, _⟩ => ⟨S16x4x4x16x128, .f32⟩
  | .hbm, ⟨83, _⟩ => ⟨S16x4x4x16x128, .f32⟩
  | .hbm, ⟨84, _⟩ => ⟨S16x4x4x16x128x1, .f32⟩
  | .hbm, ⟨85, _⟩ => ⟨S16x4x4x16x128x401, .f32⟩
  | .hbm, ⟨86, _⟩ => ⟨S16x4x4x16x128x401, .f32⟩
  | .hbm, ⟨87, _⟩ => ⟨S16x4x4x16x128x401, .f32⟩
  | .hbm, ⟨88, _⟩ => ⟨S_, .f32⟩
  | .hbm, ⟨89, _⟩ => ⟨S16x4x4x16x128, .f32⟩
  | .hbm, ⟨90, _⟩ => ⟨S16x4x4x16x128x1, .f32⟩
  | .hbm, ⟨91, _⟩ => ⟨S16x4x4x16x128x401, .f32⟩
  | .hbm, ⟨92, _⟩ => ⟨S16x4x4x16x128x401, .f32⟩
  | .hbm, ⟨93, _⟩ => ⟨S16x4x4x16x128x401, .bf16⟩
  | .hbm, ⟨94, _⟩ => ⟨S16x4x4x16x128x384, .bf16⟩
  | .hbm, ⟨95, _⟩ => ⟨S16x16x4x64x4x128, .f32⟩
  | .hbm, ⟨96, _⟩ => ⟨S16x16x128x4x4x64, .f32⟩
  | .hbm, ⟨97, _⟩ => ⟨S16x4x4x16x128x16, .bf16⟩
  | .hbm, ⟨98, _⟩ => ⟨S4x64x16x4x16x128, .f32⟩
  | .hbm, ⟨99, _⟩ => ⟨S16x16x128x4x4x64, .f32⟩
  | .hbm, ⟨100, _⟩ => ⟨S16x16x128x4x4x64, .f32⟩
  | .hbm, ⟨101, _⟩ => ⟨S32768x1024, .f32⟩
  | .hbm, ⟨102, _⟩ => ⟨S32768x1024, .bf16⟩
  | _, _ => ⟨S32768x4608, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_c : Ref sig .tc := ⟨.hbm, 13, rfl⟩
abbrev main_call0_v0 : Ref sig .tc := ⟨.hbm, 14, rfl⟩
abbrev main_v10 : Ref sig .tc := ⟨.hbm, 15, rfl⟩
abbrev main_c_0 : Ref sig .tc := ⟨.hbm, 16, rfl⟩
abbrev main_call1_v0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_c_1 : Ref sig .tc := ⟨.hbm, 33, rfl⟩
abbrev main_v26 : Ref sig .tc := ⟨.hbm, 34, rfl⟩
abbrev main_v27 : Ref sig .tc := ⟨.hbm, 35, rfl⟩
abbrev main_c_2 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_c_3 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_c_4 : Ref sig .tc := ⟨.hbm, 48, rfl⟩
abbrev main_v38 : Ref sig .tc := ⟨.hbm, 49, rfl⟩
abbrev main_v39 : Ref sig .tc := ⟨.hbm, 50, rfl⟩
abbrev main_c_5 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_c_6 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_cst : Ref sig .tc := ⟨.hbm, 69, rfl⟩
abbrev main_call2_v0 : Ref sig .tc := ⟨.hbm, 70, rfl⟩
abbrev main_call2_v1 : Ref sig .tc := ⟨.hbm, 71, rfl⟩
abbrev main_call2_v2 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_cst_7 : Ref sig .tc := ⟨.hbm, 79, rfl⟩
abbrev main_v62 : Ref sig .tc := ⟨.hbm, 80, rfl⟩
abbrev main_cst_8 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_cst_9 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩

abbrev nD : Nat := 1
abbrev τ : Topo := Topo.v7x

variable {F : FTy → Type} [FloatOps F]

def κ : String → Option EReal := fun
  | "mask" => some ⊥
  | _ => none
-- ==== KernelX.lean ====
abbrev S544 : Shape := ⟨1, ![544]⟩
abbrev S278528x2048 : Shape := ⟨2, ![278528, 2048]⟩
abbrev S32x2048x2048 : Shape := ⟨3, ![32, 2048, 2048]⟩
abbrev S64 : Shape := ⟨1, ![64]⟩
abbrev S32x1x2048 : Shape := ⟨3, ![32, 1, 2048]⟩
abbrev S512x2048 : Shape := ⟨2, ![512, 2048]⟩
abbrev S1x2048x1024 : Shape := ⟨3, ![1, 2048, 1024]⟩
abbrev S1 : Shape := ⟨1, ![1]⟩
abbrev S1x1x1024 : Shape := ⟨3, ![1, 1, 1024]⟩
abbrev S1x1024x2048 : Shape := ⟨3, ![1, 1024, 2048]⟩
abbrev S1x1x2048 : Shape := ⟨3, ![1, 1, 2048]⟩
abbrev S512x1024 : Shape := ⟨2, ![512, 1024]⟩
abbrev S512x128 : Shape := ⟨2, ![512, 128]⟩
abbrev S512 : Shape := ⟨1, ![512]⟩
abbrev S512x1 : Shape := ⟨2, ![512, 1]⟩
abbrev S1x1024x1024 : Shape := ⟨3, ![1, 1024, 1024]⟩
abbrev S1024x1024 : Shape := ⟨2, ![1024, 1024]⟩
abbrev S1x1024 : Shape := ⟨2, ![1, 1024]⟩
abbrev S1024x2048 : Shape := ⟨2, ![1024, 2048]⟩
abbrev S1x2048 : Shape := ⟨2, ![1, 2048]⟩

abbrev nBuf : Space → Nat
  | .hbm => 14
  | .vmem => 20
  | .smem => 5
  | _ => 0

abbrev bufTy : (tb : Table) → Fin (tcTables nBuf tb) → BufTy
  | .hbm, ⟨0, _⟩ => ⟨S278528x2048, .bf16⟩
  | .hbm, ⟨1, _⟩ => ⟨S32x2048x2048, .f32⟩
  | .hbm, ⟨2, _⟩ => ⟨S64, .f32⟩
  | .hbm, ⟨3, _⟩ => ⟨S32x1x2048, .f32⟩
  | .hbm, ⟨4, _⟩ => ⟨S32x2048x2048, .f32⟩
  | .hbm, ⟨5, _⟩ => ⟨S64, .f32⟩
  | .hbm, ⟨6, _⟩ => ⟨S32x1x2048, .f32⟩
  | .hbm, ⟨7, _⟩ => ⟨S32x2048x2048, .f32⟩
  | .hbm, ⟨8, _⟩ => ⟨S64, .f32⟩
  | .hbm, ⟨9, _⟩ => ⟨S32x1x2048, .f32⟩
  | .hbm, ⟨10, _⟩ => ⟨S32x2048x2048, .fp8e4m3⟩
  | .hbm, ⟨11, _⟩ => ⟨S32x2048x2048, .fp8e4m3⟩
  | .hbm, ⟨12, _⟩ => ⟨S32x2048x2048, .fp8e4m3⟩
  | .hbm, ⟨13, _⟩ => ⟨S278528x2048, .bf16⟩
  | .local _ .vmem, ⟨0, _⟩ => ⟨S512x2048, .bf16⟩
  | .local _ .vmem, ⟨1, _⟩ => ⟨S512x2048, .bf16⟩
  | .local _ .vmem, ⟨2, _⟩ => ⟨S1x2048x1024, .fp8e4m3⟩
  | .local _ .vmem, ⟨3, _⟩ => ⟨S1x2048x1024, .fp8e4m3⟩
  | .local _ .vmem, ⟨4, _⟩ => ⟨S1x1x1024, .f32⟩
  | .local _ .vmem, ⟨5, _⟩ => ⟨S1x1x1024, .f32⟩
  | .local _ .vmem, ⟨6, _⟩ => ⟨S1x2048x1024, .fp8e4m3⟩
  | .local _ .vmem, ⟨7, _⟩ => ⟨S1x2048x1024, .fp8e4m3⟩
  | .local _ .vmem, ⟨8, _⟩ => ⟨S1x1x1024, .f32⟩
  | .local _ .vmem, ⟨9, _⟩ => ⟨S1x1x1024, .f32⟩
  | .local _ .vmem, ⟨10, _⟩ => ⟨S1x1024x2048, .fp8e4m3⟩
  | .local _ .vmem, ⟨11, _⟩ => ⟨S1x1024x2048, .fp8e4m3⟩
  | .local _ .vmem, ⟨12, _⟩ => ⟨S1x1x2048, .f32⟩
  | .local _ .vmem, ⟨13, _⟩ => ⟨S1x1x2048, .f32⟩
  | .local _ .vmem, ⟨14, _⟩ => ⟨S512x2048, .bf16⟩
  | .local _ .vmem, ⟨15, _⟩ => ⟨S512x2048, .bf16⟩
  | .local _ .vmem, ⟨16, _⟩ => ⟨S512x1024, .fp8e4m3⟩
  | .local _ .vmem, ⟨17, _⟩ => ⟨S512x1024, .fp8e4m3⟩
  | .local _ .vmem, ⟨18, _⟩ => ⟨S512x128, .f32⟩
  | .local _ .vmem, ⟨19, _⟩ => ⟨S512x2048, .f32⟩
  | .local _ .smem, ⟨0, _⟩ => ⟨S544, .i32⟩
  | .local _ .smem, ⟨1, _⟩ => ⟨S544, .i32⟩
  | .local _ .smem, ⟨2, _⟩ => ⟨S64, .f32⟩
  | .local _ .smem, ⟨3, _⟩ => ⟨S64, .f32⟩
  | .local _ .smem, ⟨4, _⟩ => ⟨S64, .f32⟩
  | _, _ => ⟨S278528x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .smem, ⟨2, _⟩ => true
  | .smem, ⟨3, _⟩ => true
  | .smem, ⟨4, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_arg7 : Ref sig .tc := ⟨.hbm, 5, rfl⟩
abbrev main_arg8 : Ref sig .tc := ⟨.hbm, 6, rfl⟩
abbrev main_arg9 : Ref sig .tc := ⟨.hbm, 7, rfl⟩
abbrev main_arg10 : Ref sig .tc := ⟨.hbm, 8, rfl⟩
abbrev main_arg11 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_arg0 : Ref sig .tc := ⟨.smem, 0, rfl⟩
abbrev main_arg1 : Ref sig .tc := ⟨.smem, 1, rfl⟩
abbrev cc0_stg3_0 : Ref sig .tc := ⟨.vmem, 0, rfl⟩
abbrev cc0_stg3_1 : Ref sig .tc := ⟨.vmem, 1, rfl⟩
abbrev cc0_stg4_0 : Ref sig .tc := ⟨.vmem, 2, rfl⟩
abbrev cc0_stg4_1 : Ref sig .tc := ⟨.vmem, 3, rfl⟩
abbrev cc0_stg5_0 : Ref sig .tc := ⟨.vmem, 4, rfl⟩
abbrev cc0_stg5_1 : Ref sig .tc := ⟨.vmem, 5, rfl⟩
abbrev cc0_stg6_0 : Ref sig .tc := ⟨.vmem, 6, rfl⟩
abbrev cc0_stg6_1 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_stg0_0 : Ref sig .tc := ⟨.smem, 2, rfl⟩
abbrev cc0_stg1_0 : Ref sig .tc := ⟨.smem, 3, rfl⟩
abbrev cc0_stg2_0 : Ref sig .tc := ⟨.smem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨2, ![544, 2], ![false, false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) (v3 : BitVec 32) : Fin 1 → Nat :=
  let c2_i32 : BitVec 32 := 2#32
  let v4 : BitVec 32 := Scalar.muli v3 c2_i32
  let arg1 : BitVec 32 := BitVec.ofNat 32 (i 1).val
  let v5 : BitVec 32 := Scalar.addi v4 arg1
  let v27 : Index := Scalar.indexCast v5
  ![v27.toNat]
def k0_cond2 (v1 : BitVec 32) : BitVec 1 :=
  let c0_i32_2 : BitVec 32 := 0#32
  let v11 : BitVec 1 := Scalar.cmpi .sgt v1 c0_i32_2
  let v12 : BitVec 32 := Scalar.extui v11
  let c0_i32_3 : BitVec 32 := 0#32
  let v13 : BitVec 1 := Scalar.cmpi .ne v12 c0_i32_3
  v13

def k0_chk1 (i : grid0.Coords) (v1 : BitVec 32) (v3 : BitVec 32) : Prop :=
  (∀ (k0_h2 : k0_cond2 v1 = 1#1), ∀ a, (k0_off2 i v3) a + S1.size a ≤ S64.size a)
theorem k0_off2_inb : ∀ (i : grid0.Coords) (v1 : BitVec 32) (v3 : BitVec 32) (k0_hw1 : k0_chk1 i v1 v3), ∀ (k0_h2 : k0_cond2 v1 = 1#1), ∀ a, (k0_off2 i v3) a + S1.size a ≤ S64.size a := fun i v1 v3 k0_hw1 k0_h2 => k0_hw1 k0_h2

def k0_cond1 (i : grid0.Coords) (v1 : BitVec 32) : BitVec 1 :=
  let c0_i32 : BitVec 32 := 0#32
  let v6 : BitVec 1 := Scalar.cmpi .eq v1 c0_i32
  let arg1 : BitVec 32 := BitVec.ofNat 32 (i 1).val
  let c0_i32_0 : BitVec 32 := 0#32
  let v7 : BitVec 1 := Scalar.cmpi .eq arg1 c0_i32_0
  let v8 : BitVec 1 := Scalar.andi v6 v7
  let v9 : BitVec 32 := Scalar.extui v8
  let c0_i32_1 : BitVec 32 := 0#32
  let v10 : BitVec 1 := Scalar.cmpi .ne v9 c0_i32_1
  v10

def k0_cond4 (i : grid0.Coords) : BitVec 1 :=
  let arg1 : BitVec 32 := BitVec.ofNat 32 (i 1).val
  let c1_i32 : BitVec 32 := 1#32
  let v83 : BitVec 1 := Scalar.cmpi .eq arg1 c1_i32
  let v84 : BitVec 32 := Scalar.extui v83
  let c0_i32_46 : BitVec 32 := 0#32
  let v85 : BitVec 1 := Scalar.cmpi .ne v84 c0_i32_46
  v85

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (k0_off1_inb : ∀ i : grid0.Coords, ∀ a, (k0_off1 i) a + S1.size a ≤ S544.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S544) ![v0.toNat] S1.size (k0_off1_inb i)) numel1_S1
  let v2 : Index := Scalar.indexCast arg0
  let v3 : BitVec 32 := pf.at 1 (Rect.unit (s := S544) ![v2.toNat] S1.size (k0_off1_inb i)) numel1_S1
  let c0_i32 : BitVec 32 := 0#32
  let v4 : BitVec 1 := Scalar.cmpi .sgt v3 c0_i32
  let c1_i32 : BitVec 32 := 1#32
  let v5 : BitVec 32 := Scalar.select v4 arg1 c1_i32
  let c0_i32_0 : BitVec 32 := 0#32
  let c0_i32_1 : BitVec 32 := 0#32
  ![v1.toNat, c0_i32_0.toNat, v5.toNat]

def cc0_transform_5 (k0_off1_inb : ∀ i : grid0.Coords, ∀ a, (k0_off1 i) a + S1.size a ≤ S544.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S544) ![v0.toNat] S1.size (k0_off1_inb i)) numel1_S1
  let v2 : Index := Scalar.indexCast arg0
  let v3 : BitVec 32 := pf.at 1 (Rect.unit (s := S544) ![v2.toNat] S1.size (k0_off1_inb i)) numel1_S1
  let c0_i32 : BitVec 32 := 0#32
  let v4 : BitVec 1 := Scalar.cmpi .sgt v3 c0_i32
  let c1_i32 : BitVec 32 := 1#32
  let v5 : BitVec 32 := Scalar.select v4 arg1 c1_i32
  let c0_i32_0 : BitVec 32 := 0#32
  let c0_i32_1 : BitVec 32 := 0#32
  ![v1.toNat, c0_i32_0.toNat, v5.toNat]

def cc0_transform_6 (k0_off1_inb : ∀ i : grid0.Coords, ∀ a, (k0_off1 i) a + S1.size a ≤ S544.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S544) ![v0.toNat] S1.size (k0_off1_inb i)) numel1_S1
  let v2 : Index := Scalar.indexCast arg0
  let v3 : BitVec 32 := pf.at 1 (Rect.unit (s := S544) ![v2.toNat] S1.size (k0_off1_inb i)) numel1_S1
  let c0_i32 : BitVec 32 := 0#32
  let v4 : BitVec 1 := Scalar.cmpi .sgt v3 c0_i32
  let c1_i32 : BitVec 32 := 1#32
  let v5 : BitVec 32 := Scalar.select v4 arg1 c1_i32
  let c0_i32_0 : BitVec 32 := 0#32
  let c0_i32_1 : BitVec 32 := 0#32
  ![v1.toNat, c0_i32_0.toNat, v5.toNat]

def cc0_transform_7 (k0_off1_inb : ∀ i : grid0.Coords, ∀ a, (k0_off1 i) a + S1.size a ≤ S544.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S544) ![v0.toNat] S1.size (k0_off1_inb i)) numel1_S1
  let v2 : Index := Scalar.indexCast arg0
  let v3 : BitVec 32 := pf.at 1 (Rect.unit (s := S544) ![v2.toNat] S1.size (k0_off1_inb i)) numel1_S1
  let c0_i32 : BitVec 32 := 0#32
  let v4 : BitVec 1 := Scalar.cmpi .sgt v3 c0_i32
  let c1_i32 : BitVec 32 := 1#32
  let v5 : BitVec 32 := Scalar.select v4 arg1 c1_i32
  let c0_i32_0 : BitVec 32 := 0#32
  let c0_i32_1 : BitVec 32 := 0#32
  ![v1.toNat, c0_i32_0.toNat, v5.toNat]

def cc0_transform_8 (k0_off1_inb : ∀ i : grid0.Coords, ∀ a, (k0_off1 i) a + S1.size a ≤ S544.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S544) ![v0.toNat] S1.size (k0_off1_inb i)) numel1_S1
  let v2 : Index := Scalar.indexCast arg0
  let v3 : BitVec 32 := pf.at 1 (Rect.unit (s := S544) ![v2.toNat] S1.size (k0_off1_inb i)) numel1_S1
  let c0_i32 : BitVec 32 := 0#32
  let v4 : BitVec 1 := Scalar.cmpi .sgt v3 c0_i32
  let c1_i32 : BitVec 32 := 1#32
  let v5 : BitVec 32 := Scalar.select v4 arg1 c1_i32
  let c0_i32_0 : BitVec 32 := 0#32
  let c0_i32_1 : BitVec 32 := 0#32
  ![v1.toNat, v5.toNat, c0_i32_0.toNat]

def cc0_transform_9 (k0_off1_inb : ∀ i : grid0.Coords, ∀ a, (k0_off1 i) a + S1.size a ≤ S544.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S544) ![v0.toNat] S1.size (k0_off1_inb i)) numel1_S1
  let v2 : Index := Scalar.indexCast arg0
  let v3 : BitVec 32 := pf.at 1 (Rect.unit (s := S544) ![v2.toNat] S1.size (k0_off1_inb i)) numel1_S1
  let c0_i32 : BitVec 32 := 0#32
  let v4 : BitVec 1 := Scalar.cmpi .sgt v3 c0_i32
  let c1_i32 : BitVec 32 := 1#32
  let v5 : BitVec 32 := Scalar.select v4 arg1 c1_i32
  let c0_i32_0 : BitVec 32 := 0#32
  let c0_i32_1 : BitVec 32 := 0#32
  let c0_i32_2 : BitVec 32 := 0#32
  ![v1.toNat, c0_i32_0.toNat, c0_i32_1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .smem S64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .smem S64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .smem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x2048x1024 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x2048x1024 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1024x2048 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S512x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== KernelXIdeal.lean ====
variable {F : FTy → Type} [FloatOps F] [Named F]
def κ : String → Option EReal := fun
  | "log2e" => some (((Real.log 2)⁻¹ : ℝ) : EReal)
  | _ => none
-- ==== ReferenceXIdeal.lean ====
abbrev S544 : Shape := ⟨1, ![544]⟩
abbrev S278528x2048 : Shape := ⟨2, ![278528, 2048]⟩
abbrev S32x2048x2048 : Shape := ⟨3, ![32, 2048, 2048]⟩
abbrev S64 : Shape := ⟨1, ![64]⟩
abbrev S32x1x2048 : Shape := ⟨3, ![32, 1, 2048]⟩
abbrev S32x2048x2x1024 : Shape := ⟨4, ![32, 2048, 2, 1024]⟩
abbrev S32x1x2x1 : Shape := ⟨4, ![32, 1, 2, 1]⟩
abbrev S32x2x1024x2048 : Shape := ⟨4, ![32, 2, 1024, 2048]⟩
abbrev S32x2x1x1 : Shape := ⟨4, ![32, 2, 1, 1]⟩
abbrev S512 : Shape := ⟨1, ![512]⟩
abbrev S1x512 : Shape := ⟨2, ![1, 512]⟩
abbrev S544x1 : Shape := ⟨2, ![544, 1]⟩
abbrev S544x512 : Shape := ⟨2, ![544, 512]⟩
abbrev S544x512x1 : Shape := ⟨3, ![544, 512, 1]⟩
abbrev S544x512x2048 : Shape := ⟨3, ![544, 512, 2048]⟩
abbrev S_ : Shape := ⟨0, ![]⟩
abbrev S544x2048x2048 : Shape := ⟨3, ![544, 2048, 2048]⟩
abbrev S544x1x2048 : Shape := ⟨3, ![544, 1, 2048]⟩
abbrev S544x1x1 : Shape := ⟨3, ![544, 1, 1]⟩

abbrev nBuf : Space → Nat
  | .hbm => 142
  | .vmem => 0
  | .smem => 0
  | _ => 0

abbrev hbmTy0_0 (i : Nat) : BufTy := match i % 128 with
  | 0 => ⟨S544, .i32⟩
  | 1 => ⟨S544, .i32⟩
  | 2 => ⟨S278528x2048, .bf16⟩
  | 3 => ⟨S32x2048x2048, .f32⟩
  | 4 => ⟨S64, .f32⟩
  | 5 => ⟨S32x1x2048, .f32⟩
  | 6 => ⟨S32x2048x2048, .f32⟩
  | 7 => ⟨S64, .f32⟩
  | 8 => ⟨S32x1x2048, .f32⟩
  | 9 => ⟨S32x2048x2048, .f32⟩
  | 10 => ⟨S64, .f32⟩
  | 11 => ⟨S32x1x2048, .f32⟩
  | 12 => ⟨S32x2048x2x1024, .f32⟩
  | 13 => ⟨S32x1x2x1, .f32⟩
  | 14 => ⟨S32x2048x2x1024, .f32⟩
  | 15 => ⟨S32x2048x2x1024, .f32⟩
  | 16 => ⟨S32x2048x2048, .f32⟩
  | 17 => ⟨S32x2048x2x1024, .f32⟩
  | 18 => ⟨S32x1x2x1, .f32⟩
  | 19 => ⟨S32x2048x2x1024, .f32⟩
  | 20 => ⟨S32x2048x2x1024, .f32⟩
  | 21 => ⟨S32x2048x2048, .f32⟩
  | 22 => ⟨S32x2x1024x2048, .f32⟩
  | 23 => ⟨S32x2x1x1, .f32⟩
  | 24 => ⟨S32x2x1024x2048, .f32⟩
  | 25 => ⟨S32x2x1024x2048, .f32⟩
  | 26 => ⟨S32x2048x2048, .f32⟩
  | 27 => ⟨S512, .i32⟩
  | 28 => ⟨S1x512, .i32⟩
  | 29 => ⟨S544x1, .i32⟩
  | 30 => ⟨S544x512, .i32⟩
  | 31 => ⟨S544x512, .i32⟩
  | 32 => ⟨S544x512, .i1⟩
  | 33 => ⟨S544x512x1, .i1⟩
  | 34 => ⟨S544x512x2048, .bf16⟩
  | 35 => ⟨S544x512x2048, .f32⟩
  | 36 => ⟨S_, .f32⟩
  | 37 => ⟨S_, .f32⟩
  | 38 => ⟨S544x512x2048, .i1⟩
  | 39 => ⟨S544x512x2048, .f32⟩
  | 40 => ⟨S544x512x2048, .f32⟩
  | 41 => ⟨S_, .i32⟩
  | 42 => ⟨S544, .i32⟩
  | 43 => ⟨S544, .i1⟩
  | 44 => ⟨S_, .i32⟩
  | 45 => ⟨S544, .i32⟩
  | 46 => ⟨S544, .i32⟩
  | 47 => ⟨S544, .i32⟩
  | 48 => ⟨S544x1, .i32⟩
  | 49 => ⟨S544x2048x2048, .f32⟩
  | 50 => ⟨S544x512x2048, .f32⟩
  | 51 => ⟨S_, .i32⟩
  | 52 => ⟨S544, .i32⟩
  | 53 => ⟨S544, .i1⟩
  | 54 => ⟨S_, .i32⟩
  | 55 => ⟨S544, .i32⟩
  | 56 => ⟨S544, .i32⟩
  | 57 => ⟨S544, .i32⟩
  | 58 => ⟨S544x1, .i32⟩
  | 59 => ⟨S544x1x2048, .f32⟩
  | 60 => ⟨S544x512x2048, .f32⟩
  | 61 => ⟨S544x512x2048, .f32⟩
  | 62 => ⟨S_, .i32⟩
  | 63 => ⟨S544, .i32⟩
  | 64 => ⟨S544, .i1⟩
  | 65 => ⟨S_, .i32⟩
  | 66 => ⟨S544, .i32⟩
  | 67 => ⟨S544, .i32⟩
  | 68 => ⟨S544, .i32⟩
  | 69 => ⟨S544x1, .i32⟩
  | 70 => ⟨S544x2048x2048, .f32⟩
  | 71 => ⟨S544x512x2048, .f32⟩
  | 72 => ⟨S_, .i32⟩
  | 73 => ⟨S544, .i32⟩
  | 74 => ⟨S544, .i1⟩
  | 75 => ⟨S_, .i32⟩
  | 76 => ⟨S544, .i32⟩
  | 77 => ⟨S544, .i32⟩
  | 78 => ⟨S544, .i32⟩
  | 79 => ⟨S544x1, .i32⟩
  | 80 => ⟨S544x1x2048, .f32⟩
  | 81 => ⟨S544x512x2048, .f32⟩
  | 82 => ⟨S544x512x2048, .f32⟩
  | 83 => ⟨S_, .f32⟩
  | 84 => ⟨S544x512x2048, .f32⟩
  | 85 => ⟨S544x512x2048, .f32⟩
  | 86 => ⟨S_, .f32⟩
  | 87 => ⟨S_, .f32⟩
  | 88 => ⟨S_, .f32⟩
  | 89 => ⟨S544x512x2048, .f32⟩
  | 90 => ⟨S544x512x2048, .f32⟩
  | 91 => ⟨S_, .f32⟩
  | 92 => ⟨S544x512x2048, .f32⟩
  | 93 => ⟨S544x512x2048, .f32⟩
  | 94 => ⟨S_, .f32⟩
  | 95 => ⟨S544x512x2048, .f32⟩
  | 96 => ⟨S544x512x2048, .f32⟩
  | 97 => ⟨S_, .f32⟩
  | 98 => ⟨S544x512x2048, .f32⟩
  | 99 => ⟨S544x512x2048, .f32⟩
  | 100 => ⟨S544x512x2048, .f32⟩
  | 101 => ⟨S544x512x2048, .f32⟩
  | 102 => ⟨S_, .f32⟩
  | 103 => ⟨S544x512x2048, .f32⟩
  | 104 => ⟨S544x512x2048, .f32⟩
  | 105 => ⟨S_, .f32⟩
  | 106 => ⟨S544x512x2048, .f32⟩
  | 107 => ⟨S544x512x2048, .f32⟩
  | 108 => ⟨S544x512x2048, .f32⟩
  | 109 => ⟨S544x512x2048, .f32⟩
  | 110 => ⟨S_, .i32⟩
  | 111 => ⟨S544, .i32⟩
  | 112 => ⟨S544, .i1⟩
  | 113 => ⟨S_, .i32⟩
  | 114 => ⟨S544, .i32⟩
  | 115 => ⟨S544, .i32⟩
  | 116 => ⟨S544, .i32⟩
  | 117 => ⟨S544x1, .i32⟩
  | 118 => ⟨S544x2048x2048, .f32⟩
  | 119 => ⟨S544x512x2048, .f32⟩
  | 120 => ⟨S_, .i32⟩
  | 121 => ⟨S544, .i32⟩
  | 122 => ⟨S544, .i1⟩
  | 123 => ⟨S_, .i32⟩
  | 124 => ⟨S544, .i32⟩
  | 125 => ⟨S544, .i32⟩
  | 126 => ⟨S544, .i32⟩
  | 127 => ⟨S544x1, .i32⟩
  | _ => ⟨S544, .i32⟩

abbrev hbmTy0_1 (i : Nat) : BufTy := match i % 128 with
  | 0 => ⟨S544x1x2048, .f32⟩
  | 1 => ⟨S544x512x2048, .f32⟩
  | 2 => ⟨S544x512x2048, .f32⟩
  | 3 => ⟨S544x1x1, .i32⟩
  | 4 => ⟨S_, .i32⟩
  | 5 => ⟨S544x1x1, .i32⟩
  | 6 => ⟨S544x1x1, .i1⟩
  | 7 => ⟨S_, .f32⟩
  | 8 => ⟨S_, .f32⟩
  | 9 => ⟨S544x512x2048, .i1⟩
  | 10 => ⟨S544x512x2048, .f32⟩
  | 11 => ⟨S544x512x2048, .f32⟩
  | 12 => ⟨S278528x2048, .f32⟩
  | 13 => ⟨S278528x2048, .bf16⟩
  | _ => ⟨S544, .i32⟩

abbrev hbmTy (i : Nat) : BufTy := match i / 128 with
  | 0 => hbmTy0_0 i
  | 1 => hbmTy0_1 i
  | _ => ⟨S544, .i32⟩

abbrev bufTy : (tb : Table) → Fin (tcTables nBuf tb) → BufTy
  | .hbm, ⟨i, _⟩ => hbmTy i
  | _, _ => ⟨S544, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst : Ref sig .tc := ⟨.hbm, 36, rfl⟩
abbrev main_call0_v0 : Ref sig .tc := ⟨.hbm, 37, rfl⟩
abbrev main_call0_v1 : Ref sig .tc := ⟨.hbm, 38, rfl⟩
abbrev main_call0_v2 : Ref sig .tc := ⟨.hbm, 39, rfl⟩
abbrev main_v24 : Ref sig .tc := ⟨.hbm, 40, rfl⟩
abbrev main_c : Ref sig .tc := ⟨.hbm, 41, rfl⟩
abbrev main_v25 : Ref sig .tc := ⟨.hbm, 42, rfl⟩
abbrev main_v26 : Ref sig .tc := ⟨.hbm, 43, rfl⟩
abbrev main_c_0 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_c_1 : Ref sig .tc := ⟨.hbm, 51, rfl⟩
abbrev main_v33 : Ref sig .tc := ⟨.hbm, 52, rfl⟩
abbrev main_v34 : Ref sig .tc := ⟨.hbm, 53, rfl⟩
abbrev main_c_2 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_c_3 : Ref sig .tc := ⟨.hbm, 62, rfl⟩
abbrev main_v42 : Ref sig .tc := ⟨.hbm, 63, rfl⟩
abbrev main_v43 : Ref sig .tc := ⟨.hbm, 64, rfl⟩
abbrev main_c_4 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_c_5 : Ref sig .tc := ⟨.hbm, 72, rfl⟩
abbrev main_v50 : Ref sig .tc := ⟨.hbm, 73, rfl⟩
abbrev main_v51 : Ref sig .tc := ⟨.hbm, 74, rfl⟩
abbrev main_c_6 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_7 : Ref sig .tc := ⟨.hbm, 83, rfl⟩
abbrev main_v59 : Ref sig .tc := ⟨.hbm, 84, rfl⟩
abbrev main_v60 : Ref sig .tc := ⟨.hbm, 85, rfl⟩
abbrev main_cst_8 : Ref sig .tc := ⟨.hbm, 86, rfl⟩
abbrev main_cst_9 : Ref sig .tc := ⟨.hbm, 87, rfl⟩
abbrev main_call1_v0 : Ref sig .tc := ⟨.hbm, 88, rfl⟩
abbrev main_call1_v1 : Ref sig .tc := ⟨.hbm, 89, rfl⟩
abbrev main_call1_v2 : Ref sig .tc := ⟨.hbm, 90, rfl⟩
abbrev main_call1_v3 : Ref sig .tc := ⟨.hbm, 91, rfl⟩
abbrev main_call1_v4 : Ref sig .tc := ⟨.hbm, 92, rfl⟩
abbrev main_v61 : Ref sig .tc := ⟨.hbm, 93, rfl⟩
abbrev main_cst_10 : Ref sig .tc := ⟨.hbm, 94, rfl⟩
abbrev main_v62 : Ref sig .tc := ⟨.hbm, 95, rfl⟩
abbrev main_v63 : Ref sig .tc := ⟨.hbm, 96, rfl⟩
abbrev main_cst_11 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_cst_12 : Ref sig .tc := ⟨.hbm, 102, rfl⟩
abbrev main_v68 : Ref sig .tc := ⟨.hbm, 103, rfl⟩
abbrev main_v69 : Ref sig .tc := ⟨.hbm, 104, rfl⟩
abbrev main_cst_13 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_c_14 : Ref sig .tc := ⟨.hbm, 110, rfl⟩
abbrev main_v74 : Ref sig .tc := ⟨.hbm, 111, rfl⟩
abbrev main_v75 : Ref sig .tc := ⟨.hbm, 112, rfl⟩
abbrev main_c_15 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_c_16 : Ref sig .tc := ⟨.hbm, 120, rfl⟩
abbrev main_v82 : Ref sig .tc := ⟨.hbm, 121, rfl⟩
abbrev main_v83 : Ref sig .tc := ⟨.hbm, 122, rfl⟩
abbrev main_c_17 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_c_18 : Ref sig .tc := ⟨.hbm, 132, rfl⟩
abbrev main_v92 : Ref sig .tc := ⟨.hbm, 133, rfl⟩
abbrev main_v93 : Ref sig .tc := ⟨.hbm, 134, rfl⟩
abbrev main_cst_19 : Ref sig .tc := ⟨.hbm, 135, rfl⟩
abbrev main_call2_v0 : Ref sig .tc := ⟨.hbm, 136, rfl⟩
abbrev main_call2_v1 : Ref sig .tc := ⟨.hbm, 137, rfl⟩
abbrev main_call2_v2 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩

abbrev nD : Nat := 1
abbrev τ : Topo := Topo.v7x

variable {F : FTy → Type} [FloatOps F]
-- ==== Proof.Softmax.lean ====
module

public import Idealize.ShloMosaic.Lib.Pointwise

/-! # Softmax sums over a window of keys

A masked score is `⊥`, its weight `exp ⊥ = 0`.  So a sum or a maximum over any window that holds all the
unmasked keys is the same number, and one division of the weighted sum by the sum of the weights
is the sum of the divided weights. -/

@[expose] public section

noncomputable section

namespace Cert.Softmax

open Idealize.ShloMosaic

/-- A sum over the 384 keys of a window starting at `a` is the sum over the keys from `lo` to `hi`, when the window
    holds these and the summand is zero elsewhere. -/
theorem sum_window {M : Type*} [AddCommMonoid M] (g : ℤ → M) (lo hi a : ℤ) (hg : ∀ p, g p ≠ 0 → lo ≤ p ∧ p ≤ hi)
    (h1 : a ≤ lo) (h2 : hi < a + 384) : ∑ j : Fin 384, g (a + (j : ℕ)) = ∑ p ∈ Finset.Icc lo hi, g p := by
  have e : ∑ j : Fin 384, g (a + (j : ℕ)) = ∑ p ∈ Finset.Ico a (a + 384), g p := by
    rw [Finset.sum_bij (fun (j : Fin 384) _ => a + ((j : ℕ) : ℤ))]
    · intro j _; rw [Finset.mem_Ico]; have := j.isLt; omega
    · intro i _ j _ h; apply Fin.ext; omega
    · intro p hp; rw [Finset.mem_Ico] at hp
      exact ⟨⟨(p - a).toNat, by omega⟩, Finset.mem_univ _, by simp only []; omega⟩
    · intro j _; rfl
  rw [e]; symm
  apply Finset.sum_subset
  · intro p hp; rw [Finset.mem_Icc] at hp; rw [Finset.mem_Ico]; omega
  · intro p _ hp; by_contra h; exact hp (Finset.mem_Icc.mpr (hg p h))

/-- The same for the greatest of the window's values, `⊥` elsewhere. -/
theorem sup_window (g : ℤ → EReal) (lo hi a : ℤ) (hg : ∀ p, g p ≠ ⊥ → lo ≤ p ∧ p ≤ hi)
    (h1 : a ≤ lo) (h2 : hi < a + 384) :
    (Finset.univ.sup fun j : Fin 384 => g (a + (j : ℕ))) = (Finset.Icc lo hi).sup g := by
  apply le_antisymm
  · refine Finset.sup_le fun j _ => ?_
    by_cases h : g (a + (j : ℕ)) = ⊥
    · rw [h]; exact bot_le
    · exact Finset.le_sup (f := g) (Finset.mem_Icc.mpr (hg _ h))
  · refine Finset.sup_le fun p hp => ?_
    rw [Finset.mem_Icc] at hp
    have := Finset.le_sup (f := fun j : Fin 384 => g (a + (j : ℕ))) (Finset.mem_univ ⟨(p - a).toNat, by omega⟩)
    have e : a + (((p - a).toNat : ℕ) : ℤ) = p := by omega
    simpa only [e] using this

/-- A sum over 128 rows whose summand is zero from row 16 on is the sum over the first 16. -/
theorem sum_first {M : Type*} [AddCommMonoid M] (g : Fin 128 → M) (hg : ∀ i : Fin 128, 16 ≤ (i : ℕ) → g i = 0) :
    ∑ i, g i = ∑ i : Fin 16, g ⟨i, by omega⟩ := by
  symm
  apply Finset.sum_bij_ne_zero (fun (i : Fin 16) _ _ => (⟨i, by omega⟩ : Fin 128))
  · intro i _ _; exact Finset.mem_univ _
  · intro i _ _ j _ _ h; simpa [Fin.ext_iff] using h
  · intro i _ hi
    by_cases h : (i : ℕ) < 16
    · exact ⟨⟨i, h⟩, Finset.mem_univ _, hi, rfl⟩
    · exact absurd (hg i (by omega)) hi
  · intro i _ _; rfl

/-- The greatest of 128 values that are `⊥` from row 16 on is the greatest of the first 16. -/
theorem sup_first (g : Fin 128 → EReal) (hg : ∀ i : Fin 128, 16 ≤ (i : ℕ) → g i = ⊥) :
    Finset.univ.sup g = Finset.univ.sup fun i : Fin 16 => g ⟨i, by omega⟩ := by
  apply le_antisymm
  · refine Finset.sup_le fun i _ => ?_
    by_cases h : (i : ℕ) < 16
    · exact Finset.le_sup (f := fun i : Fin 16 => g ⟨i, by omega⟩) (Finset.mem_univ ⟨i, h⟩)
    · rw [hg i (by omega)]; exact bot_le
  · exact Finset.sup_le fun i _ => Finset.le_sup (f := g) (Finset.mem_univ _)

/-- The fold of `max` from `⊥` that a maximum over an axis reads as is the supremum. -/
theorem fold_max {ι : Type*} [Fintype ι] (f : ι → EReal) : Finset.univ.fold max ⊥ f = Finset.univ.sup f := rfl

theorem exp_bot_sub (x : EReal) : Ideal.exp (⊥ - x) = 0 := by
  rw [sub_eq_add_neg, EReal.bot_add]; rfl

theorem exp_nonneg (x : EReal) : 0 ≤ Ideal.exp x := by
  induction x with
  | bot => exact le_refl _
  | coe r => exact EReal.coe_nonneg.mpr (Real.exp_pos r).le
  | top => exact le_top

theorem exp_pos (x : EReal) (h : x ≠ ⊥) : 0 < Ideal.exp x := by
  induction x with
  | bot => exact absurd rfl h
  | coe r => exact EReal.coe_pos.mpr (Real.exp_pos r)
  | top => exact EReal.zero_lt_top

/-- A nonnegative number that is not `⊤` multiplies into a sum. -/
theorem sum_mul {ι : Type*} (s : Finset ι) (f : ι → EReal) (c : EReal) (h0 : 0 ≤ c) (ht : c ≠ ⊤) :
    (∑ i ∈ s, f i) * c = ∑ i ∈ s, f i * c := by
  classical
  induction s using Finset.induction_on with
  | empty => simp
  | insert a s ha ih => rw [Finset.sum_insert ha, Finset.sum_insert ha, EReal.right_distrib_of_nonneg_of_ne_top h0 ht, ih]

/-- The inverse of a nonnegative number is nonnegative and not `⊤`. -/
theorem inv_ok (d : EReal) (h : 0 ≤ d) : 0 ≤ d⁻¹ ∧ d⁻¹ ≠ ⊤ := by
  induction d with
  | bot => exact absurd h (by simp)
  | coe r => rw [← EReal.coe_inv]; exact ⟨EReal.coe_nonneg.mpr (inv_nonneg.mpr (EReal.coe_nonneg.mp h)), EReal.coe_ne_top _⟩
  | top => rw [EReal.inv_top]; exact ⟨le_refl _, EReal.zero_ne_top⟩

/-- Dividing two weighted sums at once is dividing every weight. -/
theorem div_sums {ι κ : Type*} [Fintype ι] [Fintype κ] (w v : ι → EReal) (w' v' : κ → EReal) (d : EReal) (h0 : 0 ≤ d) (hne : d ≠ 0) :
    Ideal.div (∑ i, w i * v i + ∑ i, w' i * v' i) d = ∑ i, v i * Ideal.div (w i) d + ∑ i, v' i * Ideal.div (w' i) d := by
  obtain ⟨i0, it⟩ := inv_ok d h0
  simp only [Ideal.div, if_neg hne]
  rw [EReal.right_distrib_of_nonneg_of_ne_top i0 it, sum_mul _ _ _ i0 it, sum_mul _ _ _ i0 it]
  congr 1 <;> refine Finset.sum_congr rfl fun i _ => ?_
  · rw [mul_comm (w i), mul_assoc]
  · rw [mul_comm (w' i), mul_assoc]

/-- Attention over the keys from `lo` to `hi`, the 16 meta rows and the sink: the weights are the exponentials of the
    scores over the greatest score, their sum the divisor. `sc` and `sm` are the scores, `vv` and `vm` the values. -/
def attn (sc vv : ℤ → EReal) (lo hi : ℤ) (sm vm : Fin 16 → EReal) (σ : EReal) : EReal :=
  let M := max (max ((Finset.Icc lo hi).sup sc) (Finset.univ.sup sm)) σ
  Ideal.div (∑ p ∈ Finset.Icc lo hi, Ideal.exp (sc p - M) * vv p + ∑ i, Ideal.exp (sm i - M) * vm i)
    (∑ p ∈ Finset.Icc lo hi, Ideal.exp (sc p - M) + ∑ i, Ideal.exp (sm i - M) + Ideal.exp (σ - M))

section
variable (sc vv : ℤ → EReal) (lo hi a : ℤ) (h1 : a ≤ lo) (h2 : hi < a + 384) (s v : Fin 384 → EReal)
  (hs : ∀ j : Fin 384, s j = if lo ≤ a + (j : ℕ) ∧ a + (j : ℕ) ≤ hi then sc (a + (j : ℕ)) else ⊥)
  (hv : ∀ j : Fin 384, lo ≤ a + (j : ℕ) → a + (j : ℕ) ≤ hi → v j = vv (a + (j : ℕ)))
include h1 h2 hs

/-- The greatest masked score of a window. -/
theorem sup_band : Finset.univ.sup s = (Finset.Icc lo hi).sup sc := by
  rw [show s = fun j : Fin 384 => (fun p : ℤ => if lo ≤ p ∧ p ≤ hi then sc p else ⊥) (a + (j : ℕ)) from funext hs,
    sup_window (fun p : ℤ => if lo ≤ p ∧ p ≤ hi then sc p else ⊥) lo hi a (fun p hp => by by_contra h; exact hp (if_neg h)) h1 h2]
  exact Finset.sup_congr rfl fun p hp => if_pos (Finset.mem_Icc.mp hp)

/-- The sum of a window's weights. -/
theorem sum_band (M : EReal) : ∑ j, Ideal.exp (s j - M) = ∑ p ∈ Finset.Icc lo hi, Ideal.exp (sc p - M) := by
  have := sum_window (fun p : ℤ => if lo ≤ p ∧ p ≤ hi then Ideal.exp (sc p - M) else 0) lo hi a (fun p hp => by by_contra h; exact hp (if_neg h)) h1 h2
  rw [Finset.sum_congr rfl fun p hp => if_pos (Finset.mem_Icc.mp hp)] at this
  rw [← this]
  refine Finset.sum_congr rfl fun j _ => ?_
  rw [hs j]; split
  · rfl
  · exact exp_bot_sub M

include hv in
/-- The weighted sum of a window's values. -/
theorem sum_band_mul (M : EReal) : ∑ j, Ideal.exp (s j - M) * v j = ∑ p ∈ Finset.Icc lo hi, Ideal.exp (sc p - M) * vv p := by
  have := sum_window (fun p : ℤ => if lo ≤ p ∧ p ≤ hi then Ideal.exp (sc p - M) * vv p else 0) lo hi a (fun p hp => by by_contra h; exact hp (if_neg h)) h1 h2
  rw [Finset.sum_congr rfl fun p hp => if_pos (Finset.mem_Icc.mp hp)] at this
  rw [← this]
  refine Finset.sum_congr rfl fun j _ => ?_
  rw [hs j]; split
  · next h => rw [hv j h.1 h.2]
  · rw [exp_bot_sub, zero_mul]

include hv in
/-- Attention as a window of 384 masked scores and 128 meta rows, all but 16 of them masked, computes it. -/
theorem attn_of_rows (sm vm : Fin 16 → EReal) (s' v' : Fin 128 → EReal) (σ : EReal)
    (hs' : ∀ i : Fin 128, s' i = if h : (i : ℕ) < 16 then sm ⟨i, h⟩ else ⊥)
    (hv' : ∀ i : Fin 16, v' ⟨i, by omega⟩ = vm i) (M : EReal) (hM : M = max (max (Finset.univ.sup s) (Finset.univ.sup s')) σ) :
    Ideal.div (∑ j, Ideal.exp (s j - M) * v j + ∑ i, Ideal.exp (s' i - M) * v' i)
      (∑ j, Ideal.exp (s j - M) + ∑ i, Ideal.exp (s' i - M) + Ideal.exp (σ - M)) = attn sc vv lo hi sm vm σ := by
  have e : ∀ i : Fin 16, s' ⟨i, by omega⟩ = sm i := fun i => by rw [hs', dif_pos i.isLt]
  have z : ∀ i : Fin 128, 16 ≤ (i : ℕ) → s' i = ⊥ := fun i h => by rw [hs', dif_neg (by omega)]
  rw [sup_band sc lo hi a h1 h2 s hs, sup_first s' z, Finset.sup_congr rfl fun i _ => e i] at hM
  rw [sum_band sc lo hi a h1 h2 s hs, sum_band_mul sc vv lo hi a h1 h2 s v hs hv,
    sum_first (fun i => Ideal.exp (s' i - M)) (fun i h => by rw [z i h, exp_bot_sub]),
    sum_first (fun i => Ideal.exp (s' i - M) * v' i) (fun i h => by rw [z i h, exp_bot_sub, zero_mul])]
  simp only [e, hv']
  unfold attn
  rw [hM]

include hv in
/-- Attention as the softmax of the window's masked scores, the meta scores and the sink computes it: every
    weight divided. The sink is not `⊥` and no score is `⊤`, so that the sum of the weights is not zero. -/
theorem attn_of_softmax (sm vm : Fin 16 → EReal) (σ : EReal) (hσ : σ ≠ ⊥) (M : EReal)
    (hM : M = max (max (Finset.univ.sup s) (Finset.univ.sup sm)) σ) (hT : M ≠ ⊤) (D : EReal)
    (hD : D = ∑ j, Ideal.exp (s j - M) + ∑ i, Ideal.exp (sm i - M) + Ideal.exp (σ - M)) :
    ∑ j, v j * Ideal.div (Ideal.exp (s j - M)) D + ∑ i, vm i * Ideal.div (Ideal.exp (sm i - M)) D = attn sc vv lo hi sm vm σ := by
  have hp : 0 < Ideal.exp (σ - M) := exp_pos _ fun h => by
    rw [sub_eq_add_neg, EReal.add_eq_bot_iff, EReal.neg_eq_bot_iff] at h
    exact h.elim hσ hT
  have h0 : 0 ≤ ∑ j, Ideal.exp (s j - M) + ∑ i, Ideal.exp (sm i - M) :=
    add_nonneg (Finset.sum_nonneg fun _ _ => exp_nonneg _) (Finset.sum_nonneg fun _ _ => exp_nonneg _)
  have hD0 : 0 < D := hD ▸ lt_of_lt_of_le hp (le_add_of_nonneg_left h0)
  rw [← div_sums _ _ _ _ D hD0.le hD0.ne', hD, sum_band sc lo hi a h1 h2 s hs, sum_band_mul sc vv lo hi a h1 h2 s v hs hv]
  rw [sup_band sc lo hi a h1 h2 s hs] at hM
  unfold attn
  rw [hM]

end

end Cert.Softmax

end
-- ==== Proof.BlockB.lean ====
module

public import proofs.«01_k».proof.Proof.Gen.KernelBIdeal.Skeleton
public import proofs.«01_k».proof.Proof.Softmax
public import Idealize.ShloMosaic.Lib.Pointwise
public import Idealize.ShloMosaic.Lib.Tactic.WordOmega

/-! # One step of the windowed attention's loop, element by element

A step stacks the four query heads of one key head, 128 rows each: row `128 g + q` is query `q` of head `g`. A head
is half of the 128 lanes, the other half zeroed. -/

@[expose] public section

set_option maxRecDepth 16384

noncomputable section

namespace Cert.KernelBIdeal.Block

open Cert.KernelBIdeal Cert.KernelBIdeal.Gen Idealize.ShloMosaic Cert.Softmax

/-- Row `q` of head `g` in the stack. -/
abbrev srow (g : Fin 4) (q : Fin 128) : Fin 512 := ⟨128 * g + q, by omega⟩

/-- Lane `d` of head `g`'s half of the lanes. -/
abbrev lane (g : Fin 4) (d : Fin 64) : Fin 128 := ⟨64 * (g % 2) + d, by omega⟩

/-- The query element `d` of head `g`, from the two loaded tiles of two heads each. -/
def qh (Q0 Q1 : Vec Ideal S128x128 .bf16) (g : Fin 4) (q : Fin 128) (d : Fin 64) : EReal :=
  if (g : ℕ) < 2 then Q0 (ix2 q (lane g d)) else Q1 (ix2 q (lane g d))

theorem lt64 : ∀ x : Fin 128, IntOp.cmpi CmpIPredicate.slt (BitVec.ofNat 32 ↑x) 64#32 = BitVec.ofBool (decide ((x : ℕ) < 64)) := by
  decide +kernel

theorem select_ofBool {α : Type} (p : Prop) [Decidable p] (x y : α) : Scalar.select (BitVec.ofBool (decide p)) x y = if p then x else y := by
  by_cases h : p <;> simp [h, Scalar.select]

/-- A sum over the lanes that keeps the low half. -/
theorem sum_low (f : Fin 128 → EReal) : (∑ x : Fin 128, if (x : ℕ) < 64 then f x else 0) = ∑ d : Fin 64, f ⟨d, by omega⟩ := by
  rw [Fin.sum_univ_add (a := 64) (b := 64) (f := fun x : Fin (64 + 64) => if (x : ℕ) < 64 then f x else 0)]
  have h2 : (∑ i : Fin 64, if ((Fin.natAdd 64 i : Fin (64 + 64)) : ℕ) < 64 then f (Fin.natAdd 64 i) else 0) = 0 :=
    Finset.sum_eq_zero fun i _ => if_neg (by simp)
  rw [h2, add_zero]
  exact Finset.sum_congr rfl fun i _ => if_pos (by simp)

/-- A sum over the lanes that keeps the high half. -/
theorem sum_high (f : Fin 128 → EReal) : (∑ x : Fin 128, if (x : ℕ) < 64 then 0 else f x) = ∑ d : Fin 64, f ⟨64 + d, by omega⟩ := by
  rw [Fin.sum_univ_add (a := 64) (b := 64) (f := fun x : Fin (64 + 64) => if (x : ℕ) < 64 then 0 else f x)]
  have h2 : (∑ i : Fin 64, if ((Fin.castAdd 64 i : Fin (64 + 64)) : ℕ) < 64 then 0 else f (Fin.castAdd 64 i)) = 0 :=
    Finset.sum_eq_zero fun i _ => if_pos (by simp)
  rw [h2, zero_add]
  exact Finset.sum_congr rfl fun i _ => if_neg (by simp)

theorem mul_ite_left (p : Prop) [Decidable p] (x y : EReal) : (if p then x else 0) * y = if p then x * y else 0 := by
  split <;> simp

theorem mul_ite_right (p : Prop) [Decidable p] (x y : EReal) : (if p then 0 else x) * y = if p then 0 else x * y := by
  split <;> simp

/-- The product of a stacked row with a row of 128 lanes is the head's product over its own 64. -/
theorem dot_at (Q0 Q1 : Vec Ideal S128x128 .bf16) (Y : Fin 128 → EReal) (g : Fin 4) (q : Fin 128) :
    ∑ x : Fin 128, k0_pay5 k0_pay10 Q0 Q1 (ix2 (srow g q) x) * Y x = ∑ d : Fin 64, qh Q0 Q1 g q d * Y (lane g d) := by
  have h : ∀ x : Fin 128, k0_pay5 (F := Ideal) k0_pay10 Q0 Q1 (ix2 (srow g q) x)
      = if (g : ℕ) % 2 = 0 then (if (x : ℕ) < 64 then (if (g : ℕ) < 2 then Q0 (ix2 q x) else Q1 (ix2 q x)) else 0)
        else (if (x : ℕ) < 64 then 0 else (if (g : ℕ) < 2 then Q0 (ix2 q x) else Q1 (ix2 q x))) := by
    intro x
    pointwise [k0_pay5, k0_pay10]
    simp only [lt64, select_ofBool]
    have hq := q.isLt
    have row : ∀ (k : ℕ) (hk : k < 128), k = q → (⟨k, hk⟩ : Fin 128) = q := fun k hk e => Fin.ext e
    rcases (by omega : (g : ℕ) = 0 ∨ (g : ℕ) = 1 ∨ (g : ℕ) = 2 ∨ (g : ℕ) = 3) with hg | hg | hg | hg
    · rw [dif_pos (by omega), row _ _ (by omega)]; simp [hg]
    · rw [dif_neg (by omega), dif_pos (by omega), row _ _ (by omega)]; simp [hg]
    · rw [dif_neg (by omega), dif_neg (by omega), dif_pos (by omega), row _ _ (by omega)]; simp [hg]
    · rw [dif_neg (by omega), dif_neg (by omega), dif_neg (by omega), row _ _ (by omega)]; simp [hg]
  simp only [h]
  by_cases hg : (g : ℕ) % 2 = 0
  · simp only [hg, if_true, mul_ite_left]
    rw [sum_low]
    refine Finset.sum_congr rfl fun d _ => ?_
    unfold qh
    simp only [lane, hg, Nat.mul_zero, Nat.zero_add]
  · have hg1 : (g : ℕ) % 2 = 1 := by omega
    simp only [hg1, one_ne_zero, if_false, mul_ite_right]
    rw [sum_high]
    refine Finset.sum_congr rfl fun d _ => ?_
    unfold qh
    simp only [lane, hg1, Nat.mul_one]

theorem named_mask : (Named.named (F := Ideal) κ "mask" (φ := .f32) 0xF149F2CA#32 : EReal) = ⊥ := rfl

/-- The key at which step `n` starts its window of 384. -/
def start (n : Fin k0_t1_loop.trips) : ℤ := max 0 (min 13 ((n : ℕ) - 1 : ℤ)) * 128

theorem abs_le : ∀ t : Fin 1024, IntOp.cmpi .sle (IntOp.absi (BitVec.ofInt 32 ((t : ℕ) - 512 : ℤ))) 128#32
    = BitVec.ofBool (decide (((t : ℕ) - 512 : ℤ) ≤ 128 ∧ -128 ≤ ((t : ℕ) - 512 : ℤ))) := by
  decide +kernel

theorem row_mod : ∀ r : Fin 512,
    (Scalar.select
      (IntOp.andi
        (IntOp.xori
          (IntOp.cmpi CmpIPredicate.slt
            (IntOp.remsi ArithUnit.vector (BitVec.ofNat 32 ↑r) (Scalar.select (Scalar.cmpi CmpIPredicate.eq 128#32 0#32) 1#32 128#32)) 0#32)
          (Scalar.cmpi CmpIPredicate.slt (Scalar.select (Scalar.cmpi CmpIPredicate.eq 128#32 0#32) 1#32 128#32) 0#32))
        (IntOp.cmpi CmpIPredicate.ne
          (IntOp.remsi ArithUnit.vector (BitVec.ofNat 32 ↑r) (Scalar.select (Scalar.cmpi CmpIPredicate.eq 128#32 0#32) 1#32 128#32)) 0#32))
      (IntOp.addi
        (IntOp.remsi ArithUnit.vector (BitVec.ofNat 32 ↑r) (Scalar.select (Scalar.cmpi CmpIPredicate.eq 128#32 0#32) 1#32 128#32))
        (Scalar.select (Scalar.cmpi CmpIPredicate.eq 128#32 0#32) 1#32 128#32))
      (IntOp.remsi ArithUnit.vector (BitVec.ofNat 32 ↑r) (Scalar.select (Scalar.cmpi CmpIPredicate.eq 128#32 0#32) 1#32 128#32)))
    = BitVec.ofInt 32 ((r : ℕ) % 128 : ℤ) := by
  decide +kernel

theorem start_word : ∀ n : Fin k0_t1_loop.trips,
    Scalar.subi (Scalar.minsi (1664#32) (Scalar.maxsi (0#32) (Scalar.muli (Scalar.subi (Scf.iv 0#32 1#32 ↑n) 1#32) 128#32)))
      (Scalar.muli (Scf.iv 0#32 1#32 ↑n) 128#32) = BitVec.ofInt 32 (start n - 128 * (n : ℕ)) := by
  decide +kernel

theorem n_lt (n : Fin k0_t1_loop.trips) : (n : ℕ) < 16 := Nat.lt_of_lt_of_le n.isLt k0_t1_abs.2.1

/-- A score of the stack: the head's product where key `start n + j` is within 128 of query `128 n + q`, `⊥` elsewhere. -/
theorem score_at (Q0 Q1 : Vec Ideal S128x128 .bf16) (K : Vec Ideal S384x128 .bf16) (n : Fin k0_t1_loop.trips) (g : Fin 4) (q : Fin 128) (j : Fin 384) :
    k0_pay6 k0_pay10 k0_pay14 0#32 1#32 n K Q0 Q1 (ix2 (srow g q) j)
      = if 128 * (n : ℕ) + (q : ℕ) - 128 ≤ start n + (j : ℕ) ∧ start n + (j : ℕ) ≤ 128 * (n : ℕ) + (q : ℕ) + 128
        then ∑ d : Fin 64, qh Q0 Q1 g q d * K (ix2 j (lane g d)) else ⊥ := by
  pointwise [k0_pay6, k0_pay14]
  have hr := row_mod (srow g q)
  dsimp only [srow] at hr
  rw [dot_at Q0 Q1 (fun x => K (ix2 j x)), named_mask, hr, start_word]
  have e : IntOp.addi (IntOp.subi (BitVec.ofNat 32 ↑j) (BitVec.ofInt 32 ((((128 * (g : ℕ) + (q : ℕ)) : ℕ) : ℤ) % 128))) (BitVec.ofInt 32 (start n - 128 * (n : ℕ)))
      = BitVec.ofInt 32 ((j : ℕ) - (q : ℕ) + (start n - 128 * (n : ℕ)) : ℤ) := by
    have : (((128 * (g : ℕ) + (q : ℕ)) : ℕ) : ℤ) % 128 = (q : ℕ) := by omega
    rw [this]
    show BitVec.ofNat 32 ↑j - BitVec.ofInt 32 _ + BitVec.ofInt 32 _ = _
    rw [BitVec.ofInt_add, show ((j : ℕ) - (q : ℕ) : ℤ) = (j : ℕ) + -(q : ℕ) by omega, BitVec.ofInt_add, BitVec.ofInt_neg, BitVec.sub_eq_add_neg]
    rfl
  rw [e]
  have hn := n_lt n
  have hb : (-512 : ℤ) ≤ (j : ℕ) - (q : ℕ) + (start n - 128 * (n : ℕ)) ∧ (j : ℕ) - (q : ℕ) + (start n - 128 * (n : ℕ)) < (512 : ℤ) := by
    unfold start; omega
  have := abs_le ⟨((j : ℕ) - (q : ℕ) + (start n - 128 * (n : ℕ)) + 512 : ℤ).toNat, by omega⟩
  simp only [show ((((j : ℕ) - (q : ℕ) + (start n - 128 * (n : ℕ)) + 512 : ℤ).toNat : ℕ) : ℤ) - 512 = (j : ℕ) - (q : ℕ) + (start n - 128 * (n : ℕ)) by omega] at this
  rw [this, select_ofBool]
  refine if_congr ?_ rfl rfl
  omega

/-- A meta score of the stack: the head's product and the additive mask. -/
theorem meta_at (Q0 Q1 : Vec Ideal S128x128 .bf16) (KM : Vec Ideal S128x128 .bf16) (BM : Vec Ideal S1x128 .f32) (g : Fin 4) (q : Fin 128) (j : Fin 128) :
    k0_pay7 k0_pay10 (k0_pay11 KM) (k0_pay13 BM) Q0 Q1 (ix2 (srow g q) j)
      = ∑ d : Fin 64, qh Q0 Q1 g q d * KM (ix2 j (lane g d)) + BM (ix2 0 j) := by
  pointwise [k0_pay7, k0_pay11, k0_pay13]
  rw [dot_at Q0 Q1 (fun x => KM (ix2 j x))]

theorem ofBits_neg_inf : (Ideal.ofBits FTy.f32 0xFF800000#32) = ⊥ := by
  simp [Ideal.ofBits, Ideal.ieee]

end Cert.KernelBIdeal.Block

end
-- ==== Proof.StepB.lean ====
module

public import proofs.«01_k».proof.Proof.BlockB

/-! # One step of the windowed attention's loop: the two stored tiles -/

@[expose] public section

set_option maxRecDepth 16384

noncomputable section

namespace Cert.KernelBIdeal.Block

open Cert.KernelBIdeal Cert.KernelBIdeal.Gen Idealize.ShloMosaic Cert.Softmax

theorem row_head : ∀ (g : Fin 4) (q : Fin 128),
    k0_pay17 (iota .tc S512x1 32 [0] iota_S512x1_d0_w32) 128#32 k0_pay15 k0_pay16 (Scalar.extui (Scalar.cmpi .sgt 128#32 0#32)) 0#32 (ix2 (srow g q) 0)
      = BitVec.ofNat 32 g := by
  intro g q
  pointwise [k0_pay17, k0_pay15, k0_pay16]
  revert q; revert g
  decide +kernel

/-- The sink of a stacked row is its head's. -/
theorem sink_at (s0 s1 s2 s3 : EReal) (g : Fin 4) (q : Fin 128) :
    select (k0_pay19 (iota .tc S512x1 32 [0] iota_S512x1_d0_w32) 128#32 k0_pay15 k0_pay16 (Scalar.extui (Scalar.cmpi .sgt 128#32 0#32)) 0#32)
      (k0_pay20 (F := Ideal) s3)
      (k0_pay18 (F := Ideal) (iota .tc S512x1 32 [0] iota_S512x1_d0_w32) 128#32 k0_pay15 k0_pay16 (Scalar.extui (Scalar.cmpi .sgt 128#32 0#32)) 0#32 s0 s1 s2)
      (ix2 (srow g q) 0) = ![s0, s1, s2, s3] g := by
  have h := row_head g q
  dsimp only [srow] at h
  pointwise [k0_pay18, k0_pay19, k0_pay20]
  rw [h]
  fin_cases g <;> rfl

/-- The weighted sum of a stacked row over the sum of its weights. -/
theorem pay1_at (v6 : FVec Ideal S128x128 .bf16) (v77 : FVec Ideal S512x1 .f32) (v79 : IVec S512x1 1) (v84 : FVec Ideal S512x1 .f32)
    (v99 : FVec Ideal S384x128 .bf16) (v121 : FVec Ideal S512x384 .f32) (v124 : FVec Ideal S512x128 .f32) (v126 : FVec Ideal S512x1 .f32)
    (v128 : FVec Ideal S512x1 .f32) (r : Fin 512) (l : Fin 128) (σ M : EReal) (hσ : select v79 v84 v77 (ix2 r 0) = σ)
    (hM : max (max (v126 (ix2 r 0)) (v128 (ix2 r 0))) σ = M) :
    k0_pay1 v6 v77 v79 v84 v99 v121 v124 v126 v128 (ix2 r l)
      = Ideal.div (∑ j : Fin 384, Ideal.exp (v121 (ix2 r j) - M) * v99 (ix2 j l) + ∑ i : Fin 128, Ideal.exp (v124 (ix2 r i) - M) * v6 (ix2 i l))
          (∑ j : Fin 384, Ideal.exp (v121 (ix2 r j) - M) + ∑ i : Fin 128, Ideal.exp (v124 (ix2 r i) - M) + Ideal.exp (σ - M)) := by
  pointwise at hσ
  subst hσ hM
  pointwise [k0_pay1]

theorem max_band_at (Q0 Q1 : Vec Ideal S128x128 .bf16) (K : Vec Ideal S384x128 .bf16) (n : Fin k0_t1_loop.trips) (r : Fin 512) :
    k0_pay8 k0_pay10 k0_pay14 0#32 1#32 n K Q0 Q1 (ix2 r 0) = Finset.univ.sup fun j : Fin 384 => k0_pay6 k0_pay10 k0_pay14 0#32 1#32 n K Q0 Q1 (ix2 r j) := by
  pointwise [k0_pay8]
  rw [ofBits_neg_inf, fold_max]

theorem max_meta_at (Q0 Q1 : Vec Ideal S128x128 .bf16) (KM : FVec Ideal S128x128 .bf16) (BM : FVec Ideal S1x128 .f32) (r : Fin 512) :
    k0_pay9 k0_pay10 KM BM Q0 Q1 (ix2 r 0) = Finset.univ.sup fun j : Fin 128 => k0_pay7 k0_pay10 KM BM Q0 Q1 (ix2 r j) := by
  pointwise [k0_pay9]
  rw [ofBits_neg_inf, fold_max]

/-- Row `p` of an image's 2048 (any row for a `p` outside them). -/
abbrev krow (p : ℤ) : Fin 2048 := ⟨p.toNat % 2048, Nat.mod_lt _ (by omega)⟩

section
variable (n : Fin k0_t1_loop.trips) (Q0 Q1 KM VM : Vec Ideal S128x128 .bf16) (K Vt : Vec Ideal S384x128 .bf16) (BM : Vec Ideal S1x128 .f32)
  (X2 X3 : Vec Ideal S2048x128 .bf16) (s0 s1 s2 s3 : EReal)
  (hK : ∀ (j : Fin 384) (x : Fin 128), K (ix2 j x) = X2 (ix2 (krow (start n + (j : ℕ))) x))
  (hV : ∀ (j : Fin 384) (x : Fin 128), Vt (ix2 j x) = X3 (ix2 (krow (start n + (j : ℕ))) x))
  (hB : ∀ i : Fin 128, BM (ix2 0 i) = if (i : ℕ) < 16 then 0 else ⊥)

/-- The step's quotient over the stack, with the loop's own operands. -/
abbrev stepQ : FVec Ideal S512x128 .f32 :=
  k0_pay1 (k0_pay12 VM)
    (k0_pay18 (F := Ideal) (iota .tc S512x1 32 [0] iota_S512x1_d0_w32) 128#32 k0_pay15 k0_pay16 (Scalar.extui (Scalar.cmpi .sgt 128#32 0#32)) 0#32 s0 s1 s2)
    (k0_pay19 (iota .tc S512x1 32 [0] iota_S512x1_d0_w32) 128#32 k0_pay15 k0_pay16 (Scalar.extui (Scalar.cmpi .sgt 128#32 0#32)) 0#32)
    (k0_pay20 (F := Ideal) s3) (k0_pay4 Vt) (k0_pay6 k0_pay10 k0_pay14 0#32 1#32 n K Q0 Q1) (k0_pay7 k0_pay10 (k0_pay11 KM) (k0_pay13 BM) Q0 Q1)
    (k0_pay8 k0_pay10 k0_pay14 0#32 1#32 n K Q0 Q1) (k0_pay9 k0_pay10 (k0_pay11 KM) (k0_pay13 BM) Q0 Q1)

/-- What row `q` of head `g` attends to, from the blocks of keys `X2` and values `X3` and the meta tiles. -/
def headAttn (g : Fin 4) (q l : Fin 128) : EReal :=
  attn (fun p => ∑ d : Fin 64, qh Q0 Q1 g q d * X2 (ix2 (krow p) (lane g d))) (fun p => X3 (ix2 (krow p) l))
    (max 0 (128 * (n : ℕ) + (q : ℕ) - 128)) (min 2047 (128 * (n : ℕ) + (q : ℕ) + 128))
    (fun i => ∑ d : Fin 64, qh Q0 Q1 g q d * KM (ix2 ⟨i, by omega⟩ (lane g d))) (fun i => VM (ix2 ⟨i, by omega⟩ l)) (![s0, s1, s2, s3] g)

include hK hV hB in
/-- The step's quotient is the heads' attention. -/
theorem stepQ_at (g : Fin 4) (q l : Fin 128) :
    stepQ n Q0 Q1 KM VM K Vt BM s0 s1 s2 s3 (ix2 (srow g q) l) = headAttn n Q0 Q1 KM VM X2 X3 s0 s1 s2 s3 g q l := by
  have hn := n_lt n
  have hq := q.isLt
  unfold stepQ headAttn
  rw [pay1_at _ _ _ _ _ _ _ _ _ (srow g q) l (![s0, s1, s2, s3] g) _ (sink_at s0 s1 s2 s3 g q) rfl]
  refine attn_of_rows _ _ _ _ (start n) ?_ ?_ _ _ ?_ ?_ _ _ _ _ _ ?_ ?_ _ ?_
  · unfold start; omega
  · unfold start; omega
  · intro j
    rw [score_at]
    have hj := j.isLt
    refine if_congr ?_ (Finset.sum_congr rfl fun d _ => by rw [hK]) rfl
    unfold start; omega
  · intro j _ _
    pointwise [k0_pay4]
    exact hV j l
  · intro i
    rw [meta_at, hB]
    split
    · rw [add_zero]
    · rw [EReal.add_bot]
  · intro i
    pointwise [k0_pay12]
  · rw [max_band_at, max_meta_at]

end

end Cert.KernelBIdeal.Block

end
-- ==== Proof.TripB.lean ====
module

public import proofs.«01_k».proof.Proof.StepB
public import proofs.«01_k».proof.Proof.Gen.KernelBIdeal.Value
public import Idealize.ShloMosaic.Lib.Pipeline.ValueKit

/-! One block of the kernel's result: sixteen steps of two stored tiles each, read at an index. -/

@[expose] public section

set_option maxRecDepth 16384

noncomputable section

namespace Cert.KernelBIdeal.Block

open Cert.KernelBIdeal Cert.KernelBIdeal.Gen Idealize.ShloMosaic Cert.Softmax

/-- The block's element at row `r` and column `l`, from the blocks it is computed from: what row `r` of the head
    `l / 64` of its four attends to. -/
def blockAt (j : Fin 4) (x0 : Vec Ideal S16 .f32) (x1 : Vec Ideal S2048x256 .bf16) (x2 x3 : Vec Ideal S2048x128 .bf16)
    (x4 x5 : Vec Ideal S128x128 .bf16) (r : Fin 2048) (l : Fin 256) : EReal :=
  attn (fun p => ∑ d : Fin 64, x1 (ix2 r ⟨64 * ((l : ℕ) / 64) + d, by omega⟩) * x2 (ix2 (krow p) ⟨64 * ((l : ℕ) / 64 % 2) + d, by omega⟩))
    (fun p => x3 (ix2 (krow p) ⟨(l : ℕ) % 128, by omega⟩)) (max 0 ((r : ℕ) - 128 : ℤ)) (min 2047 ((r : ℕ) + 128 : ℤ))
    (fun i => ∑ d : Fin 64, x1 (ix2 r ⟨64 * ((l : ℕ) / 64) + d, by omega⟩) * x4 (ix2 ⟨i, by omega⟩ ⟨64 * ((l : ℕ) / 64 % 2) + d, by omega⟩))
    (fun i => x5 (ix2 ⟨i, by omega⟩ ⟨(l : ℕ) % 128, by omega⟩)) (x0 (ix1 ⟨4 * (j : ℕ) + (l : ℕ) / 64, by omega⟩))

theorem off2_at : ∀ n : Fin k0_t1_loop.trips, (k0_off2 n 0 : ℤ) = start n ∧ k0_off2 n 1 = 0 := by
  decide +kernel
theorem off3_at : ∀ n : Fin k0_t1_loop.trips, k0_off3 n 0 = 128 * (n : ℕ) ∧ k0_off3 n 1 = 0 := by
  decide +kernel
theorem off4_at : ∀ n : Fin k0_t1_loop.trips, k0_off4 n 0 = 128 * (n : ℕ) ∧ k0_off4 n 1 = 128 := by
  decide +kernel

section
variable (j : Fin 4) (n : Fin k0_t1_loop.trips) (x0 : Vec Ideal S16 .f32) (x1 : Vec Ideal S2048x256 .bf16) (x2 x3 : Vec Ideal S2048x128 .bf16)
  (x4 x5 : Vec Ideal S128x128 .bf16) (BM : Vec Ideal S1x128 .f32) (hB : ∀ i : Fin 128, BM (ix2 0 i) = if (i : ℕ) < 16 then 0 else ⊥)

/-- The queries of a step: two tiles of the query block. -/
abbrev q0T : Vec Ideal S128x128 .bf16 := View.ld (Val := Elt Ideal) (e' := .bf16) x1 (Rect.unit (s := S2048x256) (k0_off3 n) S128x128.size (k0_off3_inb n))
abbrev q1T : Vec Ideal S128x128 .bf16 := View.ld (Val := Elt Ideal) (e' := .bf16) x1 (Rect.unit (s := S2048x256) (k0_off4 n) S128x128.size (k0_off4_inb n))
/-- The 384 rows of keys (or values) a step reads. -/
abbrev bandT (x : Vec Ideal S2048x128 .bf16) : Vec Ideal S384x128 .bf16 :=
  View.ld (Val := Elt Ideal) (e' := .bf16) x (Rect.unit (s := S2048x128) (k0_off2 n) S384x128.size (k0_off2_inb n))

theorem band_at (x : Vec Ideal S2048x128 .bf16) (i : Fin 384) (c : Fin 128) : bandT n x (ix2 i c) = x (ix2 (krow (start n + (i : ℕ))) c) := by
  have h := off2_at n
  have hi := i.isLt
  have hs : 0 ≤ start n ∧ start n ≤ 1664 := by unfold start; omega
  refine View.ld_unit_apply_of _ _ _ _ _ _ fun a => ?_
  match a with
  | ⟨0, _⟩ =>
    show (start n + (i : ℕ)).toNat % 2048 = k0_off2 n 0 + (i : ℕ)
    omega
  | ⟨1, _⟩ =>
    show (c : ℕ) = k0_off2 n 1 + (c : ℕ)
    omega

theorem qh_at (g : Fin 4) (q : Fin 128) (d : Fin 64) :
    qh (q0T n x1) (q1T n x1) g q d = x1 (ix2 ⟨128 * (n : ℕ) + q, by have := n_lt n; omega⟩ ⟨64 * (g : ℕ) + d, by omega⟩) := by
  have h3 := off3_at n
  have h4 := off4_at n
  unfold qh
  split
  · refine View.ld_unit_apply_of _ _ _ _ _ _ fun a => ?_
    match a with
    | ⟨0, _⟩ => show 128 * (n : ℕ) + (q : ℕ) = k0_off3 n 0 + (q : ℕ); omega
    | ⟨1, _⟩ => show 64 * (g : ℕ) + (d : ℕ) = k0_off3 n 1 + (64 * ((g : ℕ) % 2) + (d : ℕ)); omega
  · refine View.ld_unit_apply_of _ _ _ _ _ _ fun a => ?_
    match a with
    | ⟨0, _⟩ => show 128 * (n : ℕ) + (q : ℕ) = k0_off4 n 0 + (q : ℕ); omega
    | ⟨1, _⟩ => show 64 * (g : ℕ) + (d : ℕ) = k0_off4 n 1 + (64 * ((g : ℕ) % 2) + (d : ℕ)); omega

/-- The sink of head `r` of the block's four. -/
abbrev sinkT (r : Fin 4) : EReal := x0 (ix1 ⟨4 * (j : ℕ) + r, by omega⟩)

include hB in
/-- A step's quotient is the block's element, for lanes in the head's half. -/
theorem stepQ_block (g : Fin 4) (q l : Fin 128) (hg : (l : ℕ) / 64 = (g : ℕ) % 2) :
    stepQ n (q0T n x1) (q1T n x1) x4 x5 (bandT n x2) (bandT n x3) BM (sinkT j x0 0) (sinkT j x0 1) (sinkT j x0 2) (sinkT j x0 3) (ix2 (srow g q) l)
      = blockAt j x0 x1 x2 x3 x4 x5 ⟨128 * (n : ℕ) + q, by have := n_lt n; omega⟩ ⟨128 * ((g : ℕ) / 2) + l, by omega⟩ := by
  rw [stepQ_at n (q0T n x1) (q1T n x1) x4 x5 (bandT n x2) (bandT n x3) BM x2 x3 _ _ _ _ (fun i c => band_at n x2 i c) (fun i c => band_at n x3 i c) hB]
  unfold headAttn blockAt
  simp only [qh_at]
  have hl := l.isLt
  have e1 : (128 * ((g : ℕ) / 2) + (l : ℕ)) / 64 = g := by omega
  have e2 : (128 * ((g : ℕ) / 2) + (l : ℕ)) % 128 = l := by omega
  have e3 : (![sinkT j x0 0, sinkT j x0 1, sinkT j x0 2, sinkT j x0 3] : Fin 4 → EReal) g = x0 (ix1 ⟨4 * (j : ℕ) + (g : ℕ), by omega⟩) := by
    fin_cases g <;> rfl
  simp only [e1, e2, e3]
  simp only [Nat.cast_add, Nat.cast_mul, Nat.cast_ofNat]

/-- The two stored tiles, from the step's quotient. -/
abbrev pay2T : FVec Ideal S128x128 .bf16 :=
  k0_pay2 k0_pay10 (k0_pay12 x5)
    (k0_pay18 (F := Ideal) (iota .tc S512x1 32 [0] iota_S512x1_d0_w32) 128#32 k0_pay15 k0_pay16 (Scalar.extui (Scalar.cmpi .sgt 128#32 0#32)) 0#32 (sinkT j x0 0) (sinkT j x0 1) (sinkT j x0 2))
    (k0_pay19 (iota .tc S512x1 32 [0] iota_S512x1_d0_w32) 128#32 k0_pay15 k0_pay16 (Scalar.extui (Scalar.cmpi .sgt 128#32 0#32)) 0#32)
    (k0_pay20 (F := Ideal) (sinkT j x0 3)) (k0_pay4 (bandT n x3)) (k0_pay6 k0_pay10 k0_pay14 0#32 1#32 n (bandT n x2) (q0T n x1) (q1T n x1)) (k0_pay7 k0_pay10 (k0_pay11 x4) (k0_pay13 BM) (q0T n x1) (q1T n x1))
    (k0_pay8 k0_pay10 k0_pay14 0#32 1#32 n (bandT n x2) (q0T n x1) (q1T n x1)) (k0_pay9 k0_pay10 (k0_pay11 x4) (k0_pay13 BM) (q0T n x1) (q1T n x1))
abbrev pay3T : FVec Ideal S128x128 .bf16 :=
  k0_pay3 k0_pay10 (k0_pay12 x5)
    (k0_pay18 (F := Ideal) (iota .tc S512x1 32 [0] iota_S512x1_d0_w32) 128#32 k0_pay15 k0_pay16 (Scalar.extui (Scalar.cmpi .sgt 128#32 0#32)) 0#32 (sinkT j x0 0) (sinkT j x0 1) (sinkT j x0 2))
    (k0_pay19 (iota .tc S512x1 32 [0] iota_S512x1_d0_w32) 128#32 k0_pay15 k0_pay16 (Scalar.extui (Scalar.cmpi .sgt 128#32 0#32)) 0#32)
    (k0_pay20 (F := Ideal) (sinkT j x0 3)) (k0_pay4 (bandT n x3)) (k0_pay6 k0_pay10 k0_pay14 0#32 1#32 n (bandT n x2) (q0T n x1) (q1T n x1)) (k0_pay7 k0_pay10 (k0_pay11 x4) (k0_pay13 BM) (q0T n x1) (q1T n x1))
    (k0_pay8 k0_pay10 k0_pay14 0#32 1#32 n (bandT n x2) (q0T n x1) (q1T n x1)) (k0_pay9 k0_pay10 (k0_pay11 x4) (k0_pay13 BM) (q0T n x1) (q1T n x1))

include hB in
theorem pay2_at (q l : Fin 128) : pay2T j n x0 x1 x2 x3 x4 x5 BM (ix2 q l)
    = blockAt j x0 x1 x2 x3 x4 x5 ⟨128 * (n : ℕ) + q, by have := n_lt n; omega⟩ ⟨l, by omega⟩ := by
  have hl := l.isLt
  have h0 := stepQ_block j n x0 x1 x2 x3 x4 x5 BM hB 0 q l
  have h1 := stepQ_block j n x0 x1 x2 x3 x4 x5 BM hB 1 q l
  unfold stepQ at h0 h1
  unfold pay2T
  pointwise [k0_pay2, k0_pay10]
  rw [lt64, select_ofBool]
  by_cases h : (l : ℕ) < 64
  · rw [if_pos h]
    refine Eq.trans (congrArg _ ?_) ((h0 (by show (l : ℕ) / 64 = 0 % 2; omega)).trans (congrArg _ ?_))
    · exact congrArg₂ ix2 (Fin.ext (by simp)) rfl
    · exact Fin.ext (by simp)
  · rw [if_neg h]
    refine Eq.trans (congrArg _ ?_) ((h1 (by show (l : ℕ) / 64 = 1 % 2; omega)).trans (congrArg _ ?_))
    · exact congrArg₂ ix2 (Fin.ext (by simp; try omega)) rfl
    · exact Fin.ext (by simp)

include hB in
theorem pay3_at (q l : Fin 128) : pay3T j n x0 x1 x2 x3 x4 x5 BM (ix2 q l)
    = blockAt j x0 x1 x2 x3 x4 x5 ⟨128 * (n : ℕ) + q, by have := n_lt n; omega⟩ ⟨128 + l, by omega⟩ := by
  have hl := l.isLt
  have h0 := stepQ_block j n x0 x1 x2 x3 x4 x5 BM hB 2 q l
  have h1 := stepQ_block j n x0 x1 x2 x3 x4 x5 BM hB 3 q l
  unfold stepQ at h0 h1
  unfold pay3T
  pointwise [k0_pay3, k0_pay10]
  rw [lt64, select_ofBool]
  by_cases h : (l : ℕ) < 64
  · rw [if_pos h]
    refine Eq.trans (congrArg _ ?_) ((h0 (by show (l : ℕ) / 64 = 2 % 2; omega)).trans (congrArg _ ?_))
    · exact congrArg₂ ix2 (Fin.ext (by simp; try omega)) rfl
    · exact Fin.ext (by simp)
  · rw [if_neg h]
    refine Eq.trans (congrArg _ ?_) ((h1 (by show (l : ℕ) / 64 = 3 % 2; omega)).trans (congrArg _ ?_))
    · exact congrArg₂ ix2 (Fin.ext (by simp; try omega)) rfl
    · exact Fin.ext (by simp)

end

end Cert.KernelBIdeal.Block

end
-- ==== Proof.BlockValB.lean ====
module

public import proofs.«01_k».proof.Proof.TripB

/-! The block the kernel leaves at a grid point, read at an index. -/

@[expose] public section

set_option maxRecDepth 16384

noncomputable section

namespace Cert.KernelBIdeal.Block

open Cert.KernelBIdeal Cert.KernelBIdeal.Gen Idealize.ShloMosaic Cert.Softmax

section
variable (c : Dev nD) (i : grid0.Coords) (arg2 : Memref sig .tc .smem S16 .f32) (harg2 : arg2.IsWhole) (arg3 : Memref sig .tc .vmem S2048x256 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S128x128 .bf16) (harg6 : arg6.IsWhole) (arg7 : Memref sig .tc .vmem S128x128 .bf16) (harg7 : arg7.IsWhole) (arg8 : Memref sig .tc .vmem S1x128 .f32) (harg8 : arg8.IsWhole) (arg9 : Memref sig .tc .vmem S2048x256 .bf16) (harg9 : arg9.IsWhole)
  (x0 : Vec Ideal S16 .f32) (x1 : Vec Ideal S2048x256 .bf16) (x2 x3 : Vec Ideal S2048x128 .bf16) (x4 x5 : Vec Ideal S128x128 .bf16) (x6 : Vec Ideal S1x128 .f32)

/-- A step's pieces, with the loop's own operands: the tile of heads 2 and 3 over that of heads 0 and 1. -/
theorem trip_pieces (v2 v4 v6 v8 v27 v77 v79 v84) (k : Fin k0_t1_loop.trips) :
    tripL_k0_t1 (F := Ideal) Variants.none c none i arg2 harg2 arg3 harg3 arg4 harg4 arg5 harg5 arg6 harg6 arg7 harg7 arg8 harg8 arg9 harg9 v2 v4 v6 v8 v27 v77 v79 v84 (harg3.unread x1) (harg4.unread x2) (harg5.unread x3) k
      = [⟨Rect.unit (s := S2048x256) (k0_off4 k) S128x128.size (k0_off4_inb k),
            k0_pay3 v2 v6 v77 v79 v84 (k0_pay4 (bandT k x3)) (k0_pay6 v2 v27 0#32 1#32 k (bandT k x2) (q0T k x1) (q1T k x1)) (k0_pay7 v2 v4 v8 (q0T k x1) (q1T k x1)) (k0_pay8 v2 v27 0#32 1#32 k (bandT k x2) (q0T k x1) (q1T k x1)) (k0_pay9 v2 v4 v8 (q0T k x1) (q1T k x1))⟩,
         ⟨Rect.unit (s := S2048x256) (k0_off3 k) S128x128.size (k0_off3_inb k),
            k0_pay2 v2 v6 v77 v79 v84 (k0_pay4 (bandT k x3)) (k0_pay6 v2 v27 0#32 1#32 k (bandT k x2) (q0T k x1) (q1T k x1)) (k0_pay7 v2 v4 v8 (q0T k x1) (q1T k x1)) (k0_pay8 v2 v27 0#32 1#32 k (bandT k x2) (q0T k x1) (q1T k x1)) (k0_pay9 v2 v4 v8 (q0T k x1) (q1T k x1))⟩] := by
  unfold tripL_k0_t1
  unfold trip_k0_t1
  dsimp only
  sl_unfold_words
  simp only [View.readAt_eq_ld, harg3.read_unread, harg4.read_unread, harg5.read_unread]
  rfl

/-- Pieces of every step agreeing with `v` at `y`, the pieces of all steps do. -/
theorem pb_allAt (v2 v4 v6 v8 v27 v77 v79 v84 X3 X4 X5) (y : S2048x256.Idx) (v : EReal)
    (h : ∀ k, View.AllAt (tripL_k0_t1 (F := Ideal) Variants.none c none i arg2 harg2 arg3 harg3 arg4 harg4 arg5 harg5 arg6 harg6 arg7 harg7 arg8 harg8 arg9 harg9 v2 v4 v6 v8 v27 v77 v79 v84 X3 X4 X5 k) y v) :
    ∀ n, n ≤ k0_t1_loop.trips → View.AllAt (pb_k0_t1 (F := Ideal) Variants.none c none i arg2 harg2 arg3 harg3 arg4 harg4 arg5 harg5 arg6 harg6 arg7 harg7 arg8 harg8 arg9 harg9 v2 v4 v6 v8 v27 v77 v79 v84 X3 X4 X5 n) y v
  | 0, _ => by rw [pb_k0_t1.eq_1]; exact View.allAt_nil (Val := Elt Ideal) (e := .bf16) y v
  | n + 1, hn => by
    rw [pb_k0_t1_succ Variants.none c none i arg2 harg2 arg3 harg3 arg4 harg4 arg5 harg5 arg6 harg6 arg7 harg7 arg8 harg8 arg9 harg9 v2 v4 v6 v8 v27 v77 v79 v84 X3 X4 X5 ⟨n, hn⟩]
    intro p hp
    rcases List.mem_append.mp hp with hp | hp
    · exact h _ p hp
    · exact pb_allAt v2 v4 v6 v8 v27 v77 v79 v84 X3 X4 X5 y v h n (by omega) p hp

/-- The index of a head's sink, as the kernel computes it. -/
abbrev sinkWord (a : ℕ) (r : BitVec 32) : ℕ := BitVec.toNat (Scalar.indexCast (Scalar.addi (Scalar.muli (BitVec.ofNat 32 a) 4#32) r))

theorem sinkWord_eq : ∀ a r : Fin 4, sinkWord a (BitVec.ofNat 32 r) = 4 * (a : ℕ) + r := by
  decide +kernel

theorem sink_ld (j r : Fin 4) (b : BitVec 32) (hb : b = BitVec.ofNat 32 r) (inb) (h) :
    View.ld (Val := Elt Ideal) (e' := .f32) x0 (Rect.unit (s := S16) ![sinkWord j b] ![1] inb) (Shape.Idx.first h) = sinkT j x0 r := by
  subst hb
  refine View.ld_unit_apply_of _ _ _ _ _ _ fun a => ?_
  match a with
  | ⟨0, _⟩ => show 4 * (j : ℕ) + (r : ℕ) = sinkWord j (BitVec.ofNat 32 r) + 0; rw [sinkWord_eq]; rfl

/-- The block's element. -/
theorem out_at (hB : ∀ e : Fin 128, x6 (ix2 0 e) = if (e : ℕ) < 16 then 0 else ⊥) (r : Fin 2048) (l : Fin 256) :
    out0_A_7 c i arg2 harg2 arg3 harg3 arg4 harg4 arg5 harg5 arg6 harg6 arg7 harg7 arg8 harg8 arg9 harg9 x0 x1 x2 x3 x4 x5 x6 (ix2 r l)
      = blockAt ⟨i 1, (i 1).isLt⟩ x0 x1 x2 x3 x4 x5 r l := by
  unfold out0_A_7
  rw [View.read_writes_eq_canon _ _ _ (cover0_A_7 c i arg2 harg2 arg3 harg3 arg4 harg4 arg5 harg5 arg6 harg6 arg7 harg7 arg8 harg8 arg9 harg9 x0 x1 x2 x3 x4 x5 x6)]
  refine View.canon_eq_of_allAt _ _ _ (cover0_A_7 c i arg2 harg2 arg3 harg3 arg4 harg4 arg5 harg5 arg6 harg6 arg7 harg7 arg8 harg8 arg9 harg9 x0 x1 x2 x3 x4 x5 x6 (ix2 r l)) ?_
  unfold kernelRun0_A
  dsimp only
  sl_unfold_words
  refine pb_allAt c i arg2 harg2 arg3 harg3 arg4 harg4 arg5 harg5 arg6 harg6 arg7 harg7 arg8 harg8 arg9 harg9 _ _ _ _ _ _ _ _ _ _ _ _ _ (fun k => ?_) _ le_rfl
  rw [trip_pieces]
  simp only [View.readAt_eq_ld, harg2.read_unread, harg6.read_unread, harg7.read_unread, harg8.read_unread]
  have e0 : ∀ inb h, View.ld (Val := Elt Ideal) (e' := .f32) x0 (Rect.unit (s := S16) ![BitVec.toNat (Scalar.indexCast (Scalar.addi (Scalar.muli (BitVec.ofNat 32 (i 1 : ℕ)) 4#32) 0#32))] ![1] inb) (Shape.Idx.first h) = sinkT ⟨i 1, (i 1).isLt⟩ x0 0 :=
    fun inb h => sink_ld x0 ⟨i 1, (i 1).isLt⟩ 0 0#32 rfl inb h
  have e1 : ∀ inb h, View.ld (Val := Elt Ideal) (e' := .f32) x0 (Rect.unit (s := S16) ![BitVec.toNat (Scalar.indexCast (Scalar.addi (Scalar.muli (BitVec.ofNat 32 (i 1 : ℕ)) 4#32) 1#32))] ![1] inb) (Shape.Idx.first h) = sinkT ⟨i 1, (i 1).isLt⟩ x0 1 :=
    fun inb h => sink_ld x0 ⟨i 1, (i 1).isLt⟩ 1 1#32 rfl inb h
  have e2 : ∀ inb h, View.ld (Val := Elt Ideal) (e' := .f32) x0 (Rect.unit (s := S16) ![BitVec.toNat (Scalar.indexCast (Scalar.addi (Scalar.muli (BitVec.ofNat 32 (i 1 : ℕ)) 4#32) 2#32))] ![1] inb) (Shape.Idx.first h) = sinkT ⟨i 1, (i 1).isLt⟩ x0 2 :=
    fun inb h => sink_ld x0 ⟨i 1, (i 1).isLt⟩ 2 2#32 rfl inb h
  have e3 : ∀ inb h, View.ld (Val := Elt Ideal) (e' := .f32) x0 (Rect.unit (s := S16) ![BitVec.toNat (Scalar.indexCast (Scalar.addi (Scalar.muli (BitVec.ofNat 32 (i 1 : ℕ)) 4#32) 3#32))] ![1] inb) (Shape.Idx.first h) = sinkT ⟨i 1, (i 1).isLt⟩ x0 3 :=
    fun inb h => sink_ld x0 ⟨i 1, (i 1).isLt⟩ 3 3#32 rfl inb h
  have z4 : View.ld (Val := Elt Ideal) (e' := .bf16) x4 (Rect.unit (s := S128x128) ![0, 0] ![128, 128] inb_S128x128_S128x128_0_0) = x4 := View.ld_unit_zero (by decide) _ _
  have z5 : View.ld (Val := Elt Ideal) (e' := .bf16) x5 (Rect.unit (s := S128x128) ![0, 0] ![128, 128] inb_S128x128_S128x128_0_0) = x5 := View.ld_unit_zero (by decide) _ _
  have z6 : View.ld (Val := Elt Ideal) (e' := .f32) x6 (Rect.unit (s := S1x128) ![0, 0] ![1, 128] inb_S1x128_S1x128_0_0) = x6 := View.ld_unit_zero (by decide) _ _
  simp only [z4, z5, z6]
  have h3 := off3_at k
  have h4 := off4_at k
  have hk := n_lt k
  have w1 : (Scalar.extui (Scalar.cmpi .sgt 128#32 0#32) : BitVec 32) = 1#32 := by decide
  refine View.allAt_cons_unit _ _ _ _ _ (fun x hx => ?_) (View.allAt_cons_unit _ _ _ _ _ (fun x hx => ?_) (View.allAt_nil _ _))
  · have hr : (r : ℕ) = k0_off4 k 0 + (x 0 : ℕ) := hx 0
    have hl : (l : ℕ) = k0_off4 k 1 + (x 1 : ℕ) := hx 1
    have key := pay3_at ⟨i 1, (i 1).isLt⟩ k x0 x1 x2 x3 x4 x5 x6 hB (x 0) (x 1)
    unfold pay3T at key
    rw [w1] at key
    have hx2 : x = ix2 (n0 := 128) (n1 := 128) (x 0) (x 1) := eq_ix2 x
    rw [hx2]
    refine Eq.trans (congrFun ?_ _) (key.trans ?_)
    · congr 1
      · exact congr (congr (congrArg _ (e0 _ _)) (e1 _ _)) (e2 _ _)
      · exact congrArg _ (e3 _ _)
    exact congrArg₂ _ (Fin.ext (by simp only; omega)) (Fin.ext (by simp only; omega))
  · have hr : (r : ℕ) = k0_off3 k 0 + (x 0 : ℕ) := hx 0
    have hl : (l : ℕ) = k0_off3 k 1 + (x 1 : ℕ) := hx 1
    have key := pay2_at ⟨i 1, (i 1).isLt⟩ k x0 x1 x2 x3 x4 x5 x6 hB (x 0) (x 1)
    unfold pay2T at key
    rw [w1] at key
    have hx2 : x = ix2 (n0 := 128) (n1 := 128) (x 0) (x 1) := eq_ix2 x
    rw [hx2]
    refine Eq.trans (congrFun ?_ _) (key.trans ?_)
    · congr 1
      · exact congr (congr (congrArg _ (e0 _ _)) (e1 _ _)) (e2 _ _)
      · exact congrArg _ (e3 _ _)
    exact congrArg₂ _ (Fin.ext (by simp only; omega)) (Fin.ext (by simp only; omega))

end

end Cert.KernelBIdeal.Block

end
-- ==== Proof.HostB.lean ====
module

public import proofs.«01_k».proof.Proof.BlockValB
public import Idealize.ShloMosaic.Lib.StableHlo.ReadAt

/-! The arrays the kernel's windows are cut from, read at an index of the arguments. -/

@[expose] public section

set_option maxRecDepth 16384

noncomputable section

namespace Cert.KernelBIdeal.Block

open Cert.KernelBIdeal Cert.KernelBIdeal.Gen Idealize.ShloMosaic Idealize.ShloMosaic.TcCoe Cert.Softmax

variable (m : (ℓ : Loc nD τ sig) → Buf (Elt Ideal) ℓ)

/-- The columns up to the keys are the projections' own. -/
theorem v9_low (c : Dev nD) (r : Fin 32768) (l : ℕ) (hl : l < 4096) : V m c main_v9 (ix2 r ⟨l, by omega⟩)
    = m ((c : Thread nD τ).loc main_arg0) (ix2 r ⟨l, by omega⟩) := by
  unfold V
  simp only [hostOps0, hostOps0_1, hostOps0_2, List.flatten_cons, List.flatten_nil, List.cons_append, List.nil_append, List.append_nil]
  after_results_simp
  clean_types
  pointwise
  rw [dif_pos hl]
  after_results_simp
  clean_types
  pointwise

/-- A key head's two copies. -/
theorem v9_key (c : Dev nD) (r : Fin 32768) (k : Fin 4) (l : Fin 128) : V m c main_v9 (ix2 r ⟨4096 + 128 * (k : ℕ) + l, by omega⟩)
    = m ((c : Thread nD τ).loc main_arg0) (ix2 r ⟨4096 + 64 * (k : ℕ) + (l : ℕ) % 64, by omega⟩) := by
  unfold V
  simp only [hostOps0, hostOps0_1, hostOps0_2, List.flatten_cons, List.flatten_nil, List.cons_append, List.nil_append, List.append_nil]
  after_results_simp
  clean_types
  pointwise
  rw [dif_neg (by omega), dif_pos (by omega)]
  generalize hj : (⟨4096 + 128 * (k : ℕ) + (l : ℕ) - 4096, _⟩ : Fin 512) = j
  after_results_simp
  clean_types
  pointwise
  have hj' : (j : ℕ) = 128 * (k : ℕ) + (l : ℕ) := by rw [← hj]; simp only; omega
  have hl := l.isLt
  exact congrArg _ (congrArg₂ ix2 rfl (Fin.ext (by simp only; omega)))

/-- A value head's two copies. -/
theorem v9_val (c : Dev nD) (r : Fin 32768) (k : Fin 4) (l : Fin 128) : V m c main_v9 (ix2 r ⟨4608 + 128 * (k : ℕ) + l, by omega⟩)
    = m ((c : Thread nD τ).loc main_arg0) (ix2 r ⟨4352 + 64 * (k : ℕ) + (l : ℕ) % 64, by omega⟩) := by
  unfold V
  simp only [hostOps0, hostOps0_1, hostOps0_2, List.flatten_cons, List.flatten_nil, List.cons_append, List.nil_append, List.append_nil]
  after_results_simp
  clean_types
  pointwise
  rw [dif_neg (by omega), dif_neg (by omega)]
  generalize hj : (⟨4608 + 128 * (k : ℕ) + (l : ℕ) - 4096 - 512, _⟩ : Fin 512) = j
  after_results_simp
  clean_types
  pointwise
  have hj' : (j : ℕ) = 128 * (k : ℕ) + (l : ℕ) := by rw [← hj]; simp only; omega
  have hl := l.isLt
  exact congrArg _ (congrArg₂ ix2 rfl (Fin.ext (by simp only; omega)))

/-- The columns up to the keys are the meta tokens' projections' own. -/
theorem v19_low (c : Dev nD) (r : Fin 128) (l : ℕ) (hl : l < 4096) : V m c main_v19 (ix2 r ⟨l, by omega⟩)
    = m ((c : Thread nD τ).loc main_arg1) (ix2 r ⟨l, by omega⟩) := by
  unfold V
  simp only [hostOps0, hostOps0_1, hostOps0_2, List.flatten_cons, List.flatten_nil, List.cons_append, List.nil_append, List.append_nil]
  after_results_simp
  clean_types
  pointwise
  rw [dif_pos hl]
  after_results_simp
  clean_types
  pointwise

/-- A key head's two copies. -/
theorem v19_key (c : Dev nD) (r : Fin 128) (k : Fin 4) (l : Fin 128) : V m c main_v19 (ix2 r ⟨4096 + 128 * (k : ℕ) + l, by omega⟩)
    = m ((c : Thread nD τ).loc main_arg1) (ix2 r ⟨4096 + 64 * (k : ℕ) + (l : ℕ) % 64, by omega⟩) := by
  unfold V
  simp only [hostOps0, hostOps0_1, hostOps0_2, List.flatten_cons, List.flatten_nil, List.cons_append, List.nil_append, List.append_nil]
  after_results_simp
  clean_types
  pointwise
  rw [dif_neg (by omega), dif_pos (by omega)]
  generalize hj : (⟨4096 + 128 * (k : ℕ) + (l : ℕ) - 4096, _⟩ : Fin 512) = j
  after_results_simp
  clean_types
  pointwise
  have hj' : (j : ℕ) = 128 * (k : ℕ) + (l : ℕ) := by rw [← hj]; simp only; omega
  have hl := l.isLt
  exact congrArg _ (congrArg₂ ix2 rfl (Fin.ext (by simp only; omega)))

/-- A value head's two copies. -/
theorem v19_val (c : Dev nD) (r : Fin 128) (k : Fin 4) (l : Fin 128) : V m c main_v19 (ix2 r ⟨4608 + 128 * (k : ℕ) + l, by omega⟩)
    = m ((c : Thread nD τ).loc main_arg1) (ix2 r ⟨4352 + 64 * (k : ℕ) + (l : ℕ) % 64, by omega⟩) := by
  unfold V
  simp only [hostOps0, hostOps0_1, hostOps0_2, List.flatten_cons, List.flatten_nil, List.cons_append, List.nil_append, List.append_nil]
  after_results_simp
  clean_types
  pointwise
  rw [dif_neg (by omega), dif_neg (by omega)]
  generalize hj : (⟨4608 + 128 * (k : ℕ) + (l : ℕ) - 4096 - 512, _⟩ : Fin 512) = j
  after_results_simp
  clean_types
  pointwise
  have hj' : (j : ℕ) = 128 * (k : ℕ) + (l : ℕ) := by rw [← hj]; simp only; omega
  have hl := l.isLt
  exact congrArg _ (congrArg₂ ix2 rfl (Fin.ext (by simp only; omega)))

theorem lt16 : ∀ l : Fin 128, IntOp.cmpi CmpIPredicate.slt (BitVec.ofNat 32 ↑l) 16#32 = BitVec.ofBool (decide ((l : ℕ) < 16)) := by
  decide +kernel

/-- The mask of the meta rows: the padding's is `⊥`. -/
theorem v26_at (c : Dev nD) (l : Fin 128) : (V m c main_v26 : FVec Ideal S1x128 .f32) (ix2 0 l) = if (l : ℕ) < 16 then (0 : EReal) else ⊥ := by
  unfold V
  after_reads_at
  pointwise [id]
  rw [lt16, select_ofBool, ofBits_neg_inf]

theorem v20_at (c : Dev nD) (l : Fin 16) : V m c main_v20 (ix1 l) = m ((c : Thread nD τ).loc main_arg2) (ix2 0 l) := by
  unfold V
  after_reads_at

end Cert.KernelBIdeal.Block

end
-- ==== Proof.SpecB.lean ====
module

public import proofs.«01_k».proof.Proof.Softmax

/-! The windowed attention, as a function of the layer's projections: the value both programs compute. -/

@[expose] public section

set_option maxRecDepth 16384

noncomputable section

namespace Cert.SpecB

open Idealize.ShloMosaic Cert.Softmax

/-- Row `p` of an image's 2048 (any row for a `p` outside them). -/
abbrev krow (p : ℤ) : Fin 2048 := ⟨p.toNat % 2048, Nat.mod_lt _ (by omega)⟩

/-- Row `p` of the image that row `r` lies in. -/
abbrev imageRow (r : Fin 32768) (p : ℤ) : Fin 32768 := ⟨2048 * ((r : ℕ) / 2048) + (krow p : ℕ), by omega⟩

variable (A : Vec Ideal ⟨2, ![32768, 4608]⟩ .bf16) (B : Vec Ideal ⟨2, ![128, 4608]⟩ .bf16) (S : Vec Ideal ⟨2, ![1, 16]⟩ .f32)

/-- The score of a query (row `r`, the head of column `c`) and a row of keys. -/
def score (r : Fin 32768) (c : Fin 1024) (p : ℤ) : EReal :=
  ∑ d : Fin 64, A (ix2 r ⟨3072 + 64 * ((c : ℕ) / 64) + d, by omega⟩) * A (ix2 (imageRow r p) ⟨4096 + 64 * ((c : ℕ) / 256) + d, by omega⟩)

/-- The score of a query and a meta token's key. -/
def metaScore (r : Fin 32768) (c : Fin 1024) (i : Fin 16) : EReal :=
  ∑ d : Fin 64, A (ix2 r ⟨3072 + 64 * ((c : ℕ) / 64) + d, by omega⟩) * B (ix2 ⟨i, by omega⟩ ⟨4096 + 64 * ((c : ℕ) / 256) + d, by omega⟩)

/-- The result: attention within 128 rows, over the meta tokens, and with the head's sink in the normaliser. -/
def value (r : Fin 32768) (c : Fin 1024) : EReal :=
  attn (score A r c) (fun p => A (ix2 (imageRow r p) ⟨4352 + 64 * ((c : ℕ) / 256) + (c : ℕ) % 64, by omega⟩))
    (max 0 (((r : ℕ) % 2048 : ℕ) - 128 : ℤ)) (min 2047 (((r : ℕ) % 2048 : ℕ) + 128 : ℤ)) (metaScore A B r c)
    (fun i => B (ix2 ⟨i, by omega⟩ ⟨4352 + 64 * ((c : ℕ) / 256) + (c : ℕ) % 64, by omega⟩)) (S (ix2 0 ⟨(c : ℕ) / 64, by omega⟩))

end Cert.SpecB

end
-- ==== Proof.ArrayB.lean ====
module

public import proofs.«01_k».proof.Proof.HostB
public import proofs.«01_k».proof.Proof.SpecB

/-! The kernel's result array. -/

@[expose] public section

set_option maxRecDepth 16384

noncomputable section

namespace Cert.KernelBIdeal.Block

open Cert.KernelBIdeal Cert.KernelBIdeal.Gen Cert.KernelBIdeal.Value Idealize.ShloMosaic Idealize.ShloMosaic.TcCoe Cert.Softmax

variable (m : (ℓ : Loc nD τ sig) → Buf (Elt Ideal) ℓ)

/-- The arguments. -/
abbrev argA (c : Dev nD) : Vec Ideal ⟨2, ![32768, 4608]⟩ .bf16 := m ((c : Thread nD τ).loc main_arg0)
abbrev argB (c : Dev nD) : Vec Ideal ⟨2, ![128, 4608]⟩ .bf16 := m ((c : Thread nD τ).loc main_arg1)
abbrev argS (c : Dev nD) : Vec Ideal ⟨2, ![1, 16]⟩ .f32 := m ((c : Thread nD τ).loc main_arg2)

theorem t_lt (t : Fin cfg0.N) : (t : ℕ) < 64 := t.isLt

theorem coord_at : ∀ t : Fin grid0.N, (grid0.coords t 1 : ℕ) = (t : ℕ) % 4 := by
  decide +kernel

theorem idx1 : ∀ t : Fin grid0.N, win0_1.index t 0 = (t : ℕ) / 4 ∧ win0_1.index t 1 = 12 + (t : ℕ) % 4 := by
  decide +kernel

/-- Window 1's block of its array. -/
theorem blk1_at (c : Dev nD) (t : Fin cfg0.N) (p : Fin 2048) (l : Fin 256) :
    iblk m c 1 t (ix2 p l) = V m c main_v9 (ix2 ⟨((t : ℕ) / 4) * 2048 + p, by have := t_lt t; omega⟩ ⟨(12 + (t : ℕ) % 4) * 256 + l, by omega⟩) := by
  have h := idx1 t
  unfold iblk
  blk_simp
  refine congrArg _ (funext fun a => Fin.ext ?_)
  match a with
  | ⟨0, _⟩ => blk_simp [h]
  | ⟨1, _⟩ => blk_simp [h]

theorem idx2 : ∀ t : Fin grid0.N, win0_2.index t 0 = (t : ℕ) / 4 ∧ win0_2.index t 1 = 32 + (t : ℕ) % 4 := by
  decide +kernel

/-- Window 2's block of its array. -/
theorem blk2_at (c : Dev nD) (t : Fin cfg0.N) (p : Fin 2048) (l : Fin 128) :
    iblk m c 2 t (ix2 p l) = V m c main_v9 (ix2 ⟨((t : ℕ) / 4) * 2048 + p, by have := t_lt t; omega⟩ ⟨(32 + (t : ℕ) % 4) * 128 + l, by omega⟩) := by
  have h := idx2 t
  unfold iblk
  blk_simp
  refine congrArg _ (funext fun a => Fin.ext ?_)
  match a with
  | ⟨0, _⟩ => blk_simp [h]
  | ⟨1, _⟩ => blk_simp [h]

theorem idx3 : ∀ t : Fin grid0.N, win0_3.index t 0 = (t : ℕ) / 4 ∧ win0_3.index t 1 = 36 + (t : ℕ) % 4 := by
  decide +kernel

/-- Window 3's block of its array. -/
theorem blk3_at (c : Dev nD) (t : Fin cfg0.N) (p : Fin 2048) (l : Fin 128) :
    iblk m c 3 t (ix2 p l) = V m c main_v9 (ix2 ⟨((t : ℕ) / 4) * 2048 + p, by have := t_lt t; omega⟩ ⟨(36 + (t : ℕ) % 4) * 128 + l, by omega⟩) := by
  have h := idx3 t
  unfold iblk
  blk_simp
  refine congrArg _ (funext fun a => Fin.ext ?_)
  match a with
  | ⟨0, _⟩ => blk_simp [h]
  | ⟨1, _⟩ => blk_simp [h]

theorem idx4 : ∀ t : Fin grid0.N, win0_4.index t 0 = 0 ∧ win0_4.index t 1 = 32 + (t : ℕ) % 4 := by
  decide +kernel

/-- Window 4's block of its array. -/
theorem blk4_at (c : Dev nD) (t : Fin cfg0.N) (p : Fin 128) (l : Fin 128) :
    iblk m c 4 t (ix2 p l) = V m c main_v19 (ix2 ⟨(0) * 128 + p, by have := t_lt t; omega⟩ ⟨(32 + (t : ℕ) % 4) * 128 + l, by omega⟩) := by
  have h := idx4 t
  unfold iblk
  blk_simp
  refine congrArg _ (funext fun a => Fin.ext ?_)
  match a with
  | ⟨0, _⟩ => blk_simp [h]
  | ⟨1, _⟩ => blk_simp [h]

theorem idx5 : ∀ t : Fin grid0.N, win0_5.index t 0 = 0 ∧ win0_5.index t 1 = 36 + (t : ℕ) % 4 := by
  decide +kernel

/-- Window 5's block of its array. -/
theorem blk5_at (c : Dev nD) (t : Fin cfg0.N) (p : Fin 128) (l : Fin 128) :
    iblk m c 5 t (ix2 p l) = V m c main_v19 (ix2 ⟨(0) * 128 + p, by have := t_lt t; omega⟩ ⟨(36 + (t : ℕ) % 4) * 128 + l, by omega⟩) := by
  have h := idx5 t
  unfold iblk
  blk_simp
  refine congrArg _ (funext fun a => Fin.ext ?_)
  match a with
  | ⟨0, _⟩ => blk_simp [h]
  | ⟨1, _⟩ => blk_simp [h]

theorem idx6 : ∀ t : Fin grid0.N, win0_6.index t 0 = 0 ∧ win0_6.index t 1 = 0 := by
  decide +kernel

/-- Window 6's block of its array. -/
theorem blk6_at (c : Dev nD) (t : Fin cfg0.N) (p : Fin 1) (l : Fin 128) :
    iblk m c 6 t (ix2 p l) = V m c main_v26 (ix2 ⟨(0) * 1 + p, by have := t_lt t; omega⟩ ⟨(0) * 128 + l, by omega⟩) := by
  have h := idx6 t
  unfold iblk
  blk_simp
  refine congrArg _ (funext fun a => Fin.ext ?_)
  match a with
  | ⟨0, _⟩ => blk_simp [h]; rfl
  | ⟨1, _⟩ => blk_simp [h]

theorem idx0 : ∀ t : Fin grid0.N, win0_0.index t 0 = 0 := by
  decide +kernel

theorem blk0_at (c : Dev nD) (t : Fin cfg0.N) (l : Fin 16) : iblk m c 0 t (ix1 l) = V m c main_v20 (ix1 l) := by
  have h := idx0 t
  unfold iblk
  blk_simp
  refine congrArg _ (funext fun a => Fin.ext ?_)
  match a with
  | ⟨0, _⟩ => blk_simp [h]

theorem idx7 : ∀ t : Fin grid0.N, win0_7.index t 0 = (t : ℕ) / 4 ∧ win0_7.index t 1 = (t : ℕ) % 4 := by
  decide +kernel

/-- A block's element is the specified one. -/
theorem block_value (c : Dev nD) (t : Fin cfg0.N) (r : Fin 2048) (l : Fin 256) (R : Fin 32768) (C : Fin 1024)
    (hR : (R : ℕ) = (t : ℕ) / 4 * 2048 + r) (hC : (C : ℕ) = (t : ℕ) % 4 * 256 + l) :
    blockAt ⟨grid0.coords t 1, (grid0.coords t 1).isLt⟩ (iblk m c 0 t) (iblk m c 1 t) (iblk m c 2 t) (iblk m c 3 t) (iblk m c 4 t) (iblk m c 5 t) r l
      = SpecB.value (argA m c) (argB m c) (argS m c) R C := by
  have ht := t_lt t
  have hr := r.isLt
  have hl := l.isLt
  have hco := coord_at t
  unfold blockAt SpecB.value
  have hq : ∀ d : Fin 64, iblk m c 1 t (ix2 r ⟨64 * ((l : ℕ) / 64) + d, by omega⟩) = argA m c (ix2 R ⟨3072 + 64 * ((C : ℕ) / 64) + d, by omega⟩) := fun d => by
    rw [blk1_at]
    refine (congrArg _ (congrArg₂ ix2 (Fin.ext ?_) (Fin.ext ?_))).trans ((v9_low m c R (3072 + 64 * ((C : ℕ) / 64) + d) (by omega)))
    · simp only; omega
    · simp only; omega
  have hk : ∀ (p : ℤ) (d : Fin 64), iblk m c 2 t (ix2 (krow p) ⟨64 * ((l : ℕ) / 64 % 2) + d, by omega⟩) = argA m c (ix2 (SpecB.imageRow R p) ⟨4096 + 64 * ((C : ℕ) / 256) + d, by omega⟩) := fun p d => by
    rw [blk2_at]
    refine (congrArg _ (congrArg₂ ix2 (Fin.ext ?_) (Fin.ext ?_))).trans ((v9_key m c (SpecB.imageRow R p) ⟨(C : ℕ) / 256, by omega⟩ ⟨64 * ((l : ℕ) / 64 % 2) + d, by omega⟩).trans (congrArg _ (congrArg₂ ix2 rfl (Fin.ext ?_))))
    · simp only; omega
    · simp only; omega
    · simp only; omega
  have hv : ∀ (p : ℤ), iblk m c 3 t (ix2 (krow p) ⟨(l : ℕ) % 128, by omega⟩) = argA m c (ix2 (SpecB.imageRow R p) ⟨4352 + 64 * ((C : ℕ) / 256) + (C : ℕ) % 64, by omega⟩) := fun p => by
    rw [blk3_at]
    refine (congrArg _ (congrArg₂ ix2 (Fin.ext ?_) (Fin.ext ?_))).trans ((v9_val m c (SpecB.imageRow R p) ⟨(C : ℕ) / 256, by omega⟩ ⟨(l : ℕ) % 128, by omega⟩).trans (congrArg _ (congrArg₂ ix2 rfl (Fin.ext ?_))))
    · simp only; omega
    · simp only; omega
    · simp only; omega
  have hkm : ∀ (i : Fin 16) (d : Fin 64), iblk m c 4 t (ix2 ⟨i, by omega⟩ ⟨64 * ((l : ℕ) / 64 % 2) + d, by omega⟩) = argB m c (ix2 ⟨i, by omega⟩ ⟨4096 + 64 * ((C : ℕ) / 256) + d, by omega⟩) := fun i d => by
    rw [blk4_at]
    refine (congrArg _ (congrArg₂ ix2 (Fin.ext ?_) (Fin.ext ?_))).trans ((v19_key m c ⟨i, by omega⟩ ⟨(C : ℕ) / 256, by omega⟩ ⟨64 * ((l : ℕ) / 64 % 2) + d, by omega⟩).trans (congrArg _ (congrArg₂ ix2 rfl (Fin.ext ?_))))
    · simp only; omega
    · simp only; omega
    · simp only; omega
  have hvm : ∀ (i : Fin 16), iblk m c 5 t (ix2 ⟨i, by omega⟩ ⟨(l : ℕ) % 128, by omega⟩) = argB m c (ix2 ⟨i, by omega⟩ ⟨4352 + 64 * ((C : ℕ) / 256) + (C : ℕ) % 64, by omega⟩) := fun i => by
    rw [blk5_at]
    refine (congrArg _ (congrArg₂ ix2 (Fin.ext ?_) (Fin.ext ?_))).trans ((v19_val m c ⟨i, by omega⟩ ⟨(C : ℕ) / 256, by omega⟩ ⟨(l : ℕ) % 128, by omega⟩).trans (congrArg _ (congrArg₂ ix2 rfl (Fin.ext ?_))))
    · simp only; omega
    · simp only; omega
    · simp only; omega
  have hs : iblk m c 0 t (ix1 ⟨4 * (grid0.coords t 1 : ℕ) + (l : ℕ) / 64, by omega⟩) = argS m c (ix2 0 ⟨(C : ℕ) / 64, by omega⟩) := by
    rw [blk0_at]
    refine (v20_at m c _).trans (congrArg _ (congrArg₂ ix2 rfl (Fin.ext ?_)))
    simp only; omega
  have hmod : (R : ℕ) % 2048 = r := by omega
  unfold SpecB.score SpecB.metaScore
  rw [hmod]
  simp only [← hq, ← hk, ← hv, ← hkm, ← hvm, ← hs]

/-- The array the kernel leaves. -/
theorem array_eq (c : Dev nD) : (dats m 0 c).arrAt 7 cfg0.N = fun y => SpecB.value (argA m c) (argB m c) (argS m c) (y 0) (y 1) := by
  refine (dats m 0 c).arrAt_eq_of_covers 7 _ (by decide +kernel) fun t hf y => ?_
  have h := idx7 t
  blk_simp
  rw [after0_7]
  unfold outsAt0
  have hy : y = ix2 (n0 := 2048) (n1 := 256) (y 0) (y 1) := eq_ix2 y
  have hb : ∀ e : Fin 128, (iblk m c 6 t : Vec Ideal S1x128 .f32) (ix2 0 e) = if (e : ℕ) < 16 then (0 : EReal) else ⊥ := by
    intro e
    rw [blk6_at]
    refine Eq.trans (congrArg _ (congrArg₂ ix2 (Fin.ext ?_) (Fin.ext ?_))) (v26_at m c e)
    · rfl
    · simp
  refine (congrArg _ hy).trans ((out_at c _ _ _ _ _ _ _ _ _ _ _ _ _ _ _ _ _ _ _ _ _ _ _ _ hb (y 0) (y 1)).trans ?_)
  · refine block_value m c t (y 0) (y 1) _ _ ?_ ?_
    · blk_simp [h]
    · blk_simp [h]

end Cert.KernelBIdeal.Block

end
-- ==== Proof.RefB.lean ====
module

public import proofs.«01_k».proof.Proof.SpecB
public import proofs.«01_k».proof.Proof.Gen.ReferenceBIdeal.Run

/-! The reference's result in steps, each an array of its own. -/

@[expose] public section

set_option maxRecDepth 16384

noncomputable section

namespace Cert.ReferenceBIdeal.Block

open Cert.ReferenceBIdeal Cert.ReferenceBIdeal.Gen Cert.ReferenceBIdeal.Value Idealize.ShloMosaic Idealize.ShloMosaic.TcCoe

/-- The queries by image, block, row, key head, query head and element. -/
def queries (A : FVec Ideal S32768x4608 .bf16) : FVec Ideal S16x16x128x4x4x64 .bf16 :=
  (shapeCast _ (extractStridedSlice S32768x1024 ![0, 3072] A slices_S32768x4608_S32768x1024_0_3072) shapeCasts_S32768x1024_S16x16x128x4x4x64)

/-- The meta tokens' keys. -/
def metaKeys (B : FVec Ideal S128x4608 .bf16) : FVec Ideal S16x4x64 .bf16 :=
  (shapeCast _ (extractStridedSlice S16x256 ![0, 4096] B slices_S128x4608_S16x256_0_4096) shapeCasts_S16x256_S16x4x64)

/-- The meta tokens' values. -/
def metaValues (B : FVec Ideal S128x4608 .bf16) : FVec Ideal S16x4x64 .bf16 :=
  (shapeCast _ (extractStridedSlice S16x256 ![0, 4352] B slices_S128x4608_S16x256_0_4352) shapeCasts_S16x256_S16x4x64)

/-- The sinks by key head and query head. -/
def sinks (S : FVec Ideal S1x16 .f32) : FVec Ideal S4x4 .f32 :=
  (shapeCast _ (shapeCast _ S shapeCasts_S1x16_S16) shapeCasts_S16_S4x4)

/-- The keys of a block and its two neighbours. -/
def keyBand (A : FVec Ideal S32768x4608 .bf16) : FVec Ideal S16x16x384x4x64 .bf16 :=
  (concatenate S16x16x384x4x64 2 [⟨S16x16x128x4x64, ((extractStridedSlice S16x16x128x4x64 ![0, 0, 0, 0, 0] (pad S16x18x128x4x64 ![0, 1, 0, 0, 0] ![0, 1, 0, 0, 0] ![0, 0, 0, 0, 0] (shapeCast _ (extractStridedSlice S32768x256 ![0, 4096] A slices_S32768x4608_S32768x256_0_4096) shapeCasts_S32768x256_S16x16x128x4x64) (sitofp (F := Ideal) .bf16 (constantI S_ 32 0#32)) pads_S16x16x128x4x64_S16x18x128x4x64_000_110_000_000_000 h_S_) slices_S16x18x128x4x64_S16x16x128x4x64_0_0_0_0_0) : (⟨S16x16x128x4x64, .bf16⟩ : BufTy).Contents (Elt Ideal))⟩, ⟨S16x16x128x4x64, ((extractStridedSlice S16x16x128x4x64 ![0, 1, 0, 0, 0] (pad S16x18x128x4x64 ![0, 1, 0, 0, 0] ![0, 1, 0, 0, 0] ![0, 0, 0, 0, 0] (shapeCast _ (extractStridedSlice S32768x256 ![0, 4096] A slices_S32768x4608_S32768x256_0_4096) shapeCasts_S32768x256_S16x16x128x4x64) (sitofp (F := Ideal) .bf16 (constantI S_ 32 0#32)) pads_S16x16x128x4x64_S16x18x128x4x64_000_110_000_000_000 h_S_) slices_S16x18x128x4x64_S16x16x128x4x64_0_1_0_0_0) : (⟨S16x16x128x4x64, .bf16⟩ : BufTy).Contents (Elt Ideal))⟩, ⟨S16x16x128x4x64, ((extractStridedSlice S16x16x128x4x64 ![0, 2, 0, 0, 0] (pad S16x18x128x4x64 ![0, 1, 0, 0, 0] ![0, 1, 0, 0, 0] ![0, 0, 0, 0, 0] (shapeCast _ (extractStridedSlice S32768x256 ![0, 4096] A slices_S32768x4608_S32768x256_0_4096) shapeCasts_S32768x256_S16x16x128x4x64) (sitofp (F := Ideal) .bf16 (constantI S_ 32 0#32)) pads_S16x16x128x4x64_S16x18x128x4x64_000_110_000_000_000 h_S_) slices_S16x18x128x4x64_S16x16x128x4x64_0_2_0_0_0) : (⟨S16x16x128x4x64, .bf16⟩ : BufTy).Contents (Elt Ideal))⟩] concatenates_S16x16x128x4x64_S16x16x128x4x64_S16x16x128x4x64_S16x16x384x4x64_d2 : (⟨S16x16x384x4x64, .bf16⟩ : BufTy).Contents (Elt Ideal))

/-- The values of a block and its two neighbours. -/
def valueBand (A : FVec Ideal S32768x4608 .bf16) : FVec Ideal S16x16x384x4x64 .bf16 :=
  (concatenate S16x16x384x4x64 2 [⟨S16x16x128x4x64, ((extractStridedSlice S16x16x128x4x64 ![0, 0, 0, 0, 0] (pad S16x18x128x4x64 ![0, 1, 0, 0, 0] ![0, 1, 0, 0, 0] ![0, 0, 0, 0, 0] (shapeCast _ (extractStridedSlice S32768x256 ![0, 4352] A slices_S32768x4608_S32768x256_0_4352) shapeCasts_S32768x256_S16x16x128x4x64) (sitofp (F := Ideal) .bf16 (constantI S_ 32 0#32)) pads_S16x16x128x4x64_S16x18x128x4x64_000_110_000_000_000 h_S_) slices_S16x18x128x4x64_S16x16x128x4x64_0_0_0_0_0) : (⟨S16x16x128x4x64, .bf16⟩ : BufTy).Contents (Elt Ideal))⟩, ⟨S16x16x128x4x64, ((extractStridedSlice S16x16x128x4x64 ![0, 1, 0, 0, 0] (pad S16x18x128x4x64 ![0, 1, 0, 0, 0] ![0, 1, 0, 0, 0] ![0, 0, 0, 0, 0] (shapeCast _ (extractStridedSlice S32768x256 ![0, 4352] A slices_S32768x4608_S32768x256_0_4352) shapeCasts_S32768x256_S16x16x128x4x64) (sitofp (F := Ideal) .bf16 (constantI S_ 32 0#32)) pads_S16x16x128x4x64_S16x18x128x4x64_000_110_000_000_000 h_S_) slices_S16x18x128x4x64_S16x16x128x4x64_0_1_0_0_0) : (⟨S16x16x128x4x64, .bf16⟩ : BufTy).Contents (Elt Ideal))⟩, ⟨S16x16x128x4x64, ((extractStridedSlice S16x16x128x4x64 ![0, 2, 0, 0, 0] (pad S16x18x128x4x64 ![0, 1, 0, 0, 0] ![0, 1, 0, 0, 0] ![0, 0, 0, 0, 0] (shapeCast _ (extractStridedSlice S32768x256 ![0, 4352] A slices_S32768x4608_S32768x256_0_4352) shapeCasts_S32768x256_S16x16x128x4x64) (sitofp (F := Ideal) .bf16 (constantI S_ 32 0#32)) pads_S16x16x128x4x64_S16x18x128x4x64_000_110_000_000_000 h_S_) slices_S16x18x128x4x64_S16x16x128x4x64_0_2_0_0_0) : (⟨S16x16x128x4x64, .bf16⟩ : BufTy).Contents (Elt Ideal))⟩] concatenates_S16x16x128x4x64_S16x16x128x4x64_S16x16x128x4x64_S16x16x384x4x64_d2 : (⟨S16x16x384x4x64, .bf16⟩ : BufTy).Contents (Elt Ideal))

/-- Which of the 384 rows a query attends to. -/
def inWindow  : Vec Ideal S16x128x384 .i1 :=
  (andi (broadcastInDim S16x128x384 ![0, 1, 2] bcast_S16x1x384_S16x128x384_0_1_2 (andi (cmpi .sge (addi (broadcastInDim S16x1x384 ![0, 1, 2] bcast_S16x1x1_S16x1x384_0_1_2 (muli (subi (broadcastInDim S16x1x1 ![0] bcast_S16_S16x1x1_0 (iotaInDim S16 32 0)) (broadcastInDim S16x1x1 ![] bcast_S_S16x1x1 (constantI S_ 32 1#32))) (broadcastInDim S16x1x1 ![] bcast_S_S16x1x1 (constantI S_ 32 128#32)))) (broadcastInDim S16x1x384 ![0, 1, 2] bcast_S1x1x384_S16x1x384_0_1_2 (broadcastInDim S1x1x384 ![2] bcast_S384_S1x1x384_2 (iotaInDim S384 32 0)))) (broadcastInDim S16x1x384 ![] bcast_S_S16x1x384 (constantI S_ 32 0#32))) (cmpi .slt (addi (broadcastInDim S16x1x384 ![0, 1, 2] bcast_S16x1x1_S16x1x384_0_1_2 (muli (subi (broadcastInDim S16x1x1 ![0] bcast_S16_S16x1x1_0 (iotaInDim S16 32 0)) (broadcastInDim S16x1x1 ![] bcast_S_S16x1x1 (constantI S_ 32 1#32))) (broadcastInDim S16x1x1 ![] bcast_S_S16x1x1 (constantI S_ 32 128#32)))) (broadcastInDim S16x1x384 ![0, 1, 2] bcast_S1x1x384_S16x1x384_0_1_2 (broadcastInDim S1x1x384 ![2] bcast_S384_S1x1x384_2 (iotaInDim S384 32 0)))) (broadcastInDim S16x1x384 ![] bcast_S_S16x1x384 (constantI S_ 32 2048#32))))) (cmpi .sle (absi (subi (broadcastInDim S16x128x384 ![0, 1, 2] bcast_S16x1x384_S16x128x384_0_1_2 (addi (broadcastInDim S16x1x384 ![0, 1, 2] bcast_S16x1x1_S16x1x384_0_1_2 (muli (subi (broadcastInDim S16x1x1 ![0] bcast_S16_S16x1x1_0 (iotaInDim S16 32 0)) (broadcastInDim S16x1x1 ![] bcast_S_S16x1x1 (constantI S_ 32 1#32))) (broadcastInDim S16x1x1 ![] bcast_S_S16x1x1 (constantI S_ 32 128#32)))) (broadcastInDim S16x1x384 ![0, 1, 2] bcast_S1x1x384_S16x1x384_0_1_2 (broadcastInDim S1x1x384 ![2] bcast_S384_S1x1x384_2 (iotaInDim S384 32 0))))) (broadcastInDim S16x128x384 ![0, 1, 2] bcast_S16x128x1_S16x128x384_0_1_2 (addi (broadcastInDim S16x128x1 ![0, 1, 2] bcast_S16x1x1_S16x128x1_0_1_2 (muli (broadcastInDim S16x1x1 ![0] bcast_S16_S16x1x1_0 (iotaInDim S16 32 0)) (broadcastInDim S16x1x1 ![] bcast_S_S16x1x1 (constantI S_ 32 128#32)))) (broadcastInDim S16x128x1 ![0, 1, 2] bcast_S1x128x1_S16x128x1_0_1_2 (broadcastInDim S1x128x1 ![1] bcast_S128_S1x128x1_1 (iotaInDim S128 32 0))))))) (broadcastInDim S16x128x384 ![] bcast_S_S16x128x384 (constantI S_ 32 128#32))))

/-- The scores: the band's, the meta tokens' and the sink. -/
def scores (A : FVec Ideal S32768x4608 .bf16) (B : FVec Ideal S128x4608 .bf16) (S : FVec Ideal S1x16 .f32) : FVec Ideal S16x4x4x16x128x401 .f32 :=
  (concatenate S16x4x4x16x128x401 5 [⟨S16x4x4x16x128x384, ((select (broadcastInDim S16x4x4x16x128x384 ![0, 1, 2, 3, 4, 5] bcast_S1x1x1x16x128x384_S16x4x4x16x128x384_0_1_2_3_4_5 (broadcastInDim S1x1x1x16x128x384 ![3, 4, 5] bcast_S16x128x384_S1x1x1x16x128x384_3_4_5 inWindow)) (transpose S16x4x4x16x128x384 [0, 1, 5, 2, 4, 3] (Host.dotGeneral (F := Ideal) dot_S16x16x384x4x64_S16x16x128x4x4x64_S16x4x16x384x128x4_4_5_2_24_031_031 none ((keyBand A)) (queries A)) transposes_S16x4x16x384x128x4_S16x4x4x16x128x384_0_1_5_2_4_3) (broadcastInDim S16x4x4x16x128x384 ![] bcast_S_S16x4x4x16x128x384 (id (constant (F := Ideal) S_ .f32 0xFF800000#32)))) : (⟨S16x4x4x16x128x384, .f32⟩ : BufTy).Contents (Elt Ideal))⟩, ⟨S16x4x4x16x128x16, ((transpose S16x4x4x16x128x16 [2, 0, 5, 3, 4, 1] (Host.dotGeneral (F := Ideal) dot_S16x4x64_S16x16x128x4x4x64_S4x16x16x16x128x4_2_5_0_0124_1_3 none (metaKeys B) (queries A)) transposes_S4x16x16x16x128x4_S16x4x4x16x128x16_2_0_5_3_4_1) : (⟨S16x4x4x16x128x16, .f32⟩ : BufTy).Contents (Elt Ideal))⟩, ⟨S16x4x4x16x128x1, ((broadcastInDim S16x4x4x16x128x1 ![0, 1, 2, 3, 4, 5] bcast_S1x4x4x1x1x1_S16x4x4x16x128x1_0_1_2_3_4_5 (broadcastInDim S1x4x4x1x1x1 ![1, 2] bcast_S4x4_S1x4x4x1x1x1_1_2 (sinks S))) : (⟨S16x4x4x16x128x1, .f32⟩ : BufTy).Contents (Elt Ideal))⟩] concatenates_S16x4x4x16x128x384_S16x4x4x16x128x16_S16x4x4x16x128x1_S16x4x4x16x128x401_d5 : (⟨S16x4x4x16x128x401, .f32⟩ : BufTy).Contents (Elt Ideal))

/-- The largest score of a row. -/
def rowMax (A : FVec Ideal S32768x4608 .bf16) (B : FVec Ideal S128x4608 .bf16) (S : FVec Ideal S1x16 .f32) : FVec Ideal S16x4x4x16x128 .f32 :=
  (maximumf (broadcastInDim S16x4x4x16x128 ![] bcast_S_S16x4x4x16x128 (constant (F := Ideal) S_ .f32 0xFF800000#32)) (Host.reduce FloatOps.maximumf ((scores A B S)) (constant (F := Ideal) S_ .f32 0xFF800000#32) reducesTo_S16x4x4x16x128x401_S16x4x4x16x128_d5 h_S_))

/-- The exponentials. -/
def weights (A : FVec Ideal S32768x4608 .bf16) (B : FVec Ideal S128x4608 .bf16) (S : FVec Ideal S1x16 .f32) : FVec Ideal S16x4x4x16x128x401 .f32 :=
  (Host.exp (subf ((scores A B S)) (broadcastInDim S16x4x4x16x128x401 ![0, 1, 2, 3, 4, 5] bcast_S16x4x4x16x128x1_S16x4x4x16x128x401_0_1_2_3_4_5 (broadcastInDim S16x4x4x16x128x1 ![0, 1, 2, 3, 4] bcast_S16x4x4x16x128_S16x4x4x16x128x1_0_1_2_3_4 (rowMax A B S)))))

/-- A row's normaliser. -/
def total (A : FVec Ideal S32768x4608 .bf16) (B : FVec Ideal S128x4608 .bf16) (S : FVec Ideal S1x16 .f32) : FVec Ideal S16x4x4x16x128 .f32 :=
  (Host.reduceAdd (weights A B S) (constant (F := Ideal) S_ .f32 0x00000000#32) reducesTo_S16x4x4x16x128x401_S16x4x4x16x128_d5 h_S_)

/-- The weights over the normaliser. -/
def probs (A : FVec Ideal S32768x4608 .bf16) (B : FVec Ideal S128x4608 .bf16) (S : FVec Ideal S1x16 .f32) : FVec Ideal S16x4x4x16x128x401 .bf16 :=
  (truncf .bf16 (Host.divf (weights A B S) (broadcastInDim S16x4x4x16x128x401 ![0, 1, 2, 3, 4, 5] bcast_S16x4x4x16x128x1_S16x4x4x16x128x401_0_1_2_3_4_5 (broadcastInDim S16x4x4x16x128x1 ![0, 1, 2, 3, 4] bcast_S16x4x4x16x128_S16x4x4x16x128x1_0_1_2_3_4 (total A B S)))) bitsLt_bf16_f32)

/-- The result. -/
def result (A : FVec Ideal S32768x4608 .bf16) (B : FVec Ideal S128x4608 .bf16) (S : FVec Ideal S1x16 .f32) : FVec Ideal S32768x1024 .bf16 :=
  truncf .bf16 (shapeCast _ (addf (transpose S16x16x128x4x4x64 [0, 1, 5, 2, 4, 3] (Host.dotGeneral (F := Ideal) dot_S16x16x384x4x64_S16x4x4x16x128x384_S16x16x4x64x4x128_2_5_4_24_013_031 none ((valueBand A)) (extractStridedSlice S16x4x4x16x128x384 ![0, 0, 0, 0, 0, 0] (probs A B S) slices_S16x4x4x16x128x401_S16x4x4x16x128x384_0_0_0_0_0_0)) transposes_S16x16x4x64x4x128_S16x16x128x4x4x64_0_1_5_2_4_3) (transpose S16x16x128x4x4x64 [2, 4, 5, 0, 3, 1] (Host.dotGeneral (F := Ideal) dot_S16x4x64_S16x4x4x16x128x16_S4x64x16x4x16x128_0_5_2_0234_1_1 none (metaValues B) (extractStridedSlice S16x4x4x16x128x16 ![0, 0, 0, 0, 0, 384] (probs A B S) slices_S16x4x4x16x128x401_S16x4x4x16x128x16_0_0_0_0_0_384)) transposes_S4x64x16x4x16x128_S16x16x128x4x4x64_2_4_5_0_3_1)) shapeCasts_S16x16x128x4x4x64_S32768x1024) bitsLt_bf16_f32

variable (m : (ℓ : Loc nD τ sig) → Buf (Elt Ideal) ℓ)

/-- The reference's result is these steps of its arguments. -/
theorem res_eq (c : Dev nD) : res_main_v82 (F := Ideal) m c
    = result (m ((c.tc : Thread nD τ).loc main_arg0)) (m ((c.tc : Thread nD τ).loc main_arg1)) (m ((c.tc : Thread nD τ).loc main_arg2)) := by
  unfold res_main_v82 result probs total weights rowMax scores queries metaKeys metaValues sinks keyBand valueBand inWindow
  rfl

end Cert.ReferenceBIdeal.Block

end
-- ==== Proof.Axis6.lean ====
module

public import Idealize.ShloMosaic.Lib.Pointwise
public import Idealize.ShloMosaic.Lib.IdealHost

/-! A sum and a maximum over the last of six axes. -/

@[expose] public section

noncomputable section

namespace Cert.Axis6

open Idealize.ShloMosaic

variable {n0 n1 n2 n3 n4 n5 : ℕ}

/-- The indices that drop to a five-axis one are that index with any last coordinate. -/
theorem fiber (h : (⟨6, ![n0, n1, n2, n3, n4, n5]⟩ : Shape).ReducesTo [5] ⟨5, ![n0, n1, n2, n3, n4]⟩)
    (a : Fin n0) (b : Fin n1) (c : Fin n2) (d : Fin n3) (e : Fin n4) (i : (⟨6, ![n0, n1, n2, n3, n4, n5]⟩ : Shape).Idx) :
    h.drop i = ix5 a b c d e ↔ ∃ k : Fin n5, ix6 a b c d e k = i := by
  constructor
  · intro w
    refine ⟨i 5, ?_⟩
    funext x; apply Fin.ext
    match x with
    | ⟨0, _⟩ => exact (congrArg Fin.val (congrFun w 0)).symm
    | ⟨1, _⟩ => exact (congrArg Fin.val (congrFun w 1)).symm
    | ⟨2, _⟩ => exact (congrArg Fin.val (congrFun w 2)).symm
    | ⟨3, _⟩ => exact (congrArg Fin.val (congrFun w 3)).symm
    | ⟨4, _⟩ => exact (congrArg Fin.val (congrFun w 4)).symm
    | ⟨5, _⟩ => rfl
  · rintro ⟨k, rfl⟩
    funext x
    apply Fin.ext
    match x with
    | ⟨0, _⟩ => rfl
    | ⟨1, _⟩ => rfl
    | ⟨2, _⟩ => rfl
    | ⟨3, _⟩ => rfl
    | ⟨4, _⟩ => rfl

theorem inj (a : Fin n0) (b : Fin n1) (c : Fin n2) (d : Fin n3) (e : Fin n4) :
    Function.Injective (fun k : Fin n5 => ix6 a b c d e k) := fun _ _ w => congrFun w 5

/-- The host's sum over the last axis. -/
theorem reduceAdd_at {u : Shape} (h : (⟨6, ![n0, n1, n2, n3, n4, n5]⟩ : Shape).ReducesTo [5] ⟨5, ![n0, n1, n2, n3, n4]⟩)
    (v : FVec Ideal ⟨6, ![n0, n1, n2, n3, n4, n5]⟩ .f32) (init : FVec Ideal u .f32) (hu : 0 < u.numel)
    (a : Fin n0) (b : Fin n1) (c : Fin n2) (d : Fin n3) (e : Fin n4) :
    Host.reduceAdd v init h hu (ix5 a b c d e) = init (Shape.Idx.first hu) + ∑ k : Fin n5, v (ix6 a b c d e k) :=
  congrArg (init (Shape.Idx.first hu) + ·) (Finset.sum_filter_eq_sum_of_fiber _ _ (inj a b c d e) (fiber h a b c d e) v)

/-- The host's maximum over the last axis. -/
theorem reduceMax_at {u : Shape} (h : (⟨6, ![n0, n1, n2, n3, n4, n5]⟩ : Shape).ReducesTo [5] ⟨5, ![n0, n1, n2, n3, n4]⟩)
    (v : FVec Ideal ⟨6, ![n0, n1, n2, n3, n4, n5]⟩ .f32) (init : FVec Ideal u .f32) (hu : 0 < u.numel)
    (a : Fin n0) (b : Fin n1) (c : Fin n2) (d : Fin n3) (e : Fin n4) :
    Host.reduce (FloatOps.maximumf (F := Ideal) (φ := .f32)) v init h hu (ix5 a b c d e)
      = Finset.univ.fold max (init (Shape.Idx.first hu)) fun k : Fin n5 => v (ix6 a b c d e k) := by
  rw [Host.reduce_eq_fold]
  exact Finset.fold_filter_eq_fold_of_fiber max _ _ (inj a b c d e) (fiber h a b c d e) _ v

end Cert.Axis6

end
-- ==== Proof.StageB.lean ====
module

public import proofs.«01_k».proof.Proof.RefB
public import proofs.«01_k».proof.Proof.Axis6
public import proofs.«01_k».proof.Proof.BlockB

/-! The reference's steps read at an index. -/

@[expose] public section

set_option maxRecDepth 16384

noncomputable section

namespace Cert.ReferenceBIdeal.Block

open Cert.ReferenceBIdeal Cert.ReferenceBIdeal.Gen Cert.ReferenceBIdeal.Value Idealize.ShloMosaic Idealize.ShloMosaic.TcCoe Cert.Softmax

variable (A : FVec Ideal S32768x4608 .bf16) (B : FVec Ideal S128x4608 .bf16) (S : FVec Ideal S1x16 .f32)

theorem queries_at (b n : Fin 16) (q : Fin 128) (k g : Fin 4) (d : Fin 64) :
    queries A (ix6 b n q k g d) = A (ix2 ⟨(b : ℕ) * 2048 + (n : ℕ) * 128 + (q : ℕ), by omega⟩ ⟨3072 + ((k : ℕ) * 256 + (g : ℕ) * 64 + (d : ℕ)), by omega⟩) := by
  pointwise [queries]

theorem metaKeys_at (i : Fin 16) (k : Fin 4) (d : Fin 64) :
    metaKeys B (ix3 i k d) = B (ix2 ⟨i, by omega⟩ ⟨4096 + ((k : ℕ) * 64 + (d : ℕ)), by omega⟩) := by
  pointwise [metaKeys]

theorem metaValues_at (i : Fin 16) (k : Fin 4) (d : Fin 64) :
    metaValues B (ix3 i k d) = B (ix2 ⟨i, by omega⟩ ⟨4352 + ((k : ℕ) * 64 + (d : ℕ)), by omega⟩) := by
  pointwise [metaValues]

theorem sinks_at (k g : Fin 4) : sinks S (ix2 k g) = S (ix2 0 ⟨(k : ℕ) * 4 + (g : ℕ), by omega⟩) := by
  pointwise [sinks]

/-- The band's row `j` is the image's row `p`, when there is one. -/
theorem keyBand_at (b n : Fin 16) (j : Fin 384) (k : Fin 4) (d : Fin 64) (p : ℕ) (hp : p + 128 = 128 * (n : ℕ) + j) (hp' : p < 2048) :
    keyBand A (ix5 b n j k d) = A (ix2 ⟨2048 * (b : ℕ) + p, by omega⟩ ⟨4096 + ((k : ℕ) * 64 + (d : ℕ)), by omega⟩) := by
  pointwise [keyBand]
  split_ifs
  all_goals first
    | (exfalso; omega)
    | exact congrArg A (congrArg₂ ix2 (Fin.ext (by simp only; omega)) rfl)

/-- The same for the values. -/
theorem valueBand_at (b n : Fin 16) (j : Fin 384) (k : Fin 4) (d : Fin 64) (p : ℕ) (hp : p + 128 = 128 * (n : ℕ) + j) (hp' : p < 2048) :
    valueBand A (ix5 b n j k d) = A (ix2 ⟨2048 * (b : ℕ) + p, by omega⟩ ⟨4352 + ((k : ℕ) * 64 + (d : ℕ)), by omega⟩) := by
  pointwise [valueBand]
  split_ifs
  all_goals first
    | (exfalso; omega)
    | exact congrArg A (congrArg₂ ix2 (Fin.ext (by simp only; omega)) rfl)

/-- The row a band's row stands for. -/
theorem band_word : ∀ n : Fin 16, ∀ j : Fin 384, IntOp.addi (IntOp.muli (IntOp.subi (BitVec.ofNat 32 ↑n) 1#32) 128#32) (BitVec.ofNat 32 ↑j)
    = BitVec.ofInt 32 (128 * (n : ℕ) - 128 + (j : ℕ) : ℤ) := by
  decide +kernel

theorem query_word : ∀ n : Fin 16, ∀ q : Fin 128, IntOp.addi (IntOp.muli (BitVec.ofNat 32 ↑n) 128#32) (BitVec.ofNat 32 ↑q)
    = BitVec.ofInt 32 (128 * (n : ℕ) + (q : ℕ) : ℤ) := by
  decide +kernel

theorem in_image : ∀ n : Fin 16, ∀ j : Fin 384, IntOp.andi (IntOp.cmpi CmpIPredicate.sge (BitVec.ofInt 32 (128 * (n : ℕ) - 128 + (j : ℕ) : ℤ)) 0#32)
      (IntOp.cmpi CmpIPredicate.slt (BitVec.ofInt 32 (128 * (n : ℕ) - 128 + (j : ℕ) : ℤ)) 2048#32)
    = BitVec.ofBool (decide ((0 : ℤ) ≤ 128 * (n : ℕ) - 128 + (j : ℕ) ∧ (128 * (n : ℕ) - 128 + (j : ℕ) : ℤ) < 2048)) := by
  decide +kernel

theorem and_ofBool : ∀ x y : Bool, IntOp.andi (BitVec.ofBool x) (BitVec.ofBool y) = BitVec.ofBool (x && y) := by decide

/-- The mask: the band's row is a row of the image, and at most 128 from the query's. -/
theorem inWindow_at (n : Fin 16) (q : Fin 128) (j : Fin 384) :
    inWindow (ix3 n q j) = BitVec.ofBool (decide (max 0 ((128 * (n : ℕ) + (q : ℕ) : ℤ) - 128) ≤ 128 * (n : ℕ) - 128 + (j : ℕ)
      ∧ (128 * (n : ℕ) - 128 + (j : ℕ) : ℤ) ≤ min 2047 ((128 * (n : ℕ) + (q : ℕ) : ℤ) + 128))) := by
  pointwise [inWindow]
  rw [band_word, query_word, in_image]
  have e : IntOp.subi (BitVec.ofInt 32 (128 * (n : ℕ) - 128 + (j : ℕ) : ℤ)) (BitVec.ofInt 32 (128 * (n : ℕ) + (q : ℕ) : ℤ))
      = BitVec.ofInt 32 ((j : ℕ) - 128 - (q : ℕ) : ℤ) := by
    generalize hu : (128 * (n : ℕ) - 128 + (j : ℕ) : ℤ) = u
    generalize hw : (128 * (n : ℕ) + (q : ℕ) : ℤ) = w
    rw [show ((j : ℕ) - 128 - (q : ℕ) : ℤ) = u + -w by omega, BitVec.ofInt_add, BitVec.ofInt_neg, ← BitVec.sub_eq_add_neg]
    rfl
  have := Cert.KernelBIdeal.Block.abs_le ⟨((j : ℕ) - 128 - (q : ℕ) + 512 : ℤ).toNat, by omega⟩
  simp only [show ((((j : ℕ) - 128 - (q : ℕ) + 512 : ℤ).toNat : ℕ) : ℤ) - 512 = (j : ℕ) - 128 - (q : ℕ) by omega] at this
  rw [e, this, and_ofBool, ← Bool.decide_and]
  refine congrArg BitVec.ofBool (decide_eq_decide.mpr ?_)
  omega

/-- The scores' band part. -/
theorem scores_band (b : Fin 16) (k g : Fin 4) (n : Fin 16) (q : Fin 128) (j : Fin 384) :
    scores A B S (ix6 b k g n q ⟨j, by omega⟩) = Scalar.select (inWindow (ix3 n q j))
        (∑ x, keyBand A (ix5 b n j k x) * queries A (ix6 b n q k g x)) ⊥ := by
  pointwise [scores]
  show Scalar.select _ _ (Ideal.ofBits .f32 0xFF800000#32) = _
  rw [Cert.KernelBIdeal.Block.ofBits_neg_inf]

/-- The scores' meta part. -/
theorem scores_meta (b : Fin 16) (k g : Fin 4) (n : Fin 16) (q : Fin 128) (i : Fin 16) :
    scores A B S (ix6 b k g n q ⟨384 + i, by omega⟩) = ∑ x, metaKeys B (ix3 i k x) * queries A (ix6 b n q k g x) := by
  pointwise [scores]

/-- The scores' last is the sink. -/
theorem scores_sink (b : Fin 16) (k g : Fin 4) (n : Fin 16) (q : Fin 128) :
    scores A B S (ix6 b k g n q ⟨400, by omega⟩) = sinks S (ix2 k g) := by
  pointwise [scores]

theorem maximumf_at {s : Shape} (x y : FVec Ideal s .f32) (i : s.Idx) : maximumf x y i = max (x i) (y i) := rfl

theorem rowMax_at (b : Fin 16) (k g : Fin 4) (n : Fin 16) (q : Fin 128) :
    rowMax A B S (ix5 b k g n q) = Finset.univ.sup fun x : Fin 401 => scores A B S (ix6 b k g n q x) := by
  rw [rowMax, maximumf_at, Axis6.reduceMax_at]
  show max (Ideal.ofBits .f32 0xFF800000#32) (Finset.univ.fold max (Ideal.ofBits .f32 0xFF800000#32) _) = _
  rw [Cert.KernelBIdeal.Block.ofBits_neg_inf, fold_max, max_eq_right bot_le]

theorem weights_at (b : Fin 16) (k g : Fin 4) (n : Fin 16) (q : Fin 128) (x : Fin 401) :
    weights A B S (ix6 b k g n q x) = Ideal.exp (scores A B S (ix6 b k g n q x) - rowMax A B S (ix5 b k g n q)) := by
  pointwise [weights]

theorem total_at (b : Fin 16) (k g : Fin 4) (n : Fin 16) (q : Fin 128) :
    total A B S (ix5 b k g n q) = ∑ x : Fin 401, weights A B S (ix6 b k g n q x) := by
  rw [total, Axis6.reduceAdd_at]
  pointwise

theorem probs_at (b : Fin 16) (k g : Fin 4) (n : Fin 16) (q : Fin 128) (x : Fin 401) :
    probs A B S (ix6 b k g n q x) = Ideal.div (weights A B S (ix6 b k g n q x)) (total A B S (ix5 b k g n q)) := by
  pointwise [probs]

theorem result_at (r : Fin 32768) (c : Fin 1024) :
    result A B S (ix2 r c) = ∑ x : Fin 384,
        valueBand A (ix5 ⟨(r : ℕ) / 2048, by omega⟩ ⟨(r : ℕ) / 128 % 16, by omega⟩ x ⟨(c : ℕ) / 256, by omega⟩ ⟨(c : ℕ) % 64, by omega⟩) *
          probs A B S (ix6 ⟨(r : ℕ) / 2048, by omega⟩ ⟨(c : ℕ) / 256, by omega⟩ ⟨(c : ℕ) / 64 % 4, by omega⟩ ⟨(r : ℕ) / 128 % 16, by omega⟩ ⟨(r : ℕ) % 128, by omega⟩ ⟨x, by omega⟩) +
      ∑ x : Fin 16,
        metaValues B (ix3 x ⟨(c : ℕ) / 256, by omega⟩ ⟨(c : ℕ) % 64, by omega⟩) *
          probs A B S
            (ix6 ⟨(r : ℕ) / 2048, by omega⟩ ⟨(c : ℕ) / 256, by omega⟩ ⟨(c : ℕ) / 64 % 4, by omega⟩ ⟨(r : ℕ) / 128 % 16, by omega⟩ ⟨(r : ℕ) % 128, by omega⟩ ⟨384 + x, by omega⟩) := by
  pointwise [result]

end Cert.ReferenceBIdeal.Block

end
-- ==== Proof.RefValB.lean ====
module

public import proofs.«01_k».proof.Proof.StageB

/-! The reference's result is the attention of the layer's projections, where these are finite. -/

@[expose] public section

set_option maxRecDepth 16384

noncomputable section

namespace Cert.ReferenceBIdeal.Block

open Cert.ReferenceBIdeal Cert.ReferenceBIdeal.Gen Cert.ReferenceBIdeal.Value Idealize.ShloMosaic Idealize.ShloMosaic.TcCoe Cert.Softmax

/-- Neither infinite. -/
def Fin' (x : EReal) : Prop := x ≠ ⊤ ∧ x ≠ ⊥

theorem fin_mul {x y : EReal} (hx : Fin' x) (hy : Fin' y) : Fin' (x * y) := by
  obtain ⟨x1, x2⟩ := hx
  obtain ⟨y1, y2⟩ := hy
  lift x to ℝ using ⟨x1, x2⟩
  lift y to ℝ using ⟨y1, y2⟩
  rw [← EReal.coe_mul]
  exact ⟨EReal.coe_ne_top _, EReal.coe_ne_bot _⟩

theorem fin_add {x y : EReal} (hx : Fin' x) (hy : Fin' y) : Fin' (x + y) := by
  obtain ⟨x1, x2⟩ := hx
  obtain ⟨y1, y2⟩ := hy
  lift x to ℝ using ⟨x1, x2⟩
  lift y to ℝ using ⟨y1, y2⟩
  rw [← EReal.coe_add]
  exact ⟨EReal.coe_ne_top _, EReal.coe_ne_bot _⟩

/-- A sum of finite numbers is finite. -/
theorem fin_sum {ι : Type*} [Fintype ι] (f : ι → EReal) (h : ∀ i, Fin' (f i)) : Fin' (∑ i, f i) :=
  Finset.sum_induction f Fin' (fun _ _ => fin_add) ⟨EReal.zero_ne_top, EReal.zero_ne_bot⟩ fun i _ => h i

/-- The 401 scores are the band's, the meta tokens' and the sink. -/
theorem sum_401 (f : Fin 401 → EReal) : ∑ x, f x = ∑ j : Fin 384, f ⟨j, by omega⟩ + ∑ i : Fin 16, f ⟨384 + i, by omega⟩ + f ⟨400, by omega⟩ := by
  rw [Fin.sum_univ_castSucc (n := 400), Fin.sum_univ_add (a := 384) (b := 16) (f := fun x : Fin (384 + 16) => f (Fin.castSucc x))]
  rfl

theorem sup_401 (f : Fin 401 → EReal) : Finset.univ.sup f
    = max (max (Finset.univ.sup fun j : Fin 384 => f ⟨j, by omega⟩) (Finset.univ.sup fun i : Fin 16 => f ⟨384 + i, by omega⟩)) (f ⟨400, by omega⟩) := by
  apply le_antisymm
  · refine Finset.sup_le fun x _ => ?_
    by_cases h1 : (x : ℕ) < 384
    · exact le_max_of_le_left (le_max_of_le_left (Finset.le_sup (f := fun j : Fin 384 => f ⟨j, by omega⟩) (Finset.mem_univ ⟨x, h1⟩)))
    · by_cases h2 : (x : ℕ) < 400
      · refine le_max_of_le_left (le_max_of_le_right ?_)
        have := Finset.le_sup (f := fun i : Fin 16 => f ⟨384 + i, by omega⟩) (Finset.mem_univ ⟨x - 384, by omega⟩)
        have e : (⟨384 + (x - 384), by omega⟩ : Fin 401) = x := Fin.ext (by simp only; omega)
        simpa only [e] using this
      · have e : (⟨400, by omega⟩ : Fin 401) = x := Fin.ext (by simp only; omega)
        exact le_max_of_le_right (by rw [e])
  · refine max_le (max_le ?_ ?_) (Finset.le_sup (Finset.mem_univ _))
    · exact Finset.sup_le fun j _ => Finset.le_sup (f := f) (Finset.mem_univ _)
    · exact Finset.sup_le fun j _ => Finset.le_sup (f := f) (Finset.mem_univ _)

variable (A : FVec Ideal S32768x4608 .bf16) (B : FVec Ideal S128x4608 .bf16) (S : FVec Ideal S1x16 .f32)

section
variable (r : Fin 32768) (c : Fin 1024)

/-- The scores of the query of row `r` and of the head of column `c`. -/
abbrev row (x : Fin 401) : EReal :=
  scores A B S (ix6 ⟨(r : ℕ) / 2048, by omega⟩ ⟨(c : ℕ) / 256, by omega⟩ ⟨(c : ℕ) / 64 % 4, by omega⟩ ⟨(r : ℕ) / 128 % 16, by omega⟩ ⟨(r : ℕ) % 128, by omega⟩ x)

/-- The first row of the query's band. -/
abbrev first : ℤ := 128 * ((r : ℕ) / 128 % 16 : ℕ) - 128

theorem query_at (d : Fin 64) : queries A (ix6 ⟨(r : ℕ) / 2048, by omega⟩ ⟨(r : ℕ) / 128 % 16, by omega⟩ ⟨(r : ℕ) % 128, by omega⟩ ⟨(c : ℕ) / 256, by omega⟩ ⟨(c : ℕ) / 64 % 4, by omega⟩ d)
    = A (ix2 r ⟨3072 + 64 * ((c : ℕ) / 64) + d, by omega⟩) := by
  rw [queries_at]
  exact congrArg A (congrArg₂ ix2 (Fin.ext (by simp only; omega)) (Fin.ext (by simp only; omega)))

theorem row_band (j : Fin 384) : row A B S r c ⟨j, by omega⟩
    = if max 0 (((r : ℕ) % 2048 : ℕ) - 128 : ℤ) ≤ first r + (j : ℕ) ∧ first r + (j : ℕ) ≤ min 2047 (((r : ℕ) % 2048 : ℕ) + 128 : ℤ)
      then SpecB.score A r c (first r + (j : ℕ)) else ⊥ := by
  unfold row first
  rw [scores_band, inWindow_at, Cert.KernelBIdeal.Block.select_ofBool]
  have e : (128 * ((r : ℕ) / 128 % 16 : ℕ) + ((r : ℕ) % 128 : ℕ) : ℤ) = ((r : ℕ) % 2048 : ℕ) := by omega
  simp only [e]
  by_cases h : max 0 (((r : ℕ) % 2048 : ℕ) - 128 : ℤ) ≤ 128 * ((r : ℕ) / 128 % 16 : ℕ) - 128 + (j : ℕ)
      ∧ (128 * ((r : ℕ) / 128 % 16 : ℕ) - 128 + (j : ℕ) : ℤ) ≤ min 2047 (((r : ℕ) % 2048 : ℕ) + 128 : ℤ)
  · rw [if_pos h, if_pos h]
    unfold SpecB.score
    refine Finset.sum_congr rfl fun d _ => ?_
    rw [keyBand_at A _ _ j _ d ((128 * ((r : ℕ) / 128 % 16 : ℕ) - 128 + (j : ℕ) : ℤ).toNat) (by simp only; omega) (by omega), query_at, mul_comm]
    refine congrArg _ (congrArg A (congrArg₂ ix2 (Fin.ext ?_) (Fin.ext ?_)))
    · simp only; omega
    · simp only; omega
  · rw [if_neg h, if_neg h]

theorem row_meta (i : Fin 16) : row A B S r c ⟨384 + i, by omega⟩ = SpecB.metaScore A B r c i := by
  unfold row SpecB.metaScore
  rw [scores_meta]
  refine Finset.sum_congr rfl fun d _ => ?_
  rw [metaKeys_at, query_at, mul_comm]
  refine congrArg _ (congrArg B (congrArg₂ ix2 rfl (Fin.ext ?_)))
  simp only; omega

theorem row_sink : row A B S r c ⟨400, by omega⟩ = S (ix2 0 ⟨(c : ℕ) / 64, by omega⟩) := by
  unfold row
  rw [scores_sink, sinks_at]
  exact congrArg S (congrArg₂ ix2 rfl (Fin.ext (by simp only; omega)))

theorem value_band (j : Fin 384) (h1 : max 0 (((r : ℕ) % 2048 : ℕ) - 128 : ℤ) ≤ first r + (j : ℕ)) (h2 : first r + (j : ℕ) ≤ min 2047 (((r : ℕ) % 2048 : ℕ) + 128 : ℤ)) :
    valueBand A (ix5 ⟨(r : ℕ) / 2048, by omega⟩ ⟨(r : ℕ) / 128 % 16, by omega⟩ j ⟨(c : ℕ) / 256, by omega⟩ ⟨(c : ℕ) % 64, by omega⟩)
      = A (ix2 (SpecB.imageRow r (first r + (j : ℕ))) ⟨4352 + 64 * ((c : ℕ) / 256) + (c : ℕ) % 64, by omega⟩) := by
  unfold first at *
  rw [valueBand_at A _ _ j _ _ ((128 * ((r : ℕ) / 128 % 16 : ℕ) - 128 + (j : ℕ) : ℤ).toNat) (by simp only; omega) (by omega)]
  refine congrArg A (congrArg₂ ix2 (Fin.ext ?_) (Fin.ext ?_))
  · simp only; omega
  · simp only; omega

theorem value_meta (i : Fin 16) : metaValues B (ix3 i ⟨(c : ℕ) / 256, by omega⟩ ⟨(c : ℕ) % 64, by omega⟩)
    = B (ix2 ⟨i, by omega⟩ ⟨4352 + 64 * ((c : ℕ) / 256) + (c : ℕ) % 64, by omega⟩) := by
  rw [metaValues_at]
  exact congrArg B (congrArg₂ ix2 rfl (Fin.ext (by simp only; omega)))

/-- The reference's result at an index. -/
theorem result_eq (hA : ∀ i, Fin' (A i)) (hB : ∀ i, Fin' (B i)) (hS : ∀ i, Fin' (S i)) :
    result A B S (ix2 r c) = SpecB.value A B S r c := by
  rw [result_at]
  simp only [probs_at, total_at, weights_at, rowMax_at, value_meta]
  change ∑ x : Fin 384, _ * Ideal.div (Ideal.exp (row A B S r c ⟨x, by omega⟩ - Finset.univ.sup (row A B S r c))) (∑ x, Ideal.exp (row A B S r c x - Finset.univ.sup (row A B S r c)))
    + ∑ x : Fin 16, _ * Ideal.div (Ideal.exp (row A B S r c ⟨384 + x, by omega⟩ - Finset.univ.sup (row A B S r c))) (∑ x, Ideal.exp (row A B S r c x - Finset.univ.sup (row A B S r c))) = _
  have hM := sup_401 (row A B S r c)
  have hD := sum_401 fun x => Ideal.exp (row A B S r c x - Finset.univ.sup (row A B S r c))
  have hT : Finset.univ.sup (row A B S r c) ≠ ⊤ := by
    rw [← lt_top_iff_ne_top, Finset.sup_lt_iff bot_lt_top]
    intro x _
    rw [lt_top_iff_ne_top]
    by_cases h1 : (x : ℕ) < 384
    · have e := row_band A B S r c ⟨x, h1⟩
      rw [show row A B S r c x = row A B S r c ⟨((⟨x, h1⟩ : Fin 384) : ℕ), by omega⟩ from rfl, e]
      split_ifs
      · exact (fin_sum _ fun d => fin_mul (hA _) (hA _)).1
      · exact bot_ne_top
    · by_cases h2 : (x : ℕ) < 400
      · have e := row_meta A B S r c ⟨x - 384, by omega⟩
        have ex : x = ⟨384 + ((⟨x - 384, by omega⟩ : Fin 16) : ℕ), by omega⟩ := Fin.ext (by simp only; omega)
        rw [ex, e]
        exact (fin_sum _ fun d => fin_mul (hA _) (hB _)).1
      · have ex : x = ⟨400, by omega⟩ := Fin.ext (by simp only; omega)
        rw [ex, row_sink]
        exact (hS _).1
  generalize Finset.univ.sup (row A B S r c) = M at hM hD hT ⊢
  simp only [row_meta, row_sink] at hM hD ⊢
  unfold SpecB.value
  exact attn_of_softmax (SpecB.score A r c) _ _ _ (first r) (by unfold first; omega) (by unfold first; omega)
    (fun j => row A B S r c ⟨j, by omega⟩) _ (row_band A B S r c) (value_band A r c) (SpecB.metaScore A B r c) _ _ (hS _).2 M hM hT _ hD

end

end Cert.ReferenceBIdeal.Block

end
-- ==== Proof.FiniteB.lean ====
module

public import proofs.«01_k».proof.Proof.RefValB
public import proofs.«01_k».proof.Proof.Gen.Pre_finite_b
public import Idealize.ShloMosaic.Lib.ReduceAll

/-! The precondition says that every argument is finite. -/

@[expose] public section

set_option maxRecDepth 16384

noncomputable section

namespace Cert.ReferenceBIdeal.Block

open Idealize.ShloMosaic

theorem ofBits_inf : (Ideal.ofBits FTy.f32 0x7F800000#32) = ⊤ := by
  simp [Ideal.ofBits, Ideal.ieee]

instance : Subsingleton Cert.Pre_finite_b.S_.Idx := ⟨fun a b => funext fun i => i.elim0⟩

theorem and_one : ∀ x y : BitVec 1, IntOp.andi x y = 1#1 → x = 1#1 ∧ y = 1#1 := by decide

/-- An absolute value below the infinity is a finite number's. -/
theorem fin_of_abs (x : EReal) (h : BitVec.ofBool (decide (max x (-x) < Ideal.ofBits .f32 0x7F800000#32)) = 1#1) : Fin' x := by
  rw [ofBits_inf] at h
  have h' : max x (-x) < ⊤ := by
    by_contra hn
    simp [hn] at h
  refine ⟨(lt_of_le_of_lt (le_max_left _ _) h').ne, fun e => ?_⟩
  rw [e] at h'
  simp at h'

open Cert.Pre_finite_b in
/-- The precondition, read at every index. -/
theorem finite (A : FVec Ideal S32768x4608 .bf16) (B : FVec Ideal S128x4608 .bf16) (S : FVec Ideal S1x16 .f32)
    (h : Cert.Pre_finite_b.fn (F := Ideal) A B S = fun _ => 1#1) :
    (∀ i, Fin' (A i)) ∧ (∀ i, Fin' (B i)) ∧ (∀ i, Fin' (S i)) := by
  have h0 := congrFun h ix0
  unfold Cert.Pre_finite_b.fn at h0
  obtain ⟨h1, hS⟩ := and_one _ _ h0
  obtain ⟨hA, hB⟩ := and_one _ _ h1
  refine ⟨fun i => ?_, fun i => ?_, fun i => ?_⟩
  · exact fin_of_abs _ (Host.reduce_andi_all _ _ _ _ _ hA i)
  · exact fin_of_abs _ (Host.reduce_andi_all _ _ _ _ _ hB i)
  · exact fin_of_abs _ (Host.reduce_andi_all _ _ _ _ _ hS i)

end Cert.ReferenceBIdeal.Block

end
-- ==== Proof.ClaimB.lean ====
module

public import proofs.«01_k».proof.Defs
public import proofs.«01_k».proof.Proof.ArrayB
public import proofs.«01_k».proof.Proof.FiniteB
public import proofs.«01_k».proof.Proof.Gen.KernelB.Frame
public import proofs.«01_k».proof.Proof.Gen.KernelBIdeal.Value
public import proofs.«01_k».proof.Proof.Gen.ReferenceBIdeal.Run
public import Idealize.ShloMosaic.Lib.Quiescent

/-! The windowed attention's claims. -/

@[expose] public section

set_option maxRecDepth 16384

noncomputable section

namespace Cert.ClaimsB

open Idealize.ShloMosaic Idealize.ShloMosaic.TcCoe Idealize.SL.Sem

theorem frame_p : Cert.quiescent_KernelB := fun m ρ _ => Cert.KernelB.Gen.frame m ρ

theorem frame_pi : Cert.quiescent_KernelBIdeal := fun m ρ _ => Cert.KernelBIdeal.Gen.frame m ρ

theorem frame_pi_pre : Cert.quiescent_KernelBIdeal_pre_finite_b := fun m ρ _ => Cert.KernelBIdeal.Gen.frame m ρ

/-- The reference runs, keeps its arguments, and has no semaphore. -/
theorem frame_ri : Cert.quiescent_ReferenceBIdeal := fun m ρ _ =>
  (θ_run Cert.ReferenceBIdeal.defs _ _).mono (fun r h => ⟨fun c => (h c).2, Idealize.ShloMosaic.sem_eq_zero_of_no_sems (by decide) r.2⟩)
    (Cert.ReferenceBIdeal.Value.run (F := Ideal) m ρ)

theorem frame_ri_pre : Cert.quiescent_ReferenceBIdeal_pre_finite_b := fun m ρ _ => frame_ri m ρ trivial

/-- The mask constant of the kernel is named `⊥`. -/
theorem preserves : Cert.preserves_KernelB_KernelBIdeal :=
  IdealRules.named_const.statement Cert.KernelBIdeal.κ "mask" .f32 0xF149F2CA#32 ⊥ rfl

/-- Both programs end with the attention of their arguments. -/
theorem algebraic : Cert.algebraic_KernelBIdeal_ReferenceBIdeal_pre_finite_b := by
  intro m ρ m' ρ' hpre hagree
  refine ⟨_, Cert.KernelBIdeal.Value.run_blocks (F := Ideal) m ρ, ?_⟩
  refine (θ_run Cert.ReferenceBIdeal.defs _ _).mono (fun _ h c => ⟨(h c).1.trans ?_, (h c).2⟩)
    (Cert.ReferenceBIdeal.Value.run (F := Ideal) m' ρ')
  obtain ⟨hA, hB, hS⟩ := Cert.ReferenceBIdeal.Block.finite _ _ _ (hpre c)
  rw [Cert.KernelBIdeal.Block.array_eq, Cert.ReferenceBIdeal.Block.res_eq, (hagree c).1, (hagree c).2.1, (hagree c).2.2]
  funext y
  have hy : y = ix2 (n0 := 32768) (n1 := 1024) (y 0) (y 1) := eq_ix2 y
  exact (congrArg _ hy).trans (Cert.ReferenceBIdeal.Block.result_eq _ _ _ (y 0) (y 1) hA hB hS)

end Cert.ClaimsB

end
-- ==== Proof.RunsX.lean ====
/- The expert kernel's body, run path by path on any tables, blocks and scratch contents. -/
module

public import proofs.«01_k».proof.Proof.Gen.KernelX.Skeleton
public import proofs.«01_k».proof.Proof.Gen.KernelX.Launch
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.Lib.Pipeline.TableIdle
public import Idealize.ShloMosaic.Lib.Pointwise
public import Idealize.ShloMosaic.Init
public import Idealize.ShloMosaic.Lib.Pipeline.FrameBody
public import Idealize.ShloMosaic.Adequacy

@[expose] public section

set_option maxRecDepth 16384
set_option Elab.async false

noncomputable section

namespace Cert.KernelX.Exp

open Cert.KernelX Cert.KernelX.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The tables and the scratch buffers, whole. -/
abbrev tbM0_0 : Memref sig .tc .smem S544 .i32 := Memref.whole main_arg0
abbrev tbM0_1 : Memref sig .tc .smem S544 .i32 := Memref.whole main_arg1
abbrev scM0_0 : Memref sig .tc .vmem S512x1024 .fp8e4m3 := Memref.whole cc0_scratch0
abbrev scM0_1 : Memref sig .tc .vmem S512x1024 .fp8e4m3 := Memref.whole cc0_scratch1
abbrev scM0_2 : Memref sig .tc .vmem S512x128 .f32 := Memref.whole cc0_scratch2
abbrev scM0_3 : Memref sig .tc .vmem S512x2048 .f32 := Memref.whole cc0_scratch3

/-- One staging buffer of the output window, through which its contents are stated. -/
abbrev VO0_10 : View sig .tc .vmem S512x2048 .bf16 := (Memref.whole cc0_stg10_0 : Memref sig .tc .vmem S512x2048 .bf16).view

set_option backward.proofsInPublic true in
set_option maxHeartbeats 8000000 in
/-- The kernel body on path A, the first half of a block in use: it fills the scratch buffers and leaves the output alone. -/
noncomputable def kernelRun0_A (c : Dev nD) (i : grid0.Coords) (arg4 : Memref sig .tc .smem S64 .f32) (harg4 : arg4.IsWhole) (arg5 : Memref sig .tc .smem S64 .f32) (harg5 : arg5.IsWhole) (arg6 : Memref sig .tc .smem S64 .f32) (harg6 : arg6.IsWhole) (arg7 : Memref sig .tc .vmem S512x2048 .bf16) (harg7 : arg7.IsWhole) (arg8 : Memref sig .tc .vmem S1x2048x1024 .fp8e4m3) (harg8 : arg8.IsWhole) (arg9 : Memref sig .tc .vmem S1x1x1024 .f32) (harg9 : arg9.IsWhole) (arg10 : Memref sig .tc .vmem S1x2048x1024 .fp8e4m3) (harg10 : arg10.IsWhole) (arg11 : Memref sig .tc .vmem S1x1x1024 .f32) (harg11 : arg11.IsWhole) (arg12 : Memref sig .tc .vmem S1x1024x2048 .fp8e4m3) (harg12 : arg12.IsWhole) (arg13 : Memref sig .tc .vmem S1x1x2048 .f32) (harg13 : arg13.IsWhole) (arg14 : Memref sig .tc .vmem S512x2048 .bf16) (harg14 : arg14.IsWhole) (T0 : (S544.Idx → Elt Bits .i32)) (T1 : (S544.Idx → Elt Bits .i32))
     (x0 : (S64.Idx → Elt Bits .f32)) (x1 : (S64.Idx → Elt Bits .f32)) (x2 : (S64.Idx → Elt Bits .f32)) (x3 : (S512x2048.Idx → Elt Bits .bf16)) (x4 : (S1x2048x1024.Idx → Elt Bits .fp8e4m3)) (x5 : (S1x1x1024.Idx → Elt Bits .f32)) (x6 : (S1x2048x1024.Idx → Elt Bits .fp8e4m3)) (x7 : (S1x1x1024.Idx → Elt Bits .f32)) (x8 : (S1x1024x2048.Idx → Elt Bits .fp8e4m3)) (x9 : (S1x1x2048.Idx → Elt Bits .f32)) (k0_hw1 : k0_chk1 i (View.readAt (Elt Bits) (tbM0_1).view (Rect.unit (s := S544) (k0_off1 i) S1.size (k0_off1_inb i)).toLoadRect T1 (Shape.Idx.first (numel1_S1.symm ▸ Nat.one_pos))) (View.readAt (Elt Bits) (tbM0_0).view (Rect.unit (s := S544) (k0_off1 i) S1.size (k0_off1_inb i)).toLoadRect T0 (Shape.Idx.first (numel1_S1.symm ▸ Nat.one_pos)))) (k0_h1 : ¬(k0_cond1 i (View.readAt (Elt Bits) (tbM0_1).view (Rect.unit (s := S544) (k0_off1 i) S1.size (k0_off1_inb i)).toLoadRect T1 (Shape.Idx.first (numel1_S1.symm ▸ Nat.one_pos))) = 1#1)) (k0_h2 : k0_cond2 (View.readAt (Elt Bits) (tbM0_1).view (Rect.unit (s := S544) (k0_off1 i) S1.size (k0_off1_inb i)).toLoadRect T1 (Shape.Idx.first (numel1_S1.symm ▸ Nat.one_pos))) = 1#1) (k0_h3 : (Scalar.cmpi .ne (Scalar.extui (Scalar.cmpi .eq (BitVec.ofNat 32 (i 1).val) 0#32)) 0#32) = 1#1) (k0_h4 : ¬(k0_cond4 i = 1#1)) :
    Σ' (out0 : Buf (Elt Bits) ((c : Thread nD τ).loc cc0_scratch0)) (out1 : Buf (Elt Bits) ((c : Thread nD τ).loc cc0_scratch1)) (out2 : Buf (Elt Bits) ((c : Thread nD τ).loc cc0_scratch2)), { out3 : Buf (Elt Bits) ((c : Thread nD τ).loc cc0_scratch3) //
      ∀ (y10 : (S512x2048.Idx → Elt Bits .bf16)) (xa0 : Buf (Elt Bits) ((c : Thread nD τ).loc cc0_scratch0)) (xa1 : Buf (Elt Bits) ((c : Thread nD τ).loc cc0_scratch1)) (xa2 : Buf (Elt Bits) ((c : Thread nD τ).loc cc0_scratch2)) (xa3 : Buf (Elt Bits) ((c : Thread nD τ).loc cc0_scratch3)) (K : PUnit → sProp (MT nD τ sig Unit (Elt Bits) ℕ (UR sig nD τ) ℕ)),
        iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (arg7.view.loc (c : Thread nD τ) ↦[arg7.view.set]{fullShare} arg7.view.rep x3)
          ∗ (arg8.view.loc (c : Thread nD τ) ↦[arg8.view.set]{fullShare} arg8.view.rep x4)
          ∗ (arg9.view.loc (c : Thread nD τ) ↦[arg9.view.set]{fullShare} arg9.view.rep x5)
          ∗ (arg10.view.loc (c : Thread nD τ) ↦[arg10.view.set]{fullShare} arg10.view.rep x6)
          ∗ (arg11.view.loc (c : Thread nD τ) ↦[arg11.view.set]{fullShare} arg11.view.rep x7)
          ∗ (arg12.view.loc (c : Thread nD τ) ↦[arg12.view.set]{fullShare} arg12.view.rep x8)
          ∗ (arg13.view.loc (c : Thread nD τ) ↦[arg13.view.set]{fullShare} arg13.view.rep x9)
          ∗ (tbM0_0.view.loc (c : Thread nD τ) ↦{fullShare.right} T0)
          ∗ (tbM0_1.view.loc (c : Thread nD τ) ↦{fullShare.right} T1)
          ∗ owns (c : Thread nD τ) arg14 fullShare y10
          ∗ (scM0_0.view.loc (c : Thread nD τ) ↦{fullShare} xa0)
          ∗ (scM0_1.view.loc (c : Thread nD τ) ↦{fullShare} xa1)
          ∗ (scM0_2.view.loc (c : Thread nD τ) ↦{fullShare} xa2)
          ∗ (scM0_3.view.loc (c : Thread nD τ) ↦{fullShare} xa3)
          ∗ (iprop((arg4.view.loc (c : Thread nD τ) ↦[arg4.view.set]{fullShare} arg4.view.rep x0)
              ∗ (arg5.view.loc (c : Thread nD τ) ↦[arg5.view.set]{fullShare} arg5.view.rep x1)
              ∗ (arg6.view.loc (c : Thread nD τ) ↦[arg6.view.set]{fullShare} arg6.view.rep x2)
              ∗ (arg7.view.loc (c : Thread nD τ) ↦[arg7.view.set]{fullShare} arg7.view.rep x3)
              ∗ (arg8.view.loc (c : Thread nD τ) ↦[arg8.view.set]{fullShare} arg8.view.rep x4)
              ∗ (arg9.view.loc (c : Thread nD τ) ↦[arg9.view.set]{fullShare} arg9.view.rep x5)
              ∗ (arg10.view.loc (c : Thread nD τ) ↦[arg10.view.set]{fullShare} arg10.view.rep x6)
              ∗ (arg11.view.loc (c : Thread nD τ) ↦[arg11.view.set]{fullShare} arg11.view.rep x7)
              ∗ (arg12.view.loc (c : Thread nD τ) ↦[arg12.view.set]{fullShare} arg12.view.rep x8)
              ∗ (arg13.view.loc (c : Thread nD τ) ↦[arg13.view.set]{fullShare} arg13.view.rep x9)
              ∗ (tbM0_0.view.loc (c : Thread nD τ) ↦{fullShare.right} T0)
              ∗ (tbM0_1.view.loc (c : Thread nD τ) ↦{fullShare.right} T1)
              ∗ owns (c : Thread nD τ) arg14 fullShare y10
              ∗ (scM0_0.view.loc (c : Thread nD τ) ↦{fullShare} out0)
              ∗ (scM0_1.view.loc (c : Thread nD τ) ↦{fullShare} out1)
              ∗ (scM0_2.view.loc (c : Thread nD τ) ↦{fullShare} out2)
              ∗ (scM0_3.view.loc (c : Thread nD τ) ↦{fullShare} out3)) -∗ K ⟨⟩))
          ⊢ wp frame (wpE (defs₀ (F := Bits)) Variants.none c none) Set.univ (cc0_experts i tbM0_0 (Memref.isWhole_whole _) tbM0_1 (Memref.isWhole_whole _) arg4 harg4 arg5 harg5 arg6 harg6 arg7 harg7 arg8 harg8 arg9 harg9 arg10 harg10 arg11 harg11 arg12 harg12 arg13 harg13 arg14 harg14 scM0_0 (Memref.isWhole_whole _) scM0_1 (Memref.isWhole_whole _) scM0_2 (Memref.isWhole_whole _) scM0_3 (Memref.isWhole_whole _)) K } :=
  ⟨_, _, _, _, fun (y10 : (S512x2048.Idx → Elt Bits .bf16)) (xa0 : Buf (Elt Bits) ((c : Thread nD τ).loc cc0_scratch0)) (xa1 : Buf (Elt Bits) ((c : Thread nD τ).loc cc0_scratch1)) (xa2 : Buf (Elt Bits) ((c : Thread nD τ).loc cc0_scratch2)) (xa3 : Buf (Elt Bits) ((c : Thread nD τ).loc cc0_scratch3)) K => by
    unfold owns
    rw [cc0_experts_eq_skeleton]; unfold cc0_experts_skel
    iintro ⟨H0, H1, H2, H3, H4, H5, H6, H7, H8, H9, HT0, HT1, ⟨%f10, %hf10, HO10⟩, HS0, HS1, HS2, HS3, Hk⟩
    obtain rfl := harg14.eq_unread hf10
    have hS0 : scM0_0.IsWhole := Memref.isWhole_whole _
    have hS1 : scM0_1.IsWhole := Memref.isWhole_whole _
    have hS2 : scM0_2.IsWhole := Memref.isWhole_whole _
    have hS3 : scM0_3.IsWhole := Memref.isWhole_whole _
    have hT0 : tbM0_0.IsWhole := Memref.isWhole_whole _
    have hT1 : tbM0_1.IsWhole := Memref.isWhole_whole _
    sl_exec! (disch := first | (guard_target = k0_chk1 _ _ _; exact k0_hw1) | (guard_target = ¬(k0_cond1 _ _ = _); exact k0_h1) | (guard_target = k0_cond2 _ = _; exact k0_h2) | (guard_target = Scalar.cmpi = _; exact k0_h3) | (guard_target = ¬(k0_cond4 _ = _); exact k0_h4))
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [HT0]; · iexact HT0
    isplitl [HT1]; · iexact HT1
    isplitl [HO10]
    · iexists _; isplitr; · ipureintro; exact harg14.read_unread _
      iexact HO10
    isplitl [HS0]; · iexact HS0
    isplitl [HS1]; · iexact HS1
    isplitl [HS2]; · iexact HS2
    iexact HS3⟩

set_option backward.proofsInPublic true in
set_option maxHeartbeats 8000000 in
/-- The kernel body on path B, the second half of a block in use: it reads the scratch buffers and stores the output block. -/
noncomputable def kernelRun0_B (c : Dev nD) (i : grid0.Coords) (arg4 : Memref sig .tc .smem S64 .f32) (harg4 : arg4.IsWhole) (arg5 : Memref sig .tc .smem S64 .f32) (harg5 : arg5.IsWhole) (arg6 : Memref sig .tc .smem S64 .f32) (harg6 : arg6.IsWhole) (arg7 : Memref sig .tc .vmem S512x2048 .bf16) (harg7 : arg7.IsWhole) (arg8 : Memref sig .tc .vmem S1x2048x1024 .fp8e4m3) (harg8 : arg8.IsWhole) (arg9 : Memref sig .tc .vmem S1x1x1024 .f32) (harg9 : arg9.IsWhole) (arg10 : Memref sig .tc .vmem S1x2048x1024 .fp8e4m3) (harg10 : arg10.IsWhole) (arg11 : Memref sig .tc .vmem S1x1x1024 .f32) (harg11 : arg11.IsWhole) (arg12 : Memref sig .tc .vmem S1x1024x2048 .fp8e4m3) (harg12 : arg12.IsWhole) (arg13 : Memref sig .tc .vmem S1x1x2048 .f32) (harg13 : arg13.IsWhole) (arg14 : Memref sig .tc .vmem S512x2048 .bf16) (harg14 : arg14.IsWhole) (T0 : (S544.Idx → Elt Bits .i32)) (T1 : (S544.Idx → Elt Bits .i32))
     (x0 : (S64.Idx → Elt Bits .f32)) (x1 : (S64.Idx → Elt Bits .f32)) (x2 : (S64.Idx → Elt Bits .f32)) (x3 : (S512x2048.Idx → Elt Bits .bf16)) (x4 : (S1x2048x1024.Idx → Elt Bits .fp8e4m3)) (x5 : (S1x1x1024.Idx → Elt Bits .f32)) (x6 : (S1x2048x1024.Idx → Elt Bits .fp8e4m3)) (x7 : (S1x1x1024.Idx → Elt Bits .f32)) (x8 : (S1x1024x2048.Idx → Elt Bits .fp8e4m3)) (x9 : (S1x1x2048.Idx → Elt Bits .f32)) (xa0 : Buf (Elt Bits) ((c : Thread nD τ).loc cc0_scratch0)) (xa1 : Buf (Elt Bits) ((c : Thread nD τ).loc cc0_scratch1)) (xa2 : Buf (Elt Bits) ((c : Thread nD τ).loc cc0_scratch2)) (xa3 : Buf (Elt Bits) ((c : Thread nD τ).loc cc0_scratch3)) (k0_hw1 : k0_chk1 i (View.readAt (Elt Bits) (tbM0_1).view (Rect.unit (s := S544) (k0_off1 i) S1.size (k0_off1_inb i)).toLoadRect T1 (Shape.Idx.first (numel1_S1.symm ▸ Nat.one_pos))) (View.readAt (Elt Bits) (tbM0_0).view (Rect.unit (s := S544) (k0_off1 i) S1.size (k0_off1_inb i)).toLoadRect T0 (Shape.Idx.first (numel1_S1.symm ▸ Nat.one_pos)))) (k0_h1 : ¬(k0_cond1 i (View.readAt (Elt Bits) (tbM0_1).view (Rect.unit (s := S544) (k0_off1 i) S1.size (k0_off1_inb i)).toLoadRect T1 (Shape.Idx.first (numel1_S1.symm ▸ Nat.one_pos))) = 1#1)) (k0_h2 : k0_cond2 (View.readAt (Elt Bits) (tbM0_1).view (Rect.unit (s := S544) (k0_off1 i) S1.size (k0_off1_inb i)).toLoadRect T1 (Shape.Idx.first (numel1_S1.symm ▸ Nat.one_pos))) = 1#1) (k0_h3 : ¬((Scalar.cmpi .ne (Scalar.extui (Scalar.cmpi .eq (BitVec.ofNat 32 (i 1).val) 0#32)) 0#32) = 1#1)) (k0_h4 : k0_cond4 i = 1#1) :
    Σ' (out0 : List (View.Piece (Elt Bits) S512x2048 .bf16)) (out1 : Buf (Elt Bits) ((c : Thread nD τ).loc cc0_scratch0)) (out2 : Buf (Elt Bits) ((c : Thread nD τ).loc cc0_scratch1)) (out3 : Buf (Elt Bits) ((c : Thread nD τ).loc cc0_scratch2)), { out4 : Buf (Elt Bits) ((c : Thread nD τ).loc cc0_scratch3) //
      ∀ (K : PUnit → sProp (MT nD τ sig Unit (Elt Bits) ℕ (UR sig nD τ) ℕ)),
        iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (arg7.view.loc (c : Thread nD τ) ↦[arg7.view.set]{fullShare} arg7.view.rep x3)
          ∗ (arg8.view.loc (c : Thread nD τ) ↦[arg8.view.set]{fullShare} arg8.view.rep x4)
          ∗ (arg9.view.loc (c : Thread nD τ) ↦[arg9.view.set]{fullShare} arg9.view.rep x5)
          ∗ (arg10.view.loc (c : Thread nD τ) ↦[arg10.view.set]{fullShare} arg10.view.rep x6)
          ∗ (arg11.view.loc (c : Thread nD τ) ↦[arg11.view.set]{fullShare} arg11.view.rep x7)
          ∗ (arg12.view.loc (c : Thread nD τ) ↦[arg12.view.set]{fullShare} arg12.view.rep x8)
          ∗ (arg13.view.loc (c : Thread nD τ) ↦[arg13.view.set]{fullShare} arg13.view.rep x9)
          ∗ (tbM0_0.view.loc (c : Thread nD τ) ↦{fullShare.right} T0)
          ∗ (tbM0_1.view.loc (c : Thread nD τ) ↦{fullShare.right} T1)
          ∗ (∃ d, owns (c : Thread nD τ) arg14 fullShare d)
          ∗ (scM0_0.view.loc (c : Thread nD τ) ↦{fullShare} xa0)
          ∗ (scM0_1.view.loc (c : Thread nD τ) ↦{fullShare} xa1)
          ∗ (scM0_2.view.loc (c : Thread nD τ) ↦{fullShare} xa2)
          ∗ (scM0_3.view.loc (c : Thread nD τ) ↦{fullShare} xa3)
          ∗ (iprop((arg4.view.loc (c : Thread nD τ) ↦[arg4.view.set]{fullShare} arg4.view.rep x0)
              ∗ (arg5.view.loc (c : Thread nD τ) ↦[arg5.view.set]{fullShare} arg5.view.rep x1)
              ∗ (arg6.view.loc (c : Thread nD τ) ↦[arg6.view.set]{fullShare} arg6.view.rep x2)
              ∗ (arg7.view.loc (c : Thread nD τ) ↦[arg7.view.set]{fullShare} arg7.view.rep x3)
              ∗ (arg8.view.loc (c : Thread nD τ) ↦[arg8.view.set]{fullShare} arg8.view.rep x4)
              ∗ (arg9.view.loc (c : Thread nD τ) ↦[arg9.view.set]{fullShare} arg9.view.rep x5)
              ∗ (arg10.view.loc (c : Thread nD τ) ↦[arg10.view.set]{fullShare} arg10.view.rep x6)
              ∗ (arg11.view.loc (c : Thread nD τ) ↦[arg11.view.set]{fullShare} arg11.view.rep x7)
              ∗ (arg12.view.loc (c : Thread nD τ) ↦[arg12.view.set]{fullShare} arg12.view.rep x8)
              ∗ (arg13.view.loc (c : Thread nD τ) ↦[arg13.view.set]{fullShare} arg13.view.rep x9)
              ∗ (tbM0_0.view.loc (c : Thread nD τ) ↦{fullShare.right} T0)
              ∗ (tbM0_1.view.loc (c : Thread nD τ) ↦{fullShare.right} T1)
              ∗ (∃ f, arg14.view.loc (c : Thread nD τ) ↦[arg14.view.set]{fullShare} arg14.view.writes (Elt Bits) f out0)
              ∗ (scM0_0.view.loc (c : Thread nD τ) ↦{fullShare} out1)
              ∗ (scM0_1.view.loc (c : Thread nD τ) ↦{fullShare} out2)
              ∗ (scM0_2.view.loc (c : Thread nD τ) ↦{fullShare} out3)
              ∗ (scM0_3.view.loc (c : Thread nD τ) ↦{fullShare} out4)) -∗ K ⟨⟩))
          ⊢ wp frame (wpE (defs₀ (F := Bits)) Variants.none c none) Set.univ (cc0_experts i tbM0_0 (Memref.isWhole_whole _) tbM0_1 (Memref.isWhole_whole _) arg4 harg4 arg5 harg5 arg6 harg6 arg7 harg7 arg8 harg8 arg9 harg9 arg10 harg10 arg11 harg11 arg12 harg12 arg13 harg13 arg14 harg14 scM0_0 (Memref.isWhole_whole _) scM0_1 (Memref.isWhole_whole _) scM0_2 (Memref.isWhole_whole _) scM0_3 (Memref.isWhole_whole _)) K } :=
  ⟨_, _, _, _, _, fun K => by
    unfold owns
    rw [cc0_experts_eq_skeleton]; unfold cc0_experts_skel
    iintro ⟨H0, H1, H2, H3, H4, H5, H6, H7, H8, H9, HT0, HT1, ⟨%d10, %f10, -, HO10⟩, HS0, HS1, HS2, HS3, Hk⟩
    have hS0 : scM0_0.IsWhole := Memref.isWhole_whole _
    have hS1 : scM0_1.IsWhole := Memref.isWhole_whole _
    have hS2 : scM0_2.IsWhole := Memref.isWhole_whole _
    have hS3 : scM0_3.IsWhole := Memref.isWhole_whole _
    have hT0 : tbM0_0.IsWhole := Memref.isWhole_whole _
    have hT1 : tbM0_1.IsWhole := Memref.isWhole_whole _
    sl_exec! (disch := first | (guard_target = k0_chk1 _ _ _; exact k0_hw1) | (guard_target = ¬(k0_cond1 _ _ = _); exact k0_h1) | (guard_target = k0_cond2 _ = _; exact k0_h2) | (guard_target = ¬(Scalar.cmpi = _); exact k0_h3) | (guard_target = k0_cond4 _ = _; exact k0_h4))
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [HT0]; · iexact HT0
    isplitl [HT1]; · iexact HT1
    isplitl [HO10]; · iexists _; iexact HO10
    isplitl [HS0]; · iexact HS0
    isplitl [HS1]; · iexact HS1
    isplitl [HS2]; · iexact HS2
    iexact HS3⟩

/-- The one store covers the output block. -/
theorem cover0_B_10 (c : Dev nD) (i : grid0.Coords) (arg4 : Memref sig .tc .smem S64 .f32) (harg4 : arg4.IsWhole) (arg5 : Memref sig .tc .smem S64 .f32) (harg5 : arg5.IsWhole) (arg6 : Memref sig .tc .smem S64 .f32) (harg6 : arg6.IsWhole) (arg7 : Memref sig .tc .vmem S512x2048 .bf16) (harg7 : arg7.IsWhole) (arg8 : Memref sig .tc .vmem S1x2048x1024 .fp8e4m3) (harg8 : arg8.IsWhole) (arg9 : Memref sig .tc .vmem S1x1x1024 .f32) (harg9 : arg9.IsWhole) (arg10 : Memref sig .tc .vmem S1x2048x1024 .fp8e4m3) (harg10 : arg10.IsWhole) (arg11 : Memref sig .tc .vmem S1x1x1024 .f32) (harg11 : arg11.IsWhole) (arg12 : Memref sig .tc .vmem S1x1024x2048 .fp8e4m3) (harg12 : arg12.IsWhole) (arg13 : Memref sig .tc .vmem S1x1x2048 .f32) (harg13 : arg13.IsWhole) (arg14 : Memref sig .tc .vmem S512x2048 .bf16) (harg14 : arg14.IsWhole) (T0 : (S544.Idx → Elt Bits .i32)) (T1 : (S544.Idx → Elt Bits .i32))
     (x0 : (S64.Idx → Elt Bits .f32)) (x1 : (S64.Idx → Elt Bits .f32)) (x2 : (S64.Idx → Elt Bits .f32)) (x3 : (S512x2048.Idx → Elt Bits .bf16)) (x4 : (S1x2048x1024.Idx → Elt Bits .fp8e4m3)) (x5 : (S1x1x1024.Idx → Elt Bits .f32)) (x6 : (S1x2048x1024.Idx → Elt Bits .fp8e4m3)) (x7 : (S1x1x1024.Idx → Elt Bits .f32)) (x8 : (S1x1024x2048.Idx → Elt Bits .fp8e4m3)) (x9 : (S1x1x2048.Idx → Elt Bits .f32)) (xa0 : Buf (Elt Bits) ((c : Thread nD τ).loc cc0_scratch0)) (xa1 : Buf (Elt Bits) ((c : Thread nD τ).loc cc0_scratch1)) (xa2 : Buf (Elt Bits) ((c : Thread nD τ).loc cc0_scratch2)) (xa3 : Buf (Elt Bits) ((c : Thread nD τ).loc cc0_scratch3)) (k0_hw1 : k0_chk1 i (View.readAt (Elt Bits) (tbM0_1).view (Rect.unit (s := S544) (k0_off1 i) S1.size (k0_off1_inb i)).toLoadRect T1 (Shape.Idx.first (numel1_S1.symm ▸ Nat.one_pos))) (View.readAt (Elt Bits) (tbM0_0).view (Rect.unit (s := S544) (k0_off1 i) S1.size (k0_off1_inb i)).toLoadRect T0 (Shape.Idx.first (numel1_S1.symm ▸ Nat.one_pos)))) (k0_h1 : ¬(k0_cond1 i (View.readAt (Elt Bits) (tbM0_1).view (Rect.unit (s := S544) (k0_off1 i) S1.size (k0_off1_inb i)).toLoadRect T1 (Shape.Idx.first (numel1_S1.symm ▸ Nat.one_pos))) = 1#1)) (k0_h2 : k0_cond2 (View.readAt (Elt Bits) (tbM0_1).view (Rect.unit (s := S544) (k0_off1 i) S1.size (k0_off1_inb i)).toLoadRect T1 (Shape.Idx.first (numel1_S1.symm ▸ Nat.one_pos))) = 1#1) (k0_h3 : ¬((Scalar.cmpi .ne (Scalar.extui (Scalar.cmpi .eq (BitVec.ofNat 32 (i 1).val) 0#32)) 0#32) = 1#1)) (k0_h4 : k0_cond4 i = 1#1) (y : S512x2048.Idx) :
    ∃ pc ∈ (kernelRun0_B c i arg4 harg4 arg5 harg5 arg6 harg6 arg7 harg7 arg8 harg8 arg9 harg9 arg10 harg10 arg11 harg11 arg12 harg12 arg13 harg13 arg14 harg14 T0 T1 x0 x1 x2 x3 x4 x5 x6 x7 x8 x9 xa0 xa1 xa2 xa3 k0_hw1 k0_h1 k0_h2 k0_h3 k0_h4).1, y ∈ pc.1.set :=
  View.cover_of_tiledL (kernelRun0_B c i arg4 harg4 arg5 harg5 arg6 harg6 arg7 harg7 arg8 harg8 arg9 harg9 arg10 harg10 arg11 harg11 arg12 harg12 arg13 harg13 arg14 harg14 T0 T1 x0 x1 x2 x3 x4 x5 x6 x7 x8 x9 xa0 xa1 xa2 xa3 k0_hw1 k0_h1 k0_h2 k0_h3 k0_h4).1 S512x2048.size (by sl_kernel_rfl) y

/-- What the path leaves in the output block. -/
def out0_B_10 (c : Dev nD) (i : grid0.Coords) (arg4 : Memref sig .tc .smem S64 .f32) (harg4 : arg4.IsWhole) (arg5 : Memref sig .tc .smem S64 .f32) (harg5 : arg5.IsWhole) (arg6 : Memref sig .tc .smem S64 .f32) (harg6 : arg6.IsWhole) (arg7 : Memref sig .tc .vmem S512x2048 .bf16) (harg7 : arg7.IsWhole) (arg8 : Memref sig .tc .vmem S1x2048x1024 .fp8e4m3) (harg8 : arg8.IsWhole) (arg9 : Memref sig .tc .vmem S1x1x1024 .f32) (harg9 : arg9.IsWhole) (arg10 : Memref sig .tc .vmem S1x2048x1024 .fp8e4m3) (harg10 : arg10.IsWhole) (arg11 : Memref sig .tc .vmem S1x1x1024 .f32) (harg11 : arg11.IsWhole) (arg12 : Memref sig .tc .vmem S1x1024x2048 .fp8e4m3) (harg12 : arg12.IsWhole) (arg13 : Memref sig .tc .vmem S1x1x2048 .f32) (harg13 : arg13.IsWhole) (arg14 : Memref sig .tc .vmem S512x2048 .bf16) (harg14 : arg14.IsWhole) (T0 : (S544.Idx → Elt Bits .i32)) (T1 : (S544.Idx → Elt Bits .i32))
     (x0 : (S64.Idx → Elt Bits .f32)) (x1 : (S64.Idx → Elt Bits .f32)) (x2 : (S64.Idx → Elt Bits .f32)) (x3 : (S512x2048.Idx → Elt Bits .bf16)) (x4 : (S1x2048x1024.Idx → Elt Bits .fp8e4m3)) (x5 : (S1x1x1024.Idx → Elt Bits .f32)) (x6 : (S1x2048x1024.Idx → Elt Bits .fp8e4m3)) (x7 : (S1x1x1024.Idx → Elt Bits .f32)) (x8 : (S1x1024x2048.Idx → Elt Bits .fp8e4m3)) (x9 : (S1x1x2048.Idx → Elt Bits .f32)) (xa0 : Buf (Elt Bits) ((c : Thread nD τ).loc cc0_scratch0)) (xa1 : Buf (Elt Bits) ((c : Thread nD τ).loc cc0_scratch1)) (xa2 : Buf (Elt Bits) ((c : Thread nD τ).loc cc0_scratch2)) (xa3 : Buf (Elt Bits) ((c : Thread nD τ).loc cc0_scratch3)) (k0_hw1 : k0_chk1 i (View.readAt (Elt Bits) (tbM0_1).view (Rect.unit (s := S544) (k0_off1 i) S1.size (k0_off1_inb i)).toLoadRect T1 (Shape.Idx.first (numel1_S1.symm ▸ Nat.one_pos))) (View.readAt (Elt Bits) (tbM0_0).view (Rect.unit (s := S544) (k0_off1 i) S1.size (k0_off1_inb i)).toLoadRect T0 (Shape.Idx.first (numel1_S1.symm ▸ Nat.one_pos)))) (k0_h1 : ¬(k0_cond1 i (View.readAt (Elt Bits) (tbM0_1).view (Rect.unit (s := S544) (k0_off1 i) S1.size (k0_off1_inb i)).toLoadRect T1 (Shape.Idx.first (numel1_S1.symm ▸ Nat.one_pos))) = 1#1)) (k0_h2 : k0_cond2 (View.readAt (Elt Bits) (tbM0_1).view (Rect.unit (s := S544) (k0_off1 i) S1.size (k0_off1_inb i)).toLoadRect T1 (Shape.Idx.first (numel1_S1.symm ▸ Nat.one_pos))) = 1#1) (k0_h3 : ¬((Scalar.cmpi .ne (Scalar.extui (Scalar.cmpi .eq (BitVec.ofNat 32 (i 1).val) 0#32)) 0#32) = 1#1)) (k0_h4 : k0_cond4 i = 1#1) : (S512x2048.Idx → Elt Bits .bf16) :=
  VO0_10.read (Elt Bits) (VO0_10.writes (Elt Bits) VO0_10.junk (kernelRun0_B c i arg4 harg4 arg5 harg5 arg6 harg6 arg7 harg7 arg8 harg8 arg9 harg9 arg10 harg10 arg11 harg11 arg12 harg12 arg13 harg13 arg14 harg14 T0 T1 x0 x1 x2 x3 x4 x5 x6 x7 x8 x9 xa0 xa1 xa2 xa3 k0_hw1 k0_h1 k0_h2 k0_h3 k0_h4).1)

set_option backward.proofsInPublic true in
set_option maxHeartbeats 8000000 in
/-- The kernel body on path C, the first half of an unused block: it stores zeros. -/
noncomputable def kernelRun0_C (c : Dev nD) (i : grid0.Coords) (arg4 : Memref sig .tc .smem S64 .f32) (harg4 : arg4.IsWhole) (arg5 : Memref sig .tc .smem S64 .f32) (harg5 : arg5.IsWhole) (arg6 : Memref sig .tc .smem S64 .f32) (harg6 : arg6.IsWhole) (arg7 : Memref sig .tc .vmem S512x2048 .bf16) (harg7 : arg7.IsWhole) (arg8 : Memref sig .tc .vmem S1x2048x1024 .fp8e4m3) (harg8 : arg8.IsWhole) (arg9 : Memref sig .tc .vmem S1x1x1024 .f32) (harg9 : arg9.IsWhole) (arg10 : Memref sig .tc .vmem S1x2048x1024 .fp8e4m3) (harg10 : arg10.IsWhole) (arg11 : Memref sig .tc .vmem S1x1x1024 .f32) (harg11 : arg11.IsWhole) (arg12 : Memref sig .tc .vmem S1x1024x2048 .fp8e4m3) (harg12 : arg12.IsWhole) (arg13 : Memref sig .tc .vmem S1x1x2048 .f32) (harg13 : arg13.IsWhole) (arg14 : Memref sig .tc .vmem S512x2048 .bf16) (harg14 : arg14.IsWhole) (T0 : (S544.Idx → Elt Bits .i32)) (T1 : (S544.Idx → Elt Bits .i32))
     (x0 : (S64.Idx → Elt Bits .f32)) (x1 : (S64.Idx → Elt Bits .f32)) (x2 : (S64.Idx → Elt Bits .f32)) (x3 : (S512x2048.Idx → Elt Bits .bf16)) (x4 : (S1x2048x1024.Idx → Elt Bits .fp8e4m3)) (x5 : (S1x1x1024.Idx → Elt Bits .f32)) (x6 : (S1x2048x1024.Idx → Elt Bits .fp8e4m3)) (x7 : (S1x1x1024.Idx → Elt Bits .f32)) (x8 : (S1x1024x2048.Idx → Elt Bits .fp8e4m3)) (x9 : (S1x1x2048.Idx → Elt Bits .f32)) (xa0 : Buf (Elt Bits) ((c : Thread nD τ).loc cc0_scratch0)) (xa1 : Buf (Elt Bits) ((c : Thread nD τ).loc cc0_scratch1)) (xa2 : Buf (Elt Bits) ((c : Thread nD τ).loc cc0_scratch2)) (xa3 : Buf (Elt Bits) ((c : Thread nD τ).loc cc0_scratch3)) (k0_hw1 : k0_chk1 i (View.readAt (Elt Bits) (tbM0_1).view (Rect.unit (s := S544) (k0_off1 i) S1.size (k0_off1_inb i)).toLoadRect T1 (Shape.Idx.first (numel1_S1.symm ▸ Nat.one_pos))) (View.readAt (Elt Bits) (tbM0_0).view (Rect.unit (s := S544) (k0_off1 i) S1.size (k0_off1_inb i)).toLoadRect T0 (Shape.Idx.first (numel1_S1.symm ▸ Nat.one_pos)))) (k0_h1 : k0_cond1 i (View.readAt (Elt Bits) (tbM0_1).view (Rect.unit (s := S544) (k0_off1 i) S1.size (k0_off1_inb i)).toLoadRect T1 (Shape.Idx.first (numel1_S1.symm ▸ Nat.one_pos))) = 1#1) (k0_h2 : ¬(k0_cond2 (View.readAt (Elt Bits) (tbM0_1).view (Rect.unit (s := S544) (k0_off1 i) S1.size (k0_off1_inb i)).toLoadRect T1 (Shape.Idx.first (numel1_S1.symm ▸ Nat.one_pos))) = 1#1)) :
    Σ' (out0 : List (View.Piece (Elt Bits) S512x2048 .bf16)) (out1 : Buf (Elt Bits) ((c : Thread nD τ).loc cc0_scratch0)) (out2 : Buf (Elt Bits) ((c : Thread nD τ).loc cc0_scratch1)) (out3 : Buf (Elt Bits) ((c : Thread nD τ).loc cc0_scratch2)), { out4 : Buf (Elt Bits) ((c : Thread nD τ).loc cc0_scratch3) //
      ∀ (K : PUnit → sProp (MT nD τ sig Unit (Elt Bits) ℕ (UR sig nD τ) ℕ)),
        iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (arg7.view.loc (c : Thread nD τ) ↦[arg7.view.set]{fullShare} arg7.view.rep x3)
          ∗ (arg8.view.loc (c : Thread nD τ) ↦[arg8.view.set]{fullShare} arg8.view.rep x4)
          ∗ (arg9.view.loc (c : Thread nD τ) ↦[arg9.view.set]{fullShare} arg9.view.rep x5)
          ∗ (arg10.view.loc (c : Thread nD τ) ↦[arg10.view.set]{fullShare} arg10.view.rep x6)
          ∗ (arg11.view.loc (c : Thread nD τ) ↦[arg11.view.set]{fullShare} arg11.view.rep x7)
          ∗ (arg12.view.loc (c : Thread nD τ) ↦[arg12.view.set]{fullShare} arg12.view.rep x8)
          ∗ (arg13.view.loc (c : Thread nD τ) ↦[arg13.view.set]{fullShare} arg13.view.rep x9)
          ∗ (tbM0_0.view.loc (c : Thread nD τ) ↦{fullShare.right} T0)
          ∗ (tbM0_1.view.loc (c : Thread nD τ) ↦{fullShare.right} T1)
          ∗ (∃ d, owns (c : Thread nD τ) arg14 fullShare d)
          ∗ (scM0_0.view.loc (c : Thread nD τ) ↦{fullShare} xa0)
          ∗ (scM0_1.view.loc (c : Thread nD τ) ↦{fullShare} xa1)
          ∗ (scM0_2.view.loc (c : Thread nD τ) ↦{fullShare} xa2)
          ∗ (scM0_3.view.loc (c : Thread nD τ) ↦{fullShare} xa3)
          ∗ (iprop((arg4.view.loc (c : Thread nD τ) ↦[arg4.view.set]{fullShare} arg4.view.rep x0)
              ∗ (arg5.view.loc (c : Thread nD τ) ↦[arg5.view.set]{fullShare} arg5.view.rep x1)
              ∗ (arg6.view.loc (c : Thread nD τ) ↦[arg6.view.set]{fullShare} arg6.view.rep x2)
              ∗ (arg7.view.loc (c : Thread nD τ) ↦[arg7.view.set]{fullShare} arg7.view.rep x3)
              ∗ (arg8.view.loc (c : Thread nD τ) ↦[arg8.view.set]{fullShare} arg8.view.rep x4)
              ∗ (arg9.view.loc (c : Thread nD τ) ↦[arg9.view.set]{fullShare} arg9.view.rep x5)
              ∗ (arg10.view.loc (c : Thread nD τ) ↦[arg10.view.set]{fullShare} arg10.view.rep x6)
              ∗ (arg11.view.loc (c : Thread nD τ) ↦[arg11.view.set]{fullShare} arg11.view.rep x7)
              ∗ (arg12.view.loc (c : Thread nD τ) ↦[arg12.view.set]{fullShare} arg12.view.rep x8)
              ∗ (arg13.view.loc (c : Thread nD τ) ↦[arg13.view.set]{fullShare} arg13.view.rep x9)
              ∗ (tbM0_0.view.loc (c : Thread nD τ) ↦{fullShare.right} T0)
              ∗ (tbM0_1.view.loc (c : Thread nD τ) ↦{fullShare.right} T1)
              ∗ (∃ f, arg14.view.loc (c : Thread nD τ) ↦[arg14.view.set]{fullShare} arg14.view.writes (Elt Bits) f out0)
              ∗ (scM0_0.view.loc (c : Thread nD τ) ↦{fullShare} out1)
              ∗ (scM0_1.view.loc (c : Thread nD τ) ↦{fullShare} out2)
              ∗ (scM0_2.view.loc (c : Thread nD τ) ↦{fullShare} out3)
              ∗ (scM0_3.view.loc (c : Thread nD τ) ↦{fullShare} out4)) -∗ K ⟨⟩))
          ⊢ wp frame (wpE (defs₀ (F := Bits)) Variants.none c none) Set.univ (cc0_experts i tbM0_0 (Memref.isWhole_whole _) tbM0_1 (Memref.isWhole_whole _) arg4 harg4 arg5 harg5 arg6 harg6 arg7 harg7 arg8 harg8 arg9 harg9 arg10 harg10 arg11 harg11 arg12 harg12 arg13 harg13 arg14 harg14 scM0_0 (Memref.isWhole_whole _) scM0_1 (Memref.isWhole_whole _) scM0_2 (Memref.isWhole_whole _) scM0_3 (Memref.isWhole_whole _)) K } :=
  ⟨_, _, _, _, _, fun K => by
    unfold owns
    rw [cc0_experts_eq_skeleton]; unfold cc0_experts_skel
    iintro ⟨H0, H1, H2, H3, H4, H5, H6, H7, H8, H9, HT0, HT1, ⟨%d10, %f10, -, HO10⟩, HS0, HS1, HS2, HS3, Hk⟩
    have hS0 : scM0_0.IsWhole := Memref.isWhole_whole _
    have hS1 : scM0_1.IsWhole := Memref.isWhole_whole _
    have hS2 : scM0_2.IsWhole := Memref.isWhole_whole _
    have hS3 : scM0_3.IsWhole := Memref.isWhole_whole _
    have hT0 : tbM0_0.IsWhole := Memref.isWhole_whole _
    have hT1 : tbM0_1.IsWhole := Memref.isWhole_whole _
    sl_exec! (disch := first | (guard_target = k0_chk1 _ _ _; exact k0_hw1) | (guard_target = k0_cond1 _ _ = _; exact k0_h1) | (guard_target = ¬(k0_cond2 _ = _); exact k0_h2))
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [HT0]; · iexact HT0
    isplitl [HT1]; · iexact HT1
    isplitl [HO10]; · iexists _; iexact HO10
    isplitl [HS0]; · iexact HS0
    isplitl [HS1]; · iexact HS1
    isplitl [HS2]; · iexact HS2
    iexact HS3⟩

/-- The one store covers the output block. -/
theorem cover0_C_10 (c : Dev nD) (i : grid0.Coords) (arg4 : Memref sig .tc .smem S64 .f32) (harg4 : arg4.IsWhole) (arg5 : Memref sig .tc .smem S64 .f32) (harg5 : arg5.IsWhole) (arg6 : Memref sig .tc .smem S64 .f32) (harg6 : arg6.IsWhole) (arg7 : Memref sig .tc .vmem S512x2048 .bf16) (harg7 : arg7.IsWhole) (arg8 : Memref sig .tc .vmem S1x2048x1024 .fp8e4m3) (harg8 : arg8.IsWhole) (arg9 : Memref sig .tc .vmem S1x1x1024 .f32) (harg9 : arg9.IsWhole) (arg10 : Memref sig .tc .vmem S1x2048x1024 .fp8e4m3) (harg10 : arg10.IsWhole) (arg11 : Memref sig .tc .vmem S1x1x1024 .f32) (harg11 : arg11.IsWhole) (arg12 : Memref sig .tc .vmem S1x1024x2048 .fp8e4m3) (harg12 : arg12.IsWhole) (arg13 : Memref sig .tc .vmem S1x1x2048 .f32) (harg13 : arg13.IsWhole) (arg14 : Memref sig .tc .vmem S512x2048 .bf16) (harg14 : arg14.IsWhole) (T0 : (S544.Idx → Elt Bits .i32)) (T1 : (S544.Idx → Elt Bits .i32))
     (x0 : (S64.Idx → Elt Bits .f32)) (x1 : (S64.Idx → Elt Bits .f32)) (x2 : (S64.Idx → Elt Bits .f32)) (x3 : (S512x2048.Idx → Elt Bits .bf16)) (x4 : (S1x2048x1024.Idx → Elt Bits .fp8e4m3)) (x5 : (S1x1x1024.Idx → Elt Bits .f32)) (x6 : (S1x2048x1024.Idx → Elt Bits .fp8e4m3)) (x7 : (S1x1x1024.Idx → Elt Bits .f32)) (x8 : (S1x1024x2048.Idx → Elt Bits .fp8e4m3)) (x9 : (S1x1x2048.Idx → Elt Bits .f32)) (xa0 : Buf (Elt Bits) ((c : Thread nD τ).loc cc0_scratch0)) (xa1 : Buf (Elt Bits) ((c : Thread nD τ).loc cc0_scratch1)) (xa2 : Buf (Elt Bits) ((c : Thread nD τ).loc cc0_scratch2)) (xa3 : Buf (Elt Bits) ((c : Thread nD τ).loc cc0_scratch3)) (k0_hw1 : k0_chk1 i (View.readAt (Elt Bits) (tbM0_1).view (Rect.unit (s := S544) (k0_off1 i) S1.size (k0_off1_inb i)).toLoadRect T1 (Shape.Idx.first (numel1_S1.symm ▸ Nat.one_pos))) (View.readAt (Elt Bits) (tbM0_0).view (Rect.unit (s := S544) (k0_off1 i) S1.size (k0_off1_inb i)).toLoadRect T0 (Shape.Idx.first (numel1_S1.symm ▸ Nat.one_pos)))) (k0_h1 : k0_cond1 i (View.readAt (Elt Bits) (tbM0_1).view (Rect.unit (s := S544) (k0_off1 i) S1.size (k0_off1_inb i)).toLoadRect T1 (Shape.Idx.first (numel1_S1.symm ▸ Nat.one_pos))) = 1#1) (k0_h2 : ¬(k0_cond2 (View.readAt (Elt Bits) (tbM0_1).view (Rect.unit (s := S544) (k0_off1 i) S1.size (k0_off1_inb i)).toLoadRect T1 (Shape.Idx.first (numel1_S1.symm ▸ Nat.one_pos))) = 1#1)) (y : S512x2048.Idx) :
    ∃ pc ∈ (kernelRun0_C c i arg4 harg4 arg5 harg5 arg6 harg6 arg7 harg7 arg8 harg8 arg9 harg9 arg10 harg10 arg11 harg11 arg12 harg12 arg13 harg13 arg14 harg14 T0 T1 x0 x1 x2 x3 x4 x5 x6 x7 x8 x9 xa0 xa1 xa2 xa3 k0_hw1 k0_h1 k0_h2).1, y ∈ pc.1.set :=
  View.cover_of_tiledL (kernelRun0_C c i arg4 harg4 arg5 harg5 arg6 harg6 arg7 harg7 arg8 harg8 arg9 harg9 arg10 harg10 arg11 harg11 arg12 harg12 arg13 harg13 arg14 harg14 T0 T1 x0 x1 x2 x3 x4 x5 x6 x7 x8 x9 xa0 xa1 xa2 xa3 k0_hw1 k0_h1 k0_h2).1 S512x2048.size (by sl_kernel_rfl) y

/-- What the path leaves in the output block. -/
def out0_C_10 (c : Dev nD) (i : grid0.Coords) (arg4 : Memref sig .tc .smem S64 .f32) (harg4 : arg4.IsWhole) (arg5 : Memref sig .tc .smem S64 .f32) (harg5 : arg5.IsWhole) (arg6 : Memref sig .tc .smem S64 .f32) (harg6 : arg6.IsWhole) (arg7 : Memref sig .tc .vmem S512x2048 .bf16) (harg7 : arg7.IsWhole) (arg8 : Memref sig .tc .vmem S1x2048x1024 .fp8e4m3) (harg8 : arg8.IsWhole) (arg9 : Memref sig .tc .vmem S1x1x1024 .f32) (harg9 : arg9.IsWhole) (arg10 : Memref sig .tc .vmem S1x2048x1024 .fp8e4m3) (harg10 : arg10.IsWhole) (arg11 : Memref sig .tc .vmem S1x1x1024 .f32) (harg11 : arg11.IsWhole) (arg12 : Memref sig .tc .vmem S1x1024x2048 .fp8e4m3) (harg12 : arg12.IsWhole) (arg13 : Memref sig .tc .vmem S1x1x2048 .f32) (harg13 : arg13.IsWhole) (arg14 : Memref sig .tc .vmem S512x2048 .bf16) (harg14 : arg14.IsWhole) (T0 : (S544.Idx → Elt Bits .i32)) (T1 : (S544.Idx → Elt Bits .i32))
     (x0 : (S64.Idx → Elt Bits .f32)) (x1 : (S64.Idx → Elt Bits .f32)) (x2 : (S64.Idx → Elt Bits .f32)) (x3 : (S512x2048.Idx → Elt Bits .bf16)) (x4 : (S1x2048x1024.Idx → Elt Bits .fp8e4m3)) (x5 : (S1x1x1024.Idx → Elt Bits .f32)) (x6 : (S1x2048x1024.Idx → Elt Bits .fp8e4m3)) (x7 : (S1x1x1024.Idx → Elt Bits .f32)) (x8 : (S1x1024x2048.Idx → Elt Bits .fp8e4m3)) (x9 : (S1x1x2048.Idx → Elt Bits .f32)) (xa0 : Buf (Elt Bits) ((c : Thread nD τ).loc cc0_scratch0)) (xa1 : Buf (Elt Bits) ((c : Thread nD τ).loc cc0_scratch1)) (xa2 : Buf (Elt Bits) ((c : Thread nD τ).loc cc0_scratch2)) (xa3 : Buf (Elt Bits) ((c : Thread nD τ).loc cc0_scratch3)) (k0_hw1 : k0_chk1 i (View.readAt (Elt Bits) (tbM0_1).view (Rect.unit (s := S544) (k0_off1 i) S1.size (k0_off1_inb i)).toLoadRect T1 (Shape.Idx.first (numel1_S1.symm ▸ Nat.one_pos))) (View.readAt (Elt Bits) (tbM0_0).view (Rect.unit (s := S544) (k0_off1 i) S1.size (k0_off1_inb i)).toLoadRect T0 (Shape.Idx.first (numel1_S1.symm ▸ Nat.one_pos)))) (k0_h1 : k0_cond1 i (View.readAt (Elt Bits) (tbM0_1).view (Rect.unit (s := S544) (k0_off1 i) S1.size (k0_off1_inb i)).toLoadRect T1 (Shape.Idx.first (numel1_S1.symm ▸ Nat.one_pos))) = 1#1) (k0_h2 : ¬(k0_cond2 (View.readAt (Elt Bits) (tbM0_1).view (Rect.unit (s := S544) (k0_off1 i) S1.size (k0_off1_inb i)).toLoadRect T1 (Shape.Idx.first (numel1_S1.symm ▸ Nat.one_pos))) = 1#1)) : (S512x2048.Idx → Elt Bits .bf16) :=
  VO0_10.read (Elt Bits) (VO0_10.writes (Elt Bits) VO0_10.junk (kernelRun0_C c i arg4 harg4 arg5 harg5 arg6 harg6 arg7 harg7 arg8 harg8 arg9 harg9 arg10 harg10 arg11 harg11 arg12 harg12 arg13 harg13 arg14 harg14 T0 T1 x0 x1 x2 x3 x4 x5 x6 x7 x8 x9 xa0 xa1 xa2 xa3 k0_hw1 k0_h1 k0_h2).1)

set_option backward.proofsInPublic true in
set_option maxHeartbeats 8000000 in
/-- The kernel body on path D, the second half of an unused block: it stores nothing. -/
noncomputable def kernelRun0_D (c : Dev nD) (i : grid0.Coords) (arg4 : Memref sig .tc .smem S64 .f32) (harg4 : arg4.IsWhole) (arg5 : Memref sig .tc .smem S64 .f32) (harg5 : arg5.IsWhole) (arg6 : Memref sig .tc .smem S64 .f32) (harg6 : arg6.IsWhole) (arg7 : Memref sig .tc .vmem S512x2048 .bf16) (harg7 : arg7.IsWhole) (arg8 : Memref sig .tc .vmem S1x2048x1024 .fp8e4m3) (harg8 : arg8.IsWhole) (arg9 : Memref sig .tc .vmem S1x1x1024 .f32) (harg9 : arg9.IsWhole) (arg10 : Memref sig .tc .vmem S1x2048x1024 .fp8e4m3) (harg10 : arg10.IsWhole) (arg11 : Memref sig .tc .vmem S1x1x1024 .f32) (harg11 : arg11.IsWhole) (arg12 : Memref sig .tc .vmem S1x1024x2048 .fp8e4m3) (harg12 : arg12.IsWhole) (arg13 : Memref sig .tc .vmem S1x1x2048 .f32) (harg13 : arg13.IsWhole) (arg14 : Memref sig .tc .vmem S512x2048 .bf16) (harg14 : arg14.IsWhole) (T0 : (S544.Idx → Elt Bits .i32)) (T1 : (S544.Idx → Elt Bits .i32))
     (x0 : (S64.Idx → Elt Bits .f32)) (x1 : (S64.Idx → Elt Bits .f32)) (x2 : (S64.Idx → Elt Bits .f32)) (x3 : (S512x2048.Idx → Elt Bits .bf16)) (x4 : (S1x2048x1024.Idx → Elt Bits .fp8e4m3)) (x5 : (S1x1x1024.Idx → Elt Bits .f32)) (x6 : (S1x2048x1024.Idx → Elt Bits .fp8e4m3)) (x7 : (S1x1x1024.Idx → Elt Bits .f32)) (x8 : (S1x1024x2048.Idx → Elt Bits .fp8e4m3)) (x9 : (S1x1x2048.Idx → Elt Bits .f32)) (xa0 : Buf (Elt Bits) ((c : Thread nD τ).loc cc0_scratch0)) (xa1 : Buf (Elt Bits) ((c : Thread nD τ).loc cc0_scratch1)) (xa2 : Buf (Elt Bits) ((c : Thread nD τ).loc cc0_scratch2)) (xa3 : Buf (Elt Bits) ((c : Thread nD τ).loc cc0_scratch3)) (k0_hw1 : k0_chk1 i (View.readAt (Elt Bits) (tbM0_1).view (Rect.unit (s := S544) (k0_off1 i) S1.size (k0_off1_inb i)).toLoadRect T1 (Shape.Idx.first (numel1_S1.symm ▸ Nat.one_pos))) (View.readAt (Elt Bits) (tbM0_0).view (Rect.unit (s := S544) (k0_off1 i) S1.size (k0_off1_inb i)).toLoadRect T0 (Shape.Idx.first (numel1_S1.symm ▸ Nat.one_pos)))) (k0_h1 : ¬(k0_cond1 i (View.readAt (Elt Bits) (tbM0_1).view (Rect.unit (s := S544) (k0_off1 i) S1.size (k0_off1_inb i)).toLoadRect T1 (Shape.Idx.first (numel1_S1.symm ▸ Nat.one_pos))) = 1#1)) (k0_h2 : ¬(k0_cond2 (View.readAt (Elt Bits) (tbM0_1).view (Rect.unit (s := S544) (k0_off1 i) S1.size (k0_off1_inb i)).toLoadRect T1 (Shape.Idx.first (numel1_S1.symm ▸ Nat.one_pos))) = 1#1)) :
    Σ' (out0 : Buf (Elt Bits) ((c : Thread nD τ).loc cc0_scratch0)) (out1 : Buf (Elt Bits) ((c : Thread nD τ).loc cc0_scratch1)) (out2 : Buf (Elt Bits) ((c : Thread nD τ).loc cc0_scratch2)), { out3 : Buf (Elt Bits) ((c : Thread nD τ).loc cc0_scratch3) //
      ∀ (y10 : (S512x2048.Idx → Elt Bits .bf16)) (K : PUnit → sProp (MT nD τ sig Unit (Elt Bits) ℕ (UR sig nD τ) ℕ)),
        iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (arg7.view.loc (c : Thread nD τ) ↦[arg7.view.set]{fullShare} arg7.view.rep x3)
          ∗ (arg8.view.loc (c : Thread nD τ) ↦[arg8.view.set]{fullShare} arg8.view.rep x4)
          ∗ (arg9.view.loc (c : Thread nD τ) ↦[arg9.view.set]{fullShare} arg9.view.rep x5)
          ∗ (arg10.view.loc (c : Thread nD τ) ↦[arg10.view.set]{fullShare} arg10.view.rep x6)
          ∗ (arg11.view.loc (c : Thread nD τ) ↦[arg11.view.set]{fullShare} arg11.view.rep x7)
          ∗ (arg12.view.loc (c : Thread nD τ) ↦[arg12.view.set]{fullShare} arg12.view.rep x8)
          ∗ (arg13.view.loc (c : Thread nD τ) ↦[arg13.view.set]{fullShare} arg13.view.rep x9)
          ∗ (tbM0_0.view.loc (c : Thread nD τ) ↦{fullShare.right} T0)
          ∗ (tbM0_1.view.loc (c : Thread nD τ) ↦{fullShare.right} T1)
          ∗ owns (c : Thread nD τ) arg14 fullShare y10
          ∗ (scM0_0.view.loc (c : Thread nD τ) ↦{fullShare} xa0)
          ∗ (scM0_1.view.loc (c : Thread nD τ) ↦{fullShare} xa1)
          ∗ (scM0_2.view.loc (c : Thread nD τ) ↦{fullShare} xa2)
          ∗ (scM0_3.view.loc (c : Thread nD τ) ↦{fullShare} xa3)
          ∗ (iprop((arg4.view.loc (c : Thread nD τ) ↦[arg4.view.set]{fullShare} arg4.view.rep x0)
              ∗ (arg5.view.loc (c : Thread nD τ) ↦[arg5.view.set]{fullShare} arg5.view.rep x1)
              ∗ (arg6.view.loc (c : Thread nD τ) ↦[arg6.view.set]{fullShare} arg6.view.rep x2)
              ∗ (arg7.view.loc (c : Thread nD τ) ↦[arg7.view.set]{fullShare} arg7.view.rep x3)
              ∗ (arg8.view.loc (c : Thread nD τ) ↦[arg8.view.set]{fullShare} arg8.view.rep x4)
              ∗ (arg9.view.loc (c : Thread nD τ) ↦[arg9.view.set]{fullShare} arg9.view.rep x5)
              ∗ (arg10.view.loc (c : Thread nD τ) ↦[arg10.view.set]{fullShare} arg10.view.rep x6)
              ∗ (arg11.view.loc (c : Thread nD τ) ↦[arg11.view.set]{fullShare} arg11.view.rep x7)
              ∗ (arg12.view.loc (c : Thread nD τ) ↦[arg12.view.set]{fullShare} arg12.view.rep x8)
              ∗ (arg13.view.loc (c : Thread nD τ) ↦[arg13.view.set]{fullShare} arg13.view.rep x9)
              ∗ (tbM0_0.view.loc (c : Thread nD τ) ↦{fullShare.right} T0)
              ∗ (tbM0_1.view.loc (c : Thread nD τ) ↦{fullShare.right} T1)
              ∗ owns (c : Thread nD τ) arg14 fullShare y10
              ∗ (scM0_0.view.loc (c : Thread nD τ) ↦{fullShare} out0)
              ∗ (scM0_1.view.loc (c : Thread nD τ) ↦{fullShare} out1)
              ∗ (scM0_2.view.loc (c : Thread nD τ) ↦{fullShare} out2)
              ∗ (scM0_3.view.loc (c : Thread nD τ) ↦{fullShare} out3)) -∗ K ⟨⟩))
          ⊢ wp frame (wpE (defs₀ (F := Bits)) Variants.none c none) Set.univ (cc0_experts i tbM0_0 (Memref.isWhole_whole _) tbM0_1 (Memref.isWhole_whole _) arg4 harg4 arg5 harg5 arg6 harg6 arg7 harg7 arg8 harg8 arg9 harg9 arg10 harg10 arg11 harg11 arg12 harg12 arg13 harg13 arg14 harg14 scM0_0 (Memref.isWhole_whole _) scM0_1 (Memref.isWhole_whole _) scM0_2 (Memref.isWhole_whole _) scM0_3 (Memref.isWhole_whole _)) K } :=
  ⟨_, _, _, _, fun (y10 : (S512x2048.Idx → Elt Bits .bf16)) K => by
    unfold owns
    rw [cc0_experts_eq_skeleton]; unfold cc0_experts_skel
    iintro ⟨H0, H1, H2, H3, H4, H5, H6, H7, H8, H9, HT0, HT1, ⟨%f10, %hf10, HO10⟩, HS0, HS1, HS2, HS3, Hk⟩
    obtain rfl := harg14.eq_unread hf10
    have hS0 : scM0_0.IsWhole := Memref.isWhole_whole _
    have hS1 : scM0_1.IsWhole := Memref.isWhole_whole _
    have hS2 : scM0_2.IsWhole := Memref.isWhole_whole _
    have hS3 : scM0_3.IsWhole := Memref.isWhole_whole _
    have hT0 : tbM0_0.IsWhole := Memref.isWhole_whole _
    have hT1 : tbM0_1.IsWhole := Memref.isWhole_whole _
    sl_exec! (disch := first | (guard_target = k0_chk1 _ _ _; exact k0_hw1) | (guard_target = ¬(k0_cond1 _ _ = _); exact k0_h1) | (guard_target = ¬(k0_cond2 _ = _); exact k0_h2))
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [HT0]; · iexact HT0
    isplitl [HT1]; · iexact HT1
    isplitl [HO10]
    · iexists _; isplitr; · ipureintro; exact harg14.read_unread _
      iexact HO10
    isplitl [HS0]; · iexact HS0
    isplitl [HS1]; · iexact HS1
    isplitl [HS2]; · iexact HS2
    iexact HS3⟩

end Cert.KernelX.Exp

end
-- ==== Proof.RangeX.lean ====
module

public import proofs.«01_k».proof.Proof.FiniteB
public import proofs.«01_k».proof.Proof.Gen.Pre_routed_x
public import Idealize.ShloMosaic.Lib.ReduceAll

/-! The expert call's precondition: the two tables are in range, the activations are finite, the scales are finite and
    not negative. -/

@[expose] public section

set_option maxRecDepth 16384

noncomputable section

namespace Cert.RangeX

open Idealize.ShloMosaic Cert.Pre_routed_x
open Cert.ReferenceBIdeal.Block (and_one ofBits_inf Fin' fin_of_abs)

instance : Subsingleton S_.Idx := ⟨fun a b => funext fun i => i.elim0⟩

theorem word_range (v b : BitVec 32) (hb : b.toNat < 1024) (h0 : IntOp.cmpi .sge v 0#32 = 1#1) (h1 : IntOp.cmpi .slt v b = 1#1) : v.toNat < b.toNat := by
  have e0 : (0#32).sle v = true := by
    by_contra hn; rw [Bool.not_eq_true] at hn
    rw [show IntOp.cmpi .sge v 0#32 = BitVec.ofBool ((0#32).sle v) from rfl, hn] at h0; exact absurd h0 (by decide)
  have e1 : v.slt b = true := by
    by_contra hn; rw [Bool.not_eq_true] at hn
    rw [show IntOp.cmpi .slt v b = BitVec.ofBool (v.slt b) from rfl, hn] at h1; exact absurd h1 (by decide)
  rw [BitVec.sle_iff_toInt_le] at e0; rw [BitVec.slt_iff_toInt_lt] at e1
  have hbi : b.toInt = b.toNat := BitVec.toInt_eq_toNat_of_lt (by omega)
  have hv := BitVec.toInt_eq_toNat_cond v
  simp only [BitVec.toInt_zero] at e0
  have := v.isLt
  split at hv <;> omega

theorem word_nonneg (v : BitVec 32) (h0 : IntOp.cmpi .sge v 0#32 = 1#1) : v.toNat < 2147483648 := by
  have e0 : (0#32).sle v = true := by
    by_contra hn; rw [Bool.not_eq_true] at hn
    rw [show IntOp.cmpi .sge v 0#32 = BitVec.ofBool ((0#32).sle v) from rfl, hn] at h0; exact absurd h0 (by decide)
  rw [BitVec.sle_iff_toInt_le] at e0
  have hv := BitVec.toInt_eq_toNat_cond v
  simp only [BitVec.toInt_zero] at e0
  have := v.isLt
  split at hv <;> omega

/-- A finite number that is not negative. -/
def Pos' (x : EReal) : Prop := 0 ≤ x ∧ x ≠ ⊤

section
variable {F : FTy → Type} [FloatOps F]
variable (A0 A1 : IVec S544 32) (A2 : FVec F S278528x2048 .bf16) (A3 : FVec F S32x2048x2048 .f32) (A4 : FVec F S64 .f32) (A5 : FVec F S32x1x2048 .f32)
  (A6 : FVec F S32x2048x2048 .f32) (A7 : FVec F S64 .f32) (A8 : FVec F S32x1x2048 .f32) (A9 : FVec F S32x2048x2048 .f32) (A10 : FVec F S64 .f32) (A11 : FVec F S32x1x2048 .f32)

/-- The tables' ranges. -/
theorem tables (h : fn (F := F) A0 A1 A2 A3 A4 A5 A6 A7 A8 A9 A10 A11 = fun _ => 1#1) :
    (∀ x, (A0 x).toNat < 32) ∧ ∀ x, (A1 x).toNat < 2147483648 := by
  have h0 := congrFun h ix0
  unfold fn fn_part1 fn_part2 at h0
  obtain ⟨h1, hd⟩ := and_one _ _ h0
  obtain ⟨h2, hu⟩ := and_one _ _ h1
  obtain ⟨h3, hg⟩ := and_one _ _ h2
  obtain ⟨h4, hx⟩ := and_one _ _ h3
  obtain ⟨hE, hN⟩ := and_one _ _ h4
  refine ⟨fun x => ?_, fun x => ?_⟩
  · obtain ⟨a, b⟩ := and_one _ _ (Host.reduce_andi_all _ _ _ _ _ hE x)
    exact word_range _ 32#32 (by decide) a b
  · exact word_nonneg _ (Host.reduce_andi_all _ _ _ _ _ hN x)
end

theorem pos_of (x : EReal) (h0 : BitVec.ofBool (decide (Ideal.ofBits .f32 0x00000000#32 ≤ x)) = 1#1)
    (h1 : BitVec.ofBool (decide (x < Ideal.ofBits .f32 0x7F800000#32)) = 1#1) : Pos' x := by
  rw [ofBits_inf] at h1
  rw [show Ideal.ofBits .f32 0x00000000#32 = 0 from by simp [Ideal.ofBits, Ideal.ieee]] at h0
  constructor
  · by_contra hn; simp [hn] at h0
  · rintro rfl; simp at h1

/-- The activations are finite, the scales finite and not negative. -/
theorem floats (A0 A1 : IVec S544 32) (A2 : FVec Ideal S278528x2048 .bf16) (A3 : FVec Ideal S32x2048x2048 .f32) (A4 : FVec Ideal S64 .f32) (A5 : FVec Ideal S32x1x2048 .f32)
    (A6 : FVec Ideal S32x2048x2048 .f32) (A7 : FVec Ideal S64 .f32) (A8 : FVec Ideal S32x1x2048 .f32) (A9 : FVec Ideal S32x2048x2048 .f32) (A10 : FVec Ideal S64 .f32) (A11 : FVec Ideal S32x1x2048 .f32)
    (h : fn (F := Ideal) A0 A1 A2 A3 A4 A5 A6 A7 A8 A9 A10 A11 = fun _ => 1#1) :
    (∀ i, Fin' (A2 i)) ∧ (∀ i, Pos' (A4 i)) ∧ (∀ i, Pos' (A7 i)) ∧ ∀ i, Pos' (A10 i) := by
  have h0 := congrFun h ix0
  unfold fn fn_part1 fn_part2 at h0
  obtain ⟨h1, hd⟩ := and_one _ _ h0
  obtain ⟨h2, hu⟩ := and_one _ _ h1
  obtain ⟨h3, hg⟩ := and_one _ _ h2
  obtain ⟨h4, hx⟩ := and_one _ _ h3
  refine ⟨fun x => ?_, fun x => ?_, fun x => ?_, fun x => ?_⟩
  · exact fin_of_abs _ (Host.reduce_andi_all _ _ _ _ _ hx x)
  · obtain ⟨a, b⟩ := and_one _ _ (Host.reduce_andi_all _ _ _ _ _ hg x); exact pos_of _ a b
  · obtain ⟨a, b⟩ := and_one _ _ (Host.reduce_andi_all _ _ _ _ _ hu x); exact pos_of _ a b
  · obtain ⟨a, b⟩ := and_one _ _ (Host.reduce_andi_all _ _ _ _ _ hd x); exact pos_of _ a b

end Cert.RangeX

end
-- ==== Proof.RunsXI.lean ====
/- The expert kernel's body, run path by path on any tables, blocks and scratch contents. -/
module

public import proofs.«01_k».proof.Proof.Gen.KernelXIdeal.Skeleton
public import proofs.«01_k».proof.Proof.Gen.KernelXIdeal.Launch
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.Lib.Pipeline.TableIdle
public import Idealize.ShloMosaic.Lib.Pointwise
public import Idealize.ShloMosaic.Init
public import Idealize.ShloMosaic.Lib.Pipeline.FrameBody
public import Idealize.ShloMosaic.Adequacy

@[expose] public section

set_option maxRecDepth 16384
set_option Elab.async false

noncomputable section

namespace Cert.KernelXIdeal.Exp

open Cert.KernelXIdeal Cert.KernelXIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The tables and the scratch buffers, whole. -/
abbrev tbM0_0 : Memref sig .tc .smem S544 .i32 := Memref.whole main_arg0
abbrev tbM0_1 : Memref sig .tc .smem S544 .i32 := Memref.whole main_arg1
abbrev scM0_0 : Memref sig .tc .vmem S512x1024 .fp8e4m3 := Memref.whole cc0_scratch0
abbrev scM0_1 : Memref sig .tc .vmem S512x1024 .fp8e4m3 := Memref.whole cc0_scratch1
abbrev scM0_2 : Memref sig .tc .vmem S512x128 .f32 := Memref.whole cc0_scratch2
abbrev scM0_3 : Memref sig .tc .vmem S512x2048 .f32 := Memref.whole cc0_scratch3

/-- One staging buffer of the output window, through which its contents are stated. -/
abbrev VO0_10 : View sig .tc .vmem S512x2048 .bf16 := (Memref.whole cc0_stg10_0 : Memref sig .tc .vmem S512x2048 .bf16).view

set_option backward.proofsInPublic true in
set_option maxHeartbeats 8000000 in
/-- The kernel body on path A, the first half of a block in use: it fills the scratch buffers and leaves the output alone. -/
noncomputable def kernelRun0_A (c : Dev nD) (i : grid0.Coords) (arg4 : Memref sig .tc .smem S64 .f32) (harg4 : arg4.IsWhole) (arg5 : Memref sig .tc .smem S64 .f32) (harg5 : arg5.IsWhole) (arg6 : Memref sig .tc .smem S64 .f32) (harg6 : arg6.IsWhole) (arg7 : Memref sig .tc .vmem S512x2048 .bf16) (harg7 : arg7.IsWhole) (arg8 : Memref sig .tc .vmem S1x2048x1024 .fp8e4m3) (harg8 : arg8.IsWhole) (arg9 : Memref sig .tc .vmem S1x1x1024 .f32) (harg9 : arg9.IsWhole) (arg10 : Memref sig .tc .vmem S1x2048x1024 .fp8e4m3) (harg10 : arg10.IsWhole) (arg11 : Memref sig .tc .vmem S1x1x1024 .f32) (harg11 : arg11.IsWhole) (arg12 : Memref sig .tc .vmem S1x1024x2048 .fp8e4m3) (harg12 : arg12.IsWhole) (arg13 : Memref sig .tc .vmem S1x1x2048 .f32) (harg13 : arg13.IsWhole) (arg14 : Memref sig .tc .vmem S512x2048 .bf16) (harg14 : arg14.IsWhole) (T0 : (S544.Idx → Elt Ideal .i32)) (T1 : (S544.Idx → Elt Ideal .i32))
     (x0 : (S64.Idx → Elt Ideal .f32)) (x1 : (S64.Idx → Elt Ideal .f32)) (x2 : (S64.Idx → Elt Ideal .f32)) (x3 : (S512x2048.Idx → Elt Ideal .bf16)) (x4 : (S1x2048x1024.Idx → Elt Ideal .fp8e4m3)) (x5 : (S1x1x1024.Idx → Elt Ideal .f32)) (x6 : (S1x2048x1024.Idx → Elt Ideal .fp8e4m3)) (x7 : (S1x1x1024.Idx → Elt Ideal .f32)) (x8 : (S1x1024x2048.Idx → Elt Ideal .fp8e4m3)) (x9 : (S1x1x2048.Idx → Elt Ideal .f32)) (k0_hw1 : k0_chk1 i (View.readAt (Elt Ideal) (tbM0_1).view (Rect.unit (s := S544) (k0_off1 i) S1.size (k0_off1_inb i)).toLoadRect T1 (Shape.Idx.first (numel1_S1.symm ▸ Nat.one_pos))) (View.readAt (Elt Ideal) (tbM0_0).view (Rect.unit (s := S544) (k0_off1 i) S1.size (k0_off1_inb i)).toLoadRect T0 (Shape.Idx.first (numel1_S1.symm ▸ Nat.one_pos)))) (k0_h1 : ¬(k0_cond1 i (View.readAt (Elt Ideal) (tbM0_1).view (Rect.unit (s := S544) (k0_off1 i) S1.size (k0_off1_inb i)).toLoadRect T1 (Shape.Idx.first (numel1_S1.symm ▸ Nat.one_pos))) = 1#1)) (k0_h2 : k0_cond2 (View.readAt (Elt Ideal) (tbM0_1).view (Rect.unit (s := S544) (k0_off1 i) S1.size (k0_off1_inb i)).toLoadRect T1 (Shape.Idx.first (numel1_S1.symm ▸ Nat.one_pos))) = 1#1) (k0_h3 : (Scalar.cmpi .ne (Scalar.extui (Scalar.cmpi .eq (BitVec.ofNat 32 (i 1).val) 0#32)) 0#32) = 1#1) (k0_h4 : ¬(k0_cond4 i = 1#1)) :
    Σ' (out0 : Buf (Elt Ideal) ((c : Thread nD τ).loc cc0_scratch0)) (out1 : Buf (Elt Ideal) ((c : Thread nD τ).loc cc0_scratch1)) (out2 : Buf (Elt Ideal) ((c : Thread nD τ).loc cc0_scratch2)), { out3 : Buf (Elt Ideal) ((c : Thread nD τ).loc cc0_scratch3) //
      ∀ (y10 : (S512x2048.Idx → Elt Ideal .bf16)) (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) (xa3 : Buf (Elt Ideal) ((c : Thread nD τ).loc cc0_scratch3)) (K : PUnit → sProp (MT nD τ sig Unit (Elt Ideal) ℕ (UR sig nD τ) ℕ)),
        iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (arg7.view.loc (c : Thread nD τ) ↦[arg7.view.set]{fullShare} arg7.view.rep x3)
          ∗ (arg8.view.loc (c : Thread nD τ) ↦[arg8.view.set]{fullShare} arg8.view.rep x4)
          ∗ (arg9.view.loc (c : Thread nD τ) ↦[arg9.view.set]{fullShare} arg9.view.rep x5)
          ∗ (arg10.view.loc (c : Thread nD τ) ↦[arg10.view.set]{fullShare} arg10.view.rep x6)
          ∗ (arg11.view.loc (c : Thread nD τ) ↦[arg11.view.set]{fullShare} arg11.view.rep x7)
          ∗ (arg12.view.loc (c : Thread nD τ) ↦[arg12.view.set]{fullShare} arg12.view.rep x8)
          ∗ (arg13.view.loc (c : Thread nD τ) ↦[arg13.view.set]{fullShare} arg13.view.rep x9)
          ∗ (tbM0_0.view.loc (c : Thread nD τ) ↦{fullShare.right} T0)
          ∗ (tbM0_1.view.loc (c : Thread nD τ) ↦{fullShare.right} T1)
          ∗ owns (c : Thread nD τ) arg14 fullShare y10
          ∗ (scM0_0.view.loc (c : Thread nD τ) ↦{fullShare} xa0)
          ∗ (scM0_1.view.loc (c : Thread nD τ) ↦{fullShare} xa1)
          ∗ (scM0_2.view.loc (c : Thread nD τ) ↦{fullShare} xa2)
          ∗ (scM0_3.view.loc (c : Thread nD τ) ↦{fullShare} xa3)
          ∗ (iprop((arg4.view.loc (c : Thread nD τ) ↦[arg4.view.set]{fullShare} arg4.view.rep x0)
              ∗ (arg5.view.loc (c : Thread nD τ) ↦[arg5.view.set]{fullShare} arg5.view.rep x1)
              ∗ (arg6.view.loc (c : Thread nD τ) ↦[arg6.view.set]{fullShare} arg6.view.rep x2)
              ∗ (arg7.view.loc (c : Thread nD τ) ↦[arg7.view.set]{fullShare} arg7.view.rep x3)
              ∗ (arg8.view.loc (c : Thread nD τ) ↦[arg8.view.set]{fullShare} arg8.view.rep x4)
              ∗ (arg9.view.loc (c : Thread nD τ) ↦[arg9.view.set]{fullShare} arg9.view.rep x5)
              ∗ (arg10.view.loc (c : Thread nD τ) ↦[arg10.view.set]{fullShare} arg10.view.rep x6)
              ∗ (arg11.view.loc (c : Thread nD τ) ↦[arg11.view.set]{fullShare} arg11.view.rep x7)
              ∗ (arg12.view.loc (c : Thread nD τ) ↦[arg12.view.set]{fullShare} arg12.view.rep x8)
              ∗ (arg13.view.loc (c : Thread nD τ) ↦[arg13.view.set]{fullShare} arg13.view.rep x9)
              ∗ (tbM0_0.view.loc (c : Thread nD τ) ↦{fullShare.right} T0)
              ∗ (tbM0_1.view.loc (c : Thread nD τ) ↦{fullShare.right} T1)
              ∗ owns (c : Thread nD τ) arg14 fullShare y10
              ∗ (scM0_0.view.loc (c : Thread nD τ) ↦{fullShare} out0)
              ∗ (scM0_1.view.loc (c : Thread nD τ) ↦{fullShare} out1)
              ∗ (scM0_2.view.loc (c : Thread nD τ) ↦{fullShare} out2)
              ∗ (scM0_3.view.loc (c : Thread nD τ) ↦{fullShare} out3)) -∗ K ⟨⟩))
          ⊢ wp frame (wpE (defs₀ (F := Ideal)) Variants.none c none) Set.univ (cc0_experts i tbM0_0 (Memref.isWhole_whole _) tbM0_1 (Memref.isWhole_whole _) arg4 harg4 arg5 harg5 arg6 harg6 arg7 harg7 arg8 harg8 arg9 harg9 arg10 harg10 arg11 harg11 arg12 harg12 arg13 harg13 arg14 harg14 scM0_0 (Memref.isWhole_whole _) scM0_1 (Memref.isWhole_whole _) scM0_2 (Memref.isWhole_whole _) scM0_3 (Memref.isWhole_whole _)) K } :=
  ⟨_, _, _, _, fun (y10 : (S512x2048.Idx → Elt Ideal .bf16)) (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) (xa3 : Buf (Elt Ideal) ((c : Thread nD τ).loc cc0_scratch3)) K => by
    unfold owns
    rw [cc0_experts_eq_skeleton]; unfold cc0_experts_skel
    iintro ⟨H0, H1, H2, H3, H4, H5, H6, H7, H8, H9, HT0, HT1, ⟨%f10, %hf10, HO10⟩, HS0, HS1, HS2, HS3, Hk⟩
    obtain rfl := harg14.eq_unread hf10
    have hS0 : scM0_0.IsWhole := Memref.isWhole_whole _
    have hS1 : scM0_1.IsWhole := Memref.isWhole_whole _
    have hS2 : scM0_2.IsWhole := Memref.isWhole_whole _
    have hS3 : scM0_3.IsWhole := Memref.isWhole_whole _
    have hT0 : tbM0_0.IsWhole := Memref.isWhole_whole _
    have hT1 : tbM0_1.IsWhole := Memref.isWhole_whole _
    sl_exec! (disch := first | (guard_target = k0_chk1 _ _ _; exact k0_hw1) | (guard_target = ¬(k0_cond1 _ _ = _); exact k0_h1) | (guard_target = k0_cond2 _ = _; exact k0_h2) | (guard_target = Scalar.cmpi = _; exact k0_h3) | (guard_target = ¬(k0_cond4 _ = _); exact k0_h4))
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [HT0]; · iexact HT0
    isplitl [HT1]; · iexact HT1
    isplitl [HO10]
    · iexists _; isplitr; · ipureintro; exact harg14.read_unread _
      iexact HO10
    isplitl [HS0]; · iexact HS0
    isplitl [HS1]; · iexact HS1
    isplitl [HS2]; · iexact HS2
    iexact HS3⟩

set_option backward.proofsInPublic true in
set_option maxHeartbeats 8000000 in
/-- The kernel body on path B, the second half of a block in use: it reads the scratch buffers and stores the output block. -/
noncomputable def kernelRun0_B (c : Dev nD) (i : grid0.Coords) (arg4 : Memref sig .tc .smem S64 .f32) (harg4 : arg4.IsWhole) (arg5 : Memref sig .tc .smem S64 .f32) (harg5 : arg5.IsWhole) (arg6 : Memref sig .tc .smem S64 .f32) (harg6 : arg6.IsWhole) (arg7 : Memref sig .tc .vmem S512x2048 .bf16) (harg7 : arg7.IsWhole) (arg8 : Memref sig .tc .vmem S1x2048x1024 .fp8e4m3) (harg8 : arg8.IsWhole) (arg9 : Memref sig .tc .vmem S1x1x1024 .f32) (harg9 : arg9.IsWhole) (arg10 : Memref sig .tc .vmem S1x2048x1024 .fp8e4m3) (harg10 : arg10.IsWhole) (arg11 : Memref sig .tc .vmem S1x1x1024 .f32) (harg11 : arg11.IsWhole) (arg12 : Memref sig .tc .vmem S1x1024x2048 .fp8e4m3) (harg12 : arg12.IsWhole) (arg13 : Memref sig .tc .vmem S1x1x2048 .f32) (harg13 : arg13.IsWhole) (arg14 : Memref sig .tc .vmem S512x2048 .bf16) (harg14 : arg14.IsWhole) (T0 : (S544.Idx → Elt Ideal .i32)) (T1 : (S544.Idx → Elt Ideal .i32))
     (x0 : (S64.Idx → Elt Ideal .f32)) (x1 : (S64.Idx → Elt Ideal .f32)) (x2 : (S64.Idx → Elt Ideal .f32)) (x3 : (S512x2048.Idx → Elt Ideal .bf16)) (x4 : (S1x2048x1024.Idx → Elt Ideal .fp8e4m3)) (x5 : (S1x1x1024.Idx → Elt Ideal .f32)) (x6 : (S1x2048x1024.Idx → Elt Ideal .fp8e4m3)) (x7 : (S1x1x1024.Idx → Elt Ideal .f32)) (x8 : (S1x1024x2048.Idx → Elt Ideal .fp8e4m3)) (x9 : (S1x1x2048.Idx → Elt Ideal .f32)) (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) (xa3 : Buf (Elt Ideal) ((c : Thread nD τ).loc cc0_scratch3)) (k0_hw1 : k0_chk1 i (View.readAt (Elt Ideal) (tbM0_1).view (Rect.unit (s := S544) (k0_off1 i) S1.size (k0_off1_inb i)).toLoadRect T1 (Shape.Idx.first (numel1_S1.symm ▸ Nat.one_pos))) (View.readAt (Elt Ideal) (tbM0_0).view (Rect.unit (s := S544) (k0_off1 i) S1.size (k0_off1_inb i)).toLoadRect T0 (Shape.Idx.first (numel1_S1.symm ▸ Nat.one_pos)))) (k0_h1 : ¬(k0_cond1 i (View.readAt (Elt Ideal) (tbM0_1).view (Rect.unit (s := S544) (k0_off1 i) S1.size (k0_off1_inb i)).toLoadRect T1 (Shape.Idx.first (numel1_S1.symm ▸ Nat.one_pos))) = 1#1)) (k0_h2 : k0_cond2 (View.readAt (Elt Ideal) (tbM0_1).view (Rect.unit (s := S544) (k0_off1 i) S1.size (k0_off1_inb i)).toLoadRect T1 (Shape.Idx.first (numel1_S1.symm ▸ Nat.one_pos))) = 1#1) (k0_h3 : ¬((Scalar.cmpi .ne (Scalar.extui (Scalar.cmpi .eq (BitVec.ofNat 32 (i 1).val) 0#32)) 0#32) = 1#1)) (k0_h4 : k0_cond4 i = 1#1) :
    Σ' (out0 : List (View.Piece (Elt Ideal) S512x2048 .bf16)) (out1 : Buf (Elt Ideal) ((c : Thread nD τ).loc cc0_scratch0)) (out2 : Buf (Elt Ideal) ((c : Thread nD τ).loc cc0_scratch1)) (out3 : Buf (Elt Ideal) ((c : Thread nD τ).loc cc0_scratch2)), { out4 : Buf (Elt Ideal) ((c : Thread nD τ).loc cc0_scratch3) //
      ∀ (K : PUnit → sProp (MT nD τ sig Unit (Elt Ideal) ℕ (UR sig nD τ) ℕ)),
        iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (arg7.view.loc (c : Thread nD τ) ↦[arg7.view.set]{fullShare} arg7.view.rep x3)
          ∗ (arg8.view.loc (c : Thread nD τ) ↦[arg8.view.set]{fullShare} arg8.view.rep x4)
          ∗ (arg9.view.loc (c : Thread nD τ) ↦[arg9.view.set]{fullShare} arg9.view.rep x5)
          ∗ (arg10.view.loc (c : Thread nD τ) ↦[arg10.view.set]{fullShare} arg10.view.rep x6)
          ∗ (arg11.view.loc (c : Thread nD τ) ↦[arg11.view.set]{fullShare} arg11.view.rep x7)
          ∗ (arg12.view.loc (c : Thread nD τ) ↦[arg12.view.set]{fullShare} arg12.view.rep x8)
          ∗ (arg13.view.loc (c : Thread nD τ) ↦[arg13.view.set]{fullShare} arg13.view.rep x9)
          ∗ (tbM0_0.view.loc (c : Thread nD τ) ↦{fullShare.right} T0)
          ∗ (tbM0_1.view.loc (c : Thread nD τ) ↦{fullShare.right} T1)
          ∗ (∃ d, owns (c : Thread nD τ) arg14 fullShare d)
          ∗ (scM0_0.view.loc (c : Thread nD τ) ↦{fullShare} xa0)
          ∗ (scM0_1.view.loc (c : Thread nD τ) ↦{fullShare} xa1)
          ∗ (scM0_2.view.loc (c : Thread nD τ) ↦{fullShare} xa2)
          ∗ (scM0_3.view.loc (c : Thread nD τ) ↦{fullShare} xa3)
          ∗ (iprop((arg4.view.loc (c : Thread nD τ) ↦[arg4.view.set]{fullShare} arg4.view.rep x0)
              ∗ (arg5.view.loc (c : Thread nD τ) ↦[arg5.view.set]{fullShare} arg5.view.rep x1)
              ∗ (arg6.view.loc (c : Thread nD τ) ↦[arg6.view.set]{fullShare} arg6.view.rep x2)
              ∗ (arg7.view.loc (c : Thread nD τ) ↦[arg7.view.set]{fullShare} arg7.view.rep x3)
              ∗ (arg8.view.loc (c : Thread nD τ) ↦[arg8.view.set]{fullShare} arg8.view.rep x4)
              ∗ (arg9.view.loc (c : Thread nD τ) ↦[arg9.view.set]{fullShare} arg9.view.rep x5)
              ∗ (arg10.view.loc (c : Thread nD τ) ↦[arg10.view.set]{fullShare} arg10.view.rep x6)
              ∗ (arg11.view.loc (c : Thread nD τ) ↦[arg11.view.set]{fullShare} arg11.view.rep x7)
              ∗ (arg12.view.loc (c : Thread nD τ) ↦[arg12.view.set]{fullShare} arg12.view.rep x8)
              ∗ (arg13.view.loc (c : Thread nD τ) ↦[arg13.view.set]{fullShare} arg13.view.rep x9)
              ∗ (tbM0_0.view.loc (c : Thread nD τ) ↦{fullShare.right} T0)
              ∗ (tbM0_1.view.loc (c : Thread nD τ) ↦{fullShare.right} T1)
              ∗ (∃ f, arg14.view.loc (c : Thread nD τ) ↦[arg14.view.set]{fullShare} arg14.view.writes (Elt Ideal) f out0)
              ∗ (scM0_0.view.loc (c : Thread nD τ) ↦{fullShare} out1)
              ∗ (scM0_1.view.loc (c : Thread nD τ) ↦{fullShare} out2)
              ∗ (scM0_2.view.loc (c : Thread nD τ) ↦{fullShare} out3)
              ∗ (scM0_3.view.loc (c : Thread nD τ) ↦{fullShare} out4)) -∗ K ⟨⟩))
          ⊢ wp frame (wpE (defs₀ (F := Ideal)) Variants.none c none) Set.univ (cc0_experts i tbM0_0 (Memref.isWhole_whole _) tbM0_1 (Memref.isWhole_whole _) arg4 harg4 arg5 harg5 arg6 harg6 arg7 harg7 arg8 harg8 arg9 harg9 arg10 harg10 arg11 harg11 arg12 harg12 arg13 harg13 arg14 harg14 scM0_0 (Memref.isWhole_whole _) scM0_1 (Memref.isWhole_whole _) scM0_2 (Memref.isWhole_whole _) scM0_3 (Memref.isWhole_whole _)) K } :=
  ⟨_, _, _, _, _, fun K => by
    unfold owns
    rw [cc0_experts_eq_skeleton]; unfold cc0_experts_skel
    iintro ⟨H0, H1, H2, H3, H4, H5, H6, H7, H8, H9, HT0, HT1, ⟨%d10, %f10, -, HO10⟩, HS0, HS1, HS2, HS3, Hk⟩
    have hS0 : scM0_0.IsWhole := Memref.isWhole_whole _
    have hS1 : scM0_1.IsWhole := Memref.isWhole_whole _
    have hS2 : scM0_2.IsWhole := Memref.isWhole_whole _
    have hS3 : scM0_3.IsWhole := Memref.isWhole_whole _
    have hT0 : tbM0_0.IsWhole := Memref.isWhole_whole _
    have hT1 : tbM0_1.IsWhole := Memref.isWhole_whole _
    sl_exec! (disch := first | (guard_target = k0_chk1 _ _ _; exact k0_hw1) | (guard_target = ¬(k0_cond1 _ _ = _); exact k0_h1) | (guard_target = k0_cond2 _ = _; exact k0_h2) | (guard_target = ¬(Scalar.cmpi = _); exact k0_h3) | (guard_target = k0_cond4 _ = _; exact k0_h4))
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [HT0]; · iexact HT0
    isplitl [HT1]; · iexact HT1
    isplitl [HO10]; · iexists _; iexact HO10
    isplitl [HS0]; · iexact HS0
    isplitl [HS1]; · iexact HS1
    isplitl [HS2]; · iexact HS2
    iexact HS3⟩

/-- The one store covers the output block. -/
theorem cover0_B_10 (c : Dev nD) (i : grid0.Coords) (arg4 : Memref sig .tc .smem S64 .f32) (harg4 : arg4.IsWhole) (arg5 : Memref sig .tc .smem S64 .f32) (harg5 : arg5.IsWhole) (arg6 : Memref sig .tc .smem S64 .f32) (harg6 : arg6.IsWhole) (arg7 : Memref sig .tc .vmem S512x2048 .bf16) (harg7 : arg7.IsWhole) (arg8 : Memref sig .tc .vmem S1x2048x1024 .fp8e4m3) (harg8 : arg8.IsWhole) (arg9 : Memref sig .tc .vmem S1x1x1024 .f32) (harg9 : arg9.IsWhole) (arg10 : Memref sig .tc .vmem S1x2048x1024 .fp8e4m3) (harg10 : arg10.IsWhole) (arg11 : Memref sig .tc .vmem S1x1x1024 .f32) (harg11 : arg11.IsWhole) (arg12 : Memref sig .tc .vmem S1x1024x2048 .fp8e4m3) (harg12 : arg12.IsWhole) (arg13 : Memref sig .tc .vmem S1x1x2048 .f32) (harg13 : arg13.IsWhole) (arg14 : Memref sig .tc .vmem S512x2048 .bf16) (harg14 : arg14.IsWhole) (T0 : (S544.Idx → Elt Ideal .i32)) (T1 : (S544.Idx → Elt Ideal .i32))
     (x0 : (S64.Idx → Elt Ideal .f32)) (x1 : (S64.Idx → Elt Ideal .f32)) (x2 : (S64.Idx → Elt Ideal .f32)) (x3 : (S512x2048.Idx → Elt Ideal .bf16)) (x4 : (S1x2048x1024.Idx → Elt Ideal .fp8e4m3)) (x5 : (S1x1x1024.Idx → Elt Ideal .f32)) (x6 : (S1x2048x1024.Idx → Elt Ideal .fp8e4m3)) (x7 : (S1x1x1024.Idx → Elt Ideal .f32)) (x8 : (S1x1024x2048.Idx → Elt Ideal .fp8e4m3)) (x9 : (S1x1x2048.Idx → Elt Ideal .f32)) (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) (xa3 : Buf (Elt Ideal) ((c : Thread nD τ).loc cc0_scratch3)) (k0_hw1 : k0_chk1 i (View.readAt (Elt Ideal) (tbM0_1).view (Rect.unit (s := S544) (k0_off1 i) S1.size (k0_off1_inb i)).toLoadRect T1 (Shape.Idx.first (numel1_S1.symm ▸ Nat.one_pos))) (View.readAt (Elt Ideal) (tbM0_0).view (Rect.unit (s := S544) (k0_off1 i) S1.size (k0_off1_inb i)).toLoadRect T0 (Shape.Idx.first (numel1_S1.symm ▸ Nat.one_pos)))) (k0_h1 : ¬(k0_cond1 i (View.readAt (Elt Ideal) (tbM0_1).view (Rect.unit (s := S544) (k0_off1 i) S1.size (k0_off1_inb i)).toLoadRect T1 (Shape.Idx.first (numel1_S1.symm ▸ Nat.one_pos))) = 1#1)) (k0_h2 : k0_cond2 (View.readAt (Elt Ideal) (tbM0_1).view (Rect.unit (s := S544) (k0_off1 i) S1.size (k0_off1_inb i)).toLoadRect T1 (Shape.Idx.first (numel1_S1.symm ▸ Nat.one_pos))) = 1#1) (k0_h3 : ¬((Scalar.cmpi .ne (Scalar.extui (Scalar.cmpi .eq (BitVec.ofNat 32 (i 1).val) 0#32)) 0#32) = 1#1)) (k0_h4 : k0_cond4 i = 1#1) (y : S512x2048.Idx) :
    ∃ pc ∈ (kernelRun0_B c i arg4 harg4 arg5 harg5 arg6 harg6 arg7 harg7 arg8 harg8 arg9 harg9 arg10 harg10 arg11 harg11 arg12 harg12 arg13 harg13 arg14 harg14 T0 T1 x0 x1 x2 x3 x4 x5 x6 x7 x8 x9 xa0 xa1 xa2 xa3 k0_hw1 k0_h1 k0_h2 k0_h3 k0_h4).1, y ∈ pc.1.set :=
  View.cover_of_tiledL (kernelRun0_B c i arg4 harg4 arg5 harg5 arg6 harg6 arg7 harg7 arg8 harg8 arg9 harg9 arg10 harg10 arg11 harg11 arg12 harg12 arg13 harg13 arg14 harg14 T0 T1 x0 x1 x2 x3 x4 x5 x6 x7 x8 x9 xa0 xa1 xa2 xa3 k0_hw1 k0_h1 k0_h2 k0_h3 k0_h4).1 S512x2048.size (by sl_kernel_rfl) y

/-- What the path leaves in the output block. -/
def out0_B_10 (c : Dev nD) (i : grid0.Coords) (arg4 : Memref sig .tc .smem S64 .f32) (harg4 : arg4.IsWhole) (arg5 : Memref sig .tc .smem S64 .f32) (harg5 : arg5.IsWhole) (arg6 : Memref sig .tc .smem S64 .f32) (harg6 : arg6.IsWhole) (arg7 : Memref sig .tc .vmem S512x2048 .bf16) (harg7 : arg7.IsWhole) (arg8 : Memref sig .tc .vmem S1x2048x1024 .fp8e4m3) (harg8 : arg8.IsWhole) (arg9 : Memref sig .tc .vmem S1x1x1024 .f32) (harg9 : arg9.IsWhole) (arg10 : Memref sig .tc .vmem S1x2048x1024 .fp8e4m3) (harg10 : arg10.IsWhole) (arg11 : Memref sig .tc .vmem S1x1x1024 .f32) (harg11 : arg11.IsWhole) (arg12 : Memref sig .tc .vmem S1x1024x2048 .fp8e4m3) (harg12 : arg12.IsWhole) (arg13 : Memref sig .tc .vmem S1x1x2048 .f32) (harg13 : arg13.IsWhole) (arg14 : Memref sig .tc .vmem S512x2048 .bf16) (harg14 : arg14.IsWhole) (T0 : (S544.Idx → Elt Ideal .i32)) (T1 : (S544.Idx → Elt Ideal .i32))
     (x0 : (S64.Idx → Elt Ideal .f32)) (x1 : (S64.Idx → Elt Ideal .f32)) (x2 : (S64.Idx → Elt Ideal .f32)) (x3 : (S512x2048.Idx → Elt Ideal .bf16)) (x4 : (S1x2048x1024.Idx → Elt Ideal .fp8e4m3)) (x5 : (S1x1x1024.Idx → Elt Ideal .f32)) (x6 : (S1x2048x1024.Idx → Elt Ideal .fp8e4m3)) (x7 : (S1x1x1024.Idx → Elt Ideal .f32)) (x8 : (S1x1024x2048.Idx → Elt Ideal .fp8e4m3)) (x9 : (S1x1x2048.Idx → Elt Ideal .f32)) (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) (xa3 : Buf (Elt Ideal) ((c : Thread nD τ).loc cc0_scratch3)) (k0_hw1 : k0_chk1 i (View.readAt (Elt Ideal) (tbM0_1).view (Rect.unit (s := S544) (k0_off1 i) S1.size (k0_off1_inb i)).toLoadRect T1 (Shape.Idx.first (numel1_S1.symm ▸ Nat.one_pos))) (View.readAt (Elt Ideal) (tbM0_0).view (Rect.unit (s := S544) (k0_off1 i) S1.size (k0_off1_inb i)).toLoadRect T0 (Shape.Idx.first (numel1_S1.symm ▸ Nat.one_pos)))) (k0_h1 : ¬(k0_cond1 i (View.readAt (Elt Ideal) (tbM0_1).view (Rect.unit (s := S544) (k0_off1 i) S1.size (k0_off1_inb i)).toLoadRect T1 (Shape.Idx.first (numel1_S1.symm ▸ Nat.one_pos))) = 1#1)) (k0_h2 : k0_cond2 (View.readAt (Elt Ideal) (tbM0_1).view (Rect.unit (s := S544) (k0_off1 i) S1.size (k0_off1_inb i)).toLoadRect T1 (Shape.Idx.first (numel1_S1.symm ▸ Nat.one_pos))) = 1#1) (k0_h3 : ¬((Scalar.cmpi .ne (Scalar.extui (Scalar.cmpi .eq (BitVec.ofNat 32 (i 1).val) 0#32)) 0#32) = 1#1)) (k0_h4 : k0_cond4 i = 1#1) : (S512x2048.Idx → Elt Ideal .bf16) :=
  VO0_10.read (Elt Ideal) (VO0_10.writes (Elt Ideal) VO0_10.junk (kernelRun0_B c i arg4 harg4 arg5 harg5 arg6 harg6 arg7 harg7 arg8 harg8 arg9 harg9 arg10 harg10 arg11 harg11 arg12 harg12 arg13 harg13 arg14 harg14 T0 T1 x0 x1 x2 x3 x4 x5 x6 x7 x8 x9 xa0 xa1 xa2 xa3 k0_hw1 k0_h1 k0_h2 k0_h3 k0_h4).1)

set_option backward.proofsInPublic true in
set_option maxHeartbeats 8000000 in
/-- The kernel body on path C, the first half of an unused block: it stores zeros. -/
noncomputable def kernelRun0_C (c : Dev nD) (i : grid0.Coords) (arg4 : Memref sig .tc .smem S64 .f32) (harg4 : arg4.IsWhole) (arg5 : Memref sig .tc .smem S64 .f32) (harg5 : arg5.IsWhole) (arg6 : Memref sig .tc .smem S64 .f32) (harg6 : arg6.IsWhole) (arg7 : Memref sig .tc .vmem S512x2048 .bf16) (harg7 : arg7.IsWhole) (arg8 : Memref sig .tc .vmem S1x2048x1024 .fp8e4m3) (harg8 : arg8.IsWhole) (arg9 : Memref sig .tc .vmem S1x1x1024 .f32) (harg9 : arg9.IsWhole) (arg10 : Memref sig .tc .vmem S1x2048x1024 .fp8e4m3) (harg10 : arg10.IsWhole) (arg11 : Memref sig .tc .vmem S1x1x1024 .f32) (harg11 : arg11.IsWhole) (arg12 : Memref sig .tc .vmem S1x1024x2048 .fp8e4m3) (harg12 : arg12.IsWhole) (arg13 : Memref sig .tc .vmem S1x1x2048 .f32) (harg13 : arg13.IsWhole) (arg14 : Memref sig .tc .vmem S512x2048 .bf16) (harg14 : arg14.IsWhole) (T0 : (S544.Idx → Elt Ideal .i32)) (T1 : (S544.Idx → Elt Ideal .i32))
     (x0 : (S64.Idx → Elt Ideal .f32)) (x1 : (S64.Idx → Elt Ideal .f32)) (x2 : (S64.Idx → Elt Ideal .f32)) (x3 : (S512x2048.Idx → Elt Ideal .bf16)) (x4 : (S1x2048x1024.Idx → Elt Ideal .fp8e4m3)) (x5 : (S1x1x1024.Idx → Elt Ideal .f32)) (x6 : (S1x2048x1024.Idx → Elt Ideal .fp8e4m3)) (x7 : (S1x1x1024.Idx → Elt Ideal .f32)) (x8 : (S1x1024x2048.Idx → Elt Ideal .fp8e4m3)) (x9 : (S1x1x2048.Idx → Elt Ideal .f32)) (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) (xa3 : Buf (Elt Ideal) ((c : Thread nD τ).loc cc0_scratch3)) (k0_hw1 : k0_chk1 i (View.readAt (Elt Ideal) (tbM0_1).view (Rect.unit (s := S544) (k0_off1 i) S1.size (k0_off1_inb i)).toLoadRect T1 (Shape.Idx.first (numel1_S1.symm ▸ Nat.one_pos))) (View.readAt (Elt Ideal) (tbM0_0).view (Rect.unit (s := S544) (k0_off1 i) S1.size (k0_off1_inb i)).toLoadRect T0 (Shape.Idx.first (numel1_S1.symm ▸ Nat.one_pos)))) (k0_h1 : k0_cond1 i (View.readAt (Elt Ideal) (tbM0_1).view (Rect.unit (s := S544) (k0_off1 i) S1.size (k0_off1_inb i)).toLoadRect T1 (Shape.Idx.first (numel1_S1.symm ▸ Nat.one_pos))) = 1#1) (k0_h2 : ¬(k0_cond2 (View.readAt (Elt Ideal) (tbM0_1).view (Rect.unit (s := S544) (k0_off1 i) S1.size (k0_off1_inb i)).toLoadRect T1 (Shape.Idx.first (numel1_S1.symm ▸ Nat.one_pos))) = 1#1)) :
    Σ' (out0 : List (View.Piece (Elt Ideal) S512x2048 .bf16)) (out1 : Buf (Elt Ideal) ((c : Thread nD τ).loc cc0_scratch0)) (out2 : Buf (Elt Ideal) ((c : Thread nD τ).loc cc0_scratch1)) (out3 : Buf (Elt Ideal) ((c : Thread nD τ).loc cc0_scratch2)), { out4 : Buf (Elt Ideal) ((c : Thread nD τ).loc cc0_scratch3) //
      ∀ (K : PUnit → sProp (MT nD τ sig Unit (Elt Ideal) ℕ (UR sig nD τ) ℕ)),
        iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (arg7.view.loc (c : Thread nD τ) ↦[arg7.view.set]{fullShare} arg7.view.rep x3)
          ∗ (arg8.view.loc (c : Thread nD τ) ↦[arg8.view.set]{fullShare} arg8.view.rep x4)
          ∗ (arg9.view.loc (c : Thread nD τ) ↦[arg9.view.set]{fullShare} arg9.view.rep x5)
          ∗ (arg10.view.loc (c : Thread nD τ) ↦[arg10.view.set]{fullShare} arg10.view.rep x6)
          ∗ (arg11.view.loc (c : Thread nD τ) ↦[arg11.view.set]{fullShare} arg11.view.rep x7)
          ∗ (arg12.view.loc (c : Thread nD τ) ↦[arg12.view.set]{fullShare} arg12.view.rep x8)
          ∗ (arg13.view.loc (c : Thread nD τ) ↦[arg13.view.set]{fullShare} arg13.view.rep x9)
          ∗ (tbM0_0.view.loc (c : Thread nD τ) ↦{fullShare.right} T0)
          ∗ (tbM0_1.view.loc (c : Thread nD τ) ↦{fullShare.right} T1)
          ∗ (∃ d, owns (c : Thread nD τ) arg14 fullShare d)
          ∗ (scM0_0.view.loc (c : Thread nD τ) ↦{fullShare} xa0)
          ∗ (scM0_1.view.loc (c : Thread nD τ) ↦{fullShare} xa1)
          ∗ (scM0_2.view.loc (c : Thread nD τ) ↦{fullShare} xa2)
          ∗ (scM0_3.view.loc (c : Thread nD τ) ↦{fullShare} xa3)
          ∗ (iprop((arg4.view.loc (c : Thread nD τ) ↦[arg4.view.set]{fullShare} arg4.view.rep x0)
              ∗ (arg5.view.loc (c : Thread nD τ) ↦[arg5.view.set]{fullShare} arg5.view.rep x1)
              ∗ (arg6.view.loc (c : Thread nD τ) ↦[arg6.view.set]{fullShare} arg6.view.rep x2)
              ∗ (arg7.view.loc (c : Thread nD τ) ↦[arg7.view.set]{fullShare} arg7.view.rep x3)
              ∗ (arg8.view.loc (c : Thread nD τ) ↦[arg8.view.set]{fullShare} arg8.view.rep x4)
              ∗ (arg9.view.loc (c : Thread nD τ) ↦[arg9.view.set]{fullShare} arg9.view.rep x5)
              ∗ (arg10.view.loc (c : Thread nD τ) ↦[arg10.view.set]{fullShare} arg10.view.rep x6)
              ∗ (arg11.view.loc (c : Thread nD τ) ↦[arg11.view.set]{fullShare} arg11.view.rep x7)
              ∗ (arg12.view.loc (c : Thread nD τ) ↦[arg12.view.set]{fullShare} arg12.view.rep x8)
              ∗ (arg13.view.loc (c : Thread nD τ) ↦[arg13.view.set]{fullShare} arg13.view.rep x9)
              ∗ (tbM0_0.view.loc (c : Thread nD τ) ↦{fullShare.right} T0)
              ∗ (tbM0_1.view.loc (c : Thread nD τ) ↦{fullShare.right} T1)
              ∗ (∃ f, arg14.view.loc (c : Thread nD τ) ↦[arg14.view.set]{fullShare} arg14.view.writes (Elt Ideal) f out0)
              ∗ (scM0_0.view.loc (c : Thread nD τ) ↦{fullShare} out1)
              ∗ (scM0_1.view.loc (c : Thread nD τ) ↦{fullShare} out2)
              ∗ (scM0_2.view.loc (c : Thread nD τ) ↦{fullShare} out3)
              ∗ (scM0_3.view.loc (c : Thread nD τ) ↦{fullShare} out4)) -∗ K ⟨⟩))
          ⊢ wp frame (wpE (defs₀ (F := Ideal)) Variants.none c none) Set.univ (cc0_experts i tbM0_0 (Memref.isWhole_whole _) tbM0_1 (Memref.isWhole_whole _) arg4 harg4 arg5 harg5 arg6 harg6 arg7 harg7 arg8 harg8 arg9 harg9 arg10 harg10 arg11 harg11 arg12 harg12 arg13 harg13 arg14 harg14 scM0_0 (Memref.isWhole_whole _) scM0_1 (Memref.isWhole_whole _) scM0_2 (Memref.isWhole_whole _) scM0_3 (Memref.isWhole_whole _)) K } :=
  ⟨_, _, _, _, _, fun K => by
    unfold owns
    rw [cc0_experts_eq_skeleton]; unfold cc0_experts_skel
    iintro ⟨H0, H1, H2, H3, H4, H5, H6, H7, H8, H9, HT0, HT1, ⟨%d10, %f10, -, HO10⟩, HS0, HS1, HS2, HS3, Hk⟩
    have hS0 : scM0_0.IsWhole := Memref.isWhole_whole _
    have hS1 : scM0_1.IsWhole := Memref.isWhole_whole _
    have hS2 : scM0_2.IsWhole := Memref.isWhole_whole _
    have hS3 : scM0_3.IsWhole := Memref.isWhole_whole _
    have hT0 : tbM0_0.IsWhole := Memref.isWhole_whole _
    have hT1 : tbM0_1.IsWhole := Memref.isWhole_whole _
    sl_exec! (disch := first | (guard_target = k0_chk1 _ _ _; exact k0_hw1) | (guard_target = k0_cond1 _ _ = _; exact k0_h1) | (guard_target = ¬(k0_cond2 _ = _); exact k0_h2))
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [HT0]; · iexact HT0
    isplitl [HT1]; · iexact HT1
    isplitl [HO10]; · iexists _; iexact HO10
    isplitl [HS0]; · iexact HS0
    isplitl [HS1]; · iexact HS1
    isplitl [HS2]; · iexact HS2
    iexact HS3⟩

/-- The one store covers the output block. -/
theorem cover0_C_10 (c : Dev nD) (i : grid0.Coords) (arg4 : Memref sig .tc .smem S64 .f32) (harg4 : arg4.IsWhole) (arg5 : Memref sig .tc .smem S64 .f32) (harg5 : arg5.IsWhole) (arg6 : Memref sig .tc .smem S64 .f32) (harg6 : arg6.IsWhole) (arg7 : Memref sig .tc .vmem S512x2048 .bf16) (harg7 : arg7.IsWhole) (arg8 : Memref sig .tc .vmem S1x2048x1024 .fp8e4m3) (harg8 : arg8.IsWhole) (arg9 : Memref sig .tc .vmem S1x1x1024 .f32) (harg9 : arg9.IsWhole) (arg10 : Memref sig .tc .vmem S1x2048x1024 .fp8e4m3) (harg10 : arg10.IsWhole) (arg11 : Memref sig .tc .vmem S1x1x1024 .f32) (harg11 : arg11.IsWhole) (arg12 : Memref sig .tc .vmem S1x1024x2048 .fp8e4m3) (harg12 : arg12.IsWhole) (arg13 : Memref sig .tc .vmem S1x1x2048 .f32) (harg13 : arg13.IsWhole) (arg14 : Memref sig .tc .vmem S512x2048 .bf16) (harg14 : arg14.IsWhole) (T0 : (S544.Idx → Elt Ideal .i32)) (T1 : (S544.Idx → Elt Ideal .i32))
     (x0 : (S64.Idx → Elt Ideal .f32)) (x1 : (S64.Idx → Elt Ideal .f32)) (x2 : (S64.Idx → Elt Ideal .f32)) (x3 : (S512x2048.Idx → Elt Ideal .bf16)) (x4 : (S1x2048x1024.Idx → Elt Ideal .fp8e4m3)) (x5 : (S1x1x1024.Idx → Elt Ideal .f32)) (x6 : (S1x2048x1024.Idx → Elt Ideal .fp8e4m3)) (x7 : (S1x1x1024.Idx → Elt Ideal .f32)) (x8 : (S1x1024x2048.Idx → Elt Ideal .fp8e4m3)) (x9 : (S1x1x2048.Idx → Elt Ideal .f32)) (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) (xa3 : Buf (Elt Ideal) ((c : Thread nD τ).loc cc0_scratch3)) (k0_hw1 : k0_chk1 i (View.readAt (Elt Ideal) (tbM0_1).view (Rect.unit (s := S544) (k0_off1 i) S1.size (k0_off1_inb i)).toLoadRect T1 (Shape.Idx.first (numel1_S1.symm ▸ Nat.one_pos))) (View.readAt (Elt Ideal) (tbM0_0).view (Rect.unit (s := S544) (k0_off1 i) S1.size (k0_off1_inb i)).toLoadRect T0 (Shape.Idx.first (numel1_S1.symm ▸ Nat.one_pos)))) (k0_h1 : k0_cond1 i (View.readAt (Elt Ideal) (tbM0_1).view (Rect.unit (s := S544) (k0_off1 i) S1.size (k0_off1_inb i)).toLoadRect T1 (Shape.Idx.first (numel1_S1.symm ▸ Nat.one_pos))) = 1#1) (k0_h2 : ¬(k0_cond2 (View.readAt (Elt Ideal) (tbM0_1).view (Rect.unit (s := S544) (k0_off1 i) S1.size (k0_off1_inb i)).toLoadRect T1 (Shape.Idx.first (numel1_S1.symm ▸ Nat.one_pos))) = 1#1)) (y : S512x2048.Idx) :
    ∃ pc ∈ (kernelRun0_C c i arg4 harg4 arg5 harg5 arg6 harg6 arg7 harg7 arg8 harg8 arg9 harg9 arg10 harg10 arg11 harg11 arg12 harg12 arg13 harg13 arg14 harg14 T0 T1 x0 x1 x2 x3 x4 x5 x6 x7 x8 x9 xa0 xa1 xa2 xa3 k0_hw1 k0_h1 k0_h2).1, y ∈ pc.1.set :=
  View.cover_of_tiledL (kernelRun0_C c i arg4 harg4 arg5 harg5 arg6 harg6 arg7 harg7 arg8 harg8 arg9 harg9 arg10 harg10 arg11 harg11 arg12 harg12 arg13 harg13 arg14 harg14 T0 T1 x0 x1 x2 x3 x4 x5 x6 x7 x8 x9 xa0 xa1 xa2 xa3 k0_hw1 k0_h1 k0_h2).1 S512x2048.size (by sl_kernel_rfl) y

/-- What the path leaves in the output block. -/
def out0_C_10 (c : Dev nD) (i : grid0.Coords) (arg4 : Memref sig .tc .smem S64 .f32) (harg4 : arg4.IsWhole) (arg5 : Memref sig .tc .smem S64 .f32) (harg5 : arg5.IsWhole) (arg6 : Memref sig .tc .smem S64 .f32) (harg6 : arg6.IsWhole) (arg7 : Memref sig .tc .vmem S512x2048 .bf16) (harg7 : arg7.IsWhole) (arg8 : Memref sig .tc .vmem S1x2048x1024 .fp8e4m3) (harg8 : arg8.IsWhole) (arg9 : Memref sig .tc .vmem S1x1x1024 .f32) (harg9 : arg9.IsWhole) (arg10 : Memref sig .tc .vmem S1x2048x1024 .fp8e4m3) (harg10 : arg10.IsWhole) (arg11 : Memref sig .tc .vmem S1x1x1024 .f32) (harg11 : arg11.IsWhole) (arg12 : Memref sig .tc .vmem S1x1024x2048 .fp8e4m3) (harg12 : arg12.IsWhole) (arg13 : Memref sig .tc .vmem S1x1x2048 .f32) (harg13 : arg13.IsWhole) (arg14 : Memref sig .tc .vmem S512x2048 .bf16) (harg14 : arg14.IsWhole) (T0 : (S544.Idx → Elt Ideal .i32)) (T1 : (S544.Idx → Elt Ideal .i32))
     (x0 : (S64.Idx → Elt Ideal .f32)) (x1 : (S64.Idx → Elt Ideal .f32)) (x2 : (S64.Idx → Elt Ideal .f32)) (x3 : (S512x2048.Idx → Elt Ideal .bf16)) (x4 : (S1x2048x1024.Idx → Elt Ideal .fp8e4m3)) (x5 : (S1x1x1024.Idx → Elt Ideal .f32)) (x6 : (S1x2048x1024.Idx → Elt Ideal .fp8e4m3)) (x7 : (S1x1x1024.Idx → Elt Ideal .f32)) (x8 : (S1x1024x2048.Idx → Elt Ideal .fp8e4m3)) (x9 : (S1x1x2048.Idx → Elt Ideal .f32)) (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) (xa3 : Buf (Elt Ideal) ((c : Thread nD τ).loc cc0_scratch3)) (k0_hw1 : k0_chk1 i (View.readAt (Elt Ideal) (tbM0_1).view (Rect.unit (s := S544) (k0_off1 i) S1.size (k0_off1_inb i)).toLoadRect T1 (Shape.Idx.first (numel1_S1.symm ▸ Nat.one_pos))) (View.readAt (Elt Ideal) (tbM0_0).view (Rect.unit (s := S544) (k0_off1 i) S1.size (k0_off1_inb i)).toLoadRect T0 (Shape.Idx.first (numel1_S1.symm ▸ Nat.one_pos)))) (k0_h1 : k0_cond1 i (View.readAt (Elt Ideal) (tbM0_1).view (Rect.unit (s := S544) (k0_off1 i) S1.size (k0_off1_inb i)).toLoadRect T1 (Shape.Idx.first (numel1_S1.symm ▸ Nat.one_pos))) = 1#1) (k0_h2 : ¬(k0_cond2 (View.readAt (Elt Ideal) (tbM0_1).view (Rect.unit (s := S544) (k0_off1 i) S1.size (k0_off1_inb i)).toLoadRect T1 (Shape.Idx.first (numel1_S1.symm ▸ Nat.one_pos))) = 1#1)) : (S512x2048.Idx → Elt Ideal .bf16) :=
  VO0_10.read (Elt Ideal) (VO0_10.writes (Elt Ideal) VO0_10.junk (kernelRun0_C c i arg4 harg4 arg5 harg5 arg6 harg6 arg7 harg7 arg8 harg8 arg9 harg9 arg10 harg10 arg11 harg11 arg12 harg12 arg13 harg13 arg14 harg14 T0 T1 x0 x1 x2 x3 x4 x5 x6 x7 x8 x9 xa0 xa1 xa2 xa3 k0_hw1 k0_h1 k0_h2).1)

set_option backward.proofsInPublic true in
set_option maxHeartbeats 8000000 in
/-- The kernel body on path D, the second half of an unused block: it stores nothing. -/
noncomputable def kernelRun0_D (c : Dev nD) (i : grid0.Coords) (arg4 : Memref sig .tc .smem S64 .f32) (harg4 : arg4.IsWhole) (arg5 : Memref sig .tc .smem S64 .f32) (harg5 : arg5.IsWhole) (arg6 : Memref sig .tc .smem S64 .f32) (harg6 : arg6.IsWhole) (arg7 : Memref sig .tc .vmem S512x2048 .bf16) (harg7 : arg7.IsWhole) (arg8 : Memref sig .tc .vmem S1x2048x1024 .fp8e4m3) (harg8 : arg8.IsWhole) (arg9 : Memref sig .tc .vmem S1x1x1024 .f32) (harg9 : arg9.IsWhole) (arg10 : Memref sig .tc .vmem S1x2048x1024 .fp8e4m3) (harg10 : arg10.IsWhole) (arg11 : Memref sig .tc .vmem S1x1x1024 .f32) (harg11 : arg11.IsWhole) (arg12 : Memref sig .tc .vmem S1x1024x2048 .fp8e4m3) (harg12 : arg12.IsWhole) (arg13 : Memref sig .tc .vmem S1x1x2048 .f32) (harg13 : arg13.IsWhole) (arg14 : Memref sig .tc .vmem S512x2048 .bf16) (harg14 : arg14.IsWhole) (T0 : (S544.Idx → Elt Ideal .i32)) (T1 : (S544.Idx → Elt Ideal .i32))
     (x0 : (S64.Idx → Elt Ideal .f32)) (x1 : (S64.Idx → Elt Ideal .f32)) (x2 : (S64.Idx → Elt Ideal .f32)) (x3 : (S512x2048.Idx → Elt Ideal .bf16)) (x4 : (S1x2048x1024.Idx → Elt Ideal .fp8e4m3)) (x5 : (S1x1x1024.Idx → Elt Ideal .f32)) (x6 : (S1x2048x1024.Idx → Elt Ideal .fp8e4m3)) (x7 : (S1x1x1024.Idx → Elt Ideal .f32)) (x8 : (S1x1024x2048.Idx → Elt Ideal .fp8e4m3)) (x9 : (S1x1x2048.Idx → Elt Ideal .f32)) (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) (xa3 : Buf (Elt Ideal) ((c : Thread nD τ).loc cc0_scratch3)) (k0_hw1 : k0_chk1 i (View.readAt (Elt Ideal) (tbM0_1).view (Rect.unit (s := S544) (k0_off1 i) S1.size (k0_off1_inb i)).toLoadRect T1 (Shape.Idx.first (numel1_S1.symm ▸ Nat.one_pos))) (View.readAt (Elt Ideal) (tbM0_0).view (Rect.unit (s := S544) (k0_off1 i) S1.size (k0_off1_inb i)).toLoadRect T0 (Shape.Idx.first (numel1_S1.symm ▸ Nat.one_pos)))) (k0_h1 : ¬(k0_cond1 i (View.readAt (Elt Ideal) (tbM0_1).view (Rect.unit (s := S544) (k0_off1 i) S1.size (k0_off1_inb i)).toLoadRect T1 (Shape.Idx.first (numel1_S1.symm ▸ Nat.one_pos))) = 1#1)) (k0_h2 : ¬(k0_cond2 (View.readAt (Elt Ideal) (tbM0_1).view (Rect.unit (s := S544) (k0_off1 i) S1.size (k0_off1_inb i)).toLoadRect T1 (Shape.Idx.first (numel1_S1.symm ▸ Nat.one_pos))) = 1#1)) :
    Σ' (out0 : Buf (Elt Ideal) ((c : Thread nD τ).loc cc0_scratch0)) (out1 : Buf (Elt Ideal) ((c : Thread nD τ).loc cc0_scratch1)) (out2 : Buf (Elt Ideal) ((c : Thread nD τ).loc cc0_scratch2)), { out3 : Buf (Elt Ideal) ((c : Thread nD τ).loc cc0_scratch3) //
      ∀ (y10 : (S512x2048.Idx → Elt Ideal .bf16)) (K : PUnit → sProp (MT nD τ sig Unit (Elt Ideal) ℕ (UR sig nD τ) ℕ)),
        iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (arg7.view.loc (c : Thread nD τ) ↦[arg7.view.set]{fullShare} arg7.view.rep x3)
          ∗ (arg8.view.loc (c : Thread nD τ) ↦[arg8.view.set]{fullShare} arg8.view.rep x4)
          ∗ (arg9.view.loc (c : Thread nD τ) ↦[arg9.view.set]{fullShare} arg9.view.rep x5)
          ∗ (arg10.view.loc (c : Thread nD τ) ↦[arg10.view.set]{fullShare} arg10.view.rep x6)
          ∗ (arg11.view.loc (c : Thread nD τ) ↦[arg11.view.set]{fullShare} arg11.view.rep x7)
          ∗ (arg12.view.loc (c : Thread nD τ) ↦[arg12.view.set]{fullShare} arg12.view.rep x8)
          ∗ (arg13.view.loc (c : Thread nD τ) ↦[arg13.view.set]{fullShare} arg13.view.rep x9)
          ∗ (tbM0_0.view.loc (c : Thread nD τ) ↦{fullShare.right} T0)
          ∗ (tbM0_1.view.loc (c : Thread nD τ) ↦{fullShare.right} T1)
          ∗ owns (c : Thread nD τ) arg14 fullShare y10
          ∗ (scM0_0.view.loc (c : Thread nD τ) ↦{fullShare} xa0)
          ∗ (scM0_1.view.loc (c : Thread nD τ) ↦{fullShare} xa1)
          ∗ (scM0_2.view.loc (c : Thread nD τ) ↦{fullShare} xa2)
          ∗ (scM0_3.view.loc (c : Thread nD τ) ↦{fullShare} xa3)
          ∗ (iprop((arg4.view.loc (c : Thread nD τ) ↦[arg4.view.set]{fullShare} arg4.view.rep x0)
              ∗ (arg5.view.loc (c : Thread nD τ) ↦[arg5.view.set]{fullShare} arg5.view.rep x1)
              ∗ (arg6.view.loc (c : Thread nD τ) ↦[arg6.view.set]{fullShare} arg6.view.rep x2)
              ∗ (arg7.view.loc (c : Thread nD τ) ↦[arg7.view.set]{fullShare} arg7.view.rep x3)
              ∗ (arg8.view.loc (c : Thread nD τ) ↦[arg8.view.set]{fullShare} arg8.view.rep x4)
              ∗ (arg9.view.loc (c : Thread nD τ) ↦[arg9.view.set]{fullShare} arg9.view.rep x5)
              ∗ (arg10.view.loc (c : Thread nD τ) ↦[arg10.view.set]{fullShare} arg10.view.rep x6)
              ∗ (arg11.view.loc (c : Thread nD τ) ↦[arg11.view.set]{fullShare} arg11.view.rep x7)
              ∗ (arg12.view.loc (c : Thread nD τ) ↦[arg12.view.set]{fullShare} arg12.view.rep x8)
              ∗ (arg13.view.loc (c : Thread nD τ) ↦[arg13.view.set]{fullShare} arg13.view.rep x9)
              ∗ (tbM0_0.view.loc (c : Thread nD τ) ↦{fullShare.right} T0)
              ∗ (tbM0_1.view.loc (c : Thread nD τ) ↦{fullShare.right} T1)
              ∗ owns (c : Thread nD τ) arg14 fullShare y10
              ∗ (scM0_0.view.loc (c : Thread nD τ) ↦{fullShare} out0)
              ∗ (scM0_1.view.loc (c : Thread nD τ) ↦{fullShare} out1)
              ∗ (scM0_2.view.loc (c : Thread nD τ) ↦{fullShare} out2)
              ∗ (scM0_3.view.loc (c : Thread nD τ) ↦{fullShare} out3)) -∗ K ⟨⟩))
          ⊢ wp frame (wpE (defs₀ (F := Ideal)) Variants.none c none) Set.univ (cc0_experts i tbM0_0 (Memref.isWhole_whole _) tbM0_1 (Memref.isWhole_whole _) arg4 harg4 arg5 harg5 arg6 harg6 arg7 harg7 arg8 harg8 arg9 harg9 arg10 harg10 arg11 harg11 arg12 harg12 arg13 harg13 arg14 harg14 scM0_0 (Memref.isWhole_whole _) scM0_1 (Memref.isWhole_whole _) scM0_2 (Memref.isWhole_whole _) scM0_3 (Memref.isWhole_whole _)) K } :=
  ⟨_, _, _, _, fun (y10 : (S512x2048.Idx → Elt Ideal .bf16)) K => by
    unfold owns
    rw [cc0_experts_eq_skeleton]; unfold cc0_experts_skel
    iintro ⟨H0, H1, H2, H3, H4, H5, H6, H7, H8, H9, HT0, HT1, ⟨%f10, %hf10, HO10⟩, HS0, HS1, HS2, HS3, Hk⟩
    obtain rfl := harg14.eq_unread hf10
    have hS0 : scM0_0.IsWhole := Memref.isWhole_whole _
    have hS1 : scM0_1.IsWhole := Memref.isWhole_whole _
    have hS2 : scM0_2.IsWhole := Memref.isWhole_whole _
    have hS3 : scM0_3.IsWhole := Memref.isWhole_whole _
    have hT0 : tbM0_0.IsWhole := Memref.isWhole_whole _
    have hT1 : tbM0_1.IsWhole := Memref.isWhole_whole _
    sl_exec! (disch := first | (guard_target = k0_chk1 _ _ _; exact k0_hw1) | (guard_target = ¬(k0_cond1 _ _ = _); exact k0_h1) | (guard_target = ¬(k0_cond2 _ = _); exact k0_h2))
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [HT0]; · iexact HT0
    isplitl [HT1]; · iexact HT1
    isplitl [HO10]
    · iexists _; isplitr; · ipureintro; exact harg14.read_unread _
      iexact HO10
    isplitl [HS0]; · iexact HS0
    isplitl [HS1]; · iexact HS1
    isplitl [HS2]; · iexact HS2
    iexact HS3⟩

end Cert.KernelXIdeal.Exp

end
-- ==== Proof.FactsXI.lean ====
/- The expert kernel's grid and tables: the words a grid point reads, which half of a block it is, and when the output is
   written back — for any tables whose words are in range. -/
module

public import proofs.«01_k».proof.Proof.Gen.KernelXIdeal.Skeleton
public import proofs.«01_k».proof.Proof.Gen.KernelXIdeal.Launch
public import Idealize.ShloMosaic.Lib.Pipeline.TableIdle
public import Idealize.ShloMosaic.Lib.Pointwise
public import Idealize.ShloMosaic.PureOps.Ideal

@[expose] public section

noncomputable section

namespace Cert.KernelXIdeal.Exp

open Cert.KernelXIdeal Cert.KernelXIdeal.Gen
open Idealize.ShloMosaic
open Idealize.ShloMosaic.TcCoe

variable (a : (pcfg0 (F := Ideal)).Adm)

/-- The expert table and the table of used rows. -/
abbrev tabE : S544.Idx → BitVec 32 := a.1 (0 : Fin 2)
abbrev tabN : S544.Idx → BitVec 32 := a.1 (1 : Fin 2)

/-- The tables' words are in range: an expert is one of 32, and a block's count is not negative. -/
def Words (a : (pcfg0 (F := Ideal)).Adm) : Prop :=
  (∀ x, (tabE a x).toNat < 32) ∧ ∀ x, (tabN a x).toNat < 2147483648

/-- The pipeline at the tables `a`, and a point's coordinates. -/
abbrev cfgA : Pipeline.Cfg sig Λ₀ := cfg0 (F := Ideal) a
abbrev crd (t : Fin (cfgA a).N) : grid0.Coords := grid0.coords t

theorem crd0 (t : Fin (cfgA a).N) : (crd a t 0).val = t.val / 2 := by
  have h : t.val < 1088 := lt_of_lt_of_eq t.isLt N_0
  show t.val / grid0.stride 0 % grid0.bound 0 = _
  rw [show grid0.stride 0 = 2 from by decide, show grid0.bound 0 = 544 from rfl]; omega

theorem crd1 (t : Fin (cfgA a).N) : (crd a t 1).val = t.val % 2 := by
  show t.val / grid0.stride 1 % grid0.bound 1 = _
  rw [show grid0.stride 1 = 1 from by decide, show grid0.bound 1 = 2 from rfl]; omega

/-- The words point `t` reads of the two tables. -/
abbrev wE (t : Fin (cfgA a).N) : BitVec 32 :=
  View.readAt (Elt Ideal) (Memref.whole main_arg0 : Memref sig .tc .smem S544 .i32).view (Rect.unit (s := S544) (k0_off1 (crd a t)) S1.size (k0_off1_inb (crd a t))).toLoadRect (tabE a) (Shape.Idx.first (numel1_S1.symm ▸ Nat.one_pos))
abbrev wN (t : Fin (cfgA a).N) : BitVec 32 :=
  View.readAt (Elt Ideal) (Memref.whole main_arg1 : Memref sig .tc .smem S544 .i32).view (Rect.unit (s := S544) (k0_off1 (crd a t)) S1.size (k0_off1_inb (crd a t))).toLoadRect (tabN a) (Shape.Idx.first (numel1_S1.symm ▸ Nat.one_pos))

/-- The block of point `t`. -/
def blkOf (t : Fin (cfgA a).N) : S544.Idx := ix1 ⟨t.val / 2, by have h : t.val < 1088 := lt_of_lt_of_eq t.isLt N_0; omega⟩

theorem off1_at (t : Fin (cfgA a).N) : k0_off1 (crd a t) 0 = t.val / 2 := by
  have h : t.val < 1088 := lt_of_lt_of_eq t.isLt N_0
  show (BitVec.ofNat 32 (crd a t 0).val).toNat = _
  rw [crd0, BitVec.toNat_ofNat]; omega

theorem wE_eq (t : Fin (cfgA a).N) : wE a t = tabE a (blkOf a t) := by
  show tabE a _ = tabE a _
  congr 1; funext (d : Fin 1); obtain rfl : d = 0 := Subsingleton.elim _ _
  apply Fin.ext
  show k0_off1 (crd a t) 0 + 1 * 0 = _
  rw [off1_at]; rfl

theorem wN_eq (t : Fin (cfgA a).N) : wN a t = tabN a (blkOf a t) := by
  show tabN a _ = tabN a _
  congr 1; funext (d : Fin 1); obtain rfl : d = 0 := Subsingleton.elim _ _
  apply Fin.ext
  show k0_off1 (crd a t) 0 + 1 * 0 = _
  rw [off1_at]; rfl

theorem atD_eq (t : Fin (cfgA a).N) : a.1.atD (1 : Fin 2) (k0_off1 (crd a t)) = tabN a (blkOf a t) := by
  have h : t.val < 1088 := lt_of_lt_of_eq t.isLt N_0
  have hb : ∀ d : Fin 1, k0_off1 (crd a t) d + 1 ≤ S544.size d := fun d => by
    obtain rfl : d = 0 := Subsingleton.elim _ _
    show k0_off1 (crd a t) 0 + 1 ≤ 544
    rw [off1_at]; omega
  refine (dif_pos hb).trans ?_
  show tabN a _ = tabN a _
  congr 1; funext (d : Fin 1); obtain rfl : d = 0 := Subsingleton.elim _ _
  apply Fin.ext
  show k0_off1 (crd a t) 0 = _
  rw [off1_at]; rfl

/-- The decisions at point `t`: an unused block's first half, a used block, a first half. -/
abbrev P0_0 (t : Fin (cfgA a).N) : Prop := k0_cond1 (crd a t) (wN a t) = 1#1
abbrev P0_1 (t : Fin (cfgA a).N) : Prop := k0_cond2 (wN a t) = 1#1
abbrev P0_2 (t : Fin (cfgA a).N) : Prop := (Scalar.cmpi .ne (Scalar.extui (Scalar.cmpi .eq (BitVec.ofNat 32 ((crd a t) 1).val) 0#32)) 0#32) = 1#1

theorem even_iff (t : Fin (cfgA a).N) : P0_2 a t ↔ t.val % 2 = 0 := by
  unfold P0_2; rw [crd1]
  have h := Nat.mod_lt t.val (show 0 < 2 by decide)
  generalize t.val % 2 = n at h
  interval_cases n <;> decide

theorem cond4_iff (t : Fin (cfgA a).N) : k0_cond4 (crd a t) = 1#1 ↔ ¬ t.val % 2 = 0 := by
  show (Scalar.cmpi .ne (Scalar.extui (Scalar.cmpi .eq (BitVec.ofNat 32 ((crd a t) 1).val) 1#32)) 0#32 : BitVec 1) = 1#1 ↔ _
  rw [crd1]
  have h := Nat.mod_lt t.val (show 0 < 2 by decide)
  generalize t.val % 2 = n at h
  interval_cases n <;> decide

theorem cond2_iff (v : BitVec 32) (h : v.toNat < 2147483648) : k0_cond2 v = 1#1 ↔ v ≠ 0#32 := by
  have hs : k0_cond2 v = if (0#32).slt v then 1#1 else 0#1 := by
    show IntOp.cmpi .ne (BitVec.setWidth 32 (BitVec.ofBool ((0#32).slt v))) 0#32 = _
    cases (0#32).slt v <;> decide
  rw [hs]
  have e : (0#32).slt v = true ↔ v ≠ 0#32 := by
    have e : v.toInt = v.toNat := BitVec.toInt_eq_toNat_of_lt (by omega)
    rw [BitVec.slt_iff_toInt_lt, e, ne_eq, ← BitVec.toNat_inj]
    simp; omega
  by_cases hv : (0#32).slt v = true
  · simp [hv, e.mp hv]
  · have := mt e.mpr hv; simp only [hv]; simp at this; simp [this]

theorem cond1_iff (t : Fin (cfgA a).N) (v : BitVec 32) : k0_cond1 (crd a t) v = 1#1 ↔ v = 0#32 ∧ t.val % 2 = 0 := by
  show (Scalar.cmpi .ne (Scalar.extui (Scalar.andi (Scalar.cmpi .eq v 0#32) (Scalar.cmpi .eq (BitVec.ofNat 32 ((crd a t) 1).val) 0#32)) : BitVec 32) 0#32 : BitVec 1) = 1#1 ↔ _
  rw [crd1]
  have h := Nat.mod_lt t.val (show 0 < 2 by decide)
  generalize t.val % 2 = n at h
  by_cases hv : v = 0#32
  · subst hv; interval_cases n <;> decide
  · have : (Scalar.cmpi .eq v 0#32 : BitVec 1) = 0#1 := by
      show BitVec.ofBool (v == 0#32) = 0#1
      rw [show (v == 0#32) = false from beq_eq_false_iff_ne.mpr hv]; rfl
    rw [this]; interval_cases n <;> simp only [hv, false_and, iff_false] <;> decide

/-- Whether the block of position `n` is used. -/
def used (t : Fin (cfgA a).N) : Prop := tabN a (blkOf a t) ≠ 0#32

variable {a}

instance (t : Fin (cfgA a).N) : Decidable (used a t) := inferInstanceAs (Decidable (_ ≠ _))

theorem used_iff (hw : Words a) (t : Fin (cfgA a).N) : P0_1 a t ↔ used a t := by
  unfold P0_1; rw [wN_eq]; exact cond2_iff _ (hw.2 _)

theorem zero_iff (t : Fin (cfgA a).N) : P0_0 a t ↔ ¬ used a t ∧ t.val % 2 = 0 := by
  unfold P0_0; rw [wN_eq, cond1_iff]; unfold used; simp

theorem chk (hw : Words a) (t : Fin (cfgA a).N) : k0_chk1 (crd a t) (wN a t) (wE a t) := by
  intro _ d
  obtain rfl : d = 0 := Subsingleton.elim _ _
  have e : (wE a t).toNat < 32 := by rw [wE_eq]; exact hw.1 _
  show (Scalar.addi (Scalar.muli (wE a t) 2#32) (BitVec.ofNat 32 (crd a t 1).val)).toNat + 1 ≤ 64
  rw [crd1]
  show ((wE a t) * 2#32 + BitVec.ofNat 32 (t.val % 2)).toNat + 1 ≤ 64
  rw [BitVec.toNat_add, BitVec.toNat_mul, BitVec.toNat_ofNat, BitVec.toNat_ofNat]
  omega

theorem idle_at (hw : Words a) (t : Fin (cfgA a).N) :
    (cfgA a).idle (10 : Fin 11) ((cfgA a).grid.coords t) = true ↔ (¬ P0_0 a t ∧ ¬ (P0_1 a t ∧ ¬ P0_2 a t)) := by
  show (!(k0_cond1 (crd a t) (a.1.atD (1 : Fin 2) (k0_off1 (crd a t))) == 1#1) && !(k0_cond2 (a.1.atD (1 : Fin 2) (k0_off1 (crd a t))) == 1#1 && k0_cond4 (crd a t) == 1#1)) = true ↔ _
  unfold P0_0 P0_1
  rw [atD_eq, wN_eq, even_iff, ← cond4_iff]
  simp only [Bool.and_eq_true, Bool.not_eq_true', Bool.and_eq_false_iff, beq_eq_false_iff_ne, ne_eq]
  tauto

theorem flush_at (t : Fin (cfgA a).N) : ((cfgA a).win (10 : Fin 11)).flush t = decide (¬ t.val % 2 = 0) := by
  have h : t.val < 1088 := lt_of_lt_of_eq t.isLt N_0
  have hN : (cfgA a).grid.N = 1088 := N_0
  have hx : ∀ t : Fin (cfgA a).N, ((cfgA a).win (10 : Fin 11)).index t = ![t.val / 2, 0] := by
    intro t
    have h : t.val < 1088 := lt_of_lt_of_eq t.isLt N_0
    show cc0_transform_10 (crd a t) = _
    unfold cc0_transform_10
    have : (BitVec.ofNat 32 (crd a t 0).val).toNat = t.val / 2 := by rw [crd0, BitVec.toNat_ofNat]; omega
    simp only [this]; rfl
  unfold Pipeline.Window.flush
  rw [show ((cfgA a).win (10 : Fin 11)).isOut = true from rfl, Bool.true_and, Bool.eq_iff_iff]
  simp only [Bool.or_eq_true, decide_eq_true_eq, hN]
  constructor
  · rintro (h1 | ⟨h1, h2⟩)
    · omega
    · intro h3; apply h2; rw [hx, hx]; simp only; congr 1; omega
  · intro h1
    by_cases h2 : t.val + 1 = 1088
    · exact .inl h2
    · refine .inr ⟨by omega, ?_⟩
      rw [hx, hx]; intro h3
      have := congrFun h3 0
      simp at this; omega

theorem fresh_at (hw : Words a) : ∀ n (h : n < (cfgA a).N), (cfgA a).fresh (10 : Fin 11) n = decide (n % 2 = 0 ∨ used a ⟨n, h⟩) := by
  intro n
  induction n with
  | zero => intro h; rw [Pipeline.Cfg.fresh_zero]; simp
  | succ n ih =>
    intro h
    have hn : n < (cfgA a).N := by omega
    have hN : (cfgA a).N = 1088 := N_0
    rw [Pipeline.Cfg.fresh_succ _ _ _ hn, ih hn, flush_at]
    by_cases e : n % 2 = 0
    · have hu : used a ⟨n + 1, h⟩ ↔ used a ⟨n, hn⟩ := by
        unfold used
        rw [show blkOf a ⟨n + 1, h⟩ = blkOf a ⟨n, hn⟩ from by unfold blkOf; congr 2; simp only; omega]
      have hi := idle_at hw ⟨n, hn⟩
      rw [zero_iff, used_iff hw, even_iff] at hi
      rw [Bool.eq_iff_iff]
      simp only [Bool.or_eq_true, Bool.and_eq_true, decide_eq_true_eq, hi, hu]
      simp only [e]
      have : ¬ (n + 1) % 2 = 0 := by omega
      simp only [this]; tauto
    · rw [Bool.eq_iff_iff]
      simp only [Bool.or_eq_true, Bool.and_eq_true, decide_eq_true_eq]
      have : (n + 1) % 2 = 0 := by omega
      simp [e, this]

end Cert.KernelXIdeal.Exp

end
-- ==== Proof.FrameXI.lean ====
/- The expert kernel's frame at any tables whose words are in range: what each grid point leaves in the output block and
   in the scratch buffers, and the run of the whole program. -/
module

public import proofs.«01_k».proof.Proof.RunsXI
public import proofs.«01_k».proof.Proof.FactsXI
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody

@[expose] public section

set_option maxRecDepth 16384
set_option Elab.async false

noncomputable section

namespace Cert.KernelXIdeal.Exp

open Cert.KernelXIdeal Cert.KernelXIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable (a : (pcfg0 (F := Ideal)).Adm) (hw : Words a)
variable (m : (ℓ : Loc nD τ sig) → Buf (Elt Ideal) ℓ) (ρ : Dev nD → PrngReg)

/-- Core `c`'s buffers when the pipeline starts: after the three casts of the weight codes. -/
abbrev V (c : Dev nD) (b : Ref sig .tc) : Buf (Elt Ideal) ((c : Thread nD τ).loc b) :=
  StableHlo.after (List.flatten [hostOps0]) (fun b => m (c, b)) b

theorem hostOps0_fresh : (hostOps0 : List (HloOp τ sig (Elt Ideal))).Forall fun op => op.fresh = ∅ := by
  simp only [List.Forall]; repeat' constructor

/-- Each window's staging buffer at point `t`. -/
abbrev ms0_0 (t : Fin (cfgA a).N) : Memref sig .tc .smem S64 .f32 := spec0_0.stage ((cfgA a).slots t (0 : Fin 11))
abbrev hs0_0 (t : Fin (cfgA a).N) : (ms0_0 a t).IsWhole := hstage0_0 (((cfgA a).slots t (0 : Fin 11)).cast nbuf0_0)
abbrev ms0_1 (t : Fin (cfgA a).N) : Memref sig .tc .smem S64 .f32 := spec0_1.stage ((cfgA a).slots t (1 : Fin 11))
abbrev hs0_1 (t : Fin (cfgA a).N) : (ms0_1 a t).IsWhole := hstage0_1 (((cfgA a).slots t (1 : Fin 11)).cast nbuf0_1)
abbrev ms0_2 (t : Fin (cfgA a).N) : Memref sig .tc .smem S64 .f32 := spec0_2.stage ((cfgA a).slots t (2 : Fin 11))
abbrev hs0_2 (t : Fin (cfgA a).N) : (ms0_2 a t).IsWhole := hstage0_2 (((cfgA a).slots t (2 : Fin 11)).cast nbuf0_2)
abbrev ms0_3 (t : Fin (cfgA a).N) : Memref sig .tc .vmem S512x2048 .bf16 := spec0_3.stage ((cfgA a).slots t (3 : Fin 11))
abbrev hs0_3 (t : Fin (cfgA a).N) : (ms0_3 a t).IsWhole := hstage0_3 (((cfgA a).slots t (3 : Fin 11)).cast nbuf0_3)
abbrev ms0_4 (t : Fin (cfgA a).N) : Memref sig .tc .vmem S1x2048x1024 .fp8e4m3 := spec0_4.stage ((cfgA a).slots t (4 : Fin 11))
abbrev hs0_4 (t : Fin (cfgA a).N) : (ms0_4 a t).IsWhole := hstage0_4 (((cfgA a).slots t (4 : Fin 11)).cast nbuf0_4)
abbrev ms0_5 (t : Fin (cfgA a).N) : Memref sig .tc .vmem S1x1x1024 .f32 := spec0_5.stage ((cfgA a).slots t (5 : Fin 11))
abbrev hs0_5 (t : Fin (cfgA a).N) : (ms0_5 a t).IsWhole := hstage0_5 (((cfgA a).slots t (5 : Fin 11)).cast nbuf0_5)
abbrev ms0_6 (t : Fin (cfgA a).N) : Memref sig .tc .vmem S1x2048x1024 .fp8e4m3 := spec0_6.stage ((cfgA a).slots t (6 : Fin 11))
abbrev hs0_6 (t : Fin (cfgA a).N) : (ms0_6 a t).IsWhole := hstage0_6 (((cfgA a).slots t (6 : Fin 11)).cast nbuf0_6)
abbrev ms0_7 (t : Fin (cfgA a).N) : Memref sig .tc .vmem S1x1x1024 .f32 := spec0_7.stage ((cfgA a).slots t (7 : Fin 11))
abbrev hs0_7 (t : Fin (cfgA a).N) : (ms0_7 a t).IsWhole := hstage0_7 (((cfgA a).slots t (7 : Fin 11)).cast nbuf0_7)
abbrev ms0_8 (t : Fin (cfgA a).N) : Memref sig .tc .vmem S1x1024x2048 .fp8e4m3 := spec0_8.stage ((cfgA a).slots t (8 : Fin 11))
abbrev hs0_8 (t : Fin (cfgA a).N) : (ms0_8 a t).IsWhole := hstage0_8 (((cfgA a).slots t (8 : Fin 11)).cast nbuf0_8)
abbrev ms0_9 (t : Fin (cfgA a).N) : Memref sig .tc .vmem S1x1x2048 .f32 := spec0_9.stage ((cfgA a).slots t (9 : Fin 11))
abbrev hs0_9 (t : Fin (cfgA a).N) : (ms0_9 a t).IsWhole := hstage0_9 (((cfgA a).slots t (9 : Fin 11)).cast nbuf0_9)
abbrev ms0_10 (t : Fin (cfgA a).N) : Memref sig .tc .vmem S512x2048 .bf16 := spec0_10.stage ((cfgA a).slots t (10 : Fin 11))
abbrev hs0_10 (t : Fin (cfgA a).N) : (ms0_10 a t).IsWhole := hstage0_10 (((cfgA a).slots t (10 : Fin 11)).cast nbuf0_10)

/-- Window `w`'s block at point `t`. -/
def iblk (c : Dev nD) (w : Fin (cfgA a).W) (t : Fin (cfgA a).N) : (((cfgA a).win w).xblock ((cfgA a).grid.coords t)).Idx → Elt Ideal ((cfgA a).win w).elt :=
  (((cfgA a).win w).blk t).view.read (Elt Ideal) (V m c (Pipeline.arrRef (cfgA a).spec w))

/-- The four scratch buffers' contents. -/
abbrev Scr (c : Dev nD) : Type :=
  Buf (Elt Ideal) ((c : Thread nD τ).loc cc0_scratch0) × Buf (Elt Ideal) ((c : Thread nD τ).loc cc0_scratch1) × Buf (Elt Ideal) ((c : Thread nD τ).loc cc0_scratch2) × Buf (Elt Ideal) ((c : Thread nD τ).loc cc0_scratch3)

section
variable {a}
/-! ## The decisions on each path -/

theorem h1_used {t : Fin (cfgA a).N} (hw : Words a) (q1 : P0_1 a t) : ¬ P0_0 a t := by
  rw [zero_iff]; rintro ⟨h, -⟩; exact h ((used_iff hw t).mp q1)
theorem h2_zero {t : Fin (cfgA a).N} (hw : Words a) (q0 : P0_0 a t) : ¬ P0_1 a t := fun q1 => h1_used hw q1 q0
theorem h4_even {t : Fin (cfgA a).N} (q2 : P0_2 a t) : ¬ k0_cond4 (crd a t) = 1#1 := by
  rw [cond4_iff]; rw [even_iff] at q2; simpa using q2
theorem h4_odd {t : Fin (cfgA a).N} (q2 : ¬ P0_2 a t) : k0_cond4 (crd a t) = 1#1 := by
  rw [cond4_iff]; rwa [even_iff] at q2
end

/-- Each path's run at point `t`. -/
abbrev runA (c : Dev nD) (t : Fin (cfgA a).N) (q1 : P0_1 a t) (q2 : P0_2 a t) :=
  kernelRun0_A c (crd a t) (ms0_0 a t) (hs0_0 a t) (ms0_1 a t) (hs0_1 a t) (ms0_2 a t) (hs0_2 a t) (ms0_3 a t) (hs0_3 a t) (ms0_4 a t) (hs0_4 a t) (ms0_5 a t) (hs0_5 a t) (ms0_6 a t) (hs0_6 a t) (ms0_7 a t) (hs0_7 a t) (ms0_8 a t) (hs0_8 a t) (ms0_9 a t) (hs0_9 a t) (ms0_10 a t) (hs0_10 a t) (tabE a) (tabN a) (iblk a m c (0 : Fin 11) t) (iblk a m c (1 : Fin 11) t) (iblk a m c (2 : Fin 11) t) (iblk a m c (3 : Fin 11) t) (iblk a m c (4 : Fin 11) t) (iblk a m c (5 : Fin 11) t) (iblk a m c (6 : Fin 11) t) (iblk a m c (7 : Fin 11) t) (iblk a m c (8 : Fin 11) t) (iblk a m c (9 : Fin 11) t) (chk hw t) (h1_used hw q1) q1 q2 (h4_even q2)
abbrev runB (c : Dev nD) (t : Fin (cfgA a).N) (s : Scr c) (q1 : P0_1 a t) (q2 : ¬ P0_2 a t) :=
  kernelRun0_B c (crd a t) (ms0_0 a t) (hs0_0 a t) (ms0_1 a t) (hs0_1 a t) (ms0_2 a t) (hs0_2 a t) (ms0_3 a t) (hs0_3 a t) (ms0_4 a t) (hs0_4 a t) (ms0_5 a t) (hs0_5 a t) (ms0_6 a t) (hs0_6 a t) (ms0_7 a t) (hs0_7 a t) (ms0_8 a t) (hs0_8 a t) (ms0_9 a t) (hs0_9 a t) (ms0_10 a t) (hs0_10 a t) (tabE a) (tabN a) (iblk a m c (0 : Fin 11) t) (iblk a m c (1 : Fin 11) t) (iblk a m c (2 : Fin 11) t) (iblk a m c (3 : Fin 11) t) (iblk a m c (4 : Fin 11) t) (iblk a m c (5 : Fin 11) t) (iblk a m c (6 : Fin 11) t) (iblk a m c (7 : Fin 11) t) (iblk a m c (8 : Fin 11) t) (iblk a m c (9 : Fin 11) t) s.1 s.2.1 s.2.2.1 s.2.2.2 (chk hw t) (h1_used hw q1) q1 q2 (h4_odd q2)
abbrev runC (c : Dev nD) (t : Fin (cfgA a).N) (s : Scr c) (q0 : P0_0 a t) :=
  kernelRun0_C c (crd a t) (ms0_0 a t) (hs0_0 a t) (ms0_1 a t) (hs0_1 a t) (ms0_2 a t) (hs0_2 a t) (ms0_3 a t) (hs0_3 a t) (ms0_4 a t) (hs0_4 a t) (ms0_5 a t) (hs0_5 a t) (ms0_6 a t) (hs0_6 a t) (ms0_7 a t) (hs0_7 a t) (ms0_8 a t) (hs0_8 a t) (ms0_9 a t) (hs0_9 a t) (ms0_10 a t) (hs0_10 a t) (tabE a) (tabN a) (iblk a m c (0 : Fin 11) t) (iblk a m c (1 : Fin 11) t) (iblk a m c (2 : Fin 11) t) (iblk a m c (3 : Fin 11) t) (iblk a m c (4 : Fin 11) t) (iblk a m c (5 : Fin 11) t) (iblk a m c (6 : Fin 11) t) (iblk a m c (7 : Fin 11) t) (iblk a m c (8 : Fin 11) t) (iblk a m c (9 : Fin 11) t) s.1 s.2.1 s.2.2.1 s.2.2.2 (chk hw t) q0 (h2_zero hw q0)
abbrev runD (c : Dev nD) (t : Fin (cfgA a).N) (s : Scr c) (q0 : ¬ P0_0 a t) (q1 : ¬ P0_1 a t) :=
  kernelRun0_D c (crd a t) (ms0_0 a t) (hs0_0 a t) (ms0_1 a t) (hs0_1 a t) (ms0_2 a t) (hs0_2 a t) (ms0_3 a t) (hs0_3 a t) (ms0_4 a t) (hs0_4 a t) (ms0_5 a t) (hs0_5 a t) (ms0_6 a t) (hs0_6 a t) (ms0_7 a t) (hs0_7 a t) (ms0_8 a t) (hs0_8 a t) (ms0_9 a t) (hs0_9 a t) (ms0_10 a t) (hs0_10 a t) (tabE a) (tabN a) (iblk a m c (0 : Fin 11) t) (iblk a m c (1 : Fin 11) t) (iblk a m c (2 : Fin 11) t) (iblk a m c (3 : Fin 11) t) (iblk a m c (4 : Fin 11) t) (iblk a m c (5 : Fin 11) t) (iblk a m c (6 : Fin 11) t) (iblk a m c (7 : Fin 11) t) (iblk a m c (8 : Fin 11) t) (iblk a m c (9 : Fin 11) t) s.1 s.2.1 s.2.2.1 s.2.2.2 (chk hw t) q0 q1

/-- What a used block's first half leaves in the scratch buffers. -/
def scrA (c : Dev nD) (t : Fin (cfgA a).N) (q1 : P0_1 a t) (q2 : P0_2 a t) : Scr c :=
  ((runA a hw m c t q1 q2).1, (runA a hw m c t q1 q2).2.1, (runA a hw m c t q1 q2).2.2.1, (runA a hw m c t q1 q2).2.2.2.1)

/-- What a used block's second half stores from scratch contents `s`. -/
def outB (c : Dev nD) (t : Fin (cfgA a).N) (s : Scr c) (q1 : P0_1 a t) (q2 : ¬ P0_2 a t) : S512x2048.Idx → Elt Ideal .bf16 :=
  out0_B_10 c (crd a t) (ms0_0 a t) (hs0_0 a t) (ms0_1 a t) (hs0_1 a t) (ms0_2 a t) (hs0_2 a t) (ms0_3 a t) (hs0_3 a t) (ms0_4 a t) (hs0_4 a t) (ms0_5 a t) (hs0_5 a t) (ms0_6 a t) (hs0_6 a t) (ms0_7 a t) (hs0_7 a t) (ms0_8 a t) (hs0_8 a t) (ms0_9 a t) (hs0_9 a t) (ms0_10 a t) (hs0_10 a t) (tabE a) (tabN a) (iblk a m c (0 : Fin 11) t) (iblk a m c (1 : Fin 11) t) (iblk a m c (2 : Fin 11) t) (iblk a m c (3 : Fin 11) t) (iblk a m c (4 : Fin 11) t) (iblk a m c (5 : Fin 11) t) (iblk a m c (6 : Fin 11) t) (iblk a m c (7 : Fin 11) t) (iblk a m c (8 : Fin 11) t) (iblk a m c (9 : Fin 11) t) s.1 s.2.1 s.2.2.1 s.2.2.2 (chk hw t) (h1_used hw q1) q1 q2 (h4_odd q2)

/-- What an unused block stores. -/
def outC (c : Dev nD) (t : Fin (cfgA a).N) (q0 : P0_0 a t) : S512x2048.Idx → Elt Ideal .bf16 :=
  out0_C_10 c (crd a t) (ms0_0 a t) (hs0_0 a t) (ms0_1 a t) (hs0_1 a t) (ms0_2 a t) (hs0_2 a t) (ms0_3 a t) (hs0_3 a t) (ms0_4 a t) (hs0_4 a t) (ms0_5 a t) (hs0_5 a t) (ms0_6 a t) (hs0_6 a t) (ms0_7 a t) (hs0_7 a t) (ms0_8 a t) (hs0_8 a t) (ms0_9 a t) (hs0_9 a t) (ms0_10 a t) (hs0_10 a t) (tabE a) (tabN a) (iblk a m c (0 : Fin 11) t) (iblk a m c (1 : Fin 11) t) (iblk a m c (2 : Fin 11) t) (iblk a m c (3 : Fin 11) t) (iblk a m c (4 : Fin 11) t) (iblk a m c (5 : Fin 11) t) (iblk a m c (6 : Fin 11) t) (iblk a m c (7 : Fin 11) t) (iblk a m c (8 : Fin 11) t) (iblk a m c (9 : Fin 11) t) default default default default (chk hw t) q0 (h2_zero hw q0)

theorem runC_any (c : Dev nD) (t : Fin (cfgA a).N) (s : Scr c) (q0 : P0_0 a t) :
    out0_C_10 c (crd a t) (ms0_0 a t) (hs0_0 a t) (ms0_1 a t) (hs0_1 a t) (ms0_2 a t) (hs0_2 a t) (ms0_3 a t) (hs0_3 a t) (ms0_4 a t) (hs0_4 a t) (ms0_5 a t) (hs0_5 a t) (ms0_6 a t) (hs0_6 a t) (ms0_7 a t) (hs0_7 a t) (ms0_8 a t) (hs0_8 a t) (ms0_9 a t) (hs0_9 a t) (ms0_10 a t) (hs0_10 a t) (tabE a) (tabN a) (iblk a m c (0 : Fin 11) t) (iblk a m c (1 : Fin 11) t) (iblk a m c (2 : Fin 11) t) (iblk a m c (3 : Fin 11) t) (iblk a m c (4 : Fin 11) t) (iblk a m c (5 : Fin 11) t) (iblk a m c (6 : Fin 11) t) (iblk a m c (7 : Fin 11) t) (iblk a m c (8 : Fin 11) t) (iblk a m c (9 : Fin 11) t) s.1 s.2.1 s.2.2.1 s.2.2.2 (chk hw t) q0 (h2_zero hw q0) = outC a hw m c t q0 := rfl

open Classical in
/-- The scratch buffers' contents after position `n`, where a used block's first half stands. -/
def scr (c : Dev nD) (n : ℕ) : Scr c :=
  if h : n < (cfgA a).N then (if q : P0_1 a ⟨n, h⟩ ∧ P0_2 a ⟨n, h⟩ then scrA a hw m c ⟨n, h⟩ q.1 q.2 else default) else default

theorem scr_A (c : Dev nD) (t : Fin (cfgA a).N) (q1 : P0_1 a t) (q2 : P0_2 a t) : scr a hw m c t.val = scrA a hw m c t q1 q2 := by
  unfold scr; rw [dif_pos t.isLt, dif_pos ⟨q1, q2⟩]

/-- The position before `t`. -/
abbrev pred (t : Fin (cfgA a).N) : Fin (cfgA a).N := ⟨t.val - 1, lt_of_le_of_lt (Nat.sub_le _ _) t.isLt⟩

open Classical in
/-- The output block after point `t`: on a used block's second half its values, on an unused block zeros. -/
def outT (c : Dev nD) (t : Fin (cfgA a).N) : S512x2048.Idx → Elt Ideal .bf16 :=
  if q1 : P0_1 a t then (if q2 : P0_2 a t then default else outB a hw m c t (scr a hw m c (t.val - 1)) q1 q2)
  else if q0 : P0_0 a t then outC a hw m c t q0
  else if q0 : P0_0 a (pred a t) then outC a hw m c (pred a t) q0 else default

theorem outT_B (c : Dev nD) (t : Fin (cfgA a).N) (q1 : P0_1 a t) (q2 : ¬ P0_2 a t) :
    outT a hw m c t = outB a hw m c t (scr a hw m c (t.val - 1)) q1 q2 := by unfold outT; rw [dif_pos q1, dif_neg q2]
theorem outT_C (c : Dev nD) (t : Fin (cfgA a).N) (q0 : P0_0 a t) : outT a hw m c t = outC a hw m c t q0 := by
  unfold outT; rw [dif_neg (h2_zero hw q0), dif_pos q0]

theorem blk_pred {t : Fin (cfgA a).N} (h : ¬ t.val % 2 = 0) : blkOf a (pred a t) = blkOf a t := by
  unfold blkOf; congr 2; simp only; omega

theorem used_pred {t : Fin (cfgA a).N} (h : ¬ t.val % 2 = 0) : used a (pred a t) ↔ used a t := by
  unfold used; rw [blk_pred a h]

include hw in
theorem odd_D {t : Fin (cfgA a).N} (q0 : ¬ P0_0 a t) (q1 : ¬ P0_1 a t) : ¬ t.val % 2 = 0 := by
  rw [zero_iff] at q0; rw [used_iff hw] at q1; tauto

include hw in
theorem pred_zero {t : Fin (cfgA a).N} (q0 : ¬ P0_0 a t) (q1 : ¬ P0_1 a t) : P0_0 a (pred a t) := by
  have h := odd_D a hw q0 q1
  rw [zero_iff, used_pred a h]; rw [used_iff hw] at q1
  exact ⟨q1, by simp only; omega⟩

theorem outT_D (c : Dev nD) (t : Fin (cfgA a).N) (q0 : ¬ P0_0 a t) (q1 : ¬ P0_1 a t) : outT a hw m c t = outT a hw m c (pred a t) := by
  rw [outT_C a hw m c (pred a t) (pred_zero a hw q0 q1)]
  unfold outT; rw [dif_neg q1, dif_neg q0, dif_pos (pred_zero a hw q0 q1)]

/-- The scratch buffers hold a first half's values before position `n`. -/
def held (n : ℕ) : Prop := n ≠ 0 ∧ ∃ h : n - 1 < (cfgA a).N, P0_1 a ⟨n - 1, h⟩ ∧ P0_2 a ⟨n - 1, h⟩

theorem held_succ (t : Fin (cfgA a).N) : held a (t.val + 1) ↔ P0_1 a t ∧ P0_2 a t :=
  ⟨fun ⟨_, _, h⟩ => h, fun h => ⟨Nat.succ_ne_zero _, t.isLt, h⟩⟩

include hw in
theorem held_B (t : Fin (cfgA a).N) (q1 : P0_1 a t) (q2 : ¬ P0_2 a t) : held a t.val := by
  rw [even_iff] at q2
  refine ⟨by omega, (pred a t).isLt, ?_, ?_⟩
  · show P0_1 a (pred a t); rw [used_iff hw, used_pred a q2]; exact (used_iff hw t).mp q1
  · show P0_2 a (pred a t); rw [even_iff]; simp only; omega

/-- The invariant before position `t`: the scratch buffers at the first half's values on a used block's second half, anything
    elsewhere, and the body's halves of the tables. -/
def Phi (c : Dev nD) (t : Fin ((cfgA a).N + 1)) : sProp (MT nD τ sig Unit (Elt Ideal) ℕ (UR sig nD τ) ℕ) :=
  iprop((∃ b, ⌜held a t.val → b = (scr a hw m c (t.val - 1)).1⌝ ∗ (scM0_0.view.loc (c : Thread nD τ) ↦{fullShare} b))
    ∗ (∃ b, ⌜held a t.val → b = (scr a hw m c (t.val - 1)).2.1⌝ ∗ (scM0_1.view.loc (c : Thread nD τ) ↦{fullShare} b))
    ∗ (∃ b, ⌜held a t.val → b = (scr a hw m c (t.val - 1)).2.2.1⌝ ∗ (scM0_2.view.loc (c : Thread nD τ) ↦{fullShare} b))
    ∗ (∃ b, ⌜held a t.val → b = (scr a hw m c (t.val - 1)).2.2.2⌝ ∗ (scM0_3.view.loc (c : Thread nD τ) ↦{fullShare} b))
    ∗ (tbM0_0.view.loc (c : Thread nD τ) ↦{fullShare.right} tabE a) ∗ (tbM0_1.view.loc (c : Thread nD τ) ↦{fullShare.right} tabN a)
    ∗ (∃ r, prngReg c r))

/-- The pipeline's proof data on core `c`. -/
def dats (_ : Fin 1) (c : Dev nD) : Dat τ (Elt Ideal) Unit ℕ (UR sig nD τ) ℕ (cfgA a) c where
  A w := V m c (Pipeline.arrRef (cfgA a).spec w)
  after w t := match w with
    | ⟨0, _⟩ => iblk a m c (0 : Fin 11) t
    | ⟨1, _⟩ => iblk a m c (1 : Fin 11) t
    | ⟨2, _⟩ => iblk a m c (2 : Fin 11) t
    | ⟨3, _⟩ => iblk a m c (3 : Fin 11) t
    | ⟨4, _⟩ => iblk a m c (4 : Fin 11) t
    | ⟨5, _⟩ => iblk a m c (5 : Fin 11) t
    | ⟨6, _⟩ => iblk a m c (6 : Fin 11) t
    | ⟨7, _⟩ => iblk a m c (7 : Fin 11) t
    | ⟨8, _⟩ => iblk a m c (8 : Fin 11) t
    | ⟨9, _⟩ => iblk a m c (9 : Fin 11) t
    | ⟨10, _⟩ => outT a hw m c t
  Φ t := Phi a hw m c t
  q _ := fullShare
  owed _ := 0

theorem after0_0 (c : Dev nD) (t : Fin (cfgA a).N) : (dats a hw m 0 c).after (0 : Fin 11) t = iblk a m c (0 : Fin 11) t := rfl
theorem after0_1 (c : Dev nD) (t : Fin (cfgA a).N) : (dats a hw m 0 c).after (1 : Fin 11) t = iblk a m c (1 : Fin 11) t := rfl
theorem after0_2 (c : Dev nD) (t : Fin (cfgA a).N) : (dats a hw m 0 c).after (2 : Fin 11) t = iblk a m c (2 : Fin 11) t := rfl
theorem after0_3 (c : Dev nD) (t : Fin (cfgA a).N) : (dats a hw m 0 c).after (3 : Fin 11) t = iblk a m c (3 : Fin 11) t := rfl
theorem after0_4 (c : Dev nD) (t : Fin (cfgA a).N) : (dats a hw m 0 c).after (4 : Fin 11) t = iblk a m c (4 : Fin 11) t := rfl
theorem after0_5 (c : Dev nD) (t : Fin (cfgA a).N) : (dats a hw m 0 c).after (5 : Fin 11) t = iblk a m c (5 : Fin 11) t := rfl
theorem after0_6 (c : Dev nD) (t : Fin (cfgA a).N) : (dats a hw m 0 c).after (6 : Fin 11) t = iblk a m c (6 : Fin 11) t := rfl
theorem after0_7 (c : Dev nD) (t : Fin (cfgA a).N) : (dats a hw m 0 c).after (7 : Fin 11) t = iblk a m c (7 : Fin 11) t := rfl
theorem after0_8 (c : Dev nD) (t : Fin (cfgA a).N) : (dats a hw m 0 c).after (8 : Fin 11) t = iblk a m c (8 : Fin 11) t := rfl
theorem after0_9 (c : Dev nD) (t : Fin (cfgA a).N) : (dats a hw m 0 c).after (9 : Fin 11) t = iblk a m c (9 : Fin 11) t := rfl
theorem after0_10 (c : Dev nD) (t : Fin (cfgA a).N) : (dats a hw m 0 c).after (10 : Fin 11) t = outT a hw m c t := rfl

theorem before0_0 (c : Dev nD) (t : Fin (cfgA a).N) (d) : (dats a hw m 0 c).before (0 : Fin 11) t d = iblk a m c (0 : Fin 11) t :=
  ((dats a hw m 0 c).before_in_eq_fetched (0 : Fin 11) rfl (fun _ => rfl) (fun _ _ _ => rfl) (fun t => by rw [after0_0]; unfold Dat.blockOf iblk; rfl) t d).trans
    (by unfold Dat.fetched Dat.blockOf iblk; rfl)
theorem before0_1 (c : Dev nD) (t : Fin (cfgA a).N) (d) : (dats a hw m 0 c).before (1 : Fin 11) t d = iblk a m c (1 : Fin 11) t :=
  ((dats a hw m 0 c).before_in_eq_fetched (1 : Fin 11) rfl (fun _ => rfl) (fun _ _ _ => rfl) (fun t => by rw [after0_1]; unfold Dat.blockOf iblk; rfl) t d).trans
    (by unfold Dat.fetched Dat.blockOf iblk; rfl)
theorem before0_2 (c : Dev nD) (t : Fin (cfgA a).N) (d) : (dats a hw m 0 c).before (2 : Fin 11) t d = iblk a m c (2 : Fin 11) t :=
  ((dats a hw m 0 c).before_in_eq_fetched (2 : Fin 11) rfl (fun _ => rfl) (fun _ _ _ => rfl) (fun t => by rw [after0_2]; unfold Dat.blockOf iblk; rfl) t d).trans
    (by unfold Dat.fetched Dat.blockOf iblk; rfl)
theorem before0_3 (c : Dev nD) (t : Fin (cfgA a).N) (d) : (dats a hw m 0 c).before (3 : Fin 11) t d = iblk a m c (3 : Fin 11) t :=
  ((dats a hw m 0 c).before_in_eq_fetched (3 : Fin 11) rfl (fun _ => rfl) (fun _ _ _ => rfl) (fun t => by rw [after0_3]; unfold Dat.blockOf iblk; rfl) t d).trans
    (by unfold Dat.fetched Dat.blockOf iblk; rfl)
theorem before0_4 (c : Dev nD) (t : Fin (cfgA a).N) (d) : (dats a hw m 0 c).before (4 : Fin 11) t d = iblk a m c (4 : Fin 11) t :=
  ((dats a hw m 0 c).before_in_eq_fetched (4 : Fin 11) rfl (fun _ => rfl) (fun _ _ _ => rfl) (fun t => by rw [after0_4]; unfold Dat.blockOf iblk; rfl) t d).trans
    (by unfold Dat.fetched Dat.blockOf iblk; rfl)
theorem before0_5 (c : Dev nD) (t : Fin (cfgA a).N) (d) : (dats a hw m 0 c).before (5 : Fin 11) t d = iblk a m c (5 : Fin 11) t :=
  ((dats a hw m 0 c).before_in_eq_fetched (5 : Fin 11) rfl (fun _ => rfl) (fun _ _ _ => rfl) (fun t => by rw [after0_5]; unfold Dat.blockOf iblk; rfl) t d).trans
    (by unfold Dat.fetched Dat.blockOf iblk; rfl)
theorem before0_6 (c : Dev nD) (t : Fin (cfgA a).N) (d) : (dats a hw m 0 c).before (6 : Fin 11) t d = iblk a m c (6 : Fin 11) t :=
  ((dats a hw m 0 c).before_in_eq_fetched (6 : Fin 11) rfl (fun _ => rfl) (fun _ _ _ => rfl) (fun t => by rw [after0_6]; unfold Dat.blockOf iblk; rfl) t d).trans
    (by unfold Dat.fetched Dat.blockOf iblk; rfl)
theorem before0_7 (c : Dev nD) (t : Fin (cfgA a).N) (d) : (dats a hw m 0 c).before (7 : Fin 11) t d = iblk a m c (7 : Fin 11) t :=
  ((dats a hw m 0 c).before_in_eq_fetched (7 : Fin 11) rfl (fun _ => rfl) (fun _ _ _ => rfl) (fun t => by rw [after0_7]; unfold Dat.blockOf iblk; rfl) t d).trans
    (by unfold Dat.fetched Dat.blockOf iblk; rfl)
theorem before0_8 (c : Dev nD) (t : Fin (cfgA a).N) (d) : (dats a hw m 0 c).before (8 : Fin 11) t d = iblk a m c (8 : Fin 11) t :=
  ((dats a hw m 0 c).before_in_eq_fetched (8 : Fin 11) rfl (fun _ => rfl) (fun _ _ _ => rfl) (fun t => by rw [after0_8]; unfold Dat.blockOf iblk; rfl) t d).trans
    (by unfold Dat.fetched Dat.blockOf iblk; rfl)
theorem before0_9 (c : Dev nD) (t : Fin (cfgA a).N) (d) : (dats a hw m 0 c).before (9 : Fin 11) t d = iblk a m c (9 : Fin 11) t :=
  ((dats a hw m 0 c).before_in_eq_fetched (9 : Fin 11) rfl (fun _ => rfl) (fun _ _ _ => rfl) (fun t => by rw [after0_9]; unfold Dat.blockOf iblk; rfl) t d).trans
    (by unfold Dat.fetched Dat.blockOf iblk; rfl)

/-- The output block is carried through the points that store nothing. -/
theorem hcarry0_10 (c : Dev nD) : ∀ (t : Fin (cfgA a).N) (ht : t.val ≠ 0), (cfgA a).idle (10 : Fin 11) ((cfgA a).grid.coords t) = true → (cfgA a).fresh (10 : Fin 11) t.val = false →
    (dats a hw m 0 c).after (10 : Fin 11) t = (dats a hw m 0 c).after (10 : Fin 11) ⟨t.val - 1, by omega⟩ := by
  intro t ht hi hf
  obtain ⟨q0, q12⟩ := (idle_at hw t).mp hi
  rw [fresh_at hw t.val t.isLt, decide_eq_false_iff_not] at hf
  have q1 : ¬ P0_1 a t := by
    intro q1
    exact hf (.inr ((used_iff hw t).mp q1))
  exact outT_D a hw m c t q0 q1

theorem before0_10 (c : Dev nD) (t : Fin (cfgA a).N) (d) :
    (dats a hw m 0 c).before (10 : Fin 11) t d = if (cfgA a).fresh (10 : Fin 11) t.val then d else outT a hw m c (pred a t) :=
  (dats a hw m 0 c).before_out_traj (10 : Fin 11) rfl (fun _ _ => rfl) (hcarry0_10 a hw m c) t.val t rfl d

/-- The body at point `t` on its staging buffers. -/
abbrev bodyAt0 (t : Fin (cfgA a).N) : Prog (TpuEff nD τ sig (Elt Ideal) Λ₀ .tc) PUnit :=
  cc0_experts (crd a t) (Memref.whole main_arg0) (Memref.isWhole_whole _) (Memref.whole main_arg1) (Memref.isWhole_whole _) (ms0_0 a t) (hs0_0 a t) (ms0_1 a t) (hs0_1 a t) (ms0_2 a t) (hs0_2 a t) (ms0_3 a t) (hs0_3 a t) (ms0_4 a t) (hs0_4 a t) (ms0_5 a t) (hs0_5 a t) (ms0_6 a t) (hs0_6 a t) (ms0_7 a t) (hs0_7 a t) (ms0_8 a t) (hs0_8 a t) (ms0_9 a t) (hs0_9 a t) (ms0_10 a t) (hs0_10 a t) (Memref.whole cc0_scratch0) (Memref.isWhole_whole _) (Memref.whole cc0_scratch1) (Memref.isWhole_whole _) (Memref.whole cc0_scratch2) (Memref.isWhole_whole _) (Memref.whole cc0_scratch3) (Memref.isWhole_whole _)

set_option maxHeartbeats 6400000 in
/-- The body obligation on a used block's first half. -/
theorem sound_A (c : Dev nD) (t : Fin (cfgA a).N) (q1 : P0_1 a t) (q2 : P0_2 a t) :
    iprop((dats a hw m 0 c).Φ t.castSucc ∗ (dats a hw m 0 c).owesAt () t.castSucc
        ∗ (∃ d, owns (c : Thread nD τ) (ms0_0 a t) fullShare ((dats a hw m 0 c).before (0 : Fin 11) t d))
        ∗ (∃ d, owns (c : Thread nD τ) (ms0_1 a t) fullShare ((dats a hw m 0 c).before (1 : Fin 11) t d))
        ∗ (∃ d, owns (c : Thread nD τ) (ms0_2 a t) fullShare ((dats a hw m 0 c).before (2 : Fin 11) t d))
        ∗ (∃ d, owns (c : Thread nD τ) (ms0_3 a t) fullShare ((dats a hw m 0 c).before (3 : Fin 11) t d))
        ∗ (∃ d, owns (c : Thread nD τ) (ms0_4 a t) fullShare ((dats a hw m 0 c).before (4 : Fin 11) t d))
        ∗ (∃ d, owns (c : Thread nD τ) (ms0_5 a t) fullShare ((dats a hw m 0 c).before (5 : Fin 11) t d))
        ∗ (∃ d, owns (c : Thread nD τ) (ms0_6 a t) fullShare ((dats a hw m 0 c).before (6 : Fin 11) t d))
        ∗ (∃ d, owns (c : Thread nD τ) (ms0_7 a t) fullShare ((dats a hw m 0 c).before (7 : Fin 11) t d))
        ∗ (∃ d, owns (c : Thread nD τ) (ms0_8 a t) fullShare ((dats a hw m 0 c).before (8 : Fin 11) t d))
        ∗ (∃ d, owns (c : Thread nD τ) (ms0_9 a t) fullShare ((dats a hw m 0 c).before (9 : Fin 11) t d))
        ∗ (∃ d, owns (c : Thread nD τ) (ms0_10 a t) fullShare ((dats a hw m 0 c).before (10 : Fin 11) t d)))
      ⊢ wp frame (wpE (defs₀ (F := Ideal)) Variants.none c none) Set.univ (bodyAt0 a t) fun _ =>
          iprop((dats a hw m 0 c).Φ t.succ ∗ (dats a hw m 0 c).owesAt () t.succ
            ∗ bigSep Finset.univ fun w : Fin (cfgA a).W =>
                match (cfgA a).idle w ((cfgA a).grid.coords t) with
                | true =>
                  match ((cfgA a).win w).flush t with
                  | false => iprop(∃ d, owns (c : Thread nD τ) (((cfgA a).win w).stage ((cfgA a).slots t w)) fullShare ((dats a hw m 0 c).before w t d))
                  | true => owns (c : Thread nD τ) (((cfgA a).win w).stage ((cfgA a).slots t w)) fullShare ((dats a hw m 0 c).after w t)
                | false => owns (c : Thread nD τ) (((cfgA a).win w).stage ((cfgA a).slots t w)) fullShare ((dats a hw m 0 c).after w t)) := by
  rw [bigSep_W0]
  have i10 : (cfgA a).idle (10 : Fin 11) ((cfgA a).grid.coords t) = true := (idle_at hw t).mpr ⟨h1_used hw q1, fun h => h.2 q2⟩
  have f10 : ((cfgA a).win (10 : Fin 11)).flush t = false := by rw [flush_at, decide_eq_false_iff_not, not_not]; exact (even_iff a t).mp q2
  have fr10 : (cfgA a).fresh (10 : Fin 11) t.val = true := by rw [fresh_at hw t.val t.isLt, decide_eq_true_eq]; exact .inl ((even_iff a t).mp q2)
  rewrite [i10]
  simp only [before0_0, before0_1, before0_2, before0_3, before0_4, before0_5, before0_6, before0_7, before0_8, before0_9, before0_10, after0_0, after0_1, after0_2, after0_3, after0_4, after0_5, after0_6, after0_7, after0_8, after0_9, after0_10, f10]
  try simp only [fr10, Bool.false_eq_true, ↓reduceIte]
  rewrite [show (dats a hw m 0 c).Φ t.succ = Phi a hw m c t.succ from rfl, show (dats a hw m 0 c).Φ t.castSucc = Phi a hw m c t.castSucc from rfl,
    show (dats a hw m 0 c).owesAt () t.succ = (dats a hw m 0 c).owesAt () t.castSucc from rfl]
  unfold Phi; simp only [Fin.val_castSucc, Fin.val_succ, Nat.add_sub_cancel]
  iintro ⟨⟨⟨%b0, %ha0, HS0⟩, ⟨%b1, %ha1, HS1⟩, ⟨%b2, %ha2, HS2⟩, ⟨%b3, %ha3, HS3⟩, HT0, HT1, HP⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply ((runA a hw m c t q1 q2).2.2.2.2 _ b0 b1 b2 b3 _)
  isplitl [H0]; · iapply rep_of_owns; iexact H0
  isplitl [H1]; · iapply rep_of_owns; iexact H1
  isplitl [H2]; · iapply rep_of_owns; iexact H2
  isplitl [H3]; · iapply rep_of_owns; iexact H3
  isplitl [H4]; · iapply rep_of_owns; iexact H4
  isplitl [H5]; · iapply rep_of_owns; iexact H5
  isplitl [H6]; · iapply rep_of_owns; iexact H6
  isplitl [H7]; · iapply rep_of_owns; iexact H7
  isplitl [H8]; · iapply rep_of_owns; iexact H8
  isplitl [H9]; · iapply rep_of_owns; iexact H9
  isplitl [HT0]; · iexact HT0
  isplitl [HT1]; · iexact HT1
  isplitl [H10]; · iexact H10
  isplitl [HS0]; · iexact HS0
  isplitl [HS1]; · iexact HS1
  isplitl [HS2]; · iexact HS2
  isplitl [HS3]; · iexact HS3
  iintro ⟨H0, H1, H2, H3, H4, H5, H6, H7, H8, H9, HT0, HT1, H10, HS0, HS1, HS2, HS3⟩
  isplitl [HS0 HS1 HS2 HS3 HT0 HT1 HP]
  · isplitl [HS0]
    · iexists _; isplitr; swap
      · iexact HS0
      · ipureintro; intro hn; rw [scr_A a hw m c t q1 q2, scrA]
    isplitl [HS1]
    · iexists _; isplitr; swap
      · iexact HS1
      · ipureintro; intro hn; rw [scr_A a hw m c t q1 q2, scrA]
    isplitl [HS2]
    · iexists _; isplitr; swap
      · iexact HS2
      · ipureintro; intro hn; rw [scr_A a hw m c t q1 q2, scrA]
    isplitl [HS3]
    · iexists _; isplitr; swap
      · iexact HS3
      · ipureintro; intro hn; rw [scr_A a hw m c t q1 q2, scrA]
    isplitl [HT0]; · iexact HT0
    isplitl [HT1]; · iexact HT1
    iexact HP
  isplitl [Ho]; · iexact Ho
  isplitl [H0]
  · iapply owns_of_rep; iexact H0
  isplitl [H1]
  · iapply owns_of_rep; iexact H1
  isplitl [H2]
  · iapply owns_of_rep; iexact H2
  isplitl [H3]
  · iapply owns_of_rep; iexact H3
  isplitl [H4]
  · iapply owns_of_rep; iexact H4
  isplitl [H5]
  · iapply owns_of_rep; iexact H5
  isplitl [H6]
  · iapply owns_of_rep; iexact H6
  isplitl [H7]
  · iapply owns_of_rep; iexact H7
  isplitl [H8]
  · iapply owns_of_rep; iexact H8
  isplitl [H9]
  · iapply owns_of_rep; iexact H9
  first | (iexists d10; iexact H10) | iexact H10

set_option maxHeartbeats 6400000 in
/-- The body obligation on a used block's second half. -/
theorem sound_B (c : Dev nD) (t : Fin (cfgA a).N) (q1 : P0_1 a t) (q2 : ¬ P0_2 a t) :
    iprop((dats a hw m 0 c).Φ t.castSucc ∗ (dats a hw m 0 c).owesAt () t.castSucc
        ∗ (∃ d, owns (c : Thread nD τ) (ms0_0 a t) fullShare ((dats a hw m 0 c).before (0 : Fin 11) t d))
        ∗ (∃ d, owns (c : Thread nD τ) (ms0_1 a t) fullShare ((dats a hw m 0 c).before (1 : Fin 11) t d))
        ∗ (∃ d, owns (c : Thread nD τ) (ms0_2 a t) fullShare ((dats a hw m 0 c).before (2 : Fin 11) t d))
        ∗ (∃ d, owns (c : Thread nD τ) (ms0_3 a t) fullShare ((dats a hw m 0 c).before (3 : Fin 11) t d))
        ∗ (∃ d, owns (c : Thread nD τ) (ms0_4 a t) fullShare ((dats a hw m 0 c).before (4 : Fin 11) t d))
        ∗ (∃ d, owns (c : Thread nD τ) (ms0_5 a t) fullShare ((dats a hw m 0 c).before (5 : Fin 11) t d))
        ∗ (∃ d, owns (c : Thread nD τ) (ms0_6 a t) fullShare ((dats a hw m 0 c).before (6 : Fin 11) t d))
        ∗ (∃ d, owns (c : Thread nD τ) (ms0_7 a t) fullShare ((dats a hw m 0 c).before (7 : Fin 11) t d))
        ∗ (∃ d, owns (c : Thread nD τ) (ms0_8 a t) fullShare ((dats a hw m 0 c).before (8 : Fin 11) t d))
        ∗ (∃ d, owns (c : Thread nD τ) (ms0_9 a t) fullShare ((dats a hw m 0 c).before (9 : Fin 11) t d))
        ∗ (∃ d, owns (c : Thread nD τ) (ms0_10 a t) fullShare ((dats a hw m 0 c).before (10 : Fin 11) t d)))
      ⊢ wp frame (wpE (defs₀ (F := Ideal)) Variants.none c none) Set.univ (bodyAt0 a t) fun _ =>
          iprop((dats a hw m 0 c).Φ t.succ ∗ (dats a hw m 0 c).owesAt () t.succ
            ∗ bigSep Finset.univ fun w : Fin (cfgA a).W =>
                match (cfgA a).idle w ((cfgA a).grid.coords t) with
                | true =>
                  match ((cfgA a).win w).flush t with
                  | false => iprop(∃ d, owns (c : Thread nD τ) (((cfgA a).win w).stage ((cfgA a).slots t w)) fullShare ((dats a hw m 0 c).before w t d))
                  | true => owns (c : Thread nD τ) (((cfgA a).win w).stage ((cfgA a).slots t w)) fullShare ((dats a hw m 0 c).after w t)
                | false => owns (c : Thread nD τ) (((cfgA a).win w).stage ((cfgA a).slots t w)) fullShare ((dats a hw m 0 c).after w t)) := by
  rw [bigSep_W0]
  have i10 : (cfgA a).idle (10 : Fin 11) ((cfgA a).grid.coords t) = false := by
    rw [← Bool.not_eq_true, idle_at hw t]; exact fun h => h.2 ⟨q1, q2⟩
  have f10 : ((cfgA a).win (10 : Fin 11)).flush t = true := by rw [flush_at, decide_eq_true_eq]; exact fun h => q2 ((even_iff a t).mpr h)
  have fr10 : (cfgA a).fresh (10 : Fin 11) t.val = true := by rw [fresh_at hw t.val t.isLt, decide_eq_true_eq]; exact .inr ((used_iff hw t).mp q1)
  have hneg : ¬ (P0_1 a t ∧ P0_2 a t) := fun h => q2 h.2
  rewrite [i10]
  simp only [before0_0, before0_1, before0_2, before0_3, before0_4, before0_5, before0_6, before0_7, before0_8, before0_9, before0_10, after0_0, after0_1, after0_2, after0_3, after0_4, after0_5, after0_6, after0_7, after0_8, after0_9, after0_10, f10]
  try simp only [fr10, Bool.false_eq_true, ↓reduceIte]
  rewrite [show (dats a hw m 0 c).Φ t.succ = Phi a hw m c t.succ from rfl, show (dats a hw m 0 c).Φ t.castSucc = Phi a hw m c t.castSucc from rfl,
    show (dats a hw m 0 c).owesAt () t.succ = (dats a hw m 0 c).owesAt () t.castSucc from rfl]
  rewrite [outT_B a hw m c t q1 q2]
  unfold Phi; simp only [Fin.val_castSucc, Fin.val_succ, Nat.add_sub_cancel]
  iintro ⟨⟨⟨%b0, %ha0, HS0⟩, ⟨%b1, %ha1, HS1⟩, ⟨%b2, %ha2, HS2⟩, ⟨%b3, %ha3, HS3⟩, HT0, HT1, HP⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  have hh := held_B a hw t q1 q2
  obtain rfl := ha0 hh; obtain rfl := ha1 hh; obtain rfl := ha2 hh; obtain rfl := ha3 hh
  iapply ((runB a hw m c t (scr a hw m c (t.val - 1)) q1 q2).2.2.2.2.2 _)
  isplitl [H0]; · iapply rep_of_owns; iexact H0
  isplitl [H1]; · iapply rep_of_owns; iexact H1
  isplitl [H2]; · iapply rep_of_owns; iexact H2
  isplitl [H3]; · iapply rep_of_owns; iexact H3
  isplitl [H4]; · iapply rep_of_owns; iexact H4
  isplitl [H5]; · iapply rep_of_owns; iexact H5
  isplitl [H6]; · iapply rep_of_owns; iexact H6
  isplitl [H7]; · iapply rep_of_owns; iexact H7
  isplitl [H8]; · iapply rep_of_owns; iexact H8
  isplitl [H9]; · iapply rep_of_owns; iexact H9
  isplitl [HT0]; · iexact HT0
  isplitl [HT1]; · iexact HT1
  isplitl [H10]; · iexists _; iexact H10
  isplitl [HS0]; · iexact HS0
  isplitl [HS1]; · iexact HS1
  isplitl [HS2]; · iexact HS2
  isplitl [HS3]; · iexact HS3
  iintro ⟨H0, H1, H2, H3, H4, H5, H6, H7, H8, H9, HT0, HT1, ⟨%e10, H10⟩, HS0, HS1, HS2, HS3⟩
  isplitl [HS0 HS1 HS2 HS3 HT0 HT1 HP]
  · isplitl [HS0]
    · iexists _; isplitr; swap
      · iexact HS0
      · ipureintro; intro hn; exact absurd ((held_succ a t).mp hn) hneg
    isplitl [HS1]
    · iexists _; isplitr; swap
      · iexact HS1
      · ipureintro; intro hn; exact absurd ((held_succ a t).mp hn) hneg
    isplitl [HS2]
    · iexists _; isplitr; swap
      · iexact HS2
      · ipureintro; intro hn; exact absurd ((held_succ a t).mp hn) hneg
    isplitl [HS3]
    · iexists _; isplitr; swap
      · iexact HS3
      · ipureintro; intro hn; exact absurd ((held_succ a t).mp hn) hneg
    isplitl [HT0]; · iexact HT0
    isplitl [HT1]; · iexact HT1
    iexact HP
  isplitl [Ho]; · iexact Ho
  isplitl [H0]
  · iapply owns_of_rep; iexact H0
  isplitl [H1]
  · iapply owns_of_rep; iexact H1
  isplitl [H2]
  · iapply owns_of_rep; iexact H2
  isplitl [H3]
  · iapply owns_of_rep; iexact H3
  isplitl [H4]
  · iapply owns_of_rep; iexact H4
  isplitl [H5]
  · iapply owns_of_rep; iexact H5
  isplitl [H6]
  · iapply owns_of_rep; iexact H6
  isplitl [H7]
  · iapply owns_of_rep; iexact H7
  isplitl [H8]
  · iapply owns_of_rep; iexact H8
  isplitl [H9]
  · iapply owns_of_rep; iexact H9
  unfold owns; iexists _; isplitr; swap
  · iexact H10
  · ipureintro; rw [outB, out0_B_10]; exact View.read_writes_of_cover _ _ _ _ _ (cover0_B_10 c _ _ _ _ _ _ _ _ _ _ _ _ _ _ _ _ _ _ _ _ _ _ _ _ _ _ _ _ _ _ _ _ _ _ _ _ _ _ _ _ _ _ _ _ )

set_option maxHeartbeats 6400000 in
/-- The body obligation on an unused block's first half. -/
theorem sound_C (c : Dev nD) (t : Fin (cfgA a).N) (q0 : P0_0 a t) :
    iprop((dats a hw m 0 c).Φ t.castSucc ∗ (dats a hw m 0 c).owesAt () t.castSucc
        ∗ (∃ d, owns (c : Thread nD τ) (ms0_0 a t) fullShare ((dats a hw m 0 c).before (0 : Fin 11) t d))
        ∗ (∃ d, owns (c : Thread nD τ) (ms0_1 a t) fullShare ((dats a hw m 0 c).before (1 : Fin 11) t d))
        ∗ (∃ d, owns (c : Thread nD τ) (ms0_2 a t) fullShare ((dats a hw m 0 c).before (2 : Fin 11) t d))
        ∗ (∃ d, owns (c : Thread nD τ) (ms0_3 a t) fullShare ((dats a hw m 0 c).before (3 : Fin 11) t d))
        ∗ (∃ d, owns (c : Thread nD τ) (ms0_4 a t) fullShare ((dats a hw m 0 c).before (4 : Fin 11) t d))
        ∗ (∃ d, owns (c : Thread nD τ) (ms0_5 a t) fullShare ((dats a hw m 0 c).before (5 : Fin 11) t d))
        ∗ (∃ d, owns (c : Thread nD τ) (ms0_6 a t) fullShare ((dats a hw m 0 c).before (6 : Fin 11) t d))
        ∗ (∃ d, owns (c : Thread nD τ) (ms0_7 a t) fullShare ((dats a hw m 0 c).before (7 : Fin 11) t d))
        ∗ (∃ d, owns (c : Thread nD τ) (ms0_8 a t) fullShare ((dats a hw m 0 c).before (8 : Fin 11) t d))
        ∗ (∃ d, owns (c : Thread nD τ) (ms0_9 a t) fullShare ((dats a hw m 0 c).before (9 : Fin 11) t d))
        ∗ (∃ d, owns (c : Thread nD τ) (ms0_10 a t) fullShare ((dats a hw m 0 c).before (10 : Fin 11) t d)))
      ⊢ wp frame (wpE (defs₀ (F := Ideal)) Variants.none c none) Set.univ (bodyAt0 a t) fun _ =>
          iprop((dats a hw m 0 c).Φ t.succ ∗ (dats a hw m 0 c).owesAt () t.succ
            ∗ bigSep Finset.univ fun w : Fin (cfgA a).W =>
                match (cfgA a).idle w ((cfgA a).grid.coords t) with
                | true =>
                  match ((cfgA a).win w).flush t with
                  | false => iprop(∃ d, owns (c : Thread nD τ) (((cfgA a).win w).stage ((cfgA a).slots t w)) fullShare ((dats a hw m 0 c).before w t d))
                  | true => owns (c : Thread nD τ) (((cfgA a).win w).stage ((cfgA a).slots t w)) fullShare ((dats a hw m 0 c).after w t)
                | false => owns (c : Thread nD τ) (((cfgA a).win w).stage ((cfgA a).slots t w)) fullShare ((dats a hw m 0 c).after w t)) := by
  rw [bigSep_W0]
  have q2 : t.val % 2 = 0 := ((zero_iff t).mp q0).2
  have i10 : (cfgA a).idle (10 : Fin 11) ((cfgA a).grid.coords t) = false := by
    rw [← Bool.not_eq_true, idle_at hw t]; exact fun h => h.1 q0
  have f10 : ((cfgA a).win (10 : Fin 11)).flush t = false := by rw [flush_at, decide_eq_false_iff_not, not_not]; exact q2
  have fr10 : (cfgA a).fresh (10 : Fin 11) t.val = true := by rw [fresh_at hw t.val t.isLt, decide_eq_true_eq]; exact .inl q2
  have hneg : ¬ (P0_1 a t ∧ P0_2 a t) := fun h => h2_zero hw q0 h.1
  rewrite [i10]
  simp only [before0_0, before0_1, before0_2, before0_3, before0_4, before0_5, before0_6, before0_7, before0_8, before0_9, before0_10, after0_0, after0_1, after0_2, after0_3, after0_4, after0_5, after0_6, after0_7, after0_8, after0_9, after0_10, f10]
  try simp only [fr10, Bool.false_eq_true, ↓reduceIte]
  rewrite [show (dats a hw m 0 c).Φ t.succ = Phi a hw m c t.succ from rfl, show (dats a hw m 0 c).Φ t.castSucc = Phi a hw m c t.castSucc from rfl,
    show (dats a hw m 0 c).owesAt () t.succ = (dats a hw m 0 c).owesAt () t.castSucc from rfl]
  rewrite [outT_C a hw m c t q0]
  unfold Phi; simp only [Fin.val_castSucc, Fin.val_succ, Nat.add_sub_cancel]
  iintro ⟨⟨⟨%b0, %ha0, HS0⟩, ⟨%b1, %ha1, HS1⟩, ⟨%b2, %ha2, HS2⟩, ⟨%b3, %ha3, HS3⟩, HT0, HT1, HP⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply ((runC a hw m c t (b0, b1, b2, b3) q0).2.2.2.2.2 _)
  isplitl [H0]; · iapply rep_of_owns; iexact H0
  isplitl [H1]; · iapply rep_of_owns; iexact H1
  isplitl [H2]; · iapply rep_of_owns; iexact H2
  isplitl [H3]; · iapply rep_of_owns; iexact H3
  isplitl [H4]; · iapply rep_of_owns; iexact H4
  isplitl [H5]; · iapply rep_of_owns; iexact H5
  isplitl [H6]; · iapply rep_of_owns; iexact H6
  isplitl [H7]; · iapply rep_of_owns; iexact H7
  isplitl [H8]; · iapply rep_of_owns; iexact H8
  isplitl [H9]; · iapply rep_of_owns; iexact H9
  isplitl [HT0]; · iexact HT0
  isplitl [HT1]; · iexact HT1
  isplitl [H10]; · iexists _; iexact H10
  isplitl [HS0]; · iexact HS0
  isplitl [HS1]; · iexact HS1
  isplitl [HS2]; · iexact HS2
  isplitl [HS3]; · iexact HS3
  iintro ⟨H0, H1, H2, H3, H4, H5, H6, H7, H8, H9, HT0, HT1, ⟨%e10, H10⟩, HS0, HS1, HS2, HS3⟩
  isplitl [HS0 HS1 HS2 HS3 HT0 HT1 HP]
  · isplitl [HS0]
    · iexists _; isplitr; swap
      · iexact HS0
      · ipureintro; intro hn; exact absurd ((held_succ a t).mp hn) hneg
    isplitl [HS1]
    · iexists _; isplitr; swap
      · iexact HS1
      · ipureintro; intro hn; exact absurd ((held_succ a t).mp hn) hneg
    isplitl [HS2]
    · iexists _; isplitr; swap
      · iexact HS2
      · ipureintro; intro hn; exact absurd ((held_succ a t).mp hn) hneg
    isplitl [HS3]
    · iexists _; isplitr; swap
      · iexact HS3
      · ipureintro; intro hn; exact absurd ((held_succ a t).mp hn) hneg
    isplitl [HT0]; · iexact HT0
    isplitl [HT1]; · iexact HT1
    iexact HP
  isplitl [Ho]; · iexact Ho
  isplitl [H0]
  · iapply owns_of_rep; iexact H0
  isplitl [H1]
  · iapply owns_of_rep; iexact H1
  isplitl [H2]
  · iapply owns_of_rep; iexact H2
  isplitl [H3]
  · iapply owns_of_rep; iexact H3
  isplitl [H4]
  · iapply owns_of_rep; iexact H4
  isplitl [H5]
  · iapply owns_of_rep; iexact H5
  isplitl [H6]
  · iapply owns_of_rep; iexact H6
  isplitl [H7]
  · iapply owns_of_rep; iexact H7
  isplitl [H8]
  · iapply owns_of_rep; iexact H8
  isplitl [H9]
  · iapply owns_of_rep; iexact H9
  unfold owns; iexists _; isplitr; swap
  · iexact H10
  · ipureintro; rw [← runC_any a hw m c t (b0, b1, b2, b3) q0, out0_C_10]; exact View.read_writes_of_cover _ _ _ _ _ (cover0_C_10 c _ _ _ _ _ _ _ _ _ _ _ _ _ _ _ _ _ _ _ _ _ _ _ _ _ _ _ _ _ _ _ _ _ _ _ _ _ _ _ _ _ _ )

set_option maxHeartbeats 6400000 in
/-- The body obligation on an unused block's second half. -/
theorem sound_D (c : Dev nD) (t : Fin (cfgA a).N) (q0 : ¬ P0_0 a t) (q1 : ¬ P0_1 a t) :
    iprop((dats a hw m 0 c).Φ t.castSucc ∗ (dats a hw m 0 c).owesAt () t.castSucc
        ∗ (∃ d, owns (c : Thread nD τ) (ms0_0 a t) fullShare ((dats a hw m 0 c).before (0 : Fin 11) t d))
        ∗ (∃ d, owns (c : Thread nD τ) (ms0_1 a t) fullShare ((dats a hw m 0 c).before (1 : Fin 11) t d))
        ∗ (∃ d, owns (c : Thread nD τ) (ms0_2 a t) fullShare ((dats a hw m 0 c).before (2 : Fin 11) t d))
        ∗ (∃ d, owns (c : Thread nD τ) (ms0_3 a t) fullShare ((dats a hw m 0 c).before (3 : Fin 11) t d))
        ∗ (∃ d, owns (c : Thread nD τ) (ms0_4 a t) fullShare ((dats a hw m 0 c).before (4 : Fin 11) t d))
        ∗ (∃ d, owns (c : Thread nD τ) (ms0_5 a t) fullShare ((dats a hw m 0 c).before (5 : Fin 11) t d))
        ∗ (∃ d, owns (c : Thread nD τ) (ms0_6 a t) fullShare ((dats a hw m 0 c).before (6 : Fin 11) t d))
        ∗ (∃ d, owns (c : Thread nD τ) (ms0_7 a t) fullShare ((dats a hw m 0 c).before (7 : Fin 11) t d))
        ∗ (∃ d, owns (c : Thread nD τ) (ms0_8 a t) fullShare ((dats a hw m 0 c).before (8 : Fin 11) t d))
        ∗ (∃ d, owns (c : Thread nD τ) (ms0_9 a t) fullShare ((dats a hw m 0 c).before (9 : Fin 11) t d))
        ∗ (∃ d, owns (c : Thread nD τ) (ms0_10 a t) fullShare ((dats a hw m 0 c).before (10 : Fin 11) t d)))
      ⊢ wp frame (wpE (defs₀ (F := Ideal)) Variants.none c none) Set.univ (bodyAt0 a t) fun _ =>
          iprop((dats a hw m 0 c).Φ t.succ ∗ (dats a hw m 0 c).owesAt () t.succ
            ∗ bigSep Finset.univ fun w : Fin (cfgA a).W =>
                match (cfgA a).idle w ((cfgA a).grid.coords t) with
                | true =>
                  match ((cfgA a).win w).flush t with
                  | false => iprop(∃ d, owns (c : Thread nD τ) (((cfgA a).win w).stage ((cfgA a).slots t w)) fullShare ((dats a hw m 0 c).before w t d))
                  | true => owns (c : Thread nD τ) (((cfgA a).win w).stage ((cfgA a).slots t w)) fullShare ((dats a hw m 0 c).after w t)
                | false => owns (c : Thread nD τ) (((cfgA a).win w).stage ((cfgA a).slots t w)) fullShare ((dats a hw m 0 c).after w t)) := by
  rw [bigSep_W0]
  have q2 := odd_D a hw q0 q1
  have i10 : (cfgA a).idle (10 : Fin 11) ((cfgA a).grid.coords t) = true := (idle_at hw t).mpr ⟨q0, fun h => q1 h.1⟩
  have f10 : ((cfgA a).win (10 : Fin 11)).flush t = true := by rw [flush_at, decide_eq_true_eq]; exact q2
  have fr10 : (cfgA a).fresh (10 : Fin 11) t.val = false := by
    rw [fresh_at hw t.val t.isLt, decide_eq_false_iff_not]
    rintro (h | h)
    · exact q2 h
    · exact q1 ((used_iff hw t).mpr h)
  have hneg : ¬ (P0_1 a t ∧ P0_2 a t) := fun h => q1 h.1
  rewrite [i10]
  simp only [before0_0, before0_1, before0_2, before0_3, before0_4, before0_5, before0_6, before0_7, before0_8, before0_9, before0_10, after0_0, after0_1, after0_2, after0_3, after0_4, after0_5, after0_6, after0_7, after0_8, after0_9, after0_10, f10]
  try simp only [fr10, Bool.false_eq_true, ↓reduceIte]
  rewrite [show (dats a hw m 0 c).Φ t.succ = Phi a hw m c t.succ from rfl, show (dats a hw m 0 c).Φ t.castSucc = Phi a hw m c t.castSucc from rfl,
    show (dats a hw m 0 c).owesAt () t.succ = (dats a hw m 0 c).owesAt () t.castSucc from rfl]
  rewrite [outT_D a hw m c t q0 q1]
  unfold Phi; simp only [Fin.val_castSucc, Fin.val_succ, Nat.add_sub_cancel]
  iintro ⟨⟨⟨%b0, %ha0, HS0⟩, ⟨%b1, %ha1, HS1⟩, ⟨%b2, %ha2, HS2⟩, ⟨%b3, %ha3, HS3⟩, HT0, HT1, HP⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply ((runD a hw m c t (b0, b1, b2, b3) q0 q1).2.2.2.2 _ _)
  isplitl [H0]; · iapply rep_of_owns; iexact H0
  isplitl [H1]; · iapply rep_of_owns; iexact H1
  isplitl [H2]; · iapply rep_of_owns; iexact H2
  isplitl [H3]; · iapply rep_of_owns; iexact H3
  isplitl [H4]; · iapply rep_of_owns; iexact H4
  isplitl [H5]; · iapply rep_of_owns; iexact H5
  isplitl [H6]; · iapply rep_of_owns; iexact H6
  isplitl [H7]; · iapply rep_of_owns; iexact H7
  isplitl [H8]; · iapply rep_of_owns; iexact H8
  isplitl [H9]; · iapply rep_of_owns; iexact H9
  isplitl [HT0]; · iexact HT0
  isplitl [HT1]; · iexact HT1
  isplitl [H10]; · iexact H10
  isplitl [HS0]; · iexact HS0
  isplitl [HS1]; · iexact HS1
  isplitl [HS2]; · iexact HS2
  isplitl [HS3]; · iexact HS3
  iintro ⟨H0, H1, H2, H3, H4, H5, H6, H7, H8, H9, HT0, HT1, H10, HS0, HS1, HS2, HS3⟩
  isplitl [HS0 HS1 HS2 HS3 HT0 HT1 HP]
  · isplitl [HS0]
    · iexists _; isplitr; swap
      · iexact HS0
      · ipureintro; intro hn; exact absurd ((held_succ a t).mp hn) hneg
    isplitl [HS1]
    · iexists _; isplitr; swap
      · iexact HS1
      · ipureintro; intro hn; exact absurd ((held_succ a t).mp hn) hneg
    isplitl [HS2]
    · iexists _; isplitr; swap
      · iexact HS2
      · ipureintro; intro hn; exact absurd ((held_succ a t).mp hn) hneg
    isplitl [HS3]
    · iexists _; isplitr; swap
      · iexact HS3
      · ipureintro; intro hn; exact absurd ((held_succ a t).mp hn) hneg
    isplitl [HT0]; · iexact HT0
    isplitl [HT1]; · iexact HT1
    iexact HP
  isplitl [Ho]; · iexact Ho
  isplitl [H0]
  · iapply owns_of_rep; iexact H0
  isplitl [H1]
  · iapply owns_of_rep; iexact H1
  isplitl [H2]
  · iapply owns_of_rep; iexact H2
  isplitl [H3]
  · iapply owns_of_rep; iexact H3
  isplitl [H4]
  · iapply owns_of_rep; iexact H4
  isplitl [H5]
  · iapply owns_of_rep; iexact H5
  isplitl [H6]
  · iapply owns_of_rep; iexact H6
  isplitl [H7]
  · iapply owns_of_rep; iexact H7
  isplitl [H8]
  · iapply owns_of_rep; iexact H8
  isplitl [H9]
  · iapply owns_of_rep; iexact H9
  first | (iexists d10; iexact H10) | iexact H10

theorem sound_body (c : Dev nD) (t : Fin (cfgA a).N) :
    iprop((dats a hw m 0 c).Φ t.castSucc ∗ (dats a hw m 0 c).owesAt () t.castSucc
        ∗ (∃ d, owns (c : Thread nD τ) (ms0_0 a t) fullShare ((dats a hw m 0 c).before (0 : Fin 11) t d))
        ∗ (∃ d, owns (c : Thread nD τ) (ms0_1 a t) fullShare ((dats a hw m 0 c).before (1 : Fin 11) t d))
        ∗ (∃ d, owns (c : Thread nD τ) (ms0_2 a t) fullShare ((dats a hw m 0 c).before (2 : Fin 11) t d))
        ∗ (∃ d, owns (c : Thread nD τ) (ms0_3 a t) fullShare ((dats a hw m 0 c).before (3 : Fin 11) t d))
        ∗ (∃ d, owns (c : Thread nD τ) (ms0_4 a t) fullShare ((dats a hw m 0 c).before (4 : Fin 11) t d))
        ∗ (∃ d, owns (c : Thread nD τ) (ms0_5 a t) fullShare ((dats a hw m 0 c).before (5 : Fin 11) t d))
        ∗ (∃ d, owns (c : Thread nD τ) (ms0_6 a t) fullShare ((dats a hw m 0 c).before (6 : Fin 11) t d))
        ∗ (∃ d, owns (c : Thread nD τ) (ms0_7 a t) fullShare ((dats a hw m 0 c).before (7 : Fin 11) t d))
        ∗ (∃ d, owns (c : Thread nD τ) (ms0_8 a t) fullShare ((dats a hw m 0 c).before (8 : Fin 11) t d))
        ∗ (∃ d, owns (c : Thread nD τ) (ms0_9 a t) fullShare ((dats a hw m 0 c).before (9 : Fin 11) t d))
        ∗ (∃ d, owns (c : Thread nD τ) (ms0_10 a t) fullShare ((dats a hw m 0 c).before (10 : Fin 11) t d)))
      ⊢ wp frame (wpE (defs₀ (F := Ideal)) Variants.none c none) Set.univ (bodyAt0 a t) fun _ =>
          iprop((dats a hw m 0 c).Φ t.succ ∗ (dats a hw m 0 c).owesAt () t.succ
            ∗ bigSep Finset.univ fun w : Fin (cfgA a).W =>
                match (cfgA a).idle w ((cfgA a).grid.coords t) with
                | true =>
                  match ((cfgA a).win w).flush t with
                  | false => iprop(∃ d, owns (c : Thread nD τ) (((cfgA a).win w).stage ((cfgA a).slots t w)) fullShare ((dats a hw m 0 c).before w t d))
                  | true => owns (c : Thread nD τ) (((cfgA a).win w).stage ((cfgA a).slots t w)) fullShare ((dats a hw m 0 c).after w t)
                | false => owns (c : Thread nD τ) (((cfgA a).win w).stage ((cfgA a).slots t w)) fullShare ((dats a hw m 0 c).after w t)) := by
  by_cases q0 : P0_0 a t
  · exact sound_C a hw m c t q0
  · by_cases q1 : P0_1 a t
    · by_cases q2 : P0_2 a t
      · exact sound_A a hw m c t q1 q2
      · exact sound_B a hw m c t q1 q2
    · exact sound_D a hw m c t q0 q1

/-- The body obligation at every point. -/
theorem body_obligation (c : Dev nD) : BodyObligation (dats a hw m 0 c) (defs₀ (F := Ideal)) Variants.none () Set.univ := fun t => by
  rw [bigSep_W0]
  exact sound_body a hw m c t

theorem share_eq (c : Dev nD) (w : Fin (cfgA a).W) : (dats a hw m 0 c).share w = fullShare := by unfold Dat.share; split <;> rfl

/-- The tables one by one. -/
theorem prefHeld_eq (c : Dev nD) (q : Fin 2 → PosShare TreeShare) (v : pre0.Contents (Elt Ideal)) :
    (Pipeline.prefHeld (Ix := Unit) (Name := ℕ) (U := UR sig nD τ) (Lvl := ℕ) pre0 c q v : sProp (MT nD τ sig Unit (Elt Ideal) ℕ (UR sig nD τ) ℕ))
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

/-- The invariant before the first point; -/
theorem phi0_intro (c : Dev nD) :
    iprop(Pipeline.ΦA (U := UR sig nD τ) spec0 c ∗ Pipeline.ΦT pre0 a.1 c) ⊢ (dats a hw m 0 c).Φ 0 := by
  unfold Pipeline.ΦA Pipeline.ΦT
  rw [prefHeld_eq, scopedRest0_eq, show (dats a hw m 0 c).Φ 0 = Phi a hw m c 0 from rfl]
  unfold Phi
  iintro ⟨⟨⟨⟨%b0, HS0⟩, ⟨%b1, HS1⟩, ⟨%b2, HS2⟩, ⟨%b3, HS3⟩⟩, HP⟩, ⟨HT0, HT1⟩⟩
  isplitl [HS0]
  · iexists b0; isplitr; swap
    · iexact HS0
    · ipureintro; intro h; exact absurd rfl h.1
  isplitl [HS1]
  · iexists b1; isplitr; swap
    · iexact HS1
    · ipureintro; intro h; exact absurd rfl h.1
  isplitl [HS2]
  · iexists b2; isplitr; swap
    · iexact HS2
    · ipureintro; intro h; exact absurd rfl h.1
  isplitl [HS3]
  · iexists b3; isplitr; swap
    · iexact HS3
    · ipureintro; intro h; exact absurd rfl h.1
  isplitl [HT0]; · iexact HT0
  isplitl [HT1]; · iexact HT1
  iexact HP

/-- and what it gives back after the last. -/
theorem phiN_exit (c : Dev nD) : (dats a hw m 0 c).Φ (Fin.last (cfgA a).N) ⊢ Pipeline.ΦA (U := UR sig nD τ) spec0 c := by
  unfold Pipeline.ΦA
  rw [scopedRest0_eq, show (dats a hw m 0 c).Φ (Fin.last (cfgA a).N) = Phi a hw m c (Fin.last _) from rfl]
  unfold Phi
  iintro ⟨⟨%b0, -, HS0⟩, ⟨%b1, -, HS1⟩, ⟨%b2, -, HS2⟩, ⟨%b3, -, HS3⟩, -, -, HP⟩
  isplitr [HP]
  · isplitl [HS0]
    · iexists b0; iexact HS0
    isplitl [HS1]
    · iexists b1; iexact HS1
    isplitl [HS2]
    · iexists b2; iexact HS2
    iexists b3; iexact HS3
  iexact HP

/-- The program up to the pipeline: the three casts. -/
theorem hmain (𝒱₀ : Variants) : Pipeline.HMainP (Ix := Unit) (Name := ℕ) (U := UR sig nD τ) (Lvl := ℕ) (pcfgs (F := Ideal)) 0 defs₀ 𝒱₀ m (main (F := Ideal)) (V m) :=
  Pipeline.hmainP_prefixes (pcfgs (F := Ideal)) 0 defs₀ 𝒱₀ m main [hostOps0] (by simp only [List.Forall]; exact hostOps0_sub)
    (by simp only [List.Forall]; exact hostOps0_fresh) main_chain

/-- The run: every array of the pipeline at what the proof data say, everything else as it was, no counter left over. -/
abbrev Post : PUnit × MemSt nD τ sig (Elt Ideal) → Prop :=
  Pipeline.FramePost (Pipeline.pin (pcfgs (F := Ideal)) fun _ => a) (dats a hw m) 0 (V m)

set_option backward.isDefEq.respectTransparency.types false in
set_option maxHeartbeats 4000000 in
theorem run_main (hT : ∀ c k, V m c (pre0.ref k) = a.1 k) :
    θ_run (defs (F := Ideal)) (onTc (τ := τ) (main (F := Ideal))) (s₀ m ρ) (fun r => Post a hw m r ∧ r.2.sem = fun _ => 0) :=
  Pipeline.θ_run_frameP_track (Q' := _) (pcfgs (F := Ideal)) (fun _ => a) (dats a hw m) 0 launch0 defs₀ Variants.none m ρ main
    (hbody := fun c => (body_obligation a hw m c).loose) (hshare := share_eq a hw m) (howed := fun _ _ => rfl)
    (V := V m) (hmain := hmain m Variants.none) (hA := fun _ _ => rfl) (hpf := hT)
    (hin := phi0_intro a hw m) (hout := phiN_exit a hw m)

end Cert.KernelXIdeal.Exp

end
-- ==== Proof.ArgsXI.lean ====
module

public import proofs.«01_k».proof.Defs
public import proofs.«01_k».proof.Proof.FrameXI
public import proofs.«01_k».proof.Proof.RangeX

/-! The expert kernel's frame: under the precondition the tables' words are in range, so every block lies inside its array,
    and the run leaves the arguments as they were. -/

@[expose] public section

set_option maxRecDepth 16384
set_option Elab.async false

noncomputable section

namespace Cert.KernelXIdeal.Exp

open Cert.KernelXIdeal Cert.KernelXIdeal.Gen
open Idealize.ShloMosaic
open Idealize.ShloMosaic.TcCoe
open Idealize.SL.Sem

/-! ## Every block lies inside its array -/

theorem half_lt (v : BitVec 1) (i : grid0.Coords) : (Scalar.select v (BitVec.ofNat 32 (i 1).val) 1#32).toNat < 2 := by
  have h : (i 1).val < 2 := (i 1).isLt
  unfold Scalar.select
  split
  · rw [BitVec.toNat_ofNat]; omega
  · decide

variable (pf : pre0.Contents (Elt Ideal))

/-- The words the index maps read at a point. -/
abbrev pE (i : grid0.Coords) : BitVec 32 := pf.at (0 : Fin 2) (Rect.unit (s := S544) (k0_off1 i) S1.size (k0_off1_inb i)) numel1_S1
abbrev pN (i : grid0.Coords) : BitVec 32 := pf.at (1 : Fin 2) (Rect.unit (s := S544) (k0_off1 i) S1.size (k0_off1_inb i)) numel1_S1
abbrev pH (i : grid0.Coords) : BitVec 32 := Scalar.select (Scalar.cmpi .sgt (pN pf i) 0#32) (BitVec.ofNat 32 (i 1).val) 1#32

theorem tr4 (i : grid0.Coords) : cc0_transform_4 k0_off1_inb numel1_S1 pf i = ![(pE pf i).toNat, 0, (pH pf i).toNat] := rfl
theorem tr5 (i : grid0.Coords) : cc0_transform_5 k0_off1_inb numel1_S1 pf i = ![(pE pf i).toNat, 0, (pH pf i).toNat] := rfl
theorem tr6 (i : grid0.Coords) : cc0_transform_6 k0_off1_inb numel1_S1 pf i = ![(pE pf i).toNat, 0, (pH pf i).toNat] := rfl
theorem tr7 (i : grid0.Coords) : cc0_transform_7 k0_off1_inb numel1_S1 pf i = ![(pE pf i).toNat, 0, (pH pf i).toNat] := rfl
theorem tr8 (i : grid0.Coords) : cc0_transform_8 k0_off1_inb numel1_S1 pf i = ![(pE pf i).toNat, (pH pf i).toNat, 0] := rfl
theorem tr9 (i : grid0.Coords) : cc0_transform_9 k0_off1_inb numel1_S1 pf i = ![(pE pf i).toNat, 0, 0] := rfl

theorem in3 {p q r A B C x y z : Nat} (ha : (x + 1) * p ≤ A) (hb : (y + 1) * q ≤ B) (hc : (z + 1) * r ≤ C) :
    ∀ d : Fin 3, ((![x, y, z] : Fin 3 → Nat) d + 1) * (![p, q, r] : Fin 3 → Nat) d ≤ (![A, B, C] : Fin 3 → Nat) d
  | ⟨0, _⟩ => ha | ⟨1, _⟩ => hb | ⟨2, _⟩ => hc

theorem ok_of (hE : ∀ x, (show BitVec 32 from pf (0 : Fin 2) x).toNat < 32) : ok0 pf := by
  have e : ∀ i, (pE pf i).toNat < 32 := fun i => hE _
  have h : ∀ i, (pH pf i).toNat < 2 := fun i => half_lt _ i
  refine ⟨fun i => ⟨?_, .inr (Affine.block_words_dvd (of_decide_eq_true rfl) (by decide))⟩, fun i => ⟨?_, .inl rfl⟩,
    fun i => ⟨?_, .inr (Affine.block_words_dvd (of_decide_eq_true rfl) (by decide))⟩, fun i => ⟨?_, .inl rfl⟩,
    fun i => ⟨?_, .inr (Affine.block_words_dvd (of_decide_eq_true rfl) (by decide))⟩, fun i => ⟨?_, .inl rfl⟩⟩
  · rw [tr4]; have := e i; have := h i; exact in3 (by omega) (by omega) (by omega)
  · rw [tr5]; have := e i; have := h i; exact in3 (by omega) (by omega) (by omega)
  · rw [tr6]; have := e i; have := h i; exact in3 (by omega) (by omega) (by omega)
  · rw [tr7]; have := e i; have := h i; exact in3 (by omega) (by omega) (by omega)
  · rw [tr8]; have := e i; have := h i; exact in3 (by omega) (by omega) (by omega)
  · rw [tr9]; have := e i; exact in3 (by omega) (by omega) (by omega)

/-! ## The tables as launched -/

variable (m : (ℓ : Loc nD τ sig) → Buf (Elt Ideal) ℓ) (ρ : Dev nD → PrngReg)

/-- Core 0's tables. -/
def tabs : pre0.Contents (Elt Ideal) := fun k => m ((((0 : Dev nD)) : Thread nD τ).loc (pre0.ref k))

theorem pre_tables (h : Cert.Pre_KernelXIdeal m) :
    (∀ x, (show BitVec 32 from tabs m (0 : Fin 2) x).toNat < 32) ∧ ∀ x, (show BitVec 32 from tabs m (1 : Fin 2) x).toNat < 2147483648 :=
  Cert.RangeX.tables _ _ _ _ _ _ _ _ _ _ _ _ (h 0)

/-- The pipeline's tables, admissible under the precondition, and their words in range. -/
def adm (h : Cert.Pre_KernelXIdeal m) : (pcfg0 (F := Ideal)).Adm := ⟨tabs m, ok_of _ (pre_tables m h).1⟩

theorem adm_words (h : Cert.Pre_KernelXIdeal m) : Words (adm m h) := pre_tables m h

/-! ## The arguments are left alone -/

theorem V_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.Forall, StableHlo.unary_writes, Finset.mem_singleton]
    repeat' apply And.intro
    all_goals exact StableHlo.devRef_ne_of_ne (by decide)))
theorem V_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.Forall, StableHlo.unary_writes, Finset.mem_singleton]
    repeat' apply And.intro
    all_goals exact StableHlo.devRef_ne_of_ne (by decide)))
theorem V_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.Forall, StableHlo.unary_writes, Finset.mem_singleton]
    repeat' apply And.intro
    all_goals exact StableHlo.devRef_ne_of_ne (by decide)))
theorem V_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.Forall, StableHlo.unary_writes, Finset.mem_singleton]
    repeat' apply And.intro
    all_goals exact StableHlo.devRef_ne_of_ne (by decide)))
theorem V_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.Forall, StableHlo.unary_writes, Finset.mem_singleton]
    repeat' apply And.intro
    all_goals exact StableHlo.devRef_ne_of_ne (by decide)))
theorem V_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.Forall, StableHlo.unary_writes, Finset.mem_singleton]
    repeat' apply And.intro
    all_goals exact StableHlo.devRef_ne_of_ne (by decide)))
theorem V_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.Forall, StableHlo.unary_writes, Finset.mem_singleton]
    repeat' apply And.intro
    all_goals exact StableHlo.devRef_ne_of_ne (by decide)))
theorem V_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.Forall, StableHlo.unary_writes, Finset.mem_singleton]
    repeat' apply And.intro
    all_goals exact StableHlo.devRef_ne_of_ne (by decide)))
theorem V_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.Forall, StableHlo.unary_writes, Finset.mem_singleton]
    repeat' apply And.intro
    all_goals exact StableHlo.devRef_ne_of_ne (by decide)))
theorem V_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.Forall, StableHlo.unary_writes, Finset.mem_singleton]
    repeat' apply And.intro
    all_goals exact StableHlo.devRef_ne_of_ne (by decide)))
theorem V_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.Forall, StableHlo.unary_writes, Finset.mem_singleton]
    repeat' apply And.intro
    all_goals exact StableHlo.devRef_ne_of_ne (by decide)))
theorem V_arg11 (c : Dev nD) : V m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.Forall, StableHlo.unary_writes, Finset.mem_singleton]
    repeat' apply And.intro
    all_goals exact StableHlo.devRef_ne_of_ne (by decide)))

theorem tabs_at (h : Cert.Pre_KernelXIdeal m) : ∀ (c : Dev nD) k, V m c (pre0.ref k) = (adm m h).1 k := by
  intro c k
  obtain rfl : c = 0 := Subsingleton.elim _ _
  match k with
  | ⟨0, _⟩ => exact V_arg0 m 0
  | ⟨1, _⟩ => exact V_arg1 m 0

theorem unchanged_of (a : (pcfg0 (F := Ideal)).Adm) (hw : Words a) (r : PUnit × MemSt nD τ sig (Elt Ideal)) (h : Post a hw m r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  ⟨((h c).2 main_arg0 (Pipeline.mem_restRefs_of main_arg0 (by decide) (show ∀ w : Fin 11, (spec0 w).arr.view.ref ≠ main_arg0 from by decide))).trans (V_arg0 m c),
    ((h c).2 main_arg1 (Pipeline.mem_restRefs_of main_arg1 (by decide) (show ∀ w : Fin 11, (spec0 w).arr.view.ref ≠ main_arg1 from by decide))).trans (V_arg1 m c),
    ((h c).1 (3 : Fin 11)).trans (((dats a hw m 0 c).arrAt_in (3 : Fin 11) rfl _).trans (V_arg2 m c)),
    ((h c).2 main_arg3 (Pipeline.mem_restRefs_of main_arg3 (by decide) (show ∀ w : Fin 11, (spec0 w).arr.view.ref ≠ main_arg3 from by decide))).trans (V_arg3 m c),
    ((h c).1 (0 : Fin 11)).trans (((dats a hw m 0 c).arrAt_in (0 : Fin 11) rfl _).trans (V_arg4 m c)),
    ((h c).1 (5 : Fin 11)).trans (((dats a hw m 0 c).arrAt_in (5 : Fin 11) rfl _).trans (V_arg5 m c)),
    ((h c).2 main_arg6 (Pipeline.mem_restRefs_of main_arg6 (by decide) (show ∀ w : Fin 11, (spec0 w).arr.view.ref ≠ main_arg6 from by decide))).trans (V_arg6 m c),
    ((h c).1 (1 : Fin 11)).trans (((dats a hw m 0 c).arrAt_in (1 : Fin 11) rfl _).trans (V_arg7 m c)),
    ((h c).1 (7 : Fin 11)).trans (((dats a hw m 0 c).arrAt_in (7 : Fin 11) rfl _).trans (V_arg8 m c)),
    ((h c).2 main_arg9 (Pipeline.mem_restRefs_of main_arg9 (by decide) (show ∀ w : Fin 11, (spec0 w).arr.view.ref ≠ main_arg9 from by decide))).trans (V_arg9 m c),
    ((h c).1 (2 : Fin 11)).trans (((dats a hw m 0 c).arrAt_in (2 : Fin 11) rfl _).trans (V_arg10 m c)),
    ((h c).1 (9 : Fin 11)).trans (((dats a hw m 0 c).arrAt_in (9 : Fin 11) rfl _).trans (V_arg11 m c))⟩

/-- The frame. -/
theorem frame (h : Cert.Pre_KernelXIdeal m) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  (θ_run defs _ _).mono (fun r h' => ⟨fun c => unchanged_of m _ (adm_words m h) r h'.1 c, h'.2⟩) (run_main (adm m h) (adm_words m h) m ρ (tabs_at m h))

end Cert.KernelXIdeal.Exp

end
-- ==== Proof.StepXI.lean ====
module

public import proofs.«01_k».proof.Proof.RunsXI
public import Idealize.ShloMosaic.Lib.Pointwise
public import Idealize.ShloMosaic.Lib.VecWindow
public import Idealize.ShloMosaic.Lib.Pipeline.ValueKit.Basic
public import Idealize.ShloMosaic.Lib.Pipeline.ValueKit.Acc
public import Idealize.ShloMosaic.Lib.Pipeline.ValueKit.Tiles

/-! What the experts' body leaves in its scratch buffers after a block's first half, and what it stores after its second. -/

@[expose] public section

set_option maxRecDepth 16384
set_option Elab.async false

noncomputable section

namespace Cert.KernelXIdeal.Exp

open Cert.KernelXIdeal Cert.KernelXIdeal.Gen
open Idealize.ShloMosaic
open Idealize.ShloMosaic.TcCoe Idealize.ShloMosaic.Tactic

/-- A scale read from its table. -/
theorem scale_inb {n : ℕ} {T : Fin 64} (h : (T : ℕ) = n) : ∀ a : Fin S64.rank, (![n] : Fin S64.rank → ℕ) a + (![1] : Fin S64.rank → ℕ) a ≤ S64.size a := fun a => by
  have := T.2
  match a with
  | ⟨0, _⟩ => exact (by rw [← h]; exact this : n + 1 ≤ 64)
theorem scale_at (x : S64.Idx → Elt Ideal .f32) (n : ℕ) (T : Fin 64) (h : (T : ℕ) = n) :
    View.ld x (Rect.unit (s := S64) ![n] ![1] (scale_inb h)) (Shape.Idx.first (numel1_S1.symm ▸ Nat.one_pos)) = x (ix1 T) :=
  View.ld_unit_apply_of x _ _ _ _ (ix1 T) (fun a => by
    match a with
    | ⟨0, _⟩ => exact h)

/-- The first and the last 1024 rows of a block of weights. -/
abbrev wLo (x : S1x2048x1024.Idx → Elt Ideal .fp8e4m3) : Vec Ideal S1x1024x1024 .fp8e4m3 :=
  View.ld x (Rect.unit (s := S1x2048x1024) ![0, 0, 0] ![1, 1024, 1024] inb_S1x2048x1024_S1x1024x1024_0_0_0)
abbrev wHi (x : S1x2048x1024.Idx → Elt Ideal .fp8e4m3) : Vec Ideal S1x1024x1024 .fp8e4m3 :=
  View.ld x (Rect.unit (s := S1x2048x1024) ![0, 1024, 0] ![1, 1024, 1024] inb_S1x2048x1024_S1x1024x1024_0_1024_0)
/-- The first of 128 equal columns. -/
abbrev col (x : S512x128.Idx → Elt Ideal .f32) : Vec Ideal S512x1 .f32 :=
  View.ld x (Rect.unit (s := S512x128) ![0, 0] ![512, 1] inb_S512x128_S512x1_0_0)

/-- The accumulator after a half: from the scaled rows' two halves, the inverse scales, the half's operands and the accumulator before. -/
abbrev accum (L H : Vec Ideal S512x1024 .fp8e4m3) (R : Vec Ideal S512x1 .f32) (x4 x6 : S1x2048x1024.Idx → Elt Ideal .fp8e4m3) (sg su sd : EReal)
    (x5 x7 : Vec Ideal S1x1x1024 .f32) (x8 : Vec Ideal S1x1024x2048 .fp8e4m3) (A : Vec Ideal S512x2048 .f32) : FVec Ideal S512x2048 .f32 :=
  k0_pay14 (F := Ideal) R (k0_pay12 (F := Ideal) L H R (wLo x4) (wHi x4) sg x5) (k0_pay13 (F := Ideal) L H (wLo x6) (wHi x6)) su x7 x8 A sd

theorem accum_scales {L H : Vec Ideal S512x1024 .fp8e4m3} {R : Vec Ideal S512x1 .f32} {x4 x6 : S1x2048x1024.Idx → Elt Ideal .fp8e4m3} {a b c a' b' c' : EReal}
    {x5 x7 : Vec Ideal S1x1x1024 .f32} {x8 : Vec Ideal S1x1024x2048 .fp8e4m3} {A : Vec Ideal S512x2048 .f32} (ha : a = a') (hb : b = b') (hc : c = c') :
    accum L H R x4 x6 a b c x5 x7 x8 A = accum L H R x4 x6 a' b' c' x5 x7 x8 A := by subst ha; subst hb; subst hc; rfl
theorem stored_scales {L H : Vec Ideal S512x1024 .fp8e4m3} {R : Vec Ideal S512x1 .f32} {x4 x6 : S1x2048x1024.Idx → Elt Ideal .fp8e4m3} {a b c a' b' c' : EReal}
    {x5 x7 : Vec Ideal S1x1x1024 .f32} {x8 : Vec Ideal S1x1024x2048 .fp8e4m3} {A : Vec Ideal S512x2048 .f32} {x9 : Vec Ideal S1x1x2048 .f32} (ha : a = a') (hb : b = b') (hc : c = c') :
    k0_pay2 (F := Ideal) (accum L H R x4 x6 a b c x5 x7 x8 A) x9 = k0_pay2 (F := Ideal) (accum L H R x4 x6 a' b' c' x5 x7 x8 A) x9 := by subst ha; subst hb; subst hc; rfl

theorem cov_ld {sig : RefSig} {κ : Kind} {sp : Space} {s : Shape} {e : EltTy} (v : View sig κ sp s e) (L : List (View.Piece (Elt Ideal) s e)) (r : Rect s) :
    v.readCov L r.toLoadRect = View.ld (View.canon L) r := View.readCov_eq_canon' v L r.toLoadRect

set_option maxHeartbeats 4000000 in
/-- The lower halves of the scaled rows. -/
theorem after_lo (c : Dev nD) (i : grid0.Coords) (arg4 : Memref sig .tc .smem S64 .f32) (harg4 : arg4.IsWhole) (arg5 : Memref sig .tc .smem S64 .f32) (harg5 : arg5.IsWhole) (arg6 : Memref sig .tc .smem S64 .f32) (harg6 : arg6.IsWhole) (arg7 : Memref sig .tc .vmem S512x2048 .bf16) (harg7 : arg7.IsWhole) (arg8 : Memref sig .tc .vmem S1x2048x1024 .fp8e4m3) (harg8 : arg8.IsWhole) (arg9 : Memref sig .tc .vmem S1x1x1024 .f32) (harg9 : arg9.IsWhole) (arg10 : Memref sig .tc .vmem S1x2048x1024 .fp8e4m3) (harg10 : arg10.IsWhole) (arg11 : Memref sig .tc .vmem S1x1x1024 .f32) (harg11 : arg11.IsWhole) (arg12 : Memref sig .tc .vmem S1x1024x2048 .fp8e4m3) (harg12 : arg12.IsWhole) (arg13 : Memref sig .tc .vmem S1x1x2048 .f32) (harg13 : arg13.IsWhole) (arg14 : Memref sig .tc .vmem S512x2048 .bf16) (harg14 : arg14.IsWhole) (T0 : (S544.Idx → Elt Ideal .i32)) (T1 : (S544.Idx → Elt Ideal .i32))
  (x0 : (S64.Idx → Elt Ideal .f32)) (x1 : (S64.Idx → Elt Ideal .f32)) (x2 : (S64.Idx → Elt Ideal .f32)) (x3 : (S512x2048.Idx → Elt Ideal .bf16)) (x4 : (S1x2048x1024.Idx → Elt Ideal .fp8e4m3)) (x5 : (S1x1x1024.Idx → Elt Ideal .f32)) (x6 : (S1x2048x1024.Idx → Elt Ideal .fp8e4m3)) (x7 : (S1x1x1024.Idx → Elt Ideal .f32)) (x8 : (S1x1024x2048.Idx → Elt Ideal .fp8e4m3)) (x9 : (S1x1x2048.Idx → Elt Ideal .f32)) (k0_hw1 : k0_chk1 i (View.readAt (Elt Ideal) (tbM0_1).view (Rect.unit (s := S544) (k0_off1 i) S1.size (k0_off1_inb i)).toLoadRect T1 (Shape.Idx.first (numel1_S1.symm ▸ Nat.one_pos))) (View.readAt (Elt Ideal) (tbM0_0).view (Rect.unit (s := S544) (k0_off1 i) S1.size (k0_off1_inb i)).toLoadRect T0 (Shape.Idx.first (numel1_S1.symm ▸ Nat.one_pos)))) (k0_h1 : ¬(k0_cond1 i (View.readAt (Elt Ideal) (tbM0_1).view (Rect.unit (s := S544) (k0_off1 i) S1.size (k0_off1_inb i)).toLoadRect T1 (Shape.Idx.first (numel1_S1.symm ▸ Nat.one_pos))) = 1#1)) (k0_h2 : k0_cond2 (View.readAt (Elt Ideal) (tbM0_1).view (Rect.unit (s := S544) (k0_off1 i) S1.size (k0_off1_inb i)).toLoadRect T1 (Shape.Idx.first (numel1_S1.symm ▸ Nat.one_pos))) = 1#1) (k0_h3 : (Scalar.cmpi .ne (Scalar.extui (Scalar.cmpi .eq (BitVec.ofNat 32 (i 1).val) 0#32)) 0#32) = 1#1) (k0_h4 : ¬(k0_cond4 i = 1#1)) :
    (View.whole cc0_scratch0).read (Elt Ideal) (kernelRun0_A c i arg4 harg4 arg5 harg5 arg6 harg6 arg7 harg7 arg8 harg8 arg9 harg9 arg10 harg10 arg11 harg11 arg12 harg12 arg13 harg13 arg14 harg14 T0 T1 x0 x1 x2 x3 x4 x5 x6 x7 x8 x9 k0_hw1 k0_h1 k0_h2 k0_h3 k0_h4).1 = k0_pay7 (F := Ideal) (View.ld ((View.whole main_arg1).read (Elt Ideal) T1) (Rect.unit (s := S544) ![(Scalar.indexCast (BitVec.ofNat 32 (i 0).val)).toNat] ![1] (k0_off1_inb i)) (Shape.Idx.first (numel1_S1.symm ▸ Nat.one_pos))) x3 := by
  unfold kernelRun0_A
  dsimp only
  sl_unfold_words
  simp only [View.readAt_eq_ld, View.read_rep, View.read_writes_junk_eq_canon, cov_ld]
  refine (View.canon_cons_unit_lit _ _ _ (by decide)).trans ?_
  exact congrArg (k0_pay7 _) (View.ld_unit_lit _ _ (by decide))

set_option maxHeartbeats 4000000 in
/-- The upper halves of the scaled rows. -/
theorem after_hi (c : Dev nD) (i : grid0.Coords) (arg4 : Memref sig .tc .smem S64 .f32) (harg4 : arg4.IsWhole) (arg5 : Memref sig .tc .smem S64 .f32) (harg5 : arg5.IsWhole) (arg6 : Memref sig .tc .smem S64 .f32) (harg6 : arg6.IsWhole) (arg7 : Memref sig .tc .vmem S512x2048 .bf16) (harg7 : arg7.IsWhole) (arg8 : Memref sig .tc .vmem S1x2048x1024 .fp8e4m3) (harg8 : arg8.IsWhole) (arg9 : Memref sig .tc .vmem S1x1x1024 .f32) (harg9 : arg9.IsWhole) (arg10 : Memref sig .tc .vmem S1x2048x1024 .fp8e4m3) (harg10 : arg10.IsWhole) (arg11 : Memref sig .tc .vmem S1x1x1024 .f32) (harg11 : arg11.IsWhole) (arg12 : Memref sig .tc .vmem S1x1024x2048 .fp8e4m3) (harg12 : arg12.IsWhole) (arg13 : Memref sig .tc .vmem S1x1x2048 .f32) (harg13 : arg13.IsWhole) (arg14 : Memref sig .tc .vmem S512x2048 .bf16) (harg14 : arg14.IsWhole) (T0 : (S544.Idx → Elt Ideal .i32)) (T1 : (S544.Idx → Elt Ideal .i32))
  (x0 : (S64.Idx → Elt Ideal .f32)) (x1 : (S64.Idx → Elt Ideal .f32)) (x2 : (S64.Idx → Elt Ideal .f32)) (x3 : (S512x2048.Idx → Elt Ideal .bf16)) (x4 : (S1x2048x1024.Idx → Elt Ideal .fp8e4m3)) (x5 : (S1x1x1024.Idx → Elt Ideal .f32)) (x6 : (S1x2048x1024.Idx → Elt Ideal .fp8e4m3)) (x7 : (S1x1x1024.Idx → Elt Ideal .f32)) (x8 : (S1x1024x2048.Idx → Elt Ideal .fp8e4m3)) (x9 : (S1x1x2048.Idx → Elt Ideal .f32)) (k0_hw1 : k0_chk1 i (View.readAt (Elt Ideal) (tbM0_1).view (Rect.unit (s := S544) (k0_off1 i) S1.size (k0_off1_inb i)).toLoadRect T1 (Shape.Idx.first (numel1_S1.symm ▸ Nat.one_pos))) (View.readAt (Elt Ideal) (tbM0_0).view (Rect.unit (s := S544) (k0_off1 i) S1.size (k0_off1_inb i)).toLoadRect T0 (Shape.Idx.first (numel1_S1.symm ▸ Nat.one_pos)))) (k0_h1 : ¬(k0_cond1 i (View.readAt (Elt Ideal) (tbM0_1).view (Rect.unit (s := S544) (k0_off1 i) S1.size (k0_off1_inb i)).toLoadRect T1 (Shape.Idx.first (numel1_S1.symm ▸ Nat.one_pos))) = 1#1)) (k0_h2 : k0_cond2 (View.readAt (Elt Ideal) (tbM0_1).view (Rect.unit (s := S544) (k0_off1 i) S1.size (k0_off1_inb i)).toLoadRect T1 (Shape.Idx.first (numel1_S1.symm ▸ Nat.one_pos))) = 1#1) (k0_h3 : (Scalar.cmpi .ne (Scalar.extui (Scalar.cmpi .eq (BitVec.ofNat 32 (i 1).val) 0#32)) 0#32) = 1#1) (k0_h4 : ¬(k0_cond4 i = 1#1)) :
    (View.whole cc0_scratch1).read (Elt Ideal) (kernelRun0_A c i arg4 harg4 arg5 harg5 arg6 harg6 arg7 harg7 arg8 harg8 arg9 harg9 arg10 harg10 arg11 harg11 arg12 harg12 arg13 harg13 arg14 harg14 T0 T1 x0 x1 x2 x3 x4 x5 x6 x7 x8 x9 k0_hw1 k0_h1 k0_h2 k0_h3 k0_h4).2.1 = k0_pay8 (F := Ideal) (View.ld ((View.whole main_arg1).read (Elt Ideal) T1) (Rect.unit (s := S544) ![(Scalar.indexCast (BitVec.ofNat 32 (i 0).val)).toNat] ![1] (k0_off1_inb i)) (Shape.Idx.first (numel1_S1.symm ▸ Nat.one_pos))) x3 := by
  unfold kernelRun0_A
  dsimp only
  sl_unfold_words
  simp only [View.readAt_eq_ld, View.read_rep, View.read_writes_junk_eq_canon, cov_ld]
  refine (View.canon_cons_unit_lit _ _ _ (by decide)).trans ?_
  exact congrArg (k0_pay8 _) (View.ld_unit_lit _ _ (by decide))

set_option maxHeartbeats 4000000 in
/-- The inverse scales. -/
theorem after_inv (c : Dev nD) (i : grid0.Coords) (arg4 : Memref sig .tc .smem S64 .f32) (harg4 : arg4.IsWhole) (arg5 : Memref sig .tc .smem S64 .f32) (harg5 : arg5.IsWhole) (arg6 : Memref sig .tc .smem S64 .f32) (harg6 : arg6.IsWhole) (arg7 : Memref sig .tc .vmem S512x2048 .bf16) (harg7 : arg7.IsWhole) (arg8 : Memref sig .tc .vmem S1x2048x1024 .fp8e4m3) (harg8 : arg8.IsWhole) (arg9 : Memref sig .tc .vmem S1x1x1024 .f32) (harg9 : arg9.IsWhole) (arg10 : Memref sig .tc .vmem S1x2048x1024 .fp8e4m3) (harg10 : arg10.IsWhole) (arg11 : Memref sig .tc .vmem S1x1x1024 .f32) (harg11 : arg11.IsWhole) (arg12 : Memref sig .tc .vmem S1x1024x2048 .fp8e4m3) (harg12 : arg12.IsWhole) (arg13 : Memref sig .tc .vmem S1x1x2048 .f32) (harg13 : arg13.IsWhole) (arg14 : Memref sig .tc .vmem S512x2048 .bf16) (harg14 : arg14.IsWhole) (T0 : (S544.Idx → Elt Ideal .i32)) (T1 : (S544.Idx → Elt Ideal .i32))
  (x0 : (S64.Idx → Elt Ideal .f32)) (x1 : (S64.Idx → Elt Ideal .f32)) (x2 : (S64.Idx → Elt Ideal .f32)) (x3 : (S512x2048.Idx → Elt Ideal .bf16)) (x4 : (S1x2048x1024.Idx → Elt Ideal .fp8e4m3)) (x5 : (S1x1x1024.Idx → Elt Ideal .f32)) (x6 : (S1x2048x1024.Idx → Elt Ideal .fp8e4m3)) (x7 : (S1x1x1024.Idx → Elt Ideal .f32)) (x8 : (S1x1024x2048.Idx → Elt Ideal .fp8e4m3)) (x9 : (S1x1x2048.Idx → Elt Ideal .f32)) (k0_hw1 : k0_chk1 i (View.readAt (Elt Ideal) (tbM0_1).view (Rect.unit (s := S544) (k0_off1 i) S1.size (k0_off1_inb i)).toLoadRect T1 (Shape.Idx.first (numel1_S1.symm ▸ Nat.one_pos))) (View.readAt (Elt Ideal) (tbM0_0).view (Rect.unit (s := S544) (k0_off1 i) S1.size (k0_off1_inb i)).toLoadRect T0 (Shape.Idx.first (numel1_S1.symm ▸ Nat.one_pos)))) (k0_h1 : ¬(k0_cond1 i (View.readAt (Elt Ideal) (tbM0_1).view (Rect.unit (s := S544) (k0_off1 i) S1.size (k0_off1_inb i)).toLoadRect T1 (Shape.Idx.first (numel1_S1.symm ▸ Nat.one_pos))) = 1#1)) (k0_h2 : k0_cond2 (View.readAt (Elt Ideal) (tbM0_1).view (Rect.unit (s := S544) (k0_off1 i) S1.size (k0_off1_inb i)).toLoadRect T1 (Shape.Idx.first (numel1_S1.symm ▸ Nat.one_pos))) = 1#1) (k0_h3 : (Scalar.cmpi .ne (Scalar.extui (Scalar.cmpi .eq (BitVec.ofNat 32 (i 1).val) 0#32)) 0#32) = 1#1) (k0_h4 : ¬(k0_cond4 i = 1#1)) :
    (View.whole cc0_scratch2).read (Elt Ideal) (kernelRun0_A c i arg4 harg4 arg5 harg5 arg6 harg6 arg7 harg7 arg8 harg8 arg9 harg9 arg10 harg10 arg11 harg11 arg12 harg12 arg13 harg13 arg14 harg14 T0 T1 x0 x1 x2 x3 x4 x5 x6 x7 x8 x9 k0_hw1 k0_h1 k0_h2 k0_h3 k0_h4).2.2.1 = k0_pay10 (F := Ideal) (k0_pay9 (F := Ideal) (View.ld ((View.whole main_arg1).read (Elt Ideal) T1) (Rect.unit (s := S544) ![(Scalar.indexCast (BitVec.ofNat 32 (i 0).val)).toNat] ![1] (k0_off1_inb i)) (Shape.Idx.first (numel1_S1.symm ▸ Nat.one_pos))) x3) := by
  unfold kernelRun0_A
  dsimp only
  sl_unfold_words
  simp only [View.readAt_eq_ld, View.read_rep, View.read_writes_junk_eq_canon, cov_ld]
  refine (View.canon_cons_unit_lit _ _ _ (by decide)).trans ?_
  exact congrArg k0_pay10 (congrArg (k0_pay9 _) (View.ld_unit_lit _ _ (by decide)))

set_option maxHeartbeats 8000000 in
/-- The accumulator after the first half. -/
theorem after_acc (c : Dev nD) (i : grid0.Coords) (arg4 : Memref sig .tc .smem S64 .f32) (harg4 : arg4.IsWhole) (arg5 : Memref sig .tc .smem S64 .f32) (harg5 : arg5.IsWhole) (arg6 : Memref sig .tc .smem S64 .f32) (harg6 : arg6.IsWhole) (arg7 : Memref sig .tc .vmem S512x2048 .bf16) (harg7 : arg7.IsWhole) (arg8 : Memref sig .tc .vmem S1x2048x1024 .fp8e4m3) (harg8 : arg8.IsWhole) (arg9 : Memref sig .tc .vmem S1x1x1024 .f32) (harg9 : arg9.IsWhole) (arg10 : Memref sig .tc .vmem S1x2048x1024 .fp8e4m3) (harg10 : arg10.IsWhole) (arg11 : Memref sig .tc .vmem S1x1x1024 .f32) (harg11 : arg11.IsWhole) (arg12 : Memref sig .tc .vmem S1x1024x2048 .fp8e4m3) (harg12 : arg12.IsWhole) (arg13 : Memref sig .tc .vmem S1x1x2048 .f32) (harg13 : arg13.IsWhole) (arg14 : Memref sig .tc .vmem S512x2048 .bf16) (harg14 : arg14.IsWhole) (T0 : (S544.Idx → Elt Ideal .i32)) (T1 : (S544.Idx → Elt Ideal .i32))
  (x0 : (S64.Idx → Elt Ideal .f32)) (x1 : (S64.Idx → Elt Ideal .f32)) (x2 : (S64.Idx → Elt Ideal .f32)) (x3 : (S512x2048.Idx → Elt Ideal .bf16)) (x4 : (S1x2048x1024.Idx → Elt Ideal .fp8e4m3)) (x5 : (S1x1x1024.Idx → Elt Ideal .f32)) (x6 : (S1x2048x1024.Idx → Elt Ideal .fp8e4m3)) (x7 : (S1x1x1024.Idx → Elt Ideal .f32)) (x8 : (S1x1024x2048.Idx → Elt Ideal .fp8e4m3)) (x9 : (S1x1x2048.Idx → Elt Ideal .f32)) (k0_hw1 : k0_chk1 i (View.readAt (Elt Ideal) (tbM0_1).view (Rect.unit (s := S544) (k0_off1 i) S1.size (k0_off1_inb i)).toLoadRect T1 (Shape.Idx.first (numel1_S1.symm ▸ Nat.one_pos))) (View.readAt (Elt Ideal) (tbM0_0).view (Rect.unit (s := S544) (k0_off1 i) S1.size (k0_off1_inb i)).toLoadRect T0 (Shape.Idx.first (numel1_S1.symm ▸ Nat.one_pos)))) (k0_h1 : ¬(k0_cond1 i (View.readAt (Elt Ideal) (tbM0_1).view (Rect.unit (s := S544) (k0_off1 i) S1.size (k0_off1_inb i)).toLoadRect T1 (Shape.Idx.first (numel1_S1.symm ▸ Nat.one_pos))) = 1#1)) (k0_h2 : k0_cond2 (View.readAt (Elt Ideal) (tbM0_1).view (Rect.unit (s := S544) (k0_off1 i) S1.size (k0_off1_inb i)).toLoadRect T1 (Shape.Idx.first (numel1_S1.symm ▸ Nat.one_pos))) = 1#1) (k0_h3 : (Scalar.cmpi .ne (Scalar.extui (Scalar.cmpi .eq (BitVec.ofNat 32 (i 1).val) 0#32)) 0#32) = 1#1) (k0_h4 : ¬(k0_cond4 i = 1#1)) (T : Fin 64) (hT : (T : ℕ) = (Scalar.indexCast (Scalar.addi (Scalar.muli (View.ld ((View.whole main_arg0).read (Elt Ideal) T0) (Rect.unit (s := S544) ![(Scalar.indexCast (BitVec.ofNat 32 (i 0).val)).toNat] ![1] (k0_off1_inb i)) (Shape.Idx.first (numel1_S1.symm ▸ Nat.one_pos))) 2#32) (BitVec.ofNat 32 (i 1).val))).toNat) :
    (View.whole cc0_scratch3).read (Elt Ideal) (kernelRun0_A c i arg4 harg4 arg5 harg5 arg6 harg6 arg7 harg7 arg8 harg8 arg9 harg9 arg10 harg10 arg11 harg11 arg12 harg12 arg13 harg13 arg14 harg14 T0 T1 x0 x1 x2 x3 x4 x5 x6 x7 x8 x9 k0_hw1 k0_h1 k0_h2 k0_h3 k0_h4).2.2.2.1
      = accum (k0_pay7 (F := Ideal) (View.ld ((View.whole main_arg1).read (Elt Ideal) T1) (Rect.unit (s := S544) ![(Scalar.indexCast (BitVec.ofNat 32 (i 0).val)).toNat] ![1] (k0_off1_inb i)) (Shape.Idx.first (numel1_S1.symm ▸ Nat.one_pos))) x3) (k0_pay8 (F := Ideal) (View.ld ((View.whole main_arg1).read (Elt Ideal) T1) (Rect.unit (s := S544) ![(Scalar.indexCast (BitVec.ofNat 32 (i 0).val)).toNat] ![1] (k0_off1_inb i)) (Shape.Idx.first (numel1_S1.symm ▸ Nat.one_pos))) x3) (col (k0_pay10 (F := Ideal) (k0_pay9 (F := Ideal) (View.ld ((View.whole main_arg1).read (Elt Ideal) T1) (Rect.unit (s := S544) ![(Scalar.indexCast (BitVec.ofNat 32 (i 0).val)).toNat] ![1] (k0_off1_inb i)) (Shape.Idx.first (numel1_S1.symm ▸ Nat.one_pos))) x3))) x4 x6 (x0 (ix1 T)) (x1 (ix1 T)) (x2 (ix1 T)) x5 x7 x8 (k0_pay11 (F := Ideal)) := by
  unfold kernelRun0_A
  dsimp only
  sl_unfold_words
  simp only [View.readAt_eq_ld, View.read_rep, View.read_writes_junk_eq_canon, cov_ld]
  refine (View.canon_cons_unit_lit _ _ _ (by decide)).trans ?_
  simp (disch := decide) only [View.canon_cons_unit_lit', View.ld_unit_lit']
  refine Eq.trans ?_ (accum_scales (scale_at x0 _ T hT) (scale_at x1 _ T hT) (scale_at x2 _ T hT))
  rfl

set_option maxHeartbeats 8000000 in
/-- The block stored after the second half. -/
theorem stored (c : Dev nD) (i : grid0.Coords) (arg4 : Memref sig .tc .smem S64 .f32) (harg4 : arg4.IsWhole) (arg5 : Memref sig .tc .smem S64 .f32) (harg5 : arg5.IsWhole) (arg6 : Memref sig .tc .smem S64 .f32) (harg6 : arg6.IsWhole) (arg7 : Memref sig .tc .vmem S512x2048 .bf16) (harg7 : arg7.IsWhole) (arg8 : Memref sig .tc .vmem S1x2048x1024 .fp8e4m3) (harg8 : arg8.IsWhole) (arg9 : Memref sig .tc .vmem S1x1x1024 .f32) (harg9 : arg9.IsWhole) (arg10 : Memref sig .tc .vmem S1x2048x1024 .fp8e4m3) (harg10 : arg10.IsWhole) (arg11 : Memref sig .tc .vmem S1x1x1024 .f32) (harg11 : arg11.IsWhole) (arg12 : Memref sig .tc .vmem S1x1024x2048 .fp8e4m3) (harg12 : arg12.IsWhole) (arg13 : Memref sig .tc .vmem S1x1x2048 .f32) (harg13 : arg13.IsWhole) (arg14 : Memref sig .tc .vmem S512x2048 .bf16) (harg14 : arg14.IsWhole) (T0 : (S544.Idx → Elt Ideal .i32)) (T1 : (S544.Idx → Elt Ideal .i32))
  (x0 : (S64.Idx → Elt Ideal .f32)) (x1 : (S64.Idx → Elt Ideal .f32)) (x2 : (S64.Idx → Elt Ideal .f32)) (x3 : (S512x2048.Idx → Elt Ideal .bf16)) (x4 : (S1x2048x1024.Idx → Elt Ideal .fp8e4m3)) (x5 : (S1x1x1024.Idx → Elt Ideal .f32)) (x6 : (S1x2048x1024.Idx → Elt Ideal .fp8e4m3)) (x7 : (S1x1x1024.Idx → Elt Ideal .f32)) (x8 : (S1x1024x2048.Idx → Elt Ideal .fp8e4m3)) (x9 : (S1x1x2048.Idx → Elt Ideal .f32)) (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) (xa3 : Buf (Elt Ideal) ((c : Thread nD τ).loc cc0_scratch3)) (k0_hw1 : k0_chk1 i (View.readAt (Elt Ideal) (tbM0_1).view (Rect.unit (s := S544) (k0_off1 i) S1.size (k0_off1_inb i)).toLoadRect T1 (Shape.Idx.first (numel1_S1.symm ▸ Nat.one_pos))) (View.readAt (Elt Ideal) (tbM0_0).view (Rect.unit (s := S544) (k0_off1 i) S1.size (k0_off1_inb i)).toLoadRect T0 (Shape.Idx.first (numel1_S1.symm ▸ Nat.one_pos)))) (k0_h1 : ¬(k0_cond1 i (View.readAt (Elt Ideal) (tbM0_1).view (Rect.unit (s := S544) (k0_off1 i) S1.size (k0_off1_inb i)).toLoadRect T1 (Shape.Idx.first (numel1_S1.symm ▸ Nat.one_pos))) = 1#1)) (k0_h2 : k0_cond2 (View.readAt (Elt Ideal) (tbM0_1).view (Rect.unit (s := S544) (k0_off1 i) S1.size (k0_off1_inb i)).toLoadRect T1 (Shape.Idx.first (numel1_S1.symm ▸ Nat.one_pos))) = 1#1) (k0_h3 : ¬((Scalar.cmpi .ne (Scalar.extui (Scalar.cmpi .eq (BitVec.ofNat 32 (i 1).val) 0#32)) 0#32) = 1#1)) (k0_h4 : k0_cond4 i = 1#1) (T : Fin 64) (hT : (T : ℕ) = (Scalar.indexCast (Scalar.addi (Scalar.muli (View.ld ((View.whole main_arg0).read (Elt Ideal) T0) (Rect.unit (s := S544) ![(Scalar.indexCast (BitVec.ofNat 32 (i 0).val)).toNat] ![1] (k0_off1_inb i)) (Shape.Idx.first (numel1_S1.symm ▸ Nat.one_pos))) 2#32) (BitVec.ofNat 32 (i 1).val))).toNat) :
    out0_B_10 c i arg4 harg4 arg5 harg5 arg6 harg6 arg7 harg7 arg8 harg8 arg9 harg9 arg10 harg10 arg11 harg11 arg12 harg12 arg13 harg13 arg14 harg14 T0 T1 x0 x1 x2 x3 x4 x5 x6 x7 x8 x9 xa0 xa1 xa2 xa3 k0_hw1 k0_h1 k0_h2 k0_h3 k0_h4
      = k0_pay2 (F := Ideal) (accum ((View.whole cc0_scratch0).read (Elt Ideal) xa0) ((View.whole cc0_scratch1).read (Elt Ideal) xa1) (col ((View.whole cc0_scratch2).read (Elt Ideal) xa2)) x4 x6 (x0 (ix1 T)) (x1 (ix1 T)) (x2 (ix1 T)) x5 x7 x8 ((View.whole cc0_scratch3).read (Elt Ideal) xa3)) x9 := by
  unfold out0_B_10 kernelRun0_B
  dsimp only
  sl_unfold_words
  simp only [View.readAt_eq_ld, View.read_rep, View.read_writes_junk_eq_canon, cov_ld]
  refine (View.canon_cons_unit_lit _ _ _ (by decide)).trans ?_
  simp (disch := decide) only [View.canon_cons_unit_lit', View.ld_unit_lit']
  refine Eq.trans ?_ (stored_scales (scale_at x0 _ T hT) (scale_at x1 _ T hT) (scale_at x2 _ T hT))
  rfl

set_option maxHeartbeats 4000000 in
/-- An unused block is zeros. -/
theorem stored_zero (c : Dev nD) (i : grid0.Coords) (arg4 : Memref sig .tc .smem S64 .f32) (harg4 : arg4.IsWhole) (arg5 : Memref sig .tc .smem S64 .f32) (harg5 : arg5.IsWhole) (arg6 : Memref sig .tc .smem S64 .f32) (harg6 : arg6.IsWhole) (arg7 : Memref sig .tc .vmem S512x2048 .bf16) (harg7 : arg7.IsWhole) (arg8 : Memref sig .tc .vmem S1x2048x1024 .fp8e4m3) (harg8 : arg8.IsWhole) (arg9 : Memref sig .tc .vmem S1x1x1024 .f32) (harg9 : arg9.IsWhole) (arg10 : Memref sig .tc .vmem S1x2048x1024 .fp8e4m3) (harg10 : arg10.IsWhole) (arg11 : Memref sig .tc .vmem S1x1x1024 .f32) (harg11 : arg11.IsWhole) (arg12 : Memref sig .tc .vmem S1x1024x2048 .fp8e4m3) (harg12 : arg12.IsWhole) (arg13 : Memref sig .tc .vmem S1x1x2048 .f32) (harg13 : arg13.IsWhole) (arg14 : Memref sig .tc .vmem S512x2048 .bf16) (harg14 : arg14.IsWhole) (T0 : (S544.Idx → Elt Ideal .i32)) (T1 : (S544.Idx → Elt Ideal .i32))
  (x0 : (S64.Idx → Elt Ideal .f32)) (x1 : (S64.Idx → Elt Ideal .f32)) (x2 : (S64.Idx → Elt Ideal .f32)) (x3 : (S512x2048.Idx → Elt Ideal .bf16)) (x4 : (S1x2048x1024.Idx → Elt Ideal .fp8e4m3)) (x5 : (S1x1x1024.Idx → Elt Ideal .f32)) (x6 : (S1x2048x1024.Idx → Elt Ideal .fp8e4m3)) (x7 : (S1x1x1024.Idx → Elt Ideal .f32)) (x8 : (S1x1024x2048.Idx → Elt Ideal .fp8e4m3)) (x9 : (S1x1x2048.Idx → Elt Ideal .f32)) (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) (xa3 : Buf (Elt Ideal) ((c : Thread nD τ).loc cc0_scratch3)) (k0_hw1 : k0_chk1 i (View.readAt (Elt Ideal) (tbM0_1).view (Rect.unit (s := S544) (k0_off1 i) S1.size (k0_off1_inb i)).toLoadRect T1 (Shape.Idx.first (numel1_S1.symm ▸ Nat.one_pos))) (View.readAt (Elt Ideal) (tbM0_0).view (Rect.unit (s := S544) (k0_off1 i) S1.size (k0_off1_inb i)).toLoadRect T0 (Shape.Idx.first (numel1_S1.symm ▸ Nat.one_pos)))) (k0_h1 : k0_cond1 i (View.readAt (Elt Ideal) (tbM0_1).view (Rect.unit (s := S544) (k0_off1 i) S1.size (k0_off1_inb i)).toLoadRect T1 (Shape.Idx.first (numel1_S1.symm ▸ Nat.one_pos))) = 1#1) (k0_h2 : ¬(k0_cond2 (View.readAt (Elt Ideal) (tbM0_1).view (Rect.unit (s := S544) (k0_off1 i) S1.size (k0_off1_inb i)).toLoadRect T1 (Shape.Idx.first (numel1_S1.symm ▸ Nat.one_pos))) = 1#1)) : out0_C_10 c i arg4 harg4 arg5 harg5 arg6 harg6 arg7 harg7 arg8 harg8 arg9 harg9 arg10 harg10 arg11 harg11 arg12 harg12 arg13 harg13 arg14 harg14 T0 T1 x0 x1 x2 x3 x4 x5 x6 x7 x8 x9 xa0 xa1 xa2 xa3 k0_hw1 k0_h1 k0_h2 = k0_pay1 (F := Ideal) := by
  unfold out0_C_10 kernelRun0_C
  dsimp only
  sl_unfold_words
  simp only [View.readAt_eq_ld, View.read_rep, View.read_writes_junk_eq_canon, cov_ld]
  exact View.canon_cons_unit_lit _ _ _ (by decide)

end Cert.KernelXIdeal.Exp

end
-- ==== Proof.AlgX.lean ====
module

public import proofs.«01_k».proof.Proof.RangeX

/-! # The experts' arithmetic

A row's power-of-two scale and the factor 4 of the activations cancel, and the weights' scales move into the sums: these
scales are finite and not negative, so they distribute over any extended reals. -/

@[expose] public section

noncomputable section

namespace Cert.SpecX

open Idealize.ShloMosaic Cert.RangeX
open Cert.ReferenceBIdeal.Block (Fin')

/-- The clipped gated activation. -/
def gate (g u : EReal) : EReal :=
  (min (Ideal.ofBits .f32 0x40E00000#32) (max (Ideal.ofBits .f32 0xC0E00000#32) u) + 1)
    * (min g (Ideal.ofBits .f32 0x40E00000#32) * Ideal.logistic (Ideal.ofBits .f32 0x3FD9DB23#32 * min g (Ideal.ofBits .f32 0x40E00000#32)))

/-- The half of the hidden width that `f` lies in. -/
abbrev half (f : Fin 2048) : Fin 2 := ⟨(f : ℕ) / 1024, by omega⟩

/-- One hidden value before the activation. -/
def hid (x : Fin 2048 → EReal) (W : Fin 2048 → Fin 2048 → EReal) (s : Fin 2 → EReal) (b : Fin 2048 → EReal) (f : Fin 2048) : EReal :=
  ∑ k, x k * (W k f * s (half f)) + b f

/-- An expert's output element `d` for a row `x`. -/
def expert (x : Fin 2048 → EReal) (Wg Wu : Fin 2048 → Fin 2048 → EReal) (sg su sd : Fin 2 → EReal) (bg bu : Fin 2048 → EReal)
    (Wd : Fin 2048 → Fin 2048 → EReal) (bd : Fin 2048 → EReal) (d : Fin 2048) : EReal :=
  ∑ f, gate (hid x Wg sg bg f) (hid x Wu su bu f) * (Wd f d * sd (half f)) + bd d

/-- The lower and the upper 1024 of 2048. -/
abbrev lo (k : Fin 1024) : Fin 2048 := ⟨k, by omega⟩
abbrev hi (k : Fin 1024) : Fin 2048 := ⟨1024 + k, by omega⟩

theorem sum_halves (f : Fin 2048 → EReal) : ∑ k, f k = ∑ k : Fin 1024, f (lo k) + ∑ k : Fin 1024, f (hi k) :=
  Fin.sum_univ_add (a := 1024) (b := 1024) (f := fun x : Fin (1024 + 1024) => f x)

theorem sum_mul_real {ι : Type*} (S : Finset ι) (f : ι → EReal) (c : ℝ) (hc : 0 ≤ c) : (∑ i ∈ S, f i) * (c : EReal) = ∑ i ∈ S, f i * (c : EReal) := by
  classical
  induction S using Finset.induction_on with
  | empty => simp
  | insert i S hi ih =>
    rw [Finset.sum_insert hi, Finset.sum_insert hi, ← ih]
    exact EReal.right_distrib_of_nonneg_of_ne_top (EReal.coe_nonneg.mpr hc) (EReal.coe_ne_top _) _ _

theorem one_f32 : Ideal.ofBits .f32 0x3F800000#32 = 1 := by
  simp [Ideal.ofBits, Ideal.ieee]; rw [← EReal.coe_mul]; norm_num
theorem four_f32 : Ideal.ofBits .f32 0x40800000#32 = ((4 : ℝ) : EReal) := by
  simp [Ideal.ofBits, Ideal.ieee]; rw [← EReal.coe_mul]; norm_num
theorem quarter_f32 : Ideal.ofBits .f32 0x3E800000#32 = ((4⁻¹ : ℝ) : EReal) := by
  simp [Ideal.ofBits, Ideal.ieee]; rw [← EReal.coe_mul]; norm_num

theorem div_one_real (ρ : ℝ) (h : 0 < ρ) : Ideal.div 1 (ρ : EReal) = ((ρ⁻¹ : ℝ) : EReal) := by
  unfold Ideal.div
  rw [if_neg (by simpa using h.ne'), one_mul, EReal.coe_inv]

theorem pos_real {s : EReal} (h : Pos' s) : ∃ c : ℝ, 0 ≤ c ∧ s = c := by
  obtain ⟨h0, h1⟩ := h
  have h2 : s ≠ ⊥ := fun e => by rw [e] at h0; simp at h0
  lift s to ℝ using ⟨h1, h2⟩
  exact ⟨s, EReal.coe_nonneg.mp h0, rfl⟩

theorem move_scale (x w : EReal) (ρ c : ℝ) (h : 0 < ρ) : x * (ρ : EReal) * w * ((ρ⁻¹ * c : ℝ) : EReal) = x * (w * (c : EReal)) := by
  have e : (ρ : EReal) * ((ρ⁻¹ * c : ℝ) : EReal) = (c : EReal) := by
    rw [← EReal.coe_mul]; congr 1; field_simp
  calc x * (ρ : EReal) * w * ((ρ⁻¹ * c : ℝ) : EReal) = x * (w * ((ρ : EReal) * ((ρ⁻¹ * c : ℝ) : EReal))) := by
        ac_rfl
    _ = _ := by rw [e]

/-- The row's scale cancels, and the tile's scale goes to the weights. -/
theorem scaled_row (x w : Fin 2048 → EReal) (ρ : ℝ) (h : 0 < ρ) (s : EReal) (hs : Pos' s) :
    (∑ k : Fin 1024, x (lo k) * (ρ : EReal) * w (lo k) + ∑ k : Fin 1024, x (hi k) * (ρ : EReal) * w (hi k))
      * (Ideal.div (Ideal.ofBits .f32 0x3F800000#32) (ρ : EReal) * s) = ∑ k, x k * (w k * s) := by
  obtain ⟨c, hc, rfl⟩ := pos_real hs
  rw [← sum_halves (fun k => x k * (ρ : EReal) * w k), one_f32, div_one_real ρ h, ← EReal.coe_mul,
    sum_mul_real _ _ _ (mul_nonneg (inv_nonneg.mpr h.le) hc)]
  exact Finset.sum_congr rfl fun k _ => move_scale _ _ _ _ h

/-- The factor 4 cancels, and the tile's scale goes to the weights. -/
theorem scaled_act (x w : Fin 1024 → EReal) (s : EReal) (hs : Pos' s) :
    (∑ f, x f * Ideal.ofBits .f32 0x40800000#32 * w f) * (s * Ideal.ofBits .f32 0x3E800000#32) = ∑ f, x f * (w f * s) := by
  obtain ⟨c, hc, rfl⟩ := pos_real hs
  rw [four_f32, quarter_f32, mul_comm (c : EReal), ← EReal.coe_mul, sum_mul_real _ _ _ (mul_nonneg (by norm_num) hc)]
  exact Finset.sum_congr rfl fun k _ => move_scale _ _ 4 _ (by norm_num)

/-- The scale of a row: a positive real for finite elements. -/
theorem scale_real (A : EReal) (hA : A ≠ ⊤) :
    ∃ ρ : ℝ, 0 < ρ ∧ Ideal.exp2 (Ideal.liftRound Int.floor (Ideal.log (Ideal.div (Ideal.ofBits .f32 0x43600000#32)
      (if 0 < A then A else Ideal.ofBits .f32 0x43600000#32)) * (((Real.log 2)⁻¹ : ℝ) : EReal))) = (ρ : EReal) := by
  have h448 : Ideal.ofBits .f32 0x43600000#32 = ((224 : ℝ) : EReal) := by
    simp [Ideal.ofBits, Ideal.ieee]; rw [← EReal.coe_mul]; norm_num
  obtain ⟨r, hr, e⟩ : ∃ r : ℝ, 0 < r ∧ (if 0 < A then A else Ideal.ofBits .f32 0x43600000#32) = (r : EReal) := by
    by_cases h : 0 < A
    · rw [if_pos h]
      have h2 : A ≠ ⊥ := fun e => by rw [e] at h; simp at h
      lift A to ℝ using ⟨hA, h2⟩
      exact ⟨A, EReal.coe_pos.mp h, rfl⟩
    · rw [if_neg h, h448]; exact ⟨224, by norm_num, rfl⟩
  rw [e, h448]
  have hd : Ideal.div ((224 : ℝ) : EReal) (r : EReal) = ((224 * r⁻¹ : ℝ) : EReal) := by
    unfold Ideal.div
    rw [if_neg (by simpa using hr.ne'), ← EReal.coe_inv, ← EReal.coe_mul]
  have hl : Ideal.log ((224 * r⁻¹ : ℝ) : EReal) = ((Real.log (224 * r⁻¹) : ℝ) : EReal) :=
    if_neg (not_le.mpr (mul_pos (by norm_num) (inv_pos.mpr hr)))
  rw [hd, hl, ← EReal.coe_mul]
  exact ⟨Real.rpow 2 _, Real.rpow_pos_of_pos (by norm_num) _, rfl⟩

/-- A maximum of finitely many absolute values of finite numbers isn't infinite. -/
theorem sup_ne_top {ι : Type*} [Fintype ι] (f : ι → EReal) (h : ∀ i, f i ≠ ⊤) : Finset.univ.sup f ≠ ⊤ := by
  have := (Finset.sup_lt_iff (s := Finset.univ) (f := f) (a := ⊤) bot_lt_top).mpr fun i _ => lt_top_iff_ne_top.mpr (h i)
  exact this.ne

/-- Two half sums of the hidden width make an expert's output. -/
theorem expert_halves (x : Fin 2048 → EReal) (Wg Wu : Fin 2048 → Fin 2048 → EReal) (sg su sd : Fin 2 → EReal) (bg bu : Fin 2048 → EReal)
    (Wd : Fin 2048 → Fin 2048 → EReal) (bd : Fin 2048 → EReal) (d : Fin 2048) :
    expert x Wg Wu sg su sd bg bu Wd bd d
      = 0 + ∑ f : Fin 1024, gate (hid x Wg sg bg (lo f)) (hid x Wu su bu (lo f)) * (Wd (lo f) d * sd 0)
        + ∑ f : Fin 1024, gate (hid x Wg sg bg (hi f)) (hid x Wu su bu (hi f)) * (Wd (hi f) d * sd 1) + bd d := by
  unfold expert
  rw [sum_halves, zero_add]
  have h0 : ∀ f : Fin 1024, half (lo f) = 0 := fun f => Fin.ext (by simp only [half, lo]; omega)
  have h1 : ∀ f : Fin 1024, half (hi f) = 1 := fun f => Fin.ext (by simp only [half, hi]; omega)
  simp only [h0, h1]

end Cert.SpecX

end
-- ==== Proof.PayX.lean ====
module

public import proofs.«01_k».proof.Proof.Gen.KernelXIdeal.Skeleton
public import proofs.«01_k».proof.Proof.Softmax
public import proofs.«01_k».proof.Proof.AlgX
public import Idealize.ShloMosaic.Lib.Pointwise

/-! # The experts' payloads, element by element -/

@[expose] public section

set_option maxRecDepth 16384

noncomputable section

namespace Cert.KernelXIdeal.Pay

open Cert.KernelXIdeal Cert.KernelXIdeal.Gen Idealize.ShloMosaic Cert.Softmax Cert.SpecX
open Cert.ReferenceBIdeal.Block (Fin')

/-- Element `k` of row `r` of a block with `w` valid rows: zero in a row that isn't valid. -/
def row (w : BitVec 32) (X : Vec Ideal S512x2048 .bf16) (r : Fin 512) (k : Fin 2048) : EReal :=
  Scalar.select (IntOp.cmpi .slt (BitVec.ofNat 32 r) w) (X (ix2 r k)) 0

theorem zero16 : Ideal.ofBits .bf16 0x0000#16 = 0 := by simp [Ideal.ofBits, Ideal.ieee]
theorem zero32 : Ideal.ofBits .f32 0x00000000#32 = 0 := by simp [Ideal.ofBits, Ideal.ieee]

theorem pay1_at (r : Fin 512) (d : Fin 2048) : k0_pay1 (F := Ideal) (ix2 r d) = 0 := by
  pointwise [k0_pay1]

theorem pay2_at (A : Vec Ideal S512x2048 .f32) (B : Vec Ideal S1x1x2048 .f32) (r : Fin 512) (d : Fin 2048) :
    k0_pay2 A B (ix2 r d) = A (ix2 r d) + B (ix3 0 0 d) := by
  pointwise [k0_pay2]

theorem pay4_at (w : BitVec 32) (X : Vec Ideal S512x2048 .bf16) (r : Fin 512) (k : Fin 1024) :
    k0_pay4 w X (ix2 r k) = row w X r ⟨k, by omega⟩ := by
  unfold row
  pointwise [k0_pay4, k0_pay3]

theorem pay5_at (w : BitVec 32) (X : Vec Ideal S512x2048 .bf16) (r : Fin 512) (k : Fin 1024) :
    k0_pay5 w X (ix2 r k) = row w X r ⟨1024 + k, by omega⟩ := by
  unfold row
  pointwise [k0_pay5, k0_pay3]

theorem absf_ne_top (x : EReal) (h : Fin' x) : (FloatOps.absf (F := Ideal) (φ := .f32) x : EReal) ≠ ⊤ := by
  obtain ⟨h1, h2⟩ := h
  lift x to ℝ using ⟨h1, h2⟩
  exact (max_lt (EReal.coe_lt_top x) (by rw [← EReal.coe_neg]; exact EReal.coe_lt_top _)).ne

/-- A row's scale is a positive real. -/
theorem pay6_at (w : BitVec 32) (X : Vec Ideal S512x2048 .bf16) (r : Fin 512) (hX : ∀ k, Fin' (row w X r k)) :
    ∃ ρ : ℝ, 0 < ρ ∧ k0_pay6 w X (ix2 r 0) = (ρ : EReal) := by
  obtain ⟨ρ, h0, h⟩ := scale_real (max (Finset.univ.sup fun x => (FloatOps.absf (F := Ideal) (φ := .f32) (k0_pay4 w X (ix2 r x)) : EReal))
      (Finset.univ.sup fun x => (FloatOps.absf (F := Ideal) (φ := .f32) (k0_pay5 w X (ix2 r x)) : EReal)))
    (max_lt (lt_top_iff_ne_top.mpr (sup_ne_top _ fun k => by rw [pay4_at]; exact absf_ne_top _ (hX _)))
      (lt_top_iff_ne_top.mpr (sup_ne_top _ fun k => by rw [pay5_at]; exact absf_ne_top _ (hX _)))).ne
  refine ⟨ρ, h0, ?_⟩
  pointwise [k0_pay6]
  rw [show (Ideal.ofBits FTy.f32 4286578688#32) = ⊥ from by simp [Ideal.ofBits, Ideal.ieee]]
  exact h

theorem pay7_at (w : BitVec 32) (X : Vec Ideal S512x2048 .bf16) (r : Fin 512) (k : Fin 1024) :
    k0_pay7 w X (ix2 r k) = row w X r ⟨k, by omega⟩ * k0_pay6 w X (ix2 r 0) := by
  have h := pay4_at w X r k
  pointwise at h
  pointwise [k0_pay7]
  rw [h]

theorem pay8_at (w : BitVec 32) (X : Vec Ideal S512x2048 .bf16) (r : Fin 512) (k : Fin 1024) :
    k0_pay8 w X (ix2 r k) = row w X r ⟨1024 + k, by omega⟩ * k0_pay6 w X (ix2 r 0) := by
  have h := pay5_at w X r k
  pointwise at h
  pointwise [k0_pay8]
  rw [h]

theorem pay9_at (w : BitVec 32) (X : Vec Ideal S512x2048 .bf16) (r : Fin 512) :
    k0_pay10 (k0_pay9 w X) (ix2 r 0) = Ideal.div (Ideal.ofBits .f32 0x3F800000#32) (k0_pay6 w X (ix2 r 0)) := by
  pointwise [k0_pay10, k0_pay9]

theorem pay11_at (r : Fin 512) (d : Fin 2048) : k0_pay11 (F := Ideal) (ix2 r d) = 0 := by
  pointwise [k0_pay11]

theorem pay12_at (L H : Vec Ideal S512x1024 .fp8e4m3) (R : Vec Ideal S512x1 .f32) (W0 W1 : Vec Ideal S1x1024x1024 .fp8e4m3) (s : EReal)
    (B : Vec Ideal S1x1x1024 .f32) (r : Fin 512) (f : Fin 1024) :
    k0_pay12 (F := Ideal) L H R W0 W1 s B (ix2 r f)
      = (∑ k : Fin 1024, L (ix2 r k) * W0 (ix3 0 k f) + ∑ k : Fin 1024, H (ix2 r k) * W1 (ix3 0 k f)) * (R (ix2 r 0) * s) + B (ix3 0 0 f) := by
  pointwise [k0_pay12]

theorem pay13_at (L H : Vec Ideal S512x1024 .fp8e4m3) (W0 W1 : Vec Ideal S1x1024x1024 .fp8e4m3) (r : Fin 512) (f : Fin 1024) :
    k0_pay13 (F := Ideal) L H W0 W1 (ix2 r f)
      = ∑ k : Fin 1024, L (ix2 r k) * W0 (ix3 0 k f) + ∑ k : Fin 1024, H (ix2 r k) * W1 (ix3 0 k f) := by
  pointwise [k0_pay13]

theorem pay14_at (R : Vec Ideal S512x1 .f32) (G U : FVec Ideal S512x1024 .f32) (s : EReal) (B : Vec Ideal S1x1x1024 .f32)
    (W : Vec Ideal S1x1024x2048 .fp8e4m3) (A : Vec Ideal S512x2048 .f32) (q : EReal) (r : Fin 512) (d : Fin 2048) :
    k0_pay14 (F := Ideal) R G U s B W A q (ix2 r d)
      = A (ix2 r d) + (∑ f : Fin 1024, gate (G (ix2 r f)) (U (ix2 r f) * (R (ix2 r 0) * s) + B (ix3 0 0 f)) * Ideal.ofBits .f32 0x40800000#32 * W (ix3 0 f d))
          * (q * Ideal.ofBits .f32 0x3E800000#32) := by
  unfold gate
  pointwise [k0_pay14]

end Cert.KernelXIdeal.Pay

end
-- ==== Proof.BlockXI.lean ====
module

public import proofs.«01_k».proof.Proof.ArgsXI
public import proofs.«01_k».proof.Proof.StepXI
public import proofs.«01_k».proof.Proof.PayX
public import Idealize.ShloMosaic.Lib.Pointwise
public import Idealize.ShloMosaic.Lib.Pipeline.ValueKit.Geometry
public import Idealize.ShloMosaic.Lib.StableHlo.ReadAt

/-! The blocks the expert kernel reads at a grid point, as elements of the arguments. -/

@[expose] public section

set_option maxRecDepth 16384
set_option Elab.async false

noncomputable section

namespace Cert.KernelXIdeal.Exp

open Cert.KernelXIdeal Cert.KernelXIdeal.Gen
open Idealize.ShloMosaic
open Idealize.ShloMosaic.TcCoe Idealize.ShloMosaic.Tactic

variable (a : (pcfg0 (F := Ideal)).Adm) (hw : Words a) (m : (ℓ : Loc nD τ sig) → Buf (Elt Ideal) ℓ)

theorem tlt (t : Fin (cfgA a).N) : (t : ℕ) < 1088 := lt_of_lt_of_eq t.isLt N_0

theorem pE_eq (t : Fin (cfgA a).N) : pE a.1 (crd a t) = tabE a (blkOf a t) := by
  show tabE a _ = tabE a _
  congr 1; funext (d : Fin 1); obtain rfl : d = 0 := Subsingleton.elim _ _
  apply Fin.ext
  show k0_off1 (crd a t) 0 + 1 * 0 = _
  rw [off1_at]; rfl

theorem pN_eq (t : Fin (cfgA a).N) : pN a.1 (crd a t) = tabN a (blkOf a t) := by
  show tabN a _ = tabN a _
  congr 1; funext (d : Fin 1); obtain rfl : d = 0 := Subsingleton.elim _ _
  apply Fin.ext
  show k0_off1 (crd a t) 0 + 1 * 0 = _
  rw [off1_at]; rfl

/-- A count above zero compares so. -/
theorem sgt_zero (v : BitVec 32) (h : v.toNat < 2147483648) : IntOp.cmpi .sgt v 0#32 = if v = 0#32 then 0#1 else 1#1 := by
  have hs : IntOp.cmpi .sgt v 0#32 = BitVec.ofBool ((0#32).slt v) := rfl
  rw [hs]
  split
  · next h0 => subst h0; decide
  · next h0 =>
    have : (0#32).slt v = true := by
      rw [BitVec.slt_iff_toInt_lt, BitVec.toInt_eq_toNat_of_lt (x := v) (by omega)]
      have : v.toNat ≠ 0 := fun e => h0 (BitVec.eq_of_toNat_eq e)
      simp only [BitVec.toInt_zero]; omega
    rw [this]; rfl

include hw in
theorem pH_eq (t : Fin (cfgA a).N) (u : used a t) : (pH a.1 (crd a t)).toNat = t.val % 2 := by
  have hs : Scalar.cmpi .sgt (pN a.1 (crd a t)) 0#32 = 1#1 := by
    rw [pN_eq]
    exact (sgt_zero _ (hw.2 _)).trans (if_neg u)
  have e : pH a.1 (crd a t) = BitVec.ofNat 32 (crd a t 1).val := by
    show Scalar.select (Scalar.cmpi .sgt (pN a.1 (crd a t)) 0#32) _ _ = _
    rw [hs]; rfl
  rw [e, crd1, BitVec.toNat_ofNat]; omega

/-- The expert of point `t`'s block. -/
abbrev eOf (t : Fin (cfgA a).N) : Fin 32 := ⟨(tabE a (blkOf a t)).toNat, hw.1 _⟩

include hw in
theorem index4 (t : Fin (cfgA a).N) (u : used a t) : ((cfgA a).win (4 : Fin 11)).index t = ![(tabE a (blkOf a t)).toNat, 0, t.val % 2] := by
  show cc0_transform_4 k0_off1_inb numel1_S1 a.1 (crd a t) = _
  rw [tr4, pE_eq, pH_eq a hw t u]
include hw in
theorem index5 (t : Fin (cfgA a).N) (u : used a t) : ((cfgA a).win (5 : Fin 11)).index t = ![(tabE a (blkOf a t)).toNat, 0, t.val % 2] := by
  show cc0_transform_5 k0_off1_inb numel1_S1 a.1 (crd a t) = _
  rw [tr5, pE_eq, pH_eq a hw t u]
include hw in
theorem index6 (t : Fin (cfgA a).N) (u : used a t) : ((cfgA a).win (6 : Fin 11)).index t = ![(tabE a (blkOf a t)).toNat, 0, t.val % 2] := by
  show cc0_transform_6 k0_off1_inb numel1_S1 a.1 (crd a t) = _
  rw [tr6, pE_eq, pH_eq a hw t u]
include hw in
theorem index7 (t : Fin (cfgA a).N) (u : used a t) : ((cfgA a).win (7 : Fin 11)).index t = ![(tabE a (blkOf a t)).toNat, 0, t.val % 2] := by
  show cc0_transform_7 k0_off1_inb numel1_S1 a.1 (crd a t) = _
  rw [tr7, pE_eq, pH_eq a hw t u]
include hw in
theorem index8 (t : Fin (cfgA a).N) (u : used a t) : ((cfgA a).win (8 : Fin 11)).index t = ![(tabE a (blkOf a t)).toNat, t.val % 2, 0] := by
  show cc0_transform_8 k0_off1_inb numel1_S1 a.1 (crd a t) = _
  rw [tr8, pE_eq, pH_eq a hw t u]
include hw in
theorem index9 (t : Fin (cfgA a).N) (u : used a t) : ((cfgA a).win (9 : Fin 11)).index t = ![(tabE a (blkOf a t)).toNat, 0, 0] := by
  show cc0_transform_9 k0_off1_inb numel1_S1 a.1 (crd a t) = _
  rw [tr9, pE_eq]
theorem index3 (t : Fin (cfgA a).N) : ((cfgA a).win (3 : Fin 11)).index t = ![t.val / 2, 0] := by
  have h := tlt a t
  show cc0_transform_3 (crd a t) = _
  unfold cc0_transform_3
  have : (BitVec.ofNat 32 (crd a t 0).val).toNat = t.val / 2 := by rw [crd0, BitVec.toNat_ofNat]; omega
  simp only [this]; rfl
theorem index10 (t : Fin (cfgA a).N) : ((cfgA a).win (10 : Fin 11)).index t = ![t.val / 2, 0] := by
  have h := tlt a t
  show cc0_transform_10 (crd a t) = _
  unfold cc0_transform_10
  have : (BitVec.ofNat 32 (crd a t 0).val).toNat = t.val / 2 := by rw [crd0, BitVec.toNat_ofNat]; omega
  simp only [this]; rfl

theorem blk0_at (c : Dev nD) (t : Fin (cfgA a).N) (j : Fin 64) : iblk a m c (0 : Fin 11) t (ix1 j) = m ((c : Thread nD τ).loc main_arg4) (ix1 j) := by
  rw [← V_arg4 m c]
  have h0 : ((cfgA a).win (0 : Fin 11)).index t 0 = 0 := rfl
  simp at h0
  unfold iblk
  blk_simp
  refine congrArg _ (funext fun a => Fin.ext ?_)
  match a with
  | ⟨0, _⟩ => blk_simp [h0]
theorem blk1_at (c : Dev nD) (t : Fin (cfgA a).N) (j : Fin 64) : iblk a m c (1 : Fin 11) t (ix1 j) = m ((c : Thread nD τ).loc main_arg7) (ix1 j) := by
  rw [← V_arg7 m c]
  have h0 : ((cfgA a).win (1 : Fin 11)).index t 0 = 0 := rfl
  simp at h0
  unfold iblk
  blk_simp
  refine congrArg _ (funext fun a => Fin.ext ?_)
  match a with
  | ⟨0, _⟩ => blk_simp [h0]
theorem blk2_at (c : Dev nD) (t : Fin (cfgA a).N) (j : Fin 64) : iblk a m c (2 : Fin 11) t (ix1 j) = m ((c : Thread nD τ).loc main_arg10) (ix1 j) := by
  rw [← V_arg10 m c]
  have h0 : ((cfgA a).win (2 : Fin 11)).index t 0 = 0 := rfl
  simp at h0
  unfold iblk
  blk_simp
  refine congrArg _ (funext fun a => Fin.ext ?_)
  match a with
  | ⟨0, _⟩ => blk_simp [h0]
theorem blk3_at (c : Dev nD) (t : Fin (cfgA a).N) (r : Fin 512) (k : Fin 2048) :
    iblk a m c (3 : Fin 11) t (ix2 r k) = m ((c : Thread nD τ).loc main_arg2) (ix2 ⟨t.val / 2 * 512 + r, by have := tlt a t; omega⟩ k) := by
  rw [← V_arg2 m c]
  have h := index3 a t
  have h0 := congrFun h 0
  have h1 := congrFun h 1
  simp at h0 h1
  unfold iblk
  blk_simp
  refine congrArg _ (funext fun a => Fin.ext ?_)
  match a with
  | ⟨0, _⟩ => blk_simp [h0]
  | ⟨1, _⟩ => blk_simp [h1]

theorem V_v0 (c : Dev nD) : (V m c main_v0 : S32x2048x2048.Idx → EReal) = m ((c : Thread nD τ).loc main_arg3) := by
  unfold V hostOps0; simp only [List.flatten_cons, List.flatten_nil, List.append_nil, List.cons_append, List.nil_append]; after_results_simp; rfl
theorem V_v1 (c : Dev nD) : (V m c main_v1 : S32x2048x2048.Idx → EReal) = m ((c : Thread nD τ).loc main_arg6) := by
  unfold V hostOps0; simp only [List.flatten_cons, List.flatten_nil, List.append_nil, List.cons_append, List.nil_append]; after_results_simp; rfl
theorem V_v2 (c : Dev nD) : (V m c main_v2 : S32x2048x2048.Idx → EReal) = m ((c : Thread nD τ).loc main_arg9) := by
  unfold V hostOps0; simp only [List.flatten_cons, List.flatten_nil, List.append_nil, List.cons_append, List.nil_append]; after_results_simp; rfl

theorem blk4_at (c : Dev nD) (t : Fin (cfgA a).N) (u : used a t) (k : Fin 2048) (f : Fin 1024) :
    (iblk a m c (4 : Fin 11) t (ix3 0 k f) : EReal) = m ((c : Thread nD τ).loc main_arg3) (ix3 (eOf a hw t) k ⟨t.val % 2 * 1024 + f, by omega⟩) := by
  refine Eq.trans ?_ (congrFun (V_v0 m c) _)
  have h := index4 a hw t u
  have h0 := congrFun h 0
  have h1 := congrFun h 1
  have h2 := congrFun h 2
  simp at h0 h1 h2
  unfold iblk
  blk_simp
  refine congrArg _ (funext fun a => Fin.ext ?_)
  match a with
  | ⟨0, _⟩ => blk_simp [h0]; rfl
  | ⟨1, _⟩ => blk_simp [h1]
  | ⟨2, _⟩ => blk_simp [h2]
theorem blk6_at (c : Dev nD) (t : Fin (cfgA a).N) (u : used a t) (k : Fin 2048) (f : Fin 1024) :
    (iblk a m c (6 : Fin 11) t (ix3 0 k f) : EReal) = m ((c : Thread nD τ).loc main_arg6) (ix3 (eOf a hw t) k ⟨t.val % 2 * 1024 + f, by omega⟩) := by
  refine Eq.trans ?_ (congrFun (V_v1 m c) _)
  have h := index6 a hw t u
  have h0 := congrFun h 0
  have h1 := congrFun h 1
  have h2 := congrFun h 2
  simp at h0 h1 h2
  unfold iblk
  blk_simp
  refine congrArg _ (funext fun a => Fin.ext ?_)
  match a with
  | ⟨0, _⟩ => blk_simp [h0]; rfl
  | ⟨1, _⟩ => blk_simp [h1]
  | ⟨2, _⟩ => blk_simp [h2]
theorem blk5_at (c : Dev nD) (t : Fin (cfgA a).N) (u : used a t) (f : Fin 1024) :
    (iblk a m c (5 : Fin 11) t (ix3 0 0 f) : EReal) = m ((c : Thread nD τ).loc main_arg5) (ix3 (eOf a hw t) 0 ⟨t.val % 2 * 1024 + f, by omega⟩) := by
  refine Eq.trans ?_ (congrFun (V_arg5 m c) _)
  have h := index5 a hw t u
  have h0 := congrFun h 0
  have h1 := congrFun h 1
  have h2 := congrFun h 2
  simp at h0 h1 h2
  unfold iblk
  blk_simp
  refine congrArg _ (funext fun a => Fin.ext ?_)
  match a with
  | ⟨0, _⟩ => blk_simp [h0]; rfl
  | ⟨1, _⟩ => blk_simp [h1]
  | ⟨2, _⟩ => blk_simp [h2]
theorem blk7_at (c : Dev nD) (t : Fin (cfgA a).N) (u : used a t) (f : Fin 1024) :
    (iblk a m c (7 : Fin 11) t (ix3 0 0 f) : EReal) = m ((c : Thread nD τ).loc main_arg8) (ix3 (eOf a hw t) 0 ⟨t.val % 2 * 1024 + f, by omega⟩) := by
  refine Eq.trans ?_ (congrFun (V_arg8 m c) _)
  have h := index7 a hw t u
  have h0 := congrFun h 0
  have h1 := congrFun h 1
  have h2 := congrFun h 2
  simp at h0 h1 h2
  unfold iblk
  blk_simp
  refine congrArg _ (funext fun a => Fin.ext ?_)
  match a with
  | ⟨0, _⟩ => blk_simp [h0]; rfl
  | ⟨1, _⟩ => blk_simp [h1]
  | ⟨2, _⟩ => blk_simp [h2]
theorem blk8_at (c : Dev nD) (t : Fin (cfgA a).N) (u : used a t) (f : Fin 1024) (d : Fin 2048) :
    (iblk a m c (8 : Fin 11) t (ix3 0 f d) : EReal) = m ((c : Thread nD τ).loc main_arg9) (ix3 (eOf a hw t) ⟨t.val % 2 * 1024 + f, by omega⟩ d) := by
  refine Eq.trans ?_ (congrFun (V_v2 m c) _)
  have h := index8 a hw t u
  have h0 := congrFun h 0
  have h1 := congrFun h 1
  have h2 := congrFun h 2
  simp at h0 h1 h2
  unfold iblk
  blk_simp
  refine congrArg _ (funext fun a => Fin.ext ?_)
  match a with
  | ⟨0, _⟩ => blk_simp [h0]; rfl
  | ⟨1, _⟩ => blk_simp [h1]
  | ⟨2, _⟩ => blk_simp [h2]
theorem blk9_at (c : Dev nD) (t : Fin (cfgA a).N) (u : used a t) (d : Fin 2048) :
    (iblk a m c (9 : Fin 11) t (ix3 0 0 d) : EReal) = m ((c : Thread nD τ).loc main_arg11) (ix3 (eOf a hw t) 0 d) := by
  refine Eq.trans ?_ (congrFun (V_arg11 m c) _)
  have h := index9 a hw t u
  have h0 := congrFun h 0
  have h1 := congrFun h 1
  have h2 := congrFun h 2
  simp at h0 h1 h2
  unfold iblk
  blk_simp
  refine congrArg _ (funext fun a => Fin.ext ?_)
  match a with
  | ⟨0, _⟩ => blk_simp [h0]; rfl
  | ⟨1, _⟩ => blk_simp [h1]
  | ⟨2, _⟩ => blk_simp [h2]

end Cert.KernelXIdeal.Exp

end
-- ==== Proof.ValXI.lean ====
module

public import proofs.«01_k».proof.Proof.BlockXI

/-! The experts' output block at a grid point: on a used block's second half its rows' expert output, on an unused block zeros. -/

@[expose] public section

set_option maxRecDepth 16384
set_option Elab.async false

noncomputable section

namespace Cert.KernelXIdeal.Exp

open Cert.KernelXIdeal Cert.KernelXIdeal.Gen Cert.KernelXIdeal.Pay Cert.SpecX Cert.RangeX
open Idealize.ShloMosaic
open Idealize.ShloMosaic.TcCoe Idealize.ShloMosaic.Tactic

theorem wLo_at (x : S1x2048x1024.Idx → Elt Ideal .fp8e4m3) (k f : Fin 1024) : wLo x (ix3 0 k f) = x (ix3 0 (lo k) f) :=
  View.ld_unit_apply_of x _ _ _ _ _ (fun a => by
    match a with
    | ⟨0, _⟩ => rfl
    | ⟨1, _⟩ => exact (Nat.zero_add _).symm
    | ⟨2, _⟩ => exact (Nat.zero_add _).symm)

theorem wHi_at (x : S1x2048x1024.Idx → Elt Ideal .fp8e4m3) (k f : Fin 1024) : wHi x (ix3 0 k f) = x (ix3 0 (hi k) f) :=
  View.ld_unit_apply_of x _ _ _ _ _ (fun a => by
    match a with
    | ⟨0, _⟩ => rfl
    | ⟨1, _⟩ => rfl
    | ⟨2, _⟩ => exact (Nat.zero_add _).symm)

theorem col_at (x : S512x128.Idx → Elt Ideal .f32) (r : Fin 512) : col x (ix2 r 0) = x (ix2 r 0) :=
  View.ld_unit_apply_of x _ _ _ _ _ (fun a => by
    match a with
    | ⟨0, _⟩ => exact (Nat.zero_add _).symm
    | ⟨1, _⟩ => rfl)

/-- The accumulator's element after a half. -/
theorem accum_at (L H : Vec Ideal S512x1024 .fp8e4m3) (R : Vec Ideal S512x1 .f32) (x4 x6 : S1x2048x1024.Idx → Elt Ideal .fp8e4m3) (sg su sd : EReal)
    (x5 x7 : Vec Ideal S1x1x1024 .f32) (x8 : Vec Ideal S1x1024x2048 .fp8e4m3) (A : Vec Ideal S512x2048 .f32) (r : Fin 512) (d : Fin 2048)
    (x : Fin 2048 → EReal) (ρ : ℝ) (h : 0 < ρ) (hL : ∀ k, L (ix2 r k) = x (lo k) * (ρ : EReal)) (hH : ∀ k, H (ix2 r k) = x (hi k) * (ρ : EReal))
    (hR : R (ix2 r 0) = Ideal.div (Ideal.ofBits .f32 0x3F800000#32) (ρ : EReal)) (hg : Pos' sg) (hu : Pos' su) (hd : Pos' sd) :
    accum L H R x4 x6 sg su sd x5 x7 x8 A (ix2 r d)
      = A (ix2 r d) + ∑ f : Fin 1024, gate (∑ k, x k * (x4 (ix3 0 k f) * sg) + x5 (ix3 0 0 f)) (∑ k, x k * (x6 (ix3 0 k f) * su) + x7 (ix3 0 0 f)) * (x8 (ix3 0 f d) * sd) := by
  refine (pay14_at _ _ _ _ _ _ _ _ r d).trans ?_
  refine (congrArg (A (ix2 r d) + ·) (scaled_act (fun f => gate (k0_pay12 (F := Ideal) L H R (wLo x4) (wHi x4) sg x5 (ix2 r f)) (k0_pay13 (F := Ideal) L H (wLo x6) (wHi x6) (ix2 r f) * (R (ix2 r 0) * su) + x7 (ix3 0 0 f)))
    (fun f => x8 (ix3 0 f d)) sd hd)).trans ?_
  refine congrArg (A (ix2 r d) + ·) (Finset.sum_congr rfl fun f _ => ?_)
  have e1 : k0_pay12 (F := Ideal) L H R (wLo x4) (wHi x4) sg x5 (ix2 r f) = ∑ k, x k * (x4 (ix3 0 k f) * sg) + x5 (ix3 0 0 f) := by
    exact (pay12_at _ _ _ _ _ _ _ r f).trans (congrArg (· + x5 (ix3 0 0 f)) ((congrArg₂ (· * ·) (congrArg₂ (· + ·) (Finset.sum_congr rfl fun k _ => congrArg₂ (· * ·) (hL k) (wLo_at x4 k f)) (Finset.sum_congr rfl fun k _ => congrArg₂ (· * ·) (hH k) (wHi_at x4 k f)))
      (congrArg (· * sg) hR)).trans (scaled_row x (fun k => x4 (ix3 0 k f)) ρ h sg hg)))
  have e2 : k0_pay13 (F := Ideal) L H (wLo x6) (wHi x6) (ix2 r f) * (R (ix2 r 0) * su) = ∑ k, x k * (x6 (ix3 0 k f) * su) := by
    exact (congrArg (· * (R (ix2 r 0) * su)) (pay13_at _ _ _ _ r f)).trans ((congrArg₂ (· * ·) (congrArg₂ (· + ·) (Finset.sum_congr rfl fun k _ => congrArg₂ (· * ·) (hL k) (wLo_at x6 k f)) (Finset.sum_congr rfl fun k _ => congrArg₂ (· * ·) (hH k) (wHi_at x6 k f)))
      (congrArg (· * su) hR)).trans (scaled_row x (fun k => x6 (ix3 0 k f)) ρ h su hu))
  simp only [e1, e2]

variable (a : (pcfg0 (F := Ideal)).Adm) (hw : Words a) (m : (ℓ : Loc nD τ sig) → Buf (Elt Ideal) ℓ) (c : Dev nD)

/-- The arguments of expert `E`. -/
abbrev WG (E : Fin 32) (k f : Fin 2048) : EReal := m ((c : Thread nD τ).loc main_arg3) (ix3 E k f)
abbrev WU (E : Fin 32) (k f : Fin 2048) : EReal := m ((c : Thread nD τ).loc main_arg6) (ix3 E k f)
abbrev WD (E : Fin 32) (f d : Fin 2048) : EReal := m ((c : Thread nD τ).loc main_arg9) (ix3 E f d)
abbrev SG (E : Fin 32) (j : Fin 2) : EReal := m ((c : Thread nD τ).loc main_arg4) (ix1 ⟨E * 2 + j, by omega⟩)
abbrev SU (E : Fin 32) (j : Fin 2) : EReal := m ((c : Thread nD τ).loc main_arg7) (ix1 ⟨E * 2 + j, by omega⟩)
abbrev SD (E : Fin 32) (j : Fin 2) : EReal := m ((c : Thread nD τ).loc main_arg10) (ix1 ⟨E * 2 + j, by omega⟩)
abbrev BG (E : Fin 32) (f : Fin 2048) : EReal := m ((c : Thread nD τ).loc main_arg5) (ix3 E 0 f)
abbrev BU (E : Fin 32) (f : Fin 2048) : EReal := m ((c : Thread nD τ).loc main_arg8) (ix3 E 0 f)
abbrev BD (E : Fin 32) (d : Fin 2048) : EReal := m ((c : Thread nD τ).loc main_arg11) (ix3 E 0 d)
/-- Row `r` of block `b`, zero past the block's count. -/
abbrev XR (b : Fin 544) (r : Fin 512) (k : Fin 2048) : EReal :=
  Scalar.select (IntOp.cmpi .slt (BitVec.ofNat 32 r) (tabN a (ix1 b))) (m ((c : Thread nD τ).loc main_arg2) (ix2 ⟨b * 512 + r, by omega⟩ k)) 0

/-- The block, the half and the scale's place of point `t`. -/
abbrev bOf (t : Fin (cfgA a).N) : Fin 544 := ⟨t.val / 2, by have := tlt a t; omega⟩
abbrev hOf (t : Fin (cfgA a).N) : Fin 2 := ⟨t.val % 2, by omega⟩
abbrev tOf (t : Fin (cfgA a).N) : Fin 64 := ⟨(eOf a hw t : ℕ) * 2 + t.val % 2, by have := (eOf a hw t).2; omega⟩
abbrev fOf (t : Fin (cfgA a).N) (f : Fin 1024) : Fin 2048 := ⟨t.val % 2 * 1024 + f, by omega⟩

theorem tile_at (t : Fin (cfgA a).N) : (tOf a hw t : ℕ) = (Scalar.addi (Scalar.muli (wE a t) 2#32) (BitVec.ofNat 32 (crd a t 1).val)).toNat := by
  have e : (wE a t).toNat < 32 := by rw [wE_eq]; exact hw.1 _
  show (tabE a (blkOf a t)).toNat * 2 + t.val % 2 = (BitVec.add (BitVec.mul (wE a t) 2#32) (BitVec.ofNat 32 (crd a t 1).val)).toNat
  rw [← wE_eq, crd1]
  have := Nat.mod_lt t.val (show 0 < 2 by decide)
  show _ = (wE a t * 2#32 + BitVec.ofNat 32 (t.val % 2)).toNat
  rw [BitVec.toNat_add, BitVec.toNat_mul, BitVec.toNat_ofNat, BitVec.toNat_ofNat]
  omega

include hw in
/-- The accumulator's element after point `t`'s half, in the arguments. -/
theorem half_at (t : Fin (cfgA a).N) (u : used a t) (L H : Vec Ideal S512x1024 .fp8e4m3) (R : Vec Ideal S512x1 .f32) (A : Vec Ideal S512x2048 .f32) (r : Fin 512) (d : Fin 2048)
    (x : Fin 2048 → EReal) (ρ : ℝ) (h : 0 < ρ) (hL : ∀ k, L (ix2 r k) = x (lo k) * (ρ : EReal)) (hH : ∀ k, H (ix2 r k) = x (hi k) * (ρ : EReal))
    (hR : R (ix2 r 0) = Ideal.div (Ideal.ofBits .f32 0x3F800000#32) (ρ : EReal)) (hg : ∀ i, Pos' (m ((c : Thread nD τ).loc main_arg4) i)) (hu : ∀ i, Pos' (m ((c : Thread nD τ).loc main_arg7) i)) (hd : ∀ i, Pos' (m ((c : Thread nD τ).loc main_arg10) i)) :
    accum L H R (iblk a m c (4 : Fin 11) t) (iblk a m c (6 : Fin 11) t) (iblk a m c (0 : Fin 11) t (ix1 (tOf a hw t))) (iblk a m c (1 : Fin 11) t (ix1 (tOf a hw t)))
        (iblk a m c (2 : Fin 11) t (ix1 (tOf a hw t))) (iblk a m c (5 : Fin 11) t) (iblk a m c (7 : Fin 11) t) (iblk a m c (8 : Fin 11) t) A (ix2 r d)
      = A (ix2 r d) + ∑ f : Fin 1024, gate (hid x (WG m c (eOf a hw t)) (SG m c (eOf a hw t)) (BG m c (eOf a hw t)) (fOf a t f)) (hid x (WU m c (eOf a hw t)) (SU m c (eOf a hw t)) (BU m c (eOf a hw t)) (fOf a t f))
          * (WD m c (eOf a hw t) (fOf a t f) d * SD m c (eOf a hw t) (hOf a t)) := by
  have hh : ∀ f : Fin 1024, half (fOf a t f) = hOf a t := fun f => Fin.ext (by simp only [half, fOf, hOf]; omega)
  refine (accum_at _ _ _ _ _ _ _ _ _ _ _ _ r d x ρ h hL hH hR ((blk0_at a m c t _).symm ▸ hg _) ((blk1_at a m c t _).symm ▸ hu _) ((blk2_at a m c t _).symm ▸ hd _)).trans ?_
  refine congrArg (A (ix2 r d) + ·) (Finset.sum_congr rfl fun f _ => ?_)
  unfold hid
  refine congrArg₂ (· * ·) (congrArg₂ gate (congrArg₂ (· + ·) (Finset.sum_congr rfl fun k _ => congrArg (x k * ·) (congrArg₂ (· * ·) (blk4_at a hw m c t u k f) ?_)) (blk5_at a hw m c t u f))
    (congrArg₂ (· + ·) (Finset.sum_congr rfl fun k _ => congrArg (x k * ·) (congrArg₂ (· * ·) (blk6_at a hw m c t u k f) ?_)) (blk7_at a hw m c t u f)))
    (congrArg₂ (· * ·) (blk8_at a hw m c t u f d) ?_)
  · rw [hh]; exact blk0_at a m c t _
  · rw [hh]; exact blk1_at a m c t _
  · exact blk2_at a m c t _

theorem eOf_pred (t : Fin (cfgA a).N) (odd : ¬ t.val % 2 = 0) : eOf a hw (pred a t) = eOf a hw t := Fin.ext (by show (tabE a (blkOf a (pred a t))).toNat = _; rw [blk_pred a odd])

/-- A used block's row. -/
theorem row_at (t : Fin (cfgA a).N) (r : Fin 512) (k : Fin 2048) :
    row (wN a t) (iblk a m c (3 : Fin 11) t) r k = XR a m c (bOf a t) r k := by
  unfold row
  rw [wN_eq]
  exact congrArg (fun z => Scalar.select _ z (0 : EReal)) (blk3_at a m c t r k)

end Cert.KernelXIdeal.Exp

end
-- ==== Proof.LeaveXI.lean ====
module

public import proofs.«01_k».proof.Proof.ValXI

/-! What a grid point leaves in the scratch buffers and in its output block, in the blocks it read. -/

@[expose] public section

set_option maxRecDepth 16384
set_option Elab.async false

noncomputable section

namespace Cert.KernelXIdeal.Exp

open Cert.KernelXIdeal Cert.KernelXIdeal.Gen Cert.KernelXIdeal.Pay Cert.SpecX Cert.RangeX
open Idealize.ShloMosaic
open Idealize.ShloMosaic.TcCoe Idealize.ShloMosaic.Tactic

variable (a : (pcfg0 (F := Ideal)).Adm) (hw : Words a) (m : (ℓ : Loc nD τ sig) → Buf (Elt Ideal) ℓ) (c : Dev nD)

/-- The rows' scaled low halves after a used block's first half. -/
theorem scr_lo (t : Fin (cfgA a).N) (q1 : P0_1 a t) (q2 : P0_2 a t) : (View.whole cc0_scratch0).read (Elt Ideal) (scrA a hw m c t q1 q2).1
      = k0_pay7 (F := Ideal) (wN a t) (iblk a m c (3 : Fin 11) t) := by
  dsimp only [scrA, runA]
  exact after_lo c (crd a t) (ms0_0 a t) (hs0_0 a t) (ms0_1 a t) (hs0_1 a t) (ms0_2 a t) (hs0_2 a t) (ms0_3 a t) (hs0_3 a t) (ms0_4 a t) (hs0_4 a t) (ms0_5 a t) (hs0_5 a t) (ms0_6 a t) (hs0_6 a t) (ms0_7 a t) (hs0_7 a t) (ms0_8 a t) (hs0_8 a t) (ms0_9 a t) (hs0_9 a t) (ms0_10 a t) (hs0_10 a t) (tabE a) (tabN a) (iblk a m c (0 : Fin 11) t) (iblk a m c (1 : Fin 11) t) (iblk a m c (2 : Fin 11) t) (iblk a m c (3 : Fin 11) t) (iblk a m c (4 : Fin 11) t) (iblk a m c (5 : Fin 11) t) (iblk a m c (6 : Fin 11) t) (iblk a m c (7 : Fin 11) t) (iblk a m c (8 : Fin 11) t) (iblk a m c (9 : Fin 11) t) (chk hw t) (h1_used hw q1) q1 q2 (h4_even q2)

/-- The high halves. -/
theorem scr_hi (t : Fin (cfgA a).N) (q1 : P0_1 a t) (q2 : P0_2 a t) : (View.whole cc0_scratch1).read (Elt Ideal) (scrA a hw m c t q1 q2).2.1
      = k0_pay8 (F := Ideal) (wN a t) (iblk a m c (3 : Fin 11) t) := by
  dsimp only [scrA, runA]
  exact after_hi c (crd a t) (ms0_0 a t) (hs0_0 a t) (ms0_1 a t) (hs0_1 a t) (ms0_2 a t) (hs0_2 a t) (ms0_3 a t) (hs0_3 a t) (ms0_4 a t) (hs0_4 a t) (ms0_5 a t) (hs0_5 a t) (ms0_6 a t) (hs0_6 a t) (ms0_7 a t) (hs0_7 a t) (ms0_8 a t) (hs0_8 a t) (ms0_9 a t) (hs0_9 a t) (ms0_10 a t) (hs0_10 a t) (tabE a) (tabN a) (iblk a m c (0 : Fin 11) t) (iblk a m c (1 : Fin 11) t) (iblk a m c (2 : Fin 11) t) (iblk a m c (3 : Fin 11) t) (iblk a m c (4 : Fin 11) t) (iblk a m c (5 : Fin 11) t) (iblk a m c (6 : Fin 11) t) (iblk a m c (7 : Fin 11) t) (iblk a m c (8 : Fin 11) t) (iblk a m c (9 : Fin 11) t) (chk hw t) (h1_used hw q1) q1 q2 (h4_even q2)

/-- The inverse scales. -/
theorem scr_inv (t : Fin (cfgA a).N) (q1 : P0_1 a t) (q2 : P0_2 a t) : (View.whole cc0_scratch2).read (Elt Ideal) (scrA a hw m c t q1 q2).2.2.1
      = k0_pay10 (F := Ideal) (k0_pay9 (F := Ideal) (wN a t) (iblk a m c (3 : Fin 11) t)) := by
  dsimp only [scrA, runA]
  exact after_inv c (crd a t) (ms0_0 a t) (hs0_0 a t) (ms0_1 a t) (hs0_1 a t) (ms0_2 a t) (hs0_2 a t) (ms0_3 a t) (hs0_3 a t) (ms0_4 a t) (hs0_4 a t) (ms0_5 a t) (hs0_5 a t) (ms0_6 a t) (hs0_6 a t) (ms0_7 a t) (hs0_7 a t) (ms0_8 a t) (hs0_8 a t) (ms0_9 a t) (hs0_9 a t) (ms0_10 a t) (hs0_10 a t) (tabE a) (tabN a) (iblk a m c (0 : Fin 11) t) (iblk a m c (1 : Fin 11) t) (iblk a m c (2 : Fin 11) t) (iblk a m c (3 : Fin 11) t) (iblk a m c (4 : Fin 11) t) (iblk a m c (5 : Fin 11) t) (iblk a m c (6 : Fin 11) t) (iblk a m c (7 : Fin 11) t) (iblk a m c (8 : Fin 11) t) (iblk a m c (9 : Fin 11) t) (chk hw t) (h1_used hw q1) q1 q2 (h4_even q2)

/-- The accumulator. -/
theorem scr_acc (t : Fin (cfgA a).N) (q1 : P0_1 a t) (q2 : P0_2 a t) : (View.whole cc0_scratch3).read (Elt Ideal) (scrA a hw m c t q1 q2).2.2.2
      = accum (k0_pay7 (F := Ideal) (wN a t) (iblk a m c (3 : Fin 11) t)) (k0_pay8 (F := Ideal) (wN a t) (iblk a m c (3 : Fin 11) t)) (col (k0_pay10 (F := Ideal) (k0_pay9 (F := Ideal) (wN a t) (iblk a m c (3 : Fin 11) t))))
        (iblk a m c (4 : Fin 11) t) (iblk a m c (6 : Fin 11) t) (iblk a m c (0 : Fin 11) t (ix1 (tOf a hw t))) (iblk a m c (1 : Fin 11) t (ix1 (tOf a hw t)))
        (iblk a m c (2 : Fin 11) t (ix1 (tOf a hw t))) (iblk a m c (5 : Fin 11) t) (iblk a m c (7 : Fin 11) t) (iblk a m c (8 : Fin 11) t) (k0_pay11 (F := Ideal)) := by
  dsimp only [scrA, runA]
  exact after_acc c (crd a t) (ms0_0 a t) (hs0_0 a t) (ms0_1 a t) (hs0_1 a t) (ms0_2 a t) (hs0_2 a t) (ms0_3 a t) (hs0_3 a t) (ms0_4 a t) (hs0_4 a t) (ms0_5 a t) (hs0_5 a t) (ms0_6 a t) (hs0_6 a t) (ms0_7 a t) (hs0_7 a t) (ms0_8 a t) (hs0_8 a t) (ms0_9 a t) (hs0_9 a t) (ms0_10 a t) (hs0_10 a t) (tabE a) (tabN a) (iblk a m c (0 : Fin 11) t) (iblk a m c (1 : Fin 11) t) (iblk a m c (2 : Fin 11) t) (iblk a m c (3 : Fin 11) t) (iblk a m c (4 : Fin 11) t) (iblk a m c (5 : Fin 11) t) (iblk a m c (6 : Fin 11) t) (iblk a m c (7 : Fin 11) t) (iblk a m c (8 : Fin 11) t) (iblk a m c (9 : Fin 11) t) (chk hw t) (h1_used hw q1) q1 q2 (h4_even q2) (tOf a hw t) (tile_at a hw t)

/-- A used block's second half stores the accumulator's row and the bias. -/
theorem outB_eq (t : Fin (cfgA a).N) (s : Scr c) (q1 : P0_1 a t) (q2 : ¬ P0_2 a t) : outB a hw m c t s q1 q2 = k0_pay2 (F := Ideal) (accum ((View.whole cc0_scratch0).read (Elt Ideal) s.1) ((View.whole cc0_scratch1).read (Elt Ideal) s.2.1) (col ((View.whole cc0_scratch2).read (Elt Ideal) s.2.2.1))
        (iblk a m c (4 : Fin 11) t) (iblk a m c (6 : Fin 11) t) (iblk a m c (0 : Fin 11) t (ix1 (tOf a hw t))) (iblk a m c (1 : Fin 11) t (ix1 (tOf a hw t)))
        (iblk a m c (2 : Fin 11) t (ix1 (tOf a hw t))) (iblk a m c (5 : Fin 11) t) (iblk a m c (7 : Fin 11) t) (iblk a m c (8 : Fin 11) t) ((View.whole cc0_scratch3).read (Elt Ideal) s.2.2.2)) (iblk a m c (9 : Fin 11) t) := by
  unfold outB
  exact stored c (crd a t) (ms0_0 a t) (hs0_0 a t) (ms0_1 a t) (hs0_1 a t) (ms0_2 a t) (hs0_2 a t) (ms0_3 a t) (hs0_3 a t) (ms0_4 a t) (hs0_4 a t) (ms0_5 a t) (hs0_5 a t) (ms0_6 a t) (hs0_6 a t) (ms0_7 a t) (hs0_7 a t) (ms0_8 a t) (hs0_8 a t) (ms0_9 a t) (hs0_9 a t) (ms0_10 a t) (hs0_10 a t) (tabE a) (tabN a) (iblk a m c (0 : Fin 11) t) (iblk a m c (1 : Fin 11) t) (iblk a m c (2 : Fin 11) t) (iblk a m c (3 : Fin 11) t) (iblk a m c (4 : Fin 11) t) (iblk a m c (5 : Fin 11) t) (iblk a m c (6 : Fin 11) t) (iblk a m c (7 : Fin 11) t) (iblk a m c (8 : Fin 11) t) (iblk a m c (9 : Fin 11) t) s.1 s.2.1 s.2.2.1 s.2.2.2 (chk hw t) (h1_used hw q1) q1 q2 (h4_odd q2) (tOf a hw t) (tile_at a hw t)

/-- An unused block's first point stores zeros. -/
theorem outC_eq (t : Fin (cfgA a).N) (q0 : P0_0 a t) : outC a hw m c t q0 = k0_pay1 (F := Ideal) := by
  unfold outC
  exact stored_zero c (crd a t) (ms0_0 a t) (hs0_0 a t) (ms0_1 a t) (hs0_1 a t) (ms0_2 a t) (hs0_2 a t) (ms0_3 a t) (hs0_3 a t) (ms0_4 a t) (hs0_4 a t) (ms0_5 a t) (hs0_5 a t) (ms0_6 a t) (hs0_6 a t) (ms0_7 a t) (hs0_7 a t) (ms0_8 a t) (hs0_8 a t) (ms0_9 a t) (hs0_9 a t) (ms0_10 a t) (hs0_10 a t) (tabE a) (tabN a) (iblk a m c (0 : Fin 11) t) (iblk a m c (1 : Fin 11) t) (iblk a m c (2 : Fin 11) t) (iblk a m c (3 : Fin 11) t) (iblk a m c (4 : Fin 11) t) (iblk a m c (5 : Fin 11) t) (iblk a m c (6 : Fin 11) t) (iblk a m c (7 : Fin 11) t) (iblk a m c (8 : Fin 11) t) (iblk a m c (9 : Fin 11) t) default default default default (chk hw t) q0 (h2_zero hw q0)

end Cert.KernelXIdeal.Exp

end
-- ==== Proof.OutXI.lean ====
module

public import proofs.«01_k».proof.Proof.LeaveXI

/-! The experts' output block at a grid point: on a used block's second half its rows' expert output, on an unused block zeros. -/

@[expose] public section

set_option maxRecDepth 16384
set_option Elab.async false

noncomputable section

namespace Cert.KernelXIdeal.Exp

open Cert.KernelXIdeal Cert.KernelXIdeal.Gen Cert.KernelXIdeal.Pay Cert.SpecX Cert.RangeX
open Idealize.ShloMosaic
open Idealize.ShloMosaic.TcCoe Idealize.ShloMosaic.Tactic

variable (a : (pcfg0 (F := Ideal)).Adm) (hw : Words a) (m : (ℓ : Loc nD τ sig) → Buf (Elt Ideal) ℓ) (c : Dev nD)

set_option maxHeartbeats 4000000 in
/-- A used block's second half stores its rows' expert output. -/
theorem out_used (t : Fin (cfgA a).N) (odd : ¬ t.val % 2 = 0) (u : used a t) (r : Fin 512) (d : Fin 2048)
    (hx : ∀ i, Cert.ReferenceBIdeal.Block.Fin' (m ((c : Thread nD τ).loc main_arg2) i))
    (hg : ∀ i, Pos' (m ((c : Thread nD τ).loc main_arg4) i)) (hu : ∀ i, Pos' (m ((c : Thread nD τ).loc main_arg7) i)) (hd : ∀ i, Pos' (m ((c : Thread nD τ).loc main_arg10) i)) :
    outT a hw m c t (ix2 r d) = expert (XR a m c (bOf a t) r) (WG m c (eOf a hw t)) (WU m c (eOf a hw t)) (SG m c (eOf a hw t)) (SU m c (eOf a hw t)) (SD m c (eOf a hw t))
      (BG m c (eOf a hw t)) (BU m c (eOf a hw t)) (WD m c (eOf a hw t)) (BD m c (eOf a hw t)) d := by
  have q1 : P0_1 a t := (used_iff hw t).mpr u
  have q2 : ¬ P0_2 a t := by rw [even_iff]; exact odd
  have u' : used a (pred a t) := (used_pred a odd).mpr u
  have q1' : P0_1 a (pred a t) := (used_iff hw (pred a t)).mpr u'
  have q2' : P0_2 a (pred a t) := by rw [even_iff]; show (t.val - 1) % 2 = 0; omega
  have hpm : (pred a t).val % 2 = 0 := by show (t.val - 1) % 2 = 0; omega
  have htm : t.val % 2 = 1 := by omega
  have hb : bOf a (pred a t) = bOf a t := Fin.ext (by show (t.val - 1) / 2 = t.val / 2; omega)
  have hX : ∀ k, Cert.ReferenceBIdeal.Block.Fin' (row (wN a (pred a t)) (iblk a m c (3 : Fin 11) (pred a t)) r k) := fun k => by
    rw [row_at]
    unfold XR Scalar.select
    split
    · exact hx _
    · exact ⟨EReal.zero_ne_top, EReal.zero_ne_bot⟩
  obtain ⟨ρ, hρ, hs⟩ := pay6_at (wN a (pred a t)) (iblk a m c (3 : Fin 11) (pred a t)) r hX
  have hrow : ∀ k, row (wN a (pred a t)) (iblk a m c (3 : Fin 11) (pred a t)) r k = XR a m c (bOf a t) r k := fun k => by rw [row_at, hb]
  have hL : ∀ k, k0_pay7 (F := Ideal) (wN a (pred a t)) (iblk a m c (3 : Fin 11) (pred a t)) (ix2 r k) = XR a m c (bOf a t) r (lo k) * (ρ : EReal) := fun k => by
    rw [pay7_at, hs, hrow]
  have hH : ∀ k, k0_pay8 (F := Ideal) (wN a (pred a t)) (iblk a m c (3 : Fin 11) (pred a t)) (ix2 r k) = XR a m c (bOf a t) r (hi k) * (ρ : EReal) := fun k => by
    rw [pay8_at, hs, hrow]
  have hR : col (k0_pay10 (F := Ideal) (k0_pay9 (F := Ideal) (wN a (pred a t)) (iblk a m c (3 : Fin 11) (pred a t)))) (ix2 r 0) = Ideal.div (Ideal.ofBits .f32 0x3F800000#32) (ρ : EReal) := by
    rw [col_at, pay9_at, hs]
  rw [outT_B a hw m c t q1 q2, show scr a hw m c (t.val - 1) = scrA a hw m c (pred a t) q1' q2' from scr_A a hw m c (pred a t) q1' q2', outB_eq, scr_lo, scr_hi, scr_inv, scr_acc]
  refine (pay2_at _ _ r d).trans ?_
  rw [expert_halves]
  refine congrArg₂ (· + ·) ?_ (blk9_at a hw m c t u d)
  refine (half_at a hw m c t u _ _ _ _ r d _ ρ hρ hL hH hR hg hu hd).trans ?_
  refine congrArg₂ (· + ·) ?_ ?_
  · refine (half_at a hw m c (pred a t) u' _ _ _ _ r d _ ρ hρ hL hH hR hg hu hd).trans ?_
    rw [eOf_pred a hw t odd]
    refine congrArg₂ (· + ·) (pay11_at r d) (Finset.sum_congr rfl fun f _ => ?_)
    have hf : fOf a (pred a t) f = lo f := Fin.ext (by show (pred a t).val % 2 * 1024 + (f : ℕ) = f; omega)
    have hz : hOf a (pred a t) = 0 := Fin.ext hpm
    rw [hf, hz]
  · refine Finset.sum_congr rfl fun f _ => ?_
    have hf : fOf a t f = hi f := Fin.ext (by show t.val % 2 * 1024 + (f : ℕ) = 1024 + f; omega)
    have hz : hOf a t = 1 := Fin.ext htm
    rw [hf, hz]

/-- An unused block's output stays zero. -/
theorem out_unused (t : Fin (cfgA a).N) (odd : ¬ t.val % 2 = 0) (u : ¬ used a t) (r : Fin 512) (d : Fin 2048) : outT a hw m c t (ix2 r d) = (0 : EReal) := by
  have q1 : ¬ P0_1 a t := fun q => u ((used_iff hw t).mp q)
  have q0 : ¬ P0_0 a t := by rw [zero_iff]; exact fun h => odd h.2
  rw [outT_D a hw m c t q0 q1, outT_C a hw m c (pred a t) (pred_zero a hw q0 q1), outC_eq]
  exact pay1_at r d

end Cert.KernelXIdeal.Exp

end
-- ==== Proof.ArrayXI.lean ====
module

public import proofs.«01_k».proof.Proof.OutXI

/-! The array the expert kernel leaves, and its run. -/

@[expose] public section

set_option maxRecDepth 16384
set_option Elab.async false

noncomputable section

namespace Cert.KernelXIdeal.Exp

open Cert.KernelXIdeal Cert.KernelXIdeal.Gen Cert.SpecX Cert.RangeX
open Idealize.ShloMosaic
open Idealize.ShloMosaic.TcCoe Idealize.ShloMosaic.Tactic
open Idealize.SL.Sem

variable (a : (pcfg0 (F := Ideal)).Adm) (hw : Words a) (m : (ℓ : Loc nD τ sig) → Buf (Elt Ideal) ℓ) (c : Dev nD)

/-- Block `b`'s expert. -/
abbrev eB (b : Fin 544) : Fin 32 := ⟨(tabE a (ix1 b)).toNat, hw.1 _⟩

/-- Row `r` of block `b`: its expert's output, zero when the block is unused. -/
def blockVal (b : Fin 544) (r : Fin 512) (d : Fin 2048) : EReal :=
  Scalar.select (IntOp.cmpi .sgt (tabN a (ix1 b)) 0#32)
    (expert (XR a m c b r) (WG m c (eB a hw b)) (WU m c (eB a hw b)) (SG m c (eB a hw b)) (SU m c (eB a hw b)) (SD m c (eB a hw b))
      (BG m c (eB a hw b)) (BU m c (eB a hw b)) (WD m c (eB a hw b)) (BD m c (eB a hw b)) d) 0

/-- The result's element. -/
def value (R : Fin 278528) (d : Fin 2048) : EReal := blockVal a hw m c ⟨R / 512, by omega⟩ ⟨R % 512, by omega⟩ d

theorem value_eq (b : Fin 544) (r : Fin 512) (d d' : Fin 2048) (R : Fin 278528) (hR : (R : ℕ) = b * 512 + r) (hd : (d' : ℕ) = d) :
    blockVal a hw m c b r d = value a hw m c R d' := by
  obtain rfl : d' = d := Fin.ext hd
  unfold value
  have e1 : (⟨R / 512, by omega⟩ : Fin 544) = b := Fin.ext (by show (R : ℕ) / 512 = b; omega)
  have e2 : (⟨R % 512, by omega⟩ : Fin 512) = r := Fin.ext (by show (R : ℕ) % 512 = r; omega)
  rw [e1, e2]

/-- A written-back block's element. -/
theorem out_at (t : Fin (cfgA a).N) (odd : ¬ t.val % 2 = 0) (r : Fin 512) (d : Fin 2048)
    (hx : ∀ i, Cert.ReferenceBIdeal.Block.Fin' (m ((c : Thread nD τ).loc main_arg2) i))
    (hg : ∀ i, Pos' (m ((c : Thread nD τ).loc main_arg4) i)) (hu : ∀ i, Pos' (m ((c : Thread nD τ).loc main_arg7) i)) (hd : ∀ i, Pos' (m ((c : Thread nD τ).loc main_arg10) i)) :
    outT a hw m c t (ix2 r d) = blockVal a hw m c (bOf a t) r d := by
  unfold blockVal
  rw [sgt_zero _ (hw.2 _)]
  by_cases u : used a t
  · rw [if_neg (show ¬ tabN a (ix1 (bOf a t)) = 0#32 from u)]
    exact out_used a hw m c t odd u r d hx hg hu hd
  · rw [if_pos (show tabN a (ix1 (bOf a t)) = 0#32 from not_not.mp u)]
    exact out_unused a hw m c t odd u r d

/-- The written-back blocks cover the array. -/
theorem covers : ((cfgA a).win (10 : Fin 11)).Covers := by
  refine ⟨fun x => ?_, fun β => ?_⟩
  · match x with
    | ⟨0, _⟩ => exact (by decide : 0 < 512)
    | ⟨1, _⟩ => exact (by decide : 0 < 2048)
  · have b0 : (β ⟨0, Nat.zero_lt_two⟩).val < 544 :=
      lt_of_lt_of_eq (β ⟨0, Nat.zero_lt_two⟩).isLt (by show (278528 + 512 - 1) / 512 = 544; decide)
    have b1 : (β ⟨1, Nat.one_lt_two⟩).val < 1 :=
      lt_of_lt_of_eq (β ⟨1, Nat.one_lt_two⟩).isLt (by show (2048 + 2048 - 1) / 2048 = 1; decide)
    have hN : (cfgA a).N = 1088 := N_0
    refine ⟨⟨2 * (β ⟨0, Nat.zero_lt_two⟩).val + 1, by show _ < (cfgA a).N; omega⟩, ?_, fun x => ?_⟩
    · refine (flush_at _).trans (decide_eq_true ?_)
      show ¬ (2 * (β ⟨0, Nat.zero_lt_two⟩).val + 1) % 2 = 0
      omega
    · have h := index10 a ⟨2 * (β ⟨0, Nat.zero_lt_two⟩).val + 1, by show _ < (cfgA a).N; omega⟩
      match x with
      | ⟨0, _⟩ =>
        refine ⟨(congrFun h 0).trans ?_, .inl rfl⟩
        show (2 * (β ⟨0, Nat.zero_lt_two⟩).val + 1) / 2 = (β ⟨0, Nat.zero_lt_two⟩).val
        omega
      | ⟨1, _⟩ =>
        refine ⟨(congrFun h 1).trans ?_, .inl rfl⟩
        show 0 = (β ⟨1, Nat.one_lt_two⟩).val
        omega

/-- The array the kernel leaves. -/
theorem array_eq (hx : ∀ i, Cert.ReferenceBIdeal.Block.Fin' (m ((c : Thread nD τ).loc main_arg2) i))
    (hg : ∀ i, Pos' (m ((c : Thread nD τ).loc main_arg4) i)) (hu : ∀ i, Pos' (m ((c : Thread nD τ).loc main_arg7) i)) (hd : ∀ i, Pos' (m ((c : Thread nD τ).loc main_arg10) i)) :
    (dats a hw m 0 c).arrAt (10 : Fin 11) (cfgA a).N = fun y => value a hw m c (y 0) (y 1) := by
  refine (dats a hw m 0 c).arrAt_eq_of_covers (10 : Fin 11) _ (covers a) fun t hf y => ?_
  have odd : ¬ t.val % 2 = 0 := of_decide_eq_true ((flush_at t).symm.trans hf)
  have h0 := congrFun (index10 a t) 0
  have h1 := congrFun (index10 a t) 1
  simp at h0 h1
  blk_simp
  rw [after0_10]
  have hy : y = ix2 (n0 := 512) (n1 := 2048) (y 0) (y 1) := eq_ix2 y
  refine (congrArg _ hy).trans ((out_at a hw m c t odd (y 0) (y 1) hx hg hu hd).trans (value_eq a hw m c _ _ _ _ _ ?_ ?_))
  · blk_simp [h0]
  · blk_simp [h1]

variable (ρ : Dev nD → PrngReg)

/-- The run under the precondition: the result, and the arguments as they were. -/
theorem run (h : Cert.Pre_KernelXIdeal m) :
    θ_run (defs (F := Ideal)) (onTc (τ := τ) (main (F := Ideal))) ⟨m, fun _ => 0, ρ⟩ (fun r => ∀ c : Dev nD,
      r.2.mem ((c.tc : Thread nD τ).loc main_v3) = (fun y => value (adm m h) (adm_words m h) m c (y 0) (y 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h' c => by
    obtain ⟨hx, hg, hu, hd⟩ := Cert.RangeX.floats _ _ _ _ _ _ _ _ _ _ _ _ (h c)
    exact ⟨((h'.1 c).1 (10 : Fin 11)).trans (array_eq (adm m h) (adm_words m h) m c hx hg hu hd), unchanged_of m _ (adm_words m h) r h'.1 c⟩)
    (run_main (adm m h) (adm_words m h) m ρ (tabs_at m h))

end Cert.KernelXIdeal.Exp

end
-- ==== Proof.RefX.lean ====
module

public import proofs.«01_k».proof.Proof.AlgX
public import proofs.«01_k».proof.Proof.Gen.ReferenceXIdeal.Run
public import Idealize.ShloMosaic.Lib.Pointwise

/-! The experts' reference: its result in steps, each an array of its own, and each array at an element. -/

@[expose] public section

set_option maxRecDepth 16384
set_option Elab.async false

noncomputable section

namespace Cert.ReferenceXIdeal.Exp

open Cert.ReferenceXIdeal Cert.ReferenceXIdeal.Gen Cert.ReferenceXIdeal.Value Idealize.ShloMosaic Idealize.ShloMosaic.TcCoe Idealize.ShloMosaic.Tactic
open Cert.SpecX

/-- The experts of the blocks, as the look-ups take them. -/
def picked (A0 : IVec S544 32) : IVec S544x1 32 :=
  (broadcastInDim S544x1 ![0] bcast_S544_S544x1_0 (select (cmpi .slt A0 (broadcastInDim S544 ![] bcast_S_S544 (constantI S_ 32 0#32))) (addi A0 (broadcastInDim S544 ![] bcast_S_S544 (constantI S_ 32 32#32))) A0))

/-- The rows by block, those past the block's count zeroed. -/
def live (A1 : IVec S544 32) (A2 : FVec Ideal S278528x2048 .bf16) : FVec Ideal S544x512x2048 .f32 :=
  (select (broadcastInDim S544x512x2048 ![0, 1, 2] bcast_S544x512x1_S544x512x2048_0_1_2 (broadcastInDim S544x512x1 ![0, 1] bcast_S544x512_S544x512x1_0_1 (cmpi .slt (broadcastInDim S544x512 ![0, 1] bcast_S1x512_S544x512_0_1 (broadcastInDim S1x512 ![1] bcast_S512_S1x512_1 (iotaInDim S512 32 0))) (broadcastInDim S544x512 ![0, 1] bcast_S544x1_S544x512_0_1 (broadcastInDim S544x1 ![0] bcast_S544_S544x1_0 A1))))) (extf .f32 (shapeCast _ A2 shapeCasts_S278528x2048_S544x512x2048) bitsLt_bf16_f32) (broadcastInDim S544x512x2048 ![] bcast_S_S544x512x2048 (constant (F := Ideal) S_ .f32 0x00000000#32)))

/-- Weights scaled by half of their columns. -/
def across (W : FVec Ideal S32x2048x2048 .f32) (s : FVec Ideal S64 .f32) : FVec Ideal S32x2048x2048 .f32 :=
  (shapeCast _ (mulf (shapeCast _ W shapeCasts_S32x2048x2048_S32x2048x2x1024) (broadcastInDim S32x2048x2x1024 ![0, 1, 2, 3] bcast_S32x1x2x1_S32x2048x2x1024_0_1_2_3 (shapeCast _ s shapeCasts_S64_S32x1x2x1))) shapeCasts_S32x2048x2x1024_S32x2048x2048)

/-- Weights scaled by half of their rows. -/
def down (W : FVec Ideal S32x2048x2048 .f32) (s : FVec Ideal S64 .f32) : FVec Ideal S32x2048x2048 .f32 :=
  (shapeCast _ (mulf (shapeCast _ W shapeCasts_S32x2048x2048_S32x2x1024x2048) (broadcastInDim S32x2x1024x2048 ![0, 1, 2, 3] bcast_S32x2x1x1_S32x2x1024x2048_0_1_2_3 (shapeCast _ s shapeCasts_S64_S32x2x1x1))) shapeCasts_S32x2x1024x2048_S32x2048x2048)

/-- A product with the block's expert's weights, plus its bias. -/
def layer (X : FVec Ideal S544x512x2048 .f32) (W : FVec Ideal S32x2048x2048 .f32) (I : IVec S544x1 32) (b : FVec Ideal S32x1x2048 .f32) : FVec Ideal S544x512x2048 .f32 :=
  (addf (Host.dotGeneral dot_S544x512x2048_S544x2048x2048_S544x512x2048_2_1_1_2_0_0 none X (Host.gather gather_S32x2048x2048_S544x1_S544x2048x2048_12_0_n_n_0_1_120482048 W I)) (broadcastInDim S544x512x2048 ![0, 1, 2] bcast_S544x1x2048_S544x512x2048_0_1_2 (Host.gather gather_S32x1x2048_S544x1_S544x1x2048_12_0_n_n_0_1_112048 b I)))

/-- The gated activation. -/
def act (G U : FVec Ideal S544x512x2048 .f32) : FVec Ideal S544x512x2048 .f32 :=
  (mulf (addf (minimumf (broadcastInDim S544x512x2048 ![] bcast_S_S544x512x2048 (constant (F := Ideal) S_ .f32 0x40E00000#32)) (maximumf (broadcastInDim S544x512x2048 ![] bcast_S_S544x512x2048 (constant (F := Ideal) S_ .f32 0xC0E00000#32)) U)) (broadcastInDim S544x512x2048 ![] bcast_S_S544x512x2048 (constant (F := Ideal) S_ .f32 0x3F800000#32))) (mulf (minimumf G (broadcastInDim S544x512x2048 ![] bcast_S_S544x512x2048 (constant (F := Ideal) S_ .f32 0x40E00000#32))) (Host.divf (broadcastInDim S544x512x2048 ![] bcast_S_S544x512x2048 (constant (F := Ideal) S_ .f32 0x3F800000#32)) (addf (broadcastInDim S544x512x2048 ![] bcast_S_S544x512x2048 (constant (F := Ideal) S_ .f32 0x3F800000#32)) (Host.exp (Host.negf (mulf (broadcastInDim S544x512x2048 ![] bcast_S_S544x512x2048 (constant (F := Ideal) S_ .f32 0x3FD9DB23#32)) (minimumf G (broadcastInDim S544x512x2048 ![] bcast_S_S544x512x2048 (constant (F := Ideal) S_ .f32 0x40E00000#32))))))))))

/-- The result: unused blocks are zero. -/
def kept (A1 : IVec S544 32) (Y : FVec Ideal S544x512x2048 .f32) : FVec Ideal S278528x2048 .bf16 :=
  truncf .bf16 (shapeCast _ (select (broadcastInDim S544x512x2048 ![0, 1, 2] bcast_S544x1x1_S544x512x2048_0_1_2 (cmpi .sgt (broadcastInDim S544x1x1 ![0] bcast_S544_S544x1x1_0 A1) (broadcastInDim S544x1x1 ![] bcast_S_S544x1x1 (constantI S_ 32 0#32)))) Y (broadcastInDim S544x512x2048 ![] bcast_S_S544x512x2048 (constant (F := Ideal) S_ .f32 0x00000000#32))) shapeCasts_S544x512x2048_S278528x2048) bitsLt_bf16_f32

/-- The whole. -/
def result (A0 A1 : IVec S544 32) (A2 : FVec Ideal S278528x2048 .bf16) (A3 : FVec Ideal S32x2048x2048 .f32) (A4 : FVec Ideal S64 .f32) (A5 : FVec Ideal S32x1x2048 .f32)
    (A6 : FVec Ideal S32x2048x2048 .f32) (A7 : FVec Ideal S64 .f32) (A8 : FVec Ideal S32x1x2048 .f32) (A9 : FVec Ideal S32x2048x2048 .f32) (A10 : FVec Ideal S64 .f32) (A11 : FVec Ideal S32x1x2048 .f32) :
    FVec Ideal S278528x2048 .bf16 :=
  kept A1 (layer (act (layer (live A1 A2) (across A3 A4) (picked A0) A5) (layer (live A1 A2) (across A6 A7) (picked A0) A8)) (down A9 A10) (picked A0) A11)

set_option maxHeartbeats 8000000 in
theorem res_eq (m : (ℓ : Loc nD τ sig) → Buf (Elt Ideal) ℓ) (c : Dev nD) :
    res_main_v96 m c = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  unfold res_main_v96 result kept layer act live across down picked; rfl

theorem gather_mat (x : FVec Ideal S32x2048x2048 .f32) (I : IVec S544x1 32) (b : Fin 544) (k f : Fin 2048) :
    Host.gather gather_S32x2048x2048_S544x1_S544x2048x2048_12_0_n_n_0_1_120482048 x I (ix3 b k f)
      = x (ix3 ⟨min (I (ix2 b 0)).toInt.toNat 31, by omega⟩ k f) := by
  unfold Host.gather
  congr 1
  funext a
  refine Fin.ext ?_
  show GatherDims.start _ _ I a + GatherDims.batchCoord _ _ a + GatherDims.offCoord _ _ a = _
  rw [GatherDims.batchCoord_eq_zero _ _ _ List.not_mem_nil]
  have h3 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h3 with rfl | rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 3) ∈ gather_S32x2048x2048_S544x1_S544x2048x2048_12_0_n_n_0_1_120482048.startIndexMap from List.mem_singleton.mpr rfl)]
    refine congrArg (fun z => min (I z).toInt.toNat 31) ?_
    funext b; refine Fin.ext ?_
    match b with
    | ⟨0, _⟩ => rfl
    | ⟨1, _⟩ => rfl
  · unfold GatherDims.start GatherDims.offCoord
    rw [dif_neg (show (1 : Fin 3) ∉ gather_S32x2048x2048_S544x1_S544x2048x2048_12_0_n_n_0_1_120482048.startIndexMap from fun h => absurd (List.mem_singleton.mp h) (by decide)),
      dif_pos (show (1 : Fin 3) ∈ gather_S32x2048x2048_S544x1_S544x2048x2048_12_0_n_n_0_1_120482048.sKept from by decide)]
    simp only [Nat.zero_add]
    rfl
  · unfold GatherDims.start GatherDims.offCoord
    rw [dif_neg (show (2 : Fin 3) ∉ gather_S32x2048x2048_S544x1_S544x2048x2048_12_0_n_n_0_1_120482048.startIndexMap from fun h => absurd (List.mem_singleton.mp h) (by decide)),
      dif_pos (show (2 : Fin 3) ∈ gather_S32x2048x2048_S544x1_S544x2048x2048_12_0_n_n_0_1_120482048.sKept from by decide)]
    simp only [Nat.zero_add]
    rfl

theorem gather_vec (x : FVec Ideal S32x1x2048 .f32) (I : IVec S544x1 32) (b : Fin 544) (f : Fin 2048) :
    Host.gather gather_S32x1x2048_S544x1_S544x1x2048_12_0_n_n_0_1_112048 x I (ix3 b 0 f)
      = x (ix3 ⟨min (I (ix2 b 0)).toInt.toNat 31, by omega⟩ 0 f) := by
  unfold Host.gather
  congr 1
  funext a
  refine Fin.ext ?_
  show GatherDims.start _ _ I a + GatherDims.batchCoord _ _ a + GatherDims.offCoord _ _ a = _
  rw [GatherDims.batchCoord_eq_zero _ _ _ List.not_mem_nil]
  have h3 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h3 with rfl | rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 3) ∈ gather_S32x1x2048_S544x1_S544x1x2048_12_0_n_n_0_1_112048.startIndexMap from List.mem_singleton.mpr rfl)]
    refine congrArg (fun z => min (I z).toInt.toNat 31) ?_
    funext b; refine Fin.ext ?_
    match b with
    | ⟨0, _⟩ => rfl
    | ⟨1, _⟩ => rfl
  · unfold GatherDims.start GatherDims.offCoord
    rw [dif_neg (show (1 : Fin 3) ∉ gather_S32x1x2048_S544x1_S544x1x2048_12_0_n_n_0_1_112048.startIndexMap from fun h => absurd (List.mem_singleton.mp h) (by decide)),
      dif_pos (show (1 : Fin 3) ∈ gather_S32x1x2048_S544x1_S544x1x2048_12_0_n_n_0_1_112048.sKept from by decide)]
    simp only [Nat.zero_add]
    rfl
  · unfold GatherDims.start GatherDims.offCoord
    rw [dif_neg (show (2 : Fin 3) ∉ gather_S32x1x2048_S544x1_S544x1x2048_12_0_n_n_0_1_112048.startIndexMap from fun h => absurd (List.mem_singleton.mp h) (by decide)),
      dif_pos (show (2 : Fin 3) ∈ gather_S32x1x2048_S544x1_S544x1x2048_12_0_n_n_0_1_112048.sKept from by decide)]
    simp only [Nat.zero_add]
    rfl

theorem picked_at (A0 : IVec S544 32) (b : Fin 544) : picked A0 (ix2 b 0) = Scalar.select (IntOp.cmpi .slt (A0 (ix1 b)) 0#32) (IntOp.addi (A0 (ix1 b)) 32#32) (A0 (ix1 b)) := by
  pointwise [picked]

theorem live_at (A1 : IVec S544 32) (A2 : FVec Ideal S278528x2048 .bf16) (b : Fin 544) (r : Fin 512) (k : Fin 2048) :
    live A1 A2 (ix3 b r k) = Scalar.select (IntOp.cmpi .slt (BitVec.ofNat 32 r) (A1 (ix1 b))) (A2 (ix2 ⟨b * 512 + r, by omega⟩ k)) 0 := by
  pointwise [live]

theorem across_at (W : FVec Ideal S32x2048x2048 .f32) (s : FVec Ideal S64 .f32) (x : Fin 32) (k f : Fin 2048) :
    across W s (ix3 x k f) = W (ix3 x k f) * s (ix1 ⟨x * 2 + (half f : ℕ), by omega⟩) := by
  pointwise [across]

theorem down_at (W : FVec Ideal S32x2048x2048 .f32) (s : FVec Ideal S64 .f32) (x : Fin 32) (k f : Fin 2048) :
    down W s (ix3 x k f) = W (ix3 x k f) * s (ix1 ⟨x * 2 + (half k : ℕ), by omega⟩) := by
  pointwise [down]

theorem layer_at (X : FVec Ideal S544x512x2048 .f32) (W : FVec Ideal S32x2048x2048 .f32) (I : IVec S544x1 32) (b : FVec Ideal S32x1x2048 .f32)
    (i : Fin 544) (r : Fin 512) (f : Fin 2048) :
    layer X W I b (ix3 i r f) = ∑ k, X (ix3 i r k) * W (ix3 ⟨min (I (ix2 i 0)).toInt.toNat 31, by omega⟩ k f) + b (ix3 ⟨min (I (ix2 i 0)).toInt.toNat 31, by omega⟩ 0 f) := by
  pointwise [layer]
  simp only [gather_mat, gather_vec]

theorem act_at (G U : FVec Ideal S544x512x2048 .f32) (i : Fin 544) (r : Fin 512) (f : Fin 2048) :
    act G U (ix3 i r f) = gate (G (ix3 i r f)) (U (ix3 i r f)) := by
  pointwise [act]
  rfl

theorem kept_at (A1 : IVec S544 32) (Y : FVec Ideal S544x512x2048 .f32) (b : Fin 544) (r : Fin 512) (d : Fin 2048) :
    kept A1 Y (ix2 ⟨b * 512 + r, by omega⟩ d) = Scalar.select (IntOp.cmpi .sgt (A1 (ix1 b)) 0#32) (Y (ix3 b r d)) 0 := by
  pointwise [kept]

/-- The result at an element: the row's expert output on a used block, zero on an unused one. -/
theorem result_at (A0 A1 : IVec S544 32) (A2 : FVec Ideal S278528x2048 .bf16) (A3 : FVec Ideal S32x2048x2048 .f32) (A4 : FVec Ideal S64 .f32) (A5 : FVec Ideal S32x1x2048 .f32)
    (A6 : FVec Ideal S32x2048x2048 .f32) (A7 : FVec Ideal S64 .f32) (A8 : FVec Ideal S32x1x2048 .f32) (A9 : FVec Ideal S32x2048x2048 .f32) (A10 : FVec Ideal S64 .f32) (A11 : FVec Ideal S32x1x2048 .f32)
    (b : Fin 544) (r : Fin 512) (d : Fin 2048) (E : Fin 32) (hE : (E : ℕ) = (A0 (ix1 b)).toNat) :
    result A0 A1 A2 A3 A4 A5 A6 A7 A8 A9 A10 A11 (ix2 ⟨b * 512 + r, by omega⟩ d)
      = Scalar.select (IntOp.cmpi .sgt (A1 (ix1 b)) 0#32)
        (expert (fun k => Scalar.select (IntOp.cmpi .slt (BitVec.ofNat 32 r) (A1 (ix1 b))) (A2 (ix2 ⟨b * 512 + r, by omega⟩ k)) 0)
          (fun k f => A3 (ix3 E k f)) (fun k f => A6 (ix3 E k f)) (fun j => A4 (ix1 ⟨E * 2 + j, by omega⟩)) (fun j => A7 (ix1 ⟨E * 2 + j, by omega⟩))
          (fun j => A10 (ix1 ⟨E * 2 + j, by omega⟩)) (fun f => A5 (ix3 E 0 f)) (fun f => A8 (ix3 E 0 f)) (fun f g => A9 (ix3 E f g)) (fun g => A11 (ix3 E 0 g)) d) 0 := by
  have h32 := E.2
  have hp : picked A0 (ix2 b 0) = A0 (ix1 b) := by
    rw [picked_at]
    have hs : IntOp.cmpi .slt (A0 (ix1 b)) 0#32 = 0#1 := by
      show BitVec.ofBool ((A0 (ix1 b)).slt 0#32) = 0#1
      have : (A0 (ix1 b)).slt 0#32 = false := by
        rw [Bool.eq_false_iff, ne_eq, BitVec.slt_iff_toInt_lt, BitVec.toInt_eq_toNat_of_lt (by omega)]
        simp
      rw [this]; rfl
    rw [hs]; rfl
  have hm : (⟨min (picked A0 (ix2 b 0)).toInt.toNat 31, by omega⟩ : Fin 32) = E := Fin.ext (by
    show min (picked A0 (ix2 b 0)).toInt.toNat 31 = _
    rw [hp, BitVec.toInt_eq_toNat_of_lt (by omega)]; simp only [Int.toNat_natCast]; omega)
  unfold result
  rw [kept_at, layer_at]
  simp only [hm, act_at, layer_at, live_at, across_at, down_at]
  rfl

end Cert.ReferenceXIdeal.Exp

end
-- ==== Proof.ClaimX.lean ====
module

public import proofs.«01_k».proof.Defs
public import proofs.«01_k».proof.Proof.ArgsX
public import proofs.«01_k».proof.Proof.ArrayXI
public import proofs.«01_k».proof.Proof.RefX
public import proofs.«01_k».proof.Proof.Gen.ReferenceXIdeal.Run
public import Idealize.ShloMosaic.Lib.Quiescent

/-! The experts' claims. -/

@[expose] public section

set_option maxRecDepth 16384

noncomputable section

namespace Cert.ClaimsX

open Idealize.ShloMosaic Idealize.ShloMosaic.TcCoe Idealize.SL.Sem

theorem frame_p : Cert.quiescent_KernelX := fun m ρ h => Cert.KernelX.Exp.frame m ρ h

theorem frame_pi : Cert.quiescent_KernelXIdeal := fun m ρ h => Cert.KernelXIdeal.Exp.frame m ρ h

/-- The reference runs, keeps its arguments, and has no semaphore. -/
theorem frame_ri : Cert.quiescent_ReferenceXIdeal := fun m ρ _ =>
  (θ_run Cert.ReferenceXIdeal.defs _ _).mono (fun r h => ⟨fun c => (h c).2, Idealize.ShloMosaic.sem_eq_zero_of_no_sems (by decide) r.2⟩)
    (Cert.ReferenceXIdeal.Value.run (F := Ideal) m ρ)

theorem frame_ri_pre : Cert.quiescent_ReferenceXIdeal_pre_routed_x := fun m ρ _ => frame_ri m ρ trivial

/-- The logarithm's factor in the kernel is named `1 / log 2`. -/
theorem preserves : Cert.preserves_KernelX_KernelXIdeal :=
  IdealRules.named_const.statement Cert.KernelXIdeal.κ "log2e" .f32 0x3FB8AA3B#32 (((Real.log 2)⁻¹ : ℝ) : EReal) rfl

/-- Both programs end with the experts' output of their arguments. -/
theorem algebraic : Cert.algebraic_KernelXIdeal_ReferenceXIdeal := by
  intro m ρ m' ρ' hpre hagree
  refine ⟨_, Cert.KernelXIdeal.Exp.run m ρ hpre, ?_⟩
  refine (θ_run Cert.ReferenceXIdeal.defs _ _).mono (fun _ h c => ⟨(h c).1.trans ?_, (h c).2⟩)
    (Cert.ReferenceXIdeal.Value.run (F := Ideal) m' ρ')
  obtain rfl : c = 0 := Subsingleton.elim _ _
  obtain ⟨h0, h1, h2, h3, h4, h5, h6, h7, h8, h9, h10, h11⟩ := hagree 0
  rw [Cert.ReferenceXIdeal.Exp.res_eq, h0, h1, h2, h3, h4, h5, h6, h7, h8, h9, h10, h11]
  funext y
  have l0 : (y 0).val < 278528 := (y 0).isLt
  have hy : y = ix2 (n0 := 278528) (n1 := 2048) ⟨(y 0).val / 512 * 512 + (y 0).val % 512, by omega⟩ (y 1) :=
    (eq_ix2 (n0 := 278528) (n1 := 2048) y).trans (congrArg (fun R => ix2 (n0 := 278528) (n1 := 2048) R (y 1)) (Fin.ext (by show (y 0).val = _; simp only; omega)))
  refine (congrArg _ hy).trans ?_
  exact Cert.ReferenceXIdeal.Exp.result_at _ _ _ _ _ _ _ _ _ _ _ _ ⟨(y 0).val / 512, by omega⟩ ⟨(y 0).val % 512, by omega⟩ (y 1)
    (Cert.KernelXIdeal.Exp.eB (Cert.KernelXIdeal.Exp.adm m hpre) (Cert.KernelXIdeal.Exp.adm_words m hpre) ⟨(y 0).val / 512, by omega⟩) rfl

end Cert.ClaimsX

end
-- ==== Proof.lean ====
/- The proof of the certificate's claim, from the parts in Proof/ClaimB (windowed attention) and Proof/ClaimX (experts). -/
module

public import proofs.«01_k».proof.Defs
public import proofs.«01_k».proof.Proof.Gen.KernelB
public import proofs.«01_k».proof.Proof.Gen.KernelB.Skeleton
public import proofs.«01_k».proof.Proof.Gen.KernelB.Loops
public import proofs.«01_k».proof.Proof.Gen.KernelB.Launch
public import proofs.«01_k».proof.Proof.Gen.KernelB.Points
public import proofs.«01_k».proof.Proof.Gen.KernelB.Frame
public import proofs.«01_k».proof.Proof.Gen.KernelBIdeal
public import proofs.«01_k».proof.Proof.Gen.KernelBIdeal.Skeleton
public import proofs.«01_k».proof.Proof.Gen.KernelBIdeal.Loops
public import proofs.«01_k».proof.Proof.Gen.KernelBIdeal.Launch
public import proofs.«01_k».proof.Proof.Gen.KernelBIdeal.Points
public import proofs.«01_k».proof.Proof.Gen.KernelBIdeal.Frame
public import proofs.«01_k».proof.Proof.Gen.KernelBIdeal.Value
public import proofs.«01_k».proof.Proof.Gen.ReferenceBIdeal.Run
public import proofs.«01_k».proof.Proof.Gen.ReferenceBIdeal
public import proofs.«01_k».proof.Proof.Gen.Pre_finite_b
public import proofs.«01_k».proof.Proof.Gen.KernelX
public import proofs.«01_k».proof.Proof.Gen.KernelX.Skeleton
public import proofs.«01_k».proof.Proof.Gen.KernelX.Launch
public import proofs.«01_k».proof.Proof.Gen.KernelXIdeal
public import proofs.«01_k».proof.Proof.Gen.KernelXIdeal.Skeleton
public import proofs.«01_k».proof.Proof.Gen.KernelXIdeal.Launch
public import proofs.«01_k».proof.Proof.Gen.ReferenceXIdeal.Run
public import proofs.«01_k».proof.Proof.Gen.ReferenceXIdeal
public import proofs.«01_k».proof.Proof.Gen.Pre_routed_x
public import proofs.«01_k».proof.Proof.ClaimB
public import proofs.«01_k».proof.Proof.ClaimX
public import Idealize.ShloMosaic.Adequacy
public import Idealize.ShloMosaic.Init

@[expose] public section

noncomputable section

namespace Cert.Proof

open Idealize.ShloMosaic Idealize.SL.Sem Cert.KernelB

theorem claim : Cert.Claim := ⟨Cert.KernelB.Gen.facts, Cert.KernelBIdeal.Gen.facts, Cert.ReferenceBIdeal.Gen.facts,
  Cert.KernelX.Gen.facts, Cert.KernelXIdeal.Gen.facts, Cert.ReferenceXIdeal.Gen.facts, Cert.Pre_finite_b.Gen.facts, Cert.Pre_routed_x.Gen.facts,
  Cert.ClaimsB.frame_p, Cert.ClaimsB.frame_pi, Cert.ClaimsB.frame_pi_pre, Cert.ClaimsB.frame_ri, Cert.ClaimsB.frame_ri_pre,
  Cert.ClaimsX.frame_p, Cert.ClaimsX.frame_pi, Cert.ClaimsX.frame_ri, Cert.ClaimsX.frame_ri_pre,
  Cert.ClaimsB.preserves, Cert.ClaimsB.algebraic, Cert.ClaimsX.preserves, Cert.ClaimsX.algebraic⟩

end Cert.Proof

end
